-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 [hPre_tiles_in_range : Cert.Pre_tiles_in_range.Facts] (m : (ℓ : Loc Cert.Kernel5.nD Cert.Kernel5.τ Cert.Kernel5.sig) → Buf (Elt Bits) ℓ) : Prop :=
  ∀ c : Dev Cert.Kernel5.nD,
    (Cert.Pre_tiles_in_range.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5))) = (fun _ => 1#1)

def Pre_Kernel5Ideal [hPre_tiles_in_range : Cert.Pre_tiles_in_range.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_tiles_in_range.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_tiles_in_range [hPre_tiles_in_range : Cert.Pre_tiles_in_range.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_tiles_in_range.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] [hPre_tiles_in_range : Cert.Pre_tiles_in_range.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] [hPre_tiles_in_range : Cert.Pre_tiles_in_range.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_tiles_in_range [hReference5Ideal : Cert.Reference5Ideal.Facts] [hPre_tiles_in_range : Cert.Pre_tiles_in_range.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_tiles_in_range m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] [hPre_tiles_in_range : Cert.Pre_tiles_in_range.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v24) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v19) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v27) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v19) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v6_0)) (v1 : (c : Dev Cert.Kernel10Ideal.nD) → Buf (Elt Ideal) ((c.tc : Thread Cert.Kernel10Ideal.nD Cert.Kernel10Ideal.τ).loc Cert.Kernel10Ideal.main_v6_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v6_0) = v0 c
          ∧ r.2.mem ((c.tc : Thread Cert.Kernel10Ideal.nD Cert.Kernel10Ideal.τ).loc Cert.Kernel10Ideal.main_v6_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v9) = v0 c
          ∧ r.2.mem ((c.tc : Thread Cert.Reference10Ideal.nD Cert.Reference10Ideal.τ).loc Cert.Reference10Ideal.main_v13) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)) →
    ∃ (v0 : (c : Dev Cert.Kernel11Ideal.nD) → Buf (Elt Ideal) ((c.tc : Thread Cert.Kernel11Ideal.nD Cert.Kernel11Ideal.τ).loc Cert.Kernel11Ideal.main_v8_0)) (v1 : (c : Dev Cert.Kernel11Ideal.nD) → Buf (Elt Ideal) ((c.tc : Thread Cert.Kernel11Ideal.nD Cert.Kernel11Ideal.τ).loc Cert.Kernel11Ideal.main_v8_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v8_0) = v0 c
          ∧ r.2.mem ((c.tc : Thread Cert.Kernel11Ideal.nD Cert.Kernel11Ideal.τ).loc Cert.Kernel11Ideal.main_v8_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v66) = v0 c
          ∧ r.2.mem ((c.tc : Thread Cert.Reference11Ideal.nD Cert.Reference11Ideal.τ).loc Cert.Reference11Ideal.main_v67) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v56) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v51) = v0 c
          ∧ r.2.mem ((c.tc : Thread Cert.Reference13Ideal.nD Cert.Reference13Ideal.τ).loc Cert.Reference13Ideal.main_v52) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_tiles_in_range : Cert.Pre_tiles_in_range.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5) (hPre_tiles_in_range := hPre_tiles_in_range)
    ∧ quiescent_Kernel5Ideal (hKernel5Ideal := hKernel5Ideal) (hPre_tiles_in_range := hPre_tiles_in_range)
    ∧ quiescent_Reference5Ideal (hReference5Ideal := hReference5Ideal)
    ∧ quiescent_Reference5Ideal_pre_tiles_in_range (hReference5Ideal := hReference5Ideal) (hPre_tiles_in_range := hPre_tiles_in_range)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal) (hPre_tiles_in_range := hPre_tiles_in_range)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_tiles_in_range.lean ====
abbrev S25088x4096 : Shape := ⟨2, ![25088, 4096]⟩
abbrev S98 : Shape := ⟨1, ![98]⟩
abbrev S32x4096x512 : Shape := ⟨3, ![32, 4096, 512]⟩
abbrev S32x512x4096 : Shape := ⟨3, ![32, 512, 4096]⟩
abbrev S_ : Shape := ⟨0, ![]⟩

class Facts : Prop where
  bcast_S_S98 : S_.BroadcastsInDim S98 (![] : Fin 0 → Fin S98.rank)

variable [Facts]

def fn {F : FTy → Type} [FloatOps F] (main_arg0 : FVec F S25088x4096 .bf16) (main_arg1 : IVec S98 32) (main_arg2 : IVec S98 32) (main_arg3 : FVec F S32x4096x512 .bf16) (main_arg4 : FVec F S32x4096x512 .bf16) (main_arg5 : FVec F S32x512x4096 .bf16) : IVec S98 1 :=
  let main_c : IVec S_ 32 := constantI S_ 32 0#32
  let main_v0 : IVec S98 32 := broadcastInDim S98 ![] bcast_S_S98 main_c
  let main_v1 : IVec S98 1 := cmpi .sge main_arg1 main_v0
  let main_c_0 : IVec S_ 32 := constantI S_ 32 32#32
  let main_v2 : IVec S98 32 := broadcastInDim S98 ![] bcast_S_S98 main_c_0
  let main_v3 : IVec S98 1 := cmpi .slt main_arg1 main_v2
  let main_v4 : IVec S98 1 := andi main_v1 main_v3
  let main_c_1 : IVec S_ 32 := constantI S_ 32 0#32
  let main_v5 : IVec S98 32 := broadcastInDim S98 ![] bcast_S_S98 main_c_1
  let main_v6 : IVec S98 1 := cmpi .sge main_arg2 main_v5
  let main_v7 : IVec S98 1 := andi main_v4 main_v6
  main_v7
-- ==== Kernel.lean ====
abbrev S8448x512 : Shape := ⟨2, ![8448, 512]⟩
abbrev S8448x3072 : Shape := ⟨2, ![8448, 3072]⟩
abbrev S4 : Shape := ⟨1, ![4]⟩
abbrev S_ : Shape := ⟨0, ![]⟩
abbrev S128 : Shape := ⟨1, ![128]⟩
abbrev S1x128 : Shape := ⟨2, ![1, 128]⟩
abbrev S8448x128 : Shape := ⟨2, ![8448, 128]⟩
abbrev S8448x1024 : Shape := ⟨2, ![8448, 1024]⟩
abbrev S256x512 : Shape := ⟨2, ![256, 512]⟩
abbrev S256x1024 : Shape := ⟨2, ![256, 1024]⟩
abbrev S256x128 : Shape := ⟨2, ![256, 128]⟩
abbrev S4x128x256 : Shape := ⟨3, ![4, 128, 256]⟩
abbrev S128x128 : Shape := ⟨2, ![128, 128]⟩
abbrev S128x256 : Shape := ⟨2, ![128, 256]⟩
abbrev S1x128x256 : Shape := ⟨3, ![1, 128, 256]⟩
abbrev S128x1 : Shape := ⟨2, ![128, 1]⟩
abbrev S1x1 : Shape := ⟨2, ![1, 1]⟩

abbrev nBuf : Space → Nat
  | .hbm => 19
  | .vmem => 11
  | .smem => 0
  | _ => 0

abbrev bufTy : (tb : Table) → Fin (tcTables nBuf tb) → BufTy
  | .hbm, ⟨0, _⟩ => ⟨S8448x512, .f32⟩
  | .hbm, ⟨1, _⟩ => ⟨S8448x512, .f32⟩
  | .hbm, ⟨2, _⟩ => ⟨S8448x3072, .f32⟩
  | .hbm, ⟨3, _⟩ => ⟨S4, .f32⟩
  | .hbm, ⟨4, _⟩ => ⟨S_, .f32⟩
  | .hbm, ⟨5, _⟩ => ⟨S4, .f32⟩
  | .hbm, ⟨6, _⟩ => ⟨S4, .f32⟩
  | .hbm, ⟨7, _⟩ => ⟨S_, .f32⟩
  | .hbm, ⟨8, _⟩ => ⟨S4, .f32⟩
  | .hbm, ⟨9, _⟩ => ⟨S4, .f32⟩
  | .hbm, ⟨10, _⟩ => ⟨S4, .f32⟩
  | .hbm, ⟨11, _⟩ => ⟨S4, .f32⟩
  | .hbm, ⟨12, _⟩ => ⟨S4, .f32⟩
  | .hbm, ⟨13, _⟩ => ⟨S_, .i32⟩
  | .hbm, ⟨14, _⟩ => ⟨S_, .f32⟩
  | .hbm, ⟨15, _⟩ => ⟨S128, .f32⟩
  | .hbm, ⟨16, _⟩ => ⟨S1x128, .f32⟩
  | .hbm, ⟨17, _⟩ => ⟨S8448x128, .f32⟩
  | .hbm, ⟨18, _⟩ => ⟨S8448x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S256x1024, .f32⟩
  | .local _ .vmem, ⟨6, _⟩ => ⟨S256x128, .f32⟩
  | .local _ .vmem, ⟨7, _⟩ => ⟨S256x128, .f32⟩
  | .local _ .vmem, ⟨8, _⟩ => ⟨S256x1024, .f32⟩
  | .local _ .vmem, ⟨9, _⟩ => ⟨S256x1024, .f32⟩
  | .local _ .vmem, ⟨10, _⟩ => ⟨S4x128x256, .f32⟩
  | _, _ => ⟨S8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c1_i32 : BitVec 32 := 1#32
  let v0 : BitVec 1 := Scalar.cmpi .slt arg0 c1_i32
  let c32_i32 : BitVec 32 := 32#32
  let v1 : BitVec 32 := Scalar.addi c32_i32 arg0
  let c1_i32_0 : BitVec 32 := 1#32
  let v2 : BitVec 32 := Scalar.subi arg0 c1_i32_0
  let v3 : BitVec 32 := Scalar.select v0 v1 v2
  let c0_i32 : BitVec 32 := 0#32
  let c0_i32_1 : BitVec 32 := 0#32
  ![v3.toNat, c0_i32.toNat]

def cc0_transform_1 (i : grid0.Coords) : Fin 2 → Nat :=
  let arg0 : BitVec 32 := BitVec.ofNat 32 (i 0).val
  let c1_i32 : BitVec 32 := 1#32
  let v0 : BitVec 1 := Scalar.cmpi .slt arg0 c1_i32
  let c32_i32 : BitVec 32 := 32#32
  let v1 : BitVec 32 := Scalar.addi c32_i32 arg0
  let c1_i32_0 : BitVec 32 := 1#32
  let v2 : BitVec 32 := Scalar.subi arg0 c1_i32_0
  let v3 : BitVec 32 := Scalar.select v0 v1 v2
  let c0_i32 : BitVec 32 := 0#32
  let c0_i32_1 : BitVec 32 := 0#32
  ![v3.toNat, c0_i32.toNat]

def cc0_transform_2 (i : grid0.Coords) : Fin 2 → Nat :=
  let arg0 : BitVec 32 := BitVec.ofNat 32 (i 0).val
  let c1_i32 : BitVec 32 := 1#32
  let v0 : BitVec 1 := Scalar.cmpi .slt arg0 c1_i32
  let c32_i32 : BitVec 32 := 32#32
  let v1 : BitVec 32 := Scalar.addi c32_i32 arg0
  let c1_i32_0 : BitVec 32 := 1#32
  let v2 : BitVec 32 := Scalar.subi arg0 c1_i32_0
  let v3 : BitVec 32 := Scalar.select v0 v1 v2
  let c1_i32_1 : BitVec 32 := 1#32
  let c0_i32 : BitVec 32 := 0#32
  ![v3.toNat, c1_i32_1.toNat]

def cc0_transform_3 (i : grid0.Coords) : Fin 2 → Nat :=
  let arg0 : BitVec 32 := BitVec.ofNat 32 (i 0).val
  let c1_i32 : BitVec 32 := 1#32
  let v0 : BitVec 1 := Scalar.cmpi .slt arg0 c1_i32
  let c32_i32 : BitVec 32 := 32#32
  let v1 : BitVec 32 := Scalar.addi c32_i32 arg0
  let c1_i32_0 : BitVec 32 := 1#32
  let v2 : BitVec 32 := Scalar.subi arg0 c1_i32_0
  let v3 : BitVec 32 := Scalar.select v0 v1 v2
  let c0_i32 : BitVec 32 := 0#32
  let c0_i32_1 : BitVec 32 := 0#32
  ![v3.toNat, c0_i32.toNat]

def cc0_transform_4 (i : grid0.Coords) : Fin 2 → Nat :=
  let arg0 : BitVec 32 := BitVec.ofNat 32 (i 0).val
  let c1_i32 : BitVec 32 := 1#32
  let v0 : BitVec 1 := Scalar.cmpi .slt arg0 c1_i32
  let c32_i32 : BitVec 32 := 32#32
  let v1 : BitVec 32 := Scalar.addi c32_i32 arg0
  let c1_i32_0 : BitVec 32 := 1#32
  let v2 : BitVec 32 := Scalar.subi arg0 c1_i32_0
  let v3 : BitVec 32 := Scalar.select v0 v1 v2
  let c0_i32 : BitVec 32 := 0#32
  let c0_i32_1 : BitVec 32 := 0#32
  ![v3.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S8448x512 : Shape := ⟨2, ![8448, 512]⟩
abbrev S8448x3072 : Shape := ⟨2, ![8448, 3072]⟩
abbrev S4 : Shape := ⟨1, ![4]⟩
abbrev S_ : Shape := ⟨0, ![]⟩
abbrev S1x8448x4 : Shape := ⟨3, ![1, 8448, 4]⟩
abbrev S256x512 : Shape := ⟨2, ![256, 512]⟩
abbrev S8192x512 : Shape := ⟨2, ![8192, 512]⟩
abbrev S1x8448x4x128 : Shape := ⟨4, ![1, 8448, 4, 128]⟩
abbrev S8448x1024 : Shape := ⟨2, ![8448, 1024]⟩
abbrev S256x1024 : Shape := ⟨2, ![256, 1024]⟩
abbrev S8192x1024 : Shape := ⟨2, ![8192, 1024]⟩
abbrev S1x8448x4x256 : Shape := ⟨4, ![1, 8448, 4, 256]⟩
abbrev S1x4x128x256 : Shape := ⟨4, ![1, 4, 128, 256]⟩
abbrev S1x66x128x4x128 : Shape := ⟨5, ![1, 66, 128, 4, 128]⟩
abbrev S1x66x128x4x256 : Shape := ⟨5, ![1, 66, 128, 4, 256]⟩
abbrev S1x66x128x4 : Shape := ⟨4, ![1, 66, 128, 4]⟩
abbrev S1x66x4x128 : Shape := ⟨4, ![1, 66, 4, 128]⟩
abbrev S128x128 : Shape := ⟨2, ![128, 128]⟩
abbrev S1x66x4x128x1 : Shape := ⟨5, ![1, 66, 4, 128, 1]⟩
abbrev S1x66x4x1x128 : Shape := ⟨5, ![1, 66, 4, 1, 128]⟩
abbrev S1x66x4x128x128 : Shape := ⟨5, ![1, 66, 4, 128, 128]⟩
abbrev S1x66x4x256x128 : Shape := ⟨5, ![1, 66, 4, 256, 128]⟩
abbrev S1x66x1x4 : Shape := ⟨4, ![1, 66, 1, 4]⟩
abbrev S1x66x4 : Shape := ⟨3, ![1, 66, 4]⟩
abbrev S1x66x128x4x1 : Shape := ⟨5, ![1, 66, 128, 4, 1]⟩
abbrev S1x66x4x128x256 : Shape := ⟨5, ![1, 66, 4, 128, 256]⟩
abbrev S66x1x4 : Shape := ⟨3, ![66, 1, 4]⟩
abbrev S66x1x4x128x256 : Shape := ⟨5, ![66, 1, 4, 128, 256]⟩
abbrev S1x1x4 : Shape := ⟨3, ![1, 1, 4]⟩
abbrev S1x4 : Shape := ⟨2, ![1, 4]⟩
abbrev S1x1x4x128x256 : Shape := ⟨5, ![1, 1, 4, 128, 256]⟩
abbrev S1x4x1x1 : Shape := ⟨4, ![1, 4, 1, 1]⟩

abbrev nBuf : Space → Nat
  | .hbm => 126
  | .vmem => 0
  | .smem => 0
  | _ => 0

abbrev bufTy : (tb : Table) → Fin (tcTables nBuf tb) → BufTy
  | .hbm, ⟨0, _⟩ => ⟨S8448x512, .f32⟩
  | .hbm, ⟨1, _⟩ => ⟨S8448x512, .f32⟩
  | .hbm, ⟨2, _⟩ => ⟨S8448x3072, .f32⟩
  | .hbm, ⟨3, _⟩ => ⟨S4, .f32⟩
  | .hbm, ⟨4, _⟩ => ⟨S_, .f32⟩
  | .hbm, ⟨5, _⟩ => ⟨S4, .f32⟩
  | .hbm, ⟨6, _⟩ => ⟨S4, .f32⟩
  | .hbm, ⟨7, _⟩ => ⟨S_, .f32⟩
  | .hbm, ⟨8, _⟩ => ⟨S4, .f32⟩
  | .hbm, ⟨9, _⟩ => ⟨S4, .f32⟩
  | .hbm, ⟨10, _⟩ => ⟨S4, .f32⟩
  | .hbm, ⟨11, _⟩ => ⟨S4, .f32⟩
  | .hbm, ⟨12, _⟩ => ⟨S4, .f32⟩
  | .hbm, ⟨13, _⟩ => ⟨S1x8448x4, .f32⟩
  | .hbm, ⟨14, _⟩ => ⟨S256x512, .f32⟩
  | .hbm, ⟨15, _⟩ => ⟨S8192x512, .f32⟩
  | .hbm, ⟨16, _⟩ => ⟨S8448x512, .f32⟩
  | .hbm, ⟨17, _⟩ => ⟨S1x8448x4x128, .f32⟩
  | .hbm, ⟨18, _⟩ => ⟨S256x512, .f32⟩
  | .hbm, ⟨19, _⟩ => ⟨S8192x512, .f32⟩
  | .hbm, ⟨20, _⟩ => ⟨S8448x512, .f32⟩
  | .hbm, ⟨21, _⟩ => ⟨S1x8448x4x128, .f32⟩
  | .hbm, ⟨22, _⟩ => ⟨S8448x1024, .f32⟩
  | .hbm, ⟨23, _⟩ => ⟨S256x1024, .f32⟩
  | .hbm, ⟨24, _⟩ => ⟨S8192x1024, .f32⟩
  | .hbm, ⟨25, _⟩ => ⟨S8448x1024, .f32⟩
  | .hbm, ⟨26, _⟩ => ⟨S1x8448x4x256, .f32⟩
  | .hbm, ⟨27, _⟩ => ⟨S_, .f32⟩
  | .hbm, ⟨28, _⟩ => ⟨S1x4x128x256, .f32⟩
  | .hbm, ⟨29, _⟩ => ⟨S1x66x128x4x128, .f32⟩
  | .hbm, ⟨30, _⟩ => ⟨S1x66x128x4x128, .f32⟩
  | .hbm, ⟨31, _⟩ => ⟨S1x66x128x4x256, .f32⟩
  | .hbm, ⟨32, _⟩ => ⟨S1x66x128x4, .f32⟩
  | .hbm, ⟨33, _⟩ => ⟨S_, .f32⟩
  | .hbm, ⟨34, _⟩ => ⟨S_, .f32⟩
  | .hbm, ⟨35, _⟩ => ⟨S1x66x128x4, .f32⟩
  | .hbm, ⟨36, _⟩ => ⟨S1x66x4x128, .f32⟩
  | .hbm, ⟨37, _⟩ => ⟨S_, .i1⟩
  | .hbm, ⟨38, _⟩ => ⟨S128x128, .i1⟩
  | .hbm, ⟨39, _⟩ => ⟨S128x128, .i32⟩
  | .hbm, ⟨40, _⟩ => ⟨S_, .i32⟩
  | .hbm, ⟨41, _⟩ => ⟨S128x128, .i32⟩
  | .hbm, ⟨42, _⟩ => ⟨S128x128, .i32⟩
  | .hbm, ⟨43, _⟩ => ⟨S128x128, .i32⟩
  | .hbm, ⟨44, _⟩ => ⟨S128x128, .i1⟩
  | .hbm, ⟨45, _⟩ => ⟨S_, .i1⟩
  | .hbm, ⟨46, _⟩ => ⟨S128x128, .i1⟩
  | .hbm, ⟨47, _⟩ => ⟨S128x128, .i1⟩
  | .hbm, ⟨48, _⟩ => ⟨S1x66x4x128x1, .f32⟩
  | .hbm, ⟨49, _⟩ => ⟨S1x66x4x1x128, .f32⟩
  | .hbm, ⟨50, _⟩ => ⟨S1x66x4x128x128, .f32⟩
  | .hbm, ⟨51, _⟩ => ⟨S1x66x4x128x128, .f32⟩
  | .hbm, ⟨52, _⟩ => ⟨S1x66x4x128x128, .f32⟩
  | .hbm, ⟨53, _⟩ => ⟨S_, .f32⟩
  | .hbm, ⟨54, _⟩ => ⟨S_, .f32⟩
  | .hbm, ⟨55, _⟩ => ⟨S1x66x4x128x128, .i1⟩
  | .hbm, ⟨56, _⟩ => ⟨S1x66x4x128x128, .f32⟩
  | .hbm, ⟨57, _⟩ => ⟨S1x66x4x128x128, .f32⟩
  | .hbm, ⟨58, _⟩ => ⟨S1x66x4x128x128, .f32⟩
  | .hbm, ⟨59, _⟩ => ⟨S_, .f32⟩
  | .hbm, ⟨60, _⟩ => ⟨S_, .f32⟩
  | .hbm, ⟨61, _⟩ => ⟨S1x66x4x128x128, .i1⟩
  | .hbm, ⟨62, _⟩ => ⟨S1x66x4x128x128, .f32⟩
  | .hbm, ⟨63, _⟩ => ⟨S1x66x4x128x128, .f32⟩
  | .hbm, ⟨64, _⟩ => ⟨S1x66x4x128x128, .f32⟩
  | .hbm, ⟨65, _⟩ => ⟨S1x66x4x128x128, .f32⟩
  | .hbm, ⟨66, _⟩ => ⟨S1x66x4x256x128, .f32⟩
  | .hbm, ⟨67, _⟩ => ⟨S1x66x128x4x256, .f32⟩
  | .hbm, ⟨68, _⟩ => ⟨S1x66x1x4, .f32⟩
  | .hbm, ⟨69, _⟩ => ⟨S1x66x4, .f32⟩
  | .hbm, ⟨70, _⟩ => ⟨S1x66x1x4, .f32⟩
  | .hbm, ⟨71, _⟩ => ⟨S1x66x128x4, .f32⟩
  | .hbm, ⟨72, _⟩ => ⟨S1x66x128x4, .f32⟩
  | .hbm, ⟨73, _⟩ => ⟨S1x66x128x4, .f32⟩
  | .hbm, ⟨74, _⟩ => ⟨S1x66x128x4x1, .f32⟩
  | .hbm, ⟨75, _⟩ => ⟨S1x66x128x4x256, .f32⟩
  | .hbm, ⟨76, _⟩ => ⟨S1x66x128x4x256, .f32⟩
  | .hbm, ⟨77, _⟩ => ⟨S1x66x4x128x256, .f32⟩
  | .hbm, ⟨78, _⟩ => ⟨S1x66x4, .f32⟩
  | .hbm, ⟨79, _⟩ => ⟨S66x1x4, .f32⟩
  | .hbm, ⟨80, _⟩ => ⟨S66x1x4x128x256, .f32⟩
  | .hbm, ⟨81, _⟩ => ⟨S_, .f32⟩
  | .hbm, ⟨82, _⟩ => ⟨S66x1x4x128x256, .f32⟩
  | .hbm, ⟨83, _⟩ => ⟨S_, .i32⟩
  | .hbm, ⟨84, _⟩ => ⟨S66x1x4, .f32⟩
  | .hbm, ⟨85, _⟩ => ⟨S66x1x4x128x256, .f32⟩
  | .hbm, ⟨86, _⟩ => ⟨S_, .i32⟩
  | .hbm, ⟨87, _⟩ => ⟨S1x4x128x256, .f32⟩
  | .hbm, ⟨88, _⟩ => ⟨S66x1x4x128x256, .f32⟩
  | .hbm, ⟨89, _⟩ => ⟨S_, .i32⟩
  | .hbm, ⟨90, _⟩ => ⟨S_, .i1⟩
  | .hbm, ⟨91, _⟩ => ⟨S_, .i32⟩
  | .hbm, ⟨92, _⟩ => ⟨S_, .i32⟩
  | .hbm, ⟨93, _⟩ => ⟨S1x1x4, .f32⟩
  | .hbm, ⟨94, _⟩ => ⟨S1x4, .f32⟩
  | .hbm, ⟨95, _⟩ => ⟨S_, .i32⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S1x1x4x128x256, .f32⟩
  | .hbm, ⟨100, _⟩ => ⟨S1x4x128x256, .f32⟩
  | .hbm, ⟨101, _⟩ => ⟨S1x4x1x1, .f32⟩
  | .hbm, ⟨102, _⟩ => ⟨S1x4x128x256, .f32⟩
  | .hbm, ⟨103, _⟩ => ⟨S1x4x128x256, .f32⟩
  | .hbm, ⟨104, _⟩ => ⟨S1x4x128x256, .f32⟩
  | .hbm, ⟨105, _⟩ => ⟨S1x1x4x128x256, .f32⟩
  | .hbm, ⟨106, _⟩ => ⟨S_, .i32⟩
  | .hbm, ⟨107, _⟩ => ⟨S_, .i32⟩
  | .hbm, ⟨108, _⟩ => ⟨S_, .i32⟩
  | .hbm, ⟨109, _⟩ => ⟨S_, .i32⟩
  | .hbm, ⟨110, _⟩ => ⟨S66x1x4x128x256, .f32⟩
  | .hbm, ⟨111, _⟩ => ⟨S_, .i32⟩
  | .hbm, ⟨112, _⟩ => ⟨S_, .i32⟩
  | .hbm, ⟨113, _⟩ => ⟨S1x66x4x128x256, .f32⟩
  | .hbm, ⟨114, _⟩ => ⟨S1x66x128x4, .f32⟩
  | .hbm, ⟨115, _⟩ => ⟨S1x66x128x4x1, .f32⟩
  | .hbm, ⟨116, _⟩ => ⟨S1x66x128x4x128, .f32⟩
  | .hbm, ⟨117, _⟩ => ⟨S1x66x128x4x128, .f32⟩
  | .hbm, ⟨118, _⟩ => ⟨S1x66x4x256x128, .f32⟩
  | .hbm, ⟨119, _⟩ => ⟨S1x66x128x4x256, .f32⟩
  | .hbm, ⟨120, _⟩ => ⟨S1x66x128x4x256, .f32⟩
  | .hbm, ⟨121, _⟩ => ⟨S1x8448x4x256, .f32⟩
  | .hbm, ⟨122, _⟩ => ⟨S8448x1024, .f32⟩
  | .hbm, ⟨123, _⟩ => ⟨S8192x1024, .f32⟩
  | .hbm, ⟨124, _⟩ => ⟨S256x1024, .f32⟩
  | .hbm, ⟨125, _⟩ => ⟨S8448x1024, .f32⟩
  | _, _ => ⟨S8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_call0_call0_cst : Ref sig .tc := ⟨.hbm, 33, rfl⟩
abbrev main_call0_call0_v0 : Ref sig .tc := ⟨.hbm, 34, rfl⟩
abbrev main_v27 : Ref sig .tc := ⟨.hbm, 35, rfl⟩
abbrev main_v28 : Ref sig .tc := ⟨.hbm, 36, rfl⟩
abbrev main_c : Ref sig .tc := ⟨.hbm, 37, rfl⟩
abbrev main_v29 : Ref sig .tc := ⟨.hbm, 38, rfl⟩
abbrev main_call1_v0 : Ref sig .tc := ⟨.hbm, 39, rfl⟩
abbrev main_call1_c : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_c_0 : Ref sig .tc := ⟨.hbm, 45, rfl⟩
abbrev main_call1_v5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_2 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v36 : Ref sig .tc := ⟨.hbm, 57, rfl⟩
abbrev main_v37 : Ref sig .tc := ⟨.hbm, 58, rfl⟩
abbrev main_cst_3 : Ref sig .tc := ⟨.hbm, 59, rfl⟩
abbrev main_call3_v0 : Ref sig .tc := ⟨.hbm, 60, rfl⟩
abbrev main_call3_v1 : Ref sig .tc := ⟨.hbm, 61, rfl⟩
abbrev main_call3_v2 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_4 : Ref sig .tc := ⟨.hbm, 81, rfl⟩
abbrev main_v56 : Ref sig .tc := ⟨.hbm, 82, rfl⟩
abbrev main_c_5 : Ref sig .tc := ⟨.hbm, 83, rfl⟩
abbrev main_v57_0 : Ref sig .tc := ⟨.hbm, 84, rfl⟩
abbrev main_v57_1 : Ref sig .tc := ⟨.hbm, 85, rfl⟩
abbrev main_v57_2 : Ref sig .tc := ⟨.hbm, 86, rfl⟩
abbrev main_v57_3 : Ref sig .tc := ⟨.hbm, 87, rfl⟩
abbrev main_v57_4 : Ref sig .tc := ⟨.hbm, 88, rfl⟩
abbrev main_while0c_c_10 : Ref sig .tc := ⟨.hbm, 89, rfl⟩
abbrev main_while0c_v71 : Ref sig .tc := ⟨.hbm, 90, rfl⟩
abbrev main_while0b_call4_c : Ref sig .tc := ⟨.hbm, 91, rfl⟩
abbrev main_while0b_call4_c_0 : Ref sig .tc := ⟨.hbm, 92, rfl⟩
abbrev main_while0b_call4_v0 : Ref sig .tc := ⟨.hbm, 93, rfl⟩
abbrev main_while0b_v71 : Ref sig .tc := ⟨.hbm, 94, rfl⟩
abbrev main_while0b_call5_c : Ref sig .tc := ⟨.hbm, 95, rfl⟩
abbrev main_while0b_call5_c_0 : Ref sig .tc := ⟨.hbm, 96, rfl⟩
abbrev main_while0b_call5_c_1 : Ref sig .tc := ⟨.hbm, 97, rfl⟩
abbrev main_while0b_call5_c_2 : Ref sig .tc := ⟨.hbm, 98, rfl⟩
abbrev main_while0b_call5_v0 : Ref sig .tc := ⟨.hbm, 99, rfl⟩
abbrev main_while0b_v72 : Ref sig .tc := ⟨.hbm, 100, rfl⟩
abbrev main_while0b_v73 : Ref sig .tc := ⟨.hbm, 101, rfl⟩
abbrev main_while0b_v74 : Ref sig .tc := ⟨.hbm, 102, rfl⟩
abbrev main_while0b_v75 : Ref sig .tc := ⟨.hbm, 103, rfl⟩
abbrev main_while0b_v76 : Ref sig .tc := ⟨.hbm, 104, rfl⟩
abbrev main_while0b_call6_v0 : Ref sig .tc := ⟨.hbm, 105, rfl⟩
abbrev main_while0b_call6_c : Ref sig .tc := ⟨.hbm, 106, rfl⟩
abbrev main_while0b_call6_c_0 : Ref sig .tc := ⟨.hbm, 107, rfl⟩
abbrev main_while0b_call6_c_1 : Ref sig .tc := ⟨.hbm, 108, rfl⟩
abbrev main_while0b_call6_c_2 : Ref sig .tc := ⟨.hbm, 109, rfl⟩
abbrev main_while0b_v77 : Ref sig .tc := ⟨.hbm, 110, rfl⟩
abbrev main_while0b_c_10 : Ref sig .tc := ⟨.hbm, 111, rfl⟩
abbrev main_while0b_v78 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩

abbrev nD : Nat := 1
abbrev τ : Topo := Topo.v7x

variable {F : FTy → Type} [FloatOps F]

abbrev main_while0_count : Scf.Loop 32 := ⟨0#32, 66#32, 1#32⟩
-- ==== Kernel2.lean ====
abbrev S8448x4096 : Shape := ⟨2, ![8448, 4096]⟩
abbrev S2x4096x3072 : Shape := ⟨3, ![2, 4096, 3072]⟩
abbrev S8448x3072 : Shape := ⟨2, ![8448, 3072]⟩
abbrev S768x4096 : Shape := ⟨2, ![768, 4096]⟩
abbrev S1x4096x512 : Shape := ⟨3, ![1, 4096, 512]⟩
abbrev S768x512 : Shape := ⟨2, ![768, 512]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S8448x4096, .bf16⟩
  | .hbm, ⟨1, _⟩ => ⟨S2x4096x3072, .bf16⟩
  | .hbm, ⟨2, _⟩ => ⟨S8448x3072, .f32⟩
  | .local _ .vmem, ⟨0, _⟩ => ⟨S768x4096, .bf16⟩
  | .local _ .vmem, ⟨1, _⟩ => ⟨S768x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S768x512, .f32⟩
  | .local _ .vmem, ⟨5, _⟩ => ⟨S768x512, .f32⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8448x4096 : Shape := ⟨2, ![8448, 4096]⟩
abbrev S2x4096x3072 : Shape := ⟨3, ![2, 4096, 3072]⟩
abbrev S1x4096x3072 : Shape := ⟨3, ![1, 4096, 3072]⟩
abbrev S4096x3072 : Shape := ⟨2, ![4096, 3072]⟩
abbrev S8448x3072 : Shape := ⟨2, ![8448, 3072]⟩

abbrev nBuf : Space → Nat
  | .hbm => 7
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S2x4096x3072, .bf16⟩
  | .hbm, ⟨2, _⟩ => ⟨S8448x4096, .f32⟩
  | .hbm, ⟨3, _⟩ => ⟨S1x4096x3072, .bf16⟩
  | .hbm, ⟨4, _⟩ => ⟨S4096x3072, .bf16⟩
  | .hbm, ⟨5, _⟩ => ⟨S4096x3072, .f32⟩
  | .hbm, ⟨6, _⟩ => ⟨S8448x3072, .f32⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel3.lean ====
abbrev S8448x4096 : Shape := ⟨2, ![8448, 4096]⟩
abbrev S2x4096x5120 : Shape := ⟨3, ![2, 4096, 5120]⟩
abbrev S8448x5120 : Shape := ⟨2, ![8448, 5120]⟩
abbrev S768x4096 : Shape := ⟨2, ![768, 4096]⟩
abbrev S1x4096x512 : Shape := ⟨3, ![1, 4096, 512]⟩
abbrev S768x512 : Shape := ⟨2, ![768, 512]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S8448x4096, .bf16⟩
  | .hbm, ⟨1, _⟩ => ⟨S2x4096x5120, .bf16⟩
  | .hbm, ⟨2, _⟩ => ⟨S8448x5120, .f32⟩
  | .local _ .vmem, ⟨0, _⟩ => ⟨S768x4096, .bf16⟩
  | .local _ .vmem, ⟨1, _⟩ => ⟨S768x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S768x512, .f32⟩
  | .local _ .vmem, ⟨5, _⟩ => ⟨S768x512, .f32⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8448x4096 : Shape := ⟨2, ![8448, 4096]⟩
abbrev S2x4096x5120 : Shape := ⟨3, ![2, 4096, 5120]⟩
abbrev S1x4096x5120 : Shape := ⟨3, ![1, 4096, 5120]⟩
abbrev S4096x5120 : Shape := ⟨2, ![4096, 5120]⟩
abbrev S8448x5120 : Shape := ⟨2, ![8448, 5120]⟩

abbrev nBuf : Space → Nat
  | .hbm => 7
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S2x4096x5120, .bf16⟩
  | .hbm, ⟨2, _⟩ => ⟨S8448x4096, .f32⟩
  | .hbm, ⟨3, _⟩ => ⟨S1x4096x5120, .bf16⟩
  | .hbm, ⟨4, _⟩ => ⟨S4096x5120, .bf16⟩
  | .hbm, ⟨5, _⟩ => ⟨S4096x5120, .f32⟩
  | .hbm, ⟨6, _⟩ => ⟨S8448x5120, .f32⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S8448x1024 : Shape := ⟨2, ![8448, 1024]⟩
abbrev S2x4096x4096 : Shape := ⟨3, ![2, 4096, 4096]⟩
abbrev S8448x4096 : Shape := ⟨2, ![8448, 4096]⟩
abbrev S2x4096 : Shape := ⟨2, ![2, 4096]⟩
abbrev S768x1024 : Shape := ⟨2, ![768, 1024]⟩
abbrev S1x4096x512 : Shape := ⟨3, ![1, 4096, 512]⟩
abbrev S768x512 : Shape := ⟨2, ![768, 512]⟩
abbrev S2x512 : Shape := ⟨2, ![2, 512]⟩
abbrev S1x1024x512 : Shape := ⟨3, ![1, 1024, 512]⟩
abbrev S1024x512 : Shape := ⟨2, ![1024, 512]⟩
abbrev S768x1 : Shape := ⟨2, ![768, 1]⟩
abbrev S1x512 : Shape := ⟨2, ![1, 512]⟩

abbrev nBuf : Space → Nat
  | .hbm => 8
  | .vmem => 16
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8448x1024, .bf16⟩
  | .hbm, ⟨3, _⟩ => ⟨S8448x1024, .bf16⟩
  | .hbm, ⟨4, _⟩ => ⟨S2x4096x4096, .bf16⟩
  | .hbm, ⟨5, _⟩ => ⟨S8448x4096, .f32⟩
  | .hbm, ⟨6, _⟩ => ⟨S2x4096, .f32⟩
  | .hbm, ⟨7, _⟩ => ⟨S8448x4096, .f32⟩
  | .local _ .vmem, ⟨0, _⟩ => ⟨S768x1024, .bf16⟩
  | .local _ .vmem, ⟨1, _⟩ => ⟨S768x1024, .bf16⟩
  | .local _ .vmem, ⟨2, _⟩ => ⟨S768x1024, .bf16⟩
  | .local _ .vmem, ⟨3, _⟩ => ⟨S768x1024, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .bf16⟩
  | .local _ .vmem, ⟨7, _⟩ => ⟨S768x1024, .bf16⟩
  | .local _ .vmem, ⟨8, _⟩ => ⟨S1x4096x512, .bf16⟩
  | .local _ .vmem, ⟨9, _⟩ => ⟨S1x4096x512, .bf16⟩
  | .local _ .vmem, ⟨10, _⟩ => ⟨S768x512, .f32⟩
  | .local _ .vmem, ⟨11, _⟩ => ⟨S768x512, .f32⟩
  | .local _ .vmem, ⟨12, _⟩ => ⟨S2x512, .f32⟩
  | .local _ .vmem, ⟨13, _⟩ => ⟨S2x512, .f32⟩
  | .local _ .vmem, ⟨14, _⟩ => ⟨S768x512, .f32⟩
  | .local _ .vmem, ⟨15, _⟩ => ⟨S768x512, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S768x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S768x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S768x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S8448x1024 : Shape := ⟨2, ![8448, 1024]⟩
abbrev S2x4096x4096 : Shape := ⟨3, ![2, 4096, 4096]⟩
abbrev S8448x4096 : Shape := ⟨2, ![8448, 4096]⟩
abbrev S2x4096 : Shape := ⟨2, ![2, 4096]⟩
abbrev S1x4096x4096 : Shape := ⟨3, ![1, 4096, 4096]⟩
abbrev S4096x4096 : Shape := ⟨2, ![4096, 4096]⟩
abbrev S8192x4096 : Shape := ⟨2, ![8192, 4096]⟩
abbrev S1x4096 : Shape := ⟨2, ![1, 4096]⟩
abbrev S4096 : Shape := ⟨1, ![4096]⟩
abbrev S256x4096 : Shape := ⟨2, ![256, 4096]⟩

abbrev nBuf : Space → Nat
  | .hbm => 31
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8448x1024, .bf16⟩
  | .hbm, ⟨3, _⟩ => ⟨S8448x1024, .bf16⟩
  | .hbm, ⟨4, _⟩ => ⟨S2x4096x4096, .bf16⟩
  | .hbm, ⟨5, _⟩ => ⟨S8448x4096, .f32⟩
  | .hbm, ⟨6, _⟩ => ⟨S2x4096, .f32⟩
  | .hbm, ⟨7, _⟩ => ⟨S8448x4096, .bf16⟩
  | .hbm, ⟨8, _⟩ => ⟨S8448x4096, .f32⟩
  | .hbm, ⟨9, _⟩ => ⟨S1x4096x4096, .bf16⟩
  | .hbm, ⟨10, _⟩ => ⟨S4096x4096, .bf16⟩
  | .hbm, ⟨11, _⟩ => ⟨S4096x4096, .f32⟩
  | .hbm, ⟨12, _⟩ => ⟨S8192x4096, .f32⟩
  | .hbm, ⟨13, _⟩ => ⟨S1x4096, .f32⟩
  | .hbm, ⟨14, _⟩ => ⟨S4096, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S256x4096, .f32⟩
  | .hbm, ⟨22, _⟩ => ⟨S1x4096, .f32⟩
  | .hbm, ⟨23, _⟩ => ⟨S4096, .f32⟩
  | .hbm, ⟨24, _⟩ => ⟨S256x4096, .f32⟩
  | .hbm, ⟨25, _⟩ => ⟨S256x4096, .f32⟩
  | .hbm, ⟨26, _⟩ => ⟨S1x4096, .f32⟩
  | .hbm, ⟨27, _⟩ => ⟨S256x4096, .f32⟩
  | .hbm, ⟨28, _⟩ => ⟨S256x4096, .f32⟩
  | .hbm, ⟨29, _⟩ => ⟨S256x4096, .f32⟩
  | .hbm, ⟨30, _⟩ => ⟨S8448x4096, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel5.lean ====
abbrev S25088x4096 : Shape := ⟨2, ![25088, 4096]⟩
abbrev S98 : Shape := ⟨1, ![98]⟩
abbrev S32x4096x512 : Shape := ⟨3, ![32, 4096, 512]⟩
abbrev S32x512x4096 : Shape := ⟨3, ![32, 512, 4096]⟩
abbrev S256x4096 : Shape := ⟨2, ![256, 4096]⟩
abbrev S1x4096x512 : Shape := ⟨3, ![1, 4096, 512]⟩
abbrev S1 : Shape := ⟨1, ![1]⟩
abbrev S1x512x4096 : Shape := ⟨3, ![1, 512, 4096]⟩
abbrev S4096x512 : Shape := ⟨2, ![4096, 512]⟩
abbrev S256x512 : Shape := ⟨2, ![256, 512]⟩
abbrev S512x4096 : Shape := ⟨2, ![512, 4096]⟩

abbrev nBuf : Space → Nat
  | .hbm => 5
  | .vmem => 10
  | .smem => 2
  | _ => 0

abbrev bufTy : (tb : Table) → Fin (tcTables nBuf tb) → BufTy
  | .hbm, ⟨0, _⟩ => ⟨S25088x4096, .bf16⟩
  | .hbm, ⟨1, _⟩ => ⟨S32x4096x512, .bf16⟩
  | .hbm, ⟨2, _⟩ => ⟨S32x4096x512, .bf16⟩
  | .hbm, ⟨3, _⟩ => ⟨S32x512x4096, .bf16⟩
  | .hbm, ⟨4, _⟩ => ⟨S25088x4096, .f32⟩
  | .local _ .vmem, ⟨0, _⟩ => ⟨S256x4096, .bf16⟩
  | .local _ .vmem, ⟨1, _⟩ => ⟨S256x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x512x4096, .bf16⟩
  | .local _ .vmem, ⟨7, _⟩ => ⟨S1x512x4096, .bf16⟩
  | .local _ .vmem, ⟨8, _⟩ => ⟨S256x4096, .f32⟩
  | .local _ .vmem, ⟨9, _⟩ => ⟨S256x4096, .f32⟩
  | .local _ .smem, ⟨0, _⟩ => ⟨S98, .i32⟩
  | .local _ .smem, ⟨1, _⟩ => ⟨S98, .i32⟩
  | _, _ => ⟨S25088x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![98], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def k0_cond2 (v6 : BitVec 32) : BitVec 1 :=
  let c0_i32_1 : BitVec 32 := 0#32
  let v7 : BitVec 1 := Scalar.cmpi .eq v6 c0_i32_1
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S98.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S98) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S98.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S98) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S98.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S98) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S25088x4096 : Shape := ⟨2, ![25088, 4096]⟩
abbrev S98 : Shape := ⟨1, ![98]⟩
abbrev S32x4096x512 : Shape := ⟨3, ![32, 4096, 512]⟩
abbrev S32x512x4096 : Shape := ⟨3, ![32, 512, 4096]⟩
abbrev S98x1 : Shape := ⟨2, ![98, 1]⟩
abbrev S98x256 : Shape := ⟨2, ![98, 256]⟩
abbrev S25088 : Shape := ⟨1, ![25088]⟩
abbrev S25088x1 : Shape := ⟨2, ![25088, 1]⟩
abbrev S1x32 : Shape := ⟨2, ![1, 32]⟩
abbrev S25088x32 : Shape := ⟨2, ![25088, 32]⟩
abbrev S_ : Shape := ⟨0, ![]⟩
abbrev S25088x32x512 : Shape := ⟨3, ![25088, 32, 512]⟩
abbrev S25088x32x1 : Shape := ⟨3, ![25088, 32, 1]⟩

abbrev nBuf : Space → Nat
  | .hbm => 45
  | .vmem => 0
  | .smem => 0
  | _ => 0

abbrev bufTy : (tb : Table) → Fin (tcTables nBuf tb) → BufTy
  | .hbm, ⟨0, _⟩ => ⟨S25088x4096, .bf16⟩
  | .hbm, ⟨1, _⟩ => ⟨S98, .i32⟩
  | .hbm, ⟨2, _⟩ => ⟨S98, .i32⟩
  | .hbm, ⟨3, _⟩ => ⟨S32x4096x512, .bf16⟩
  | .hbm, ⟨4, _⟩ => ⟨S32x4096x512, .bf16⟩
  | .hbm, ⟨5, _⟩ => ⟨S32x512x4096, .bf16⟩
  | .hbm, ⟨6, _⟩ => ⟨S98x1, .i32⟩
  | .hbm, ⟨7, _⟩ => ⟨S98x256, .i32⟩
  | .hbm, ⟨8, _⟩ => ⟨S25088, .i32⟩
  | .hbm, ⟨9, _⟩ => ⟨S25088x1, .i32⟩
  | .hbm, ⟨10, _⟩ => ⟨S1x32, .i32⟩
  | .hbm, ⟨11, _⟩ => ⟨S25088x32, .i32⟩
  | .hbm, ⟨12, _⟩ => ⟨S25088x32, .i32⟩
  | .hbm, ⟨13, _⟩ => ⟨S25088x32, .i1⟩
  | .hbm, ⟨14, _⟩ => ⟨S25088x32, .f32⟩
  | .hbm, ⟨15, _⟩ => ⟨S_, .i32⟩
  | .hbm, ⟨16, _⟩ => ⟨S98, .i32⟩
  | .hbm, ⟨17, _⟩ => ⟨S98, .i1⟩
  | .hbm, ⟨18, _⟩ => ⟨S98x1, .i1⟩
  | .hbm, ⟨19, _⟩ => ⟨S98x256, .i1⟩
  | .hbm, ⟨20, _⟩ => ⟨S25088, .i1⟩
  | .hbm, ⟨21, _⟩ => ⟨S25088x1, .i1⟩
  | .hbm, ⟨22, _⟩ => ⟨S25088x1, .f32⟩
  | .hbm, ⟨23, _⟩ => ⟨S25088x32, .f32⟩
  | .hbm, ⟨24, _⟩ => ⟨S25088x32, .f32⟩
  | .hbm, ⟨25, _⟩ => ⟨S25088x4096, .f32⟩
  | .hbm, ⟨26, _⟩ => ⟨S32x4096x512, .f32⟩
  | .hbm, ⟨27, _⟩ => ⟨S25088x32x512, .f32⟩
  | .hbm, ⟨28, _⟩ => ⟨S32x4096x512, .f32⟩
  | .hbm, ⟨29, _⟩ => ⟨S25088x32x512, .f32⟩
  | .hbm, ⟨30, _⟩ => ⟨S25088x32x512, .f32⟩
  | .hbm, ⟨31, _⟩ => ⟨S25088x32x512, .f32⟩
  | .hbm, ⟨32, _⟩ => ⟨S_, .f32⟩
  | .hbm, ⟨33, _⟩ => ⟨S25088x32x512, .f32⟩
  | .hbm, ⟨34, _⟩ => ⟨S25088x32x512, .f32⟩
  | .hbm, ⟨35, _⟩ => ⟨S_, .f32⟩
  | .hbm, ⟨36, _⟩ => ⟨S25088x32x512, .f32⟩
  | .hbm, ⟨37, _⟩ => ⟨S25088x32x512, .f32⟩
  | .hbm, ⟨38, _⟩ => ⟨S25088x32x512, .f32⟩
  | .hbm, ⟨39, _⟩ => ⟨S25088x32x512, .f32⟩
  | .hbm, ⟨40, _⟩ => ⟨S25088x32x1, .f32⟩
  | .hbm, ⟨41, _⟩ => ⟨S25088x32x512, .f32⟩
  | .hbm, ⟨42, _⟩ => ⟨S25088x32x512, .f32⟩
  | .hbm, ⟨43, _⟩ => ⟨S32x512x4096, .f32⟩
  | .hbm, ⟨44, _⟩ => ⟨S25088x4096, .f32⟩
  | _, _ => ⟨S25088x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call1_v0 : Ref sig .tc := ⟨.hbm, 30, rfl⟩
abbrev main_call1_v1 : Ref sig .tc := ⟨.hbm, 31, rfl⟩
abbrev main_call1_cst : Ref sig .tc := ⟨.hbm, 32, rfl⟩
abbrev main_call1_v2 : Ref sig .tc := ⟨.hbm, 33, rfl⟩
abbrev main_call1_v3 : Ref sig .tc := ⟨.hbm, 34, rfl⟩
abbrev main_call1_cst_0 : Ref sig .tc := ⟨.hbm, 35, rfl⟩
abbrev main_call1_v4 : Ref sig .tc := ⟨.hbm, 36, rfl⟩
abbrev main_call1_v5 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩

abbrev nD : Nat := 1
abbrev τ : Topo := Topo.v7x

variable {F : FTy → Type} [FloatOps F]
-- ==== Kernel6.lean ====
abbrev S8448x4096 : Shape := ⟨2, ![8448, 4096]⟩
abbrev S2x4096x256 : Shape := ⟨3, ![2, 4096, 256]⟩
abbrev S8448x256 : Shape := ⟨2, ![8448, 256]⟩
abbrev S768x4096 : Shape := ⟨2, ![768, 4096]⟩
abbrev S1x4096x256 : Shape := ⟨3, ![1, 4096, 256]⟩
abbrev S768x256 : Shape := ⟨2, ![768, 256]⟩
abbrev S4096x256 : Shape := ⟨2, ![4096, 256]⟩

abbrev nBuf : Space → Nat
  | .hbm => 3
  | .vmem => 5
  | .smem => 0
  | _ => 0

abbrev bufTy : (tb : Table) → Fin (tcTables nBuf tb) → BufTy
  | .hbm, ⟨0, _⟩ => ⟨S8448x4096, .bf16⟩
  | .hbm, ⟨1, _⟩ => ⟨S2x4096x256, .bf16⟩
  | .hbm, ⟨2, _⟩ => ⟨S8448x256, .f32⟩
  | .local _ .vmem, ⟨0, _⟩ => ⟨S768x4096, .bf16⟩
  | .local _ .vmem, ⟨1, _⟩ => ⟨S768x4096, .bf16⟩
  | .local _ .vmem, ⟨2, _⟩ => ⟨S1x4096x256, .bf16⟩
  | .local _ .vmem, ⟨3, _⟩ => ⟨S768x256, .f32⟩
  | .local _ .vmem, ⟨4, _⟩ => ⟨S768x256, .f32⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S768x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8448x4096 : Shape := ⟨2, ![8448, 4096]⟩
abbrev S2x4096x256 : Shape := ⟨3, ![2, 4096, 256]⟩
abbrev S1x4096x256 : Shape := ⟨3, ![1, 4096, 256]⟩
abbrev S4096x256 : Shape := ⟨2, ![4096, 256]⟩
abbrev S8448x256 : Shape := ⟨2, ![8448, 256]⟩

abbrev nBuf : Space → Nat
  | .hbm => 7
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S2x4096x256, .bf16⟩
  | .hbm, ⟨2, _⟩ => ⟨S8448x4096, .f32⟩
  | .hbm, ⟨3, _⟩ => ⟨S1x4096x256, .bf16⟩
  | .hbm, ⟨4, _⟩ => ⟨S4096x256, .bf16⟩
  | .hbm, ⟨5, _⟩ => ⟨S4096x256, .f32⟩
  | .hbm, ⟨6, _⟩ => ⟨S8448x256, .f32⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel7.lean ====
abbrev S8448x1024 : Shape := ⟨2, ![8448, 1024]⟩
abbrev S8448x3072 : Shape := ⟨2, ![8448, 3072]⟩
abbrev S1024 : Shape := ⟨1, ![1024]⟩
abbrev S1x1024 : Shape := ⟨2, ![1, 1024]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S1x256 : Shape := ⟨2, ![1, 256]⟩

abbrev nBuf : Space → Nat
  | .hbm => 6
  | .vmem => 9
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x3072, .f32⟩
  | .hbm, ⟨3, _⟩ => ⟨S1024, .f32⟩
  | .hbm, ⟨4, _⟩ => ⟨S1x1024, .f32⟩
  | .hbm, ⟨5, _⟩ => ⟨S8448x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .bf16⟩
  | .local _ .vmem, ⟨8, _⟩ => ⟨S256x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S8448x1024 : Shape := ⟨2, ![8448, 1024]⟩
abbrev S8448x3072 : Shape := ⟨2, ![8448, 3072]⟩
abbrev S1024 : Shape := ⟨1, ![1024]⟩
abbrev S8448x4x256 : Shape := ⟨3, ![8448, 4, 256]⟩
abbrev S_ : Shape := ⟨0, ![]⟩
abbrev S8448x4 : Shape := ⟨2, ![8448, 4]⟩
abbrev S8448x4x1 : Shape := ⟨3, ![8448, 4, 1]⟩
abbrev S1x1024 : Shape := ⟨2, ![1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x3072, .f32⟩
  | .hbm, ⟨3, _⟩ => ⟨S1024, .f32⟩
  | .hbm, ⟨4, _⟩ => ⟨S8448x1024, .f32⟩
  | .hbm, ⟨5, _⟩ => ⟨S8448x4x256, .f32⟩
  | .hbm, ⟨6, _⟩ => ⟨S8448x4x256, .f32⟩
  | .hbm, ⟨7, _⟩ => ⟨S_, .f32⟩
  | .hbm, ⟨8, _⟩ => ⟨S8448x4, .f32⟩
  | .hbm, ⟨9, _⟩ => ⟨S8448x4x1, .f32⟩
  | .hbm, ⟨10, _⟩ => ⟨S_, .f32⟩
  | .hbm, ⟨11, _⟩ => ⟨S8448x4x1, .f32⟩
  | .hbm, ⟨12, _⟩ => ⟨S8448x4x1, .f32⟩
  | .hbm, ⟨13, _⟩ => ⟨S_, .f32⟩
  | .hbm, ⟨14, _⟩ => ⟨S8448x4x1, .f32⟩
  | .hbm, ⟨15, _⟩ => ⟨S8448x4x1, .f32⟩
  | .hbm, ⟨16, _⟩ => ⟨S8448x4x1, .f32⟩
  | .hbm, ⟨17, _⟩ => ⟨S8448x4x256, .f32⟩
  | .hbm, ⟨18, _⟩ => ⟨S8448x4x256, .f32⟩
  | .hbm, ⟨19, _⟩ => ⟨S8448x1024, .f32⟩
  | .hbm, ⟨20, _⟩ => ⟨S1x1024, .f32⟩
  | .hbm, ⟨21, _⟩ => ⟨S8448x1024, .f32⟩
  | .hbm, ⟨22, _⟩ => ⟨S8448x1024, .f32⟩
  | .hbm, ⟨23, _⟩ => ⟨S8448x1024, .f32⟩
  | .hbm, ⟨24, _⟩ => ⟨S8448x1024, .f32⟩
  | .hbm, ⟨25, _⟩ => ⟨S8448x1024, .f32⟩
  | .hbm, ⟨26, _⟩ => ⟨S_, .f32⟩
  | .hbm, ⟨27, _⟩ => ⟨S8448x1024, .f32⟩
  | .hbm, ⟨28, _⟩ => ⟨S8448x1024, .f32⟩
  | .hbm, ⟨29, _⟩ => ⟨S_, .f32⟩
  | .hbm, ⟨30, _⟩ => ⟨S8448x1024, .f32⟩
  | .hbm, ⟨31, _⟩ => ⟨S8448x1024, .f32⟩
  | .hbm, ⟨32, _⟩ => ⟨S8448x1024, .f32⟩
  | .hbm, ⟨33, _⟩ => ⟨S8448x1024, .f32⟩
  | .hbm, ⟨34, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== Kernel8.lean ====
abbrev S8448x1024 : Shape := ⟨2, ![8448, 1024]⟩
abbrev S8448x2048 : Shape := ⟨2, ![8448, 2048]⟩
abbrev S16 : Shape := ⟨1, ![16]⟩
abbrev S8448x3072 : Shape := ⟨2, ![8448, 3072]⟩
abbrev S1024 : Shape := ⟨1, ![1024]⟩
abbrev S16x64 : Shape := ⟨2, ![16, 64]⟩
abbrev S1x1024 : Shape := ⟨2, ![1, 1024]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S1x256 : Shape := ⟨2, ![1, 256]⟩

abbrev nBuf : Space → Nat
  | .hbm => 11
  | .vmem => 12
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x2048, .f32⟩
  | .hbm, ⟨3, _⟩ => ⟨S16, .f32⟩
  | .hbm, ⟨4, _⟩ => ⟨S8448x3072, .f32⟩
  | .hbm, ⟨5, _⟩ => ⟨S1024, .f32⟩
  | .hbm, ⟨6, _⟩ => ⟨S16x64, .f32⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S8448x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S256x1024, .bf16⟩
  | .local _ .vmem, ⟨11, _⟩ => ⟨S256x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S8448x1024 : Shape := ⟨2, ![8448, 1024]⟩
abbrev S8448x2048 : Shape := ⟨2, ![8448, 2048]⟩
abbrev S16 : Shape := ⟨1, ![16]⟩
abbrev S8448x3072 : Shape := ⟨2, ![8448, 3072]⟩
abbrev S1024 : Shape := ⟨1, ![1024]⟩
abbrev S8448x16x64 : Shape := ⟨3, ![8448, 16, 64]⟩
abbrev S16x1 : Shape := ⟨2, ![16, 1]⟩
abbrev S1x16x1 : Shape := ⟨3, ![1, 16, 1]⟩
abbrev S_ : Shape := ⟨0, ![]⟩
abbrev S8448x4x256 : Shape := ⟨3, ![8448, 4, 256]⟩
abbrev S8448x4 : Shape := ⟨2, ![8448, 4]⟩
abbrev S8448x4x1 : Shape := ⟨3, ![8448, 4, 1]⟩
abbrev S1x1024 : Shape := ⟨2, ![1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x2048, .f32⟩
  | .hbm, ⟨3, _⟩ => ⟨S16, .f32⟩
  | .hbm, ⟨4, _⟩ => ⟨S8448x3072, .f32⟩
  | .hbm, ⟨5, _⟩ => ⟨S1024, .f32⟩
  | .hbm, ⟨6, _⟩ => ⟨S8448x1024, .f32⟩
  | .hbm, ⟨7, _⟩ => ⟨S8448x16x64, .f32⟩
  | .hbm, ⟨8, _⟩ => ⟨S16x1, .f32⟩
  | .hbm, ⟨9, _⟩ => ⟨S1x16x1, .f32⟩
  | .hbm, ⟨10, _⟩ => ⟨S8448x16x64, .f32⟩
  | .hbm, ⟨11, _⟩ => ⟨S8448x16x64, .f32⟩
  | .hbm, ⟨12, _⟩ => ⟨S8448x1024, .f32⟩
  | .hbm, ⟨13, _⟩ => ⟨S8448x1024, .f32⟩
  | .hbm, ⟨14, _⟩ => ⟨S8448x1024, .f32⟩
  | .hbm, ⟨15, _⟩ => ⟨S8448x1024, .f32⟩
  | .hbm, ⟨16, _⟩ => ⟨S8448x1024, .f32⟩
  | .hbm, ⟨17, _⟩ => ⟨S8448x1024, .f32⟩
  | .hbm, ⟨18, _⟩ => ⟨S_, .f32⟩
  | .hbm, ⟨19, _⟩ => ⟨S8448x1024, .f32⟩
  | .hbm, ⟨20, _⟩ => ⟨S8448x1024, .f32⟩
  | .hbm, ⟨21, _⟩ => ⟨S_, .f32⟩
  | .hbm, ⟨22, _⟩ => ⟨S8448x1024, .f32⟩
  | .hbm, ⟨23, _⟩ => ⟨S8448x1024, .f32⟩
  | .hbm, ⟨24, _⟩ => ⟨S8448x1024, .f32⟩
  | .hbm, ⟨25, _⟩ => ⟨S8448x1024, .f32⟩
  | .hbm, ⟨26, _⟩ => ⟨S8448x4x256, .f32⟩
  | .hbm, ⟨27, _⟩ => ⟨S8448x4x256, .f32⟩
  | .hbm, ⟨28, _⟩ => ⟨S_, .f32⟩
  | .hbm, ⟨29, _⟩ => ⟨S8448x4, .f32⟩
  | .hbm, ⟨30, _⟩ => ⟨S8448x4x1, .f32⟩
  | .hbm, ⟨31, _⟩ => ⟨S_, .f32⟩
  | .hbm, ⟨32, _⟩ => ⟨S8448x4x1, .f32⟩
  | .hbm, ⟨33, _⟩ => ⟨S8448x4x1, .f32⟩
  | .hbm, ⟨34, _⟩ => ⟨S_, .f32⟩
  | .hbm, ⟨35, _⟩ => ⟨S8448x4x1, .f32⟩
  | .hbm, ⟨36, _⟩ => ⟨S8448x4x1, .f32⟩
  | .hbm, ⟨37, _⟩ => ⟨S8448x4x1, .f32⟩
  | .hbm, ⟨38, _⟩ => ⟨S8448x4x256, .f32⟩
  | .hbm, ⟨39, _⟩ => ⟨S8448x4x256, .f32⟩
  | .hbm, ⟨40, _⟩ => ⟨S8448x1024, .f32⟩
  | .hbm, ⟨41, _⟩ => ⟨S1x1024, .f32⟩
  | .hbm, ⟨42, _⟩ => ⟨S8448x1024, .f32⟩
  | .hbm, ⟨43, _⟩ => ⟨S8448x1024, .f32⟩
  | .hbm, ⟨44, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_cst_0 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩

abbrev nD : Nat := 1
abbrev τ : Topo := Topo.v7x

variable {F : FTy → Type} [FloatOps F]
-- ==== Kernel9.lean ====
abbrev S8448x1024 : Shape := ⟨2, ![8448, 1024]⟩
abbrev S8448x5120 : Shape := ⟨2, ![8448, 5120]⟩
abbrev S1024 : Shape := ⟨1, ![1024]⟩
abbrev S1x1024 : Shape := ⟨2, ![1, 1024]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S1x128 : Shape := ⟨2, ![1, 128]⟩

abbrev nBuf : Space → Nat
  | .hbm => 6
  | .vmem => 9
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x5120, .f32⟩
  | .hbm, ⟨3, _⟩ => ⟨S1024, .f32⟩
  | .hbm, ⟨4, _⟩ => ⟨S1x1024, .f32⟩
  | .hbm, ⟨5, _⟩ => ⟨S8448x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .bf16⟩
  | .local _ .vmem, ⟨8, _⟩ => ⟨S256x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S8448x1024 : Shape := ⟨2, ![8448, 1024]⟩
abbrev S8448x5120 : Shape := ⟨2, ![8448, 5120]⟩
abbrev S1024 : Shape := ⟨1, ![1024]⟩
abbrev S8448x8x128 : Shape := ⟨3, ![8448, 8, 128]⟩
abbrev S_ : Shape := ⟨0, ![]⟩
abbrev S8448x8 : Shape := ⟨2, ![8448, 8]⟩
abbrev S8448x8x1 : Shape := ⟨3, ![8448, 8, 1]⟩
abbrev S1x1024 : Shape := ⟨2, ![1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x5120, .f32⟩
  | .hbm, ⟨3, _⟩ => ⟨S1024, .f32⟩
  | .hbm, ⟨4, _⟩ => ⟨S8448x1024, .f32⟩
  | .hbm, ⟨5, _⟩ => ⟨S8448x8x128, .f32⟩
  | .hbm, ⟨6, _⟩ => ⟨S8448x8x128, .f32⟩
  | .hbm, ⟨7, _⟩ => ⟨S_, .f32⟩
  | .hbm, ⟨8, _⟩ => ⟨S8448x8, .f32⟩
  | .hbm, ⟨9, _⟩ => ⟨S8448x8x1, .f32⟩
  | .hbm, ⟨10, _⟩ => ⟨S_, .f32⟩
  | .hbm, ⟨11, _⟩ => ⟨S8448x8x1, .f32⟩
  | .hbm, ⟨12, _⟩ => ⟨S8448x8x1, .f32⟩
  | .hbm, ⟨13, _⟩ => ⟨S_, .f32⟩
  | .hbm, ⟨14, _⟩ => ⟨S8448x8x1, .f32⟩
  | .hbm, ⟨15, _⟩ => ⟨S8448x8x1, .f32⟩
  | .hbm, ⟨16, _⟩ => ⟨S8448x8x1, .f32⟩
  | .hbm, ⟨17, _⟩ => ⟨S8448x8x128, .f32⟩
  | .hbm, ⟨18, _⟩ => ⟨S8448x8x128, .f32⟩
  | .hbm, ⟨19, _⟩ => ⟨S8448x1024, .f32⟩
  | .hbm, ⟨20, _⟩ => ⟨S1x1024, .f32⟩
  | .hbm, ⟨21, _⟩ => ⟨S8448x1024, .f32⟩
  | .hbm, ⟨22, _⟩ => ⟨S8448x1024, .f32⟩
  | .hbm, ⟨23, _⟩ => ⟨S8448x1024, .f32⟩
  | .hbm, ⟨24, _⟩ => ⟨S8448x1024, .f32⟩
  | .hbm, ⟨25, _⟩ => ⟨S8448x1024, .f32⟩
  | .hbm, ⟨26, _⟩ => ⟨S_, .f32⟩
  | .hbm, ⟨27, _⟩ => ⟨S8448x1024, .f32⟩
  | .hbm, ⟨28, _⟩ => ⟨S8448x1024, .f32⟩
  | .hbm, ⟨29, _⟩ => ⟨S_, .f32⟩
  | .hbm, ⟨30, _⟩ => ⟨S8448x1024, .f32⟩
  | .hbm, ⟨31, _⟩ => ⟨S8448x1024, .f32⟩
  | .hbm, ⟨32, _⟩ => ⟨S8448x1024, .f32⟩
  | .hbm, ⟨33, _⟩ => ⟨S8448x1024, .f32⟩
  | .hbm, ⟨34, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== Kernel10.lean ====
abbrev S8448x256 : Shape := ⟨2, ![8448, 256]⟩
abbrev S2x16 : Shape := ⟨2, ![2, 16]⟩
abbrev S_ : Shape := ⟨0, ![]⟩
abbrev S2x128 : Shape := ⟨2, ![2, 128]⟩
abbrev S1x256 : Shape := ⟨2, ![1, 256]⟩
abbrev S256x256 : Shape := ⟨2, ![256, 256]⟩

abbrev nBuf : Space → Nat
  | .hbm => 15
  | .vmem => 8
  | .smem => 0
  | _ => 0

abbrev bufTy : (tb : Table) → Fin (tcTables nBuf tb) → BufTy
  | .hbm, ⟨0, _⟩ => ⟨S8448x256, .f32⟩
  | .hbm, ⟨1, _⟩ => ⟨S2x16, .f32⟩
  | .hbm, ⟨2, _⟩ => ⟨S2x16, .f32⟩
  | .hbm, ⟨3, _⟩ => ⟨S_, .i32⟩
  | .hbm, ⟨4, _⟩ => ⟨S_, .f32⟩
  | .hbm, ⟨5, _⟩ => ⟨S2x128, .f32⟩
  | .hbm, ⟨6, _⟩ => ⟨S1x256, .f32⟩
  | .hbm, ⟨7, _⟩ => ⟨S2x16, .f32⟩
  | .hbm, ⟨8, _⟩ => ⟨S2x16, .f32⟩
  | .hbm, ⟨9, _⟩ => ⟨S_, .i32⟩
  | .hbm, ⟨10, _⟩ => ⟨S_, .f32⟩
  | .hbm, ⟨11, _⟩ => ⟨S2x128, .f32⟩
  | .hbm, ⟨12, _⟩ => ⟨S1x256, .f32⟩
  | .hbm, ⟨13, _⟩ => ⟨S8448x256, .f32⟩
  | .hbm, ⟨14, _⟩ => ⟨S8448x256, .f32⟩
  | .local _ .vmem, ⟨0, _⟩ => ⟨S256x256, .f32⟩
  | .local _ .vmem, ⟨1, _⟩ => ⟨S256x256, .f32⟩
  | .local _ .vmem, ⟨2, _⟩ => ⟨S1x256, .f32⟩
  | .local _ .vmem, ⟨3, _⟩ => ⟨S1x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | _, _ => ⟨S8448x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S8448x256 : Shape := ⟨2, ![8448, 256]⟩
abbrev S2x16 : Shape := ⟨2, ![2, 16]⟩
abbrev S8448x2x128 : Shape := ⟨3, ![8448, 2, 128]⟩
abbrev S_ : Shape := ⟨0, ![]⟩
abbrev S2x128 : Shape := ⟨2, ![2, 128]⟩
abbrev S1x2x128 : Shape := ⟨3, ![1, 2, 128]⟩

abbrev nBuf : Space → Nat
  | .hbm => 34
  | .vmem => 0
  | .smem => 0
  | _ => 0

abbrev bufTy : (tb : Table) → Fin (tcTables nBuf tb) → BufTy
  | .hbm, ⟨0, _⟩ => ⟨S8448x256, .f32⟩
  | .hbm, ⟨1, _⟩ => ⟨S2x16, .f32⟩
  | .hbm, ⟨2, _⟩ => ⟨S2x16, .f32⟩
  | .hbm, ⟨3, _⟩ => ⟨S8448x2x128, .f32⟩
  | .hbm, ⟨4, _⟩ => ⟨S_, .i32⟩
  | .hbm, ⟨5, _⟩ => ⟨S_, .f32⟩
  | .hbm, ⟨6, _⟩ => ⟨S2x128, .f32⟩
  | .hbm, ⟨7, _⟩ => ⟨S1x2x128, .f32⟩
  | .hbm, ⟨8, _⟩ => ⟨S8448x2x128, .f32⟩
  | .hbm, ⟨9, _⟩ => ⟨S8448x2x128, .f32⟩
  | .hbm, ⟨10, _⟩ => ⟨S_, .f32⟩
  | .hbm, ⟨11, _⟩ => ⟨S8448x2x128, .f32⟩
  | .hbm, ⟨12, _⟩ => ⟨S8448x2x128, .f32⟩
  | .hbm, ⟨13, _⟩ => ⟨S8448x2x128, .f32⟩
  | .hbm, ⟨14, _⟩ => ⟨S8448x2x128, .f32⟩
  | .hbm, ⟨15, _⟩ => ⟨S8448x2x128, .i1⟩
  | .hbm, ⟨16, _⟩ => ⟨S8448x2x128, .f32⟩
  | .hbm, ⟨17, _⟩ => ⟨S8448x2x128, .f32⟩
  | .hbm, ⟨18, _⟩ => ⟨S8448x2x128, .f32⟩
  | .hbm, ⟨19, _⟩ => ⟨S8448x2x128, .f32⟩
  | .hbm, ⟨20, _⟩ => ⟨S8448x2x128, .f32⟩
  | .hbm, ⟨21, _⟩ => ⟨S8448x2x128, .f32⟩
  | .hbm, ⟨22, _⟩ => ⟨S8448x2x128, .f32⟩
  | .hbm, ⟨23, _⟩ => ⟨S8448x2x128, .f32⟩
  | .hbm, ⟨24, _⟩ => ⟨S2x16, .f32⟩
  | .hbm, ⟨25, _⟩ => ⟨S2x16, .f32⟩
  | .hbm, ⟨26, _⟩ => ⟨S_, .i32⟩
  | .hbm, ⟨27, _⟩ => ⟨S_, .f32⟩
  | .hbm, ⟨28, _⟩ => ⟨S2x128, .f32⟩
  | .hbm, ⟨29, _⟩ => ⟨S8448x256, .f32⟩
  | .hbm, ⟨30, _⟩ => ⟨S1x2x128, .f32⟩
  | .hbm, ⟨31, _⟩ => ⟨S8448x2x128, .f32⟩
  | .hbm, ⟨32, _⟩ => ⟨S8448x2x128, .f32⟩
  | .hbm, ⟨33, _⟩ => ⟨S8448x256, .f32⟩
  | _, _ => ⟨S8448x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call1_cst : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_call1_v5 : Ref sig .tc := ⟨.hbm, 16, rfl⟩
abbrev main_call1_v6 : Ref sig .tc := ⟨.hbm, 17, rfl⟩
abbrev main_call1_v7 : Ref sig .tc := ⟨.hbm, 18, rfl⟩
abbrev main_call1_v8 : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c_0 : Ref sig .tc := ⟨.hbm, 26, rfl⟩
abbrev main_call2_v0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩

abbrev nD : Nat := 1
abbrev τ : Topo := Topo.v7x

variable {F : FTy → Type} [FloatOps F]
-- ==== Kernel11.lean ====
abbrev S8448x3072 : Shape := ⟨2, ![8448, 3072]⟩
abbrev S64 : Shape := ⟨1, ![64]⟩
abbrev S_ : Shape := ⟨0, ![]⟩
abbrev S128 : Shape := ⟨1, ![128]⟩
abbrev S1x128 : Shape := ⟨2, ![1, 128]⟩
abbrev S8448x512 : Shape := ⟨2, ![8448, 512]⟩
abbrev S256x512 : Shape := ⟨2, ![256, 512]⟩
abbrev S256x1 : Shape := ⟨2, ![256, 1]⟩
abbrev S256x128 : Shape := ⟨2, ![256, 128]⟩

abbrev nBuf : Space → Nat
  | .hbm => 13
  | .vmem => 9
  | .smem => 0
  | _ => 0

abbrev bufTy : (tb : Table) → Fin (tcTables nBuf tb) → BufTy
  | .hbm, ⟨0, _⟩ => ⟨S8448x3072, .f32⟩
  | .hbm, ⟨1, _⟩ => ⟨S64, .f32⟩
  | .hbm, ⟨2, _⟩ => ⟨S64, .f32⟩
  | .hbm, ⟨3, _⟩ => ⟨S_, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S128, .f32⟩
  | .hbm, ⟨10, _⟩ => ⟨S1x128, .f32⟩
  | .hbm, ⟨11, _⟩ => ⟨S8448x512, .f32⟩
  | .hbm, ⟨12, _⟩ => ⟨S8448x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x128, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | _, _ => ⟨S8448x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference11Ideal.lean ====
abbrev S8448x3072 : Shape := ⟨2, ![8448, 3072]⟩
abbrev S8448 : Shape := ⟨1, ![8448]⟩
abbrev S8192 : Shape := ⟨1, ![8192]⟩
abbrev S256 : Shape := ⟨1, ![256]⟩
abbrev S8448x512 : Shape := ⟨2, ![8448, 512]⟩
abbrev S1x8448x4x128 : Shape := ⟨4, ![1, 8448, 4, 128]⟩
abbrev S64 : Shape := ⟨1, ![64]⟩
abbrev S_ : Shape := ⟨0, ![]⟩
abbrev S8448x1 : Shape := ⟨2, ![8448, 1]⟩
abbrev S1x64 : Shape := ⟨2, ![1, 64]⟩
abbrev S8448x64 : Shape := ⟨2, ![8448, 64]⟩
abbrev S1x8448x1x64 : Shape := ⟨4, ![1, 8448, 1, 64]⟩
abbrev S1x8448x4x64 : Shape := ⟨4, ![1, 8448, 4, 64]⟩

abbrev nBuf : Space → Nat
  | .hbm => 74
  | .vmem => 0
  | .smem => 0
  | _ => 0

abbrev bufTy : (tb : Table) → Fin (tcTables nBuf tb) → BufTy
  | .hbm, ⟨0, _⟩ => ⟨S8448x3072, .f32⟩
  | .hbm, ⟨1, _⟩ => ⟨S8448, .f32⟩
  | .hbm, ⟨2, _⟩ => ⟨S8192, .f32⟩
  | .hbm, ⟨3, _⟩ => ⟨S256, .f32⟩
  | .hbm, ⟨4, _⟩ => ⟨S8448, .f32⟩
  | .hbm, ⟨5, _⟩ => ⟨S8448x512, .f32⟩
  | .hbm, ⟨6, _⟩ => ⟨S1x8448x4x128, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S8448x1, .f32⟩
  | .hbm, ⟨16, _⟩ => ⟨S1x64, .f32⟩
  | .hbm, ⟨17, _⟩ => ⟨S8448x64, .f32⟩
  | .hbm, ⟨18, _⟩ => ⟨S8448x64, .f32⟩
  | .hbm, ⟨19, _⟩ => ⟨S8448x64, .f32⟩
  | .hbm, ⟨20, _⟩ => ⟨S8448x64, .f32⟩
  | .hbm, ⟨21, _⟩ => ⟨S1x8448x1x64, .f32⟩
  | .hbm, ⟨22, _⟩ => ⟨S8448x64, .f32⟩
  | .hbm, ⟨23, _⟩ => ⟨S1x8448x1x64, .f32⟩
  | .hbm, ⟨24, _⟩ => ⟨S1x8448x4x64, .f32⟩
  | .hbm, ⟨25, _⟩ => ⟨S1x8448x4x64, .f32⟩
  | .hbm, ⟨26, _⟩ => ⟨S1x8448x4x64, .f32⟩
  | .hbm, ⟨27, _⟩ => ⟨S1x8448x4x64, .f32⟩
  | .hbm, ⟨28, _⟩ => ⟨S1x8448x4x64, .f32⟩
  | .hbm, ⟨29, _⟩ => ⟨S1x8448x4x64, .f32⟩
  | .hbm, ⟨30, _⟩ => ⟨S1x8448x4x64, .f32⟩
  | .hbm, ⟨31, _⟩ => ⟨S1x8448x4x64, .f32⟩
  | .hbm, ⟨32, _⟩ => ⟨S1x8448x4x64, .f32⟩
  | .hbm, ⟨33, _⟩ => ⟨S1x8448x4x64, .f32⟩
  | .hbm, ⟨34, _⟩ => ⟨S1x8448x4x64, .f32⟩
  | .hbm, ⟨35, _⟩ => ⟨S1x8448x4x64, .f32⟩
  | .hbm, ⟨36, _⟩ => ⟨S1x8448x4x128, .f32⟩
  | .hbm, ⟨37, _⟩ => ⟨S8448x512, .f32⟩
  | .hbm, ⟨38, _⟩ => ⟨S1x8448x4x128, .f32⟩
  | .hbm, ⟨39, _⟩ => ⟨S64, .f32⟩
  | .hbm, ⟨40, _⟩ => ⟨S64, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S_, .f32⟩
  | .hbm, ⟨45, _⟩ => ⟨S64, .f32⟩
  | .hbm, ⟨46, _⟩ => ⟨S64, .f32⟩
  | .hbm, ⟨47, _⟩ => ⟨S8448x1, .f32⟩
  | .hbm, ⟨48, _⟩ => ⟨S1x64, .f32⟩
  | .hbm, ⟨49, _⟩ => ⟨S8448x64, .f32⟩
  | .hbm, ⟨50, _⟩ => ⟨S8448x64, .f32⟩
  | .hbm, ⟨51, _⟩ => ⟨S8448x64, .f32⟩
  | .hbm, ⟨52, _⟩ => ⟨S8448x64, .f32⟩
  | .hbm, ⟨53, _⟩ => ⟨S1x8448x1x64, .f32⟩
  | .hbm, ⟨54, _⟩ => ⟨S8448x64, .f32⟩
  | .hbm, ⟨55, _⟩ => ⟨S1x8448x1x64, .f32⟩
  | .hbm, ⟨56, _⟩ => ⟨S1x8448x4x64, .f32⟩
  | .hbm, ⟨57, _⟩ => ⟨S1x8448x4x64, .f32⟩
  | .hbm, ⟨58, _⟩ => ⟨S1x8448x4x64, .f32⟩
  | .hbm, ⟨59, _⟩ => ⟨S1x8448x4x64, .f32⟩
  | .hbm, ⟨60, _⟩ => ⟨S1x8448x4x64, .f32⟩
  | .hbm, ⟨61, _⟩ => ⟨S1x8448x4x64, .f32⟩
  | .hbm, ⟨62, _⟩ => ⟨S1x8448x4x64, .f32⟩
  | .hbm, ⟨63, _⟩ => ⟨S1x8448x4x64, .f32⟩
  | .hbm, ⟨64, _⟩ => ⟨S1x8448x4x64, .f32⟩
  | .hbm, ⟨65, _⟩ => ⟨S1x8448x4x64, .f32⟩
  | .hbm, ⟨66, _⟩ => ⟨S1x8448x4x64, .f32⟩
  | .hbm, ⟨67, _⟩ => ⟨S1x8448x4x64, .f32⟩
  | .hbm, ⟨68, _⟩ => ⟨S1x8448x4x128, .f32⟩
  | .hbm, ⟨69, _⟩ => ⟨S_, .f32⟩
  | .hbm, ⟨70, _⟩ => ⟨S1x8448x4x128, .f32⟩
  | .hbm, ⟨71, _⟩ => ⟨S1x8448x4x128, .f32⟩
  | .hbm, ⟨72, _⟩ => ⟨S8448x512, .f32⟩
  | .hbm, ⟨73, _⟩ => ⟨S8448x512, .f32⟩
  | _, _ => ⟨S8448x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_cst_1 : Ref sig .tc := ⟨.hbm, 41, rfl⟩
abbrev main_v38 : Ref sig .tc := ⟨.hbm, 42, rfl⟩
abbrev main_v39 : Ref sig .tc := ⟨.hbm, 43, rfl⟩
abbrev main_cst_2 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_cst_3 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩

abbrev nD : Nat := 1
abbrev τ : Topo := Topo.v7x

variable {F : FTy → Type} [FloatOps F]
-- ==== Kernel12.lean ====
abbrev S8448x3072 : Shape := ⟨2, ![8448, 3072]⟩
abbrev S3x2048 : Shape := ⟨2, ![3, 2048]⟩
abbrev S2048 : Shape := ⟨1, ![2048]⟩
abbrev S1x2048 : Shape := ⟨2, ![1, 2048]⟩
abbrev S8448x2048 : Shape := ⟨2, ![8448, 2048]⟩
abbrev S8448x128 : Shape := ⟨2, ![8448, 128]⟩
abbrev S3x128 : Shape := ⟨2, ![3, 128]⟩
abbrev S1x128 : Shape := ⟨2, ![1, 128]⟩

abbrev nBuf : Space → Nat
  | .hbm => 5
  | .vmem => 8
  | .smem => 0
  | _ => 0

abbrev bufTy : (tb : Table) → Fin (tcTables nBuf tb) → BufTy
  | .hbm, ⟨0, _⟩ => ⟨S8448x3072, .f32⟩
  | .hbm, ⟨1, _⟩ => ⟨S3x2048, .f32⟩
  | .hbm, ⟨2, _⟩ => ⟨S2048, .f32⟩
  | .hbm, ⟨3, _⟩ => ⟨S1x2048, .f32⟩
  | .hbm, ⟨4, _⟩ => ⟨S8448x2048, .f32⟩
  | .local _ .vmem, ⟨0, _⟩ => ⟨S8448x128, .f32⟩
  | .local _ .vmem, ⟨1, _⟩ => ⟨S8448x128, .f32⟩
  | .local _ .vmem, ⟨2, _⟩ => ⟨S3x128, .f32⟩
  | .local _ .vmem, ⟨3, _⟩ => ⟨S3x128, .f32⟩
  | .local _ .vmem, ⟨4, _⟩ => ⟨S1x128, .f32⟩
  | .local _ .vmem, ⟨5, _⟩ => ⟨S1x128, .f32⟩
  | .local _ .vmem, ⟨6, _⟩ => ⟨S8448x128, .f32⟩
  | .local _ .vmem, ⟨7, _⟩ => ⟨S8448x128, .f32⟩
  | _, _ => ⟨S8448x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8448x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8448x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference12Ideal.lean ====
abbrev S8448x3072 : Shape := ⟨2, ![8448, 3072]⟩
abbrev S3x2048 : Shape := ⟨2, ![3, 2048]⟩
abbrev S2048 : Shape := ⟨1, ![2048]⟩
abbrev S8448x2048 : Shape := ⟨2, ![8448, 2048]⟩
abbrev S1x8448x2048 : Shape := ⟨3, ![1, 8448, 2048]⟩
abbrev S1x8192x2048 : Shape := ⟨3, ![1, 8192, 2048]⟩
abbrev S1x256x2048 : Shape := ⟨3, ![1, 256, 2048]⟩
abbrev S_ : Shape := ⟨0, ![]⟩
abbrev S1x8194x2048 : Shape := ⟨3, ![1, 8194, 2048]⟩
abbrev S1x2048 : Shape := ⟨2, ![1, 2048]⟩
abbrev S1x1x2048 : Shape := ⟨3, ![1, 1, 2048]⟩
abbrev S1x258x2048 : Shape := ⟨3, ![1, 258, 2048]⟩
abbrev S8192x2048 : Shape := ⟨2, ![8192, 2048]⟩
abbrev S256x2048 : Shape := ⟨2, ![256, 2048]⟩

abbrev nBuf : Space → Nat
  | .hbm => 80
  | .vmem => 0
  | .smem => 0
  | _ => 0

abbrev bufTy : (tb : Table) → Fin (tcTables nBuf tb) → BufTy
  | .hbm, ⟨0, _⟩ => ⟨S8448x3072, .f32⟩
  | .hbm, ⟨1, _⟩ => ⟨S3x2048, .f32⟩
  | .hbm, ⟨2, _⟩ => ⟨S2048, .f32⟩
  | .hbm, ⟨3, _⟩ => ⟨S8448x2048, .f32⟩
  | .hbm, ⟨4, _⟩ => ⟨S1x8448x2048, .f32⟩
  | .hbm, ⟨5, _⟩ => ⟨S1x8192x2048, .f32⟩
  | .hbm, ⟨6, _⟩ => ⟨S1x256x2048, .f32⟩
  | .hbm, ⟨7, _⟩ => ⟨S_, .i32⟩
  | .hbm, ⟨8, _⟩ => ⟨S_, .f32⟩
  | .hbm, ⟨9, _⟩ => ⟨S1x8194x2048, .f32⟩
  | .hbm, ⟨10, _⟩ => ⟨S1x8192x2048, .f32⟩
  | .hbm, ⟨11, _⟩ => ⟨S1x2048, .f32⟩
  | .hbm, ⟨12, _⟩ => ⟨S2048, .f32⟩
  | .hbm, ⟨13, _⟩ => ⟨S1x1x2048, .f32⟩
  | .hbm, ⟨14, _⟩ => ⟨S1x8192x2048, .f32⟩
  | .hbm, ⟨15, _⟩ => ⟨S1x8192x2048, .f32⟩
  | .hbm, ⟨16, _⟩ => ⟨S1x8192x2048, .f32⟩
  | .hbm, ⟨17, _⟩ => ⟨S1x2048, .f32⟩
  | .hbm, ⟨18, _⟩ => ⟨S2048, .f32⟩
  | .hbm, ⟨19, _⟩ => ⟨S1x1x2048, .f32⟩
  | .hbm, ⟨20, _⟩ => ⟨S1x8192x2048, .f32⟩
  | .hbm, ⟨21, _⟩ => ⟨S1x8192x2048, .f32⟩
  | .hbm, ⟨22, _⟩ => ⟨S1x8192x2048, .f32⟩
  | .hbm, ⟨23, _⟩ => ⟨S1x8192x2048, .f32⟩
  | .hbm, ⟨24, _⟩ => ⟨S1x2048, .f32⟩
  | .hbm, ⟨25, _⟩ => ⟨S2048, .f32⟩
  | .hbm, ⟨26, _⟩ => ⟨S1x1x2048, .f32⟩
  | .hbm, ⟨27, _⟩ => ⟨S1x8192x2048, .f32⟩
  | .hbm, ⟨28, _⟩ => ⟨S1x8192x2048, .f32⟩
  | .hbm, ⟨29, _⟩ => ⟨S1x8192x2048, .f32⟩
  | .hbm, ⟨30, _⟩ => ⟨S1x1x2048, .f32⟩
  | .hbm, ⟨31, _⟩ => ⟨S1x8192x2048, .f32⟩
  | .hbm, ⟨32, _⟩ => ⟨S1x8192x2048, .f32⟩
  | .hbm, ⟨33, _⟩ => ⟨S1x8192x2048, .f32⟩
  | .hbm, ⟨34, _⟩ => ⟨S1x8192x2048, .f32⟩
  | .hbm, ⟨35, _⟩ => ⟨S_, .f32⟩
  | .hbm, ⟨36, _⟩ => ⟨S1x8192x2048, .f32⟩
  | .hbm, ⟨37, _⟩ => ⟨S1x8192x2048, .f32⟩
  | .hbm, ⟨38, _⟩ => ⟨S_, .f32⟩
  | .hbm, ⟨39, _⟩ => ⟨S1x8192x2048, .f32⟩
  | .hbm, ⟨40, _⟩ => ⟨S1x8192x2048, .f32⟩
  | .hbm, ⟨41, _⟩ => ⟨S1x8192x2048, .f32⟩
  | .hbm, ⟨42, _⟩ => ⟨S_, .i32⟩
  | .hbm, ⟨43, _⟩ => ⟨S_, .f32⟩
  | .hbm, ⟨44, _⟩ => ⟨S1x258x2048, .f32⟩
  | .hbm, ⟨45, _⟩ => ⟨S1x256x2048, .f32⟩
  | .hbm, ⟨46, _⟩ => ⟨S1x2048, .f32⟩
  | .hbm, ⟨47, _⟩ => ⟨S2048, .f32⟩
  | .hbm, ⟨48, _⟩ => ⟨S1x1x2048, .f32⟩
  | .hbm, ⟨49, _⟩ => ⟨S1x256x2048, .f32⟩
  | .hbm, ⟨50, _⟩ => ⟨S1x256x2048, .f32⟩
  | .hbm, ⟨51, _⟩ => ⟨S1x256x2048, .f32⟩
  | .hbm, ⟨52, _⟩ => ⟨S1x2048, .f32⟩
  | .hbm, ⟨53, _⟩ => ⟨S2048, .f32⟩
  | .hbm, ⟨54, _⟩ => ⟨S1x1x2048, .f32⟩
  | .hbm, ⟨55, _⟩ => ⟨S1x256x2048, .f32⟩
  | .hbm, ⟨56, _⟩ => ⟨S1x256x2048, .f32⟩
  | .hbm, ⟨57, _⟩ => ⟨S1x256x2048, .f32⟩
  | .hbm, ⟨58, _⟩ => ⟨S1x256x2048, .f32⟩
  | .hbm, ⟨59, _⟩ => ⟨S1x2048, .f32⟩
  | .hbm, ⟨60, _⟩ => ⟨S2048, .f32⟩
  | .hbm, ⟨61, _⟩ => ⟨S1x1x2048, .f32⟩
  | .hbm, ⟨62, _⟩ => ⟨S1x256x2048, .f32⟩
  | .hbm, ⟨63, _⟩ => ⟨S1x256x2048, .f32⟩
  | .hbm, ⟨64, _⟩ => ⟨S1x256x2048, .f32⟩
  | .hbm, ⟨65, _⟩ => ⟨S1x1x2048, .f32⟩
  | .hbm, ⟨66, _⟩ => ⟨S1x256x2048, .f32⟩
  | .hbm, ⟨67, _⟩ => ⟨S1x256x2048, .f32⟩
  | .hbm, ⟨68, _⟩ => ⟨S1x256x2048, .f32⟩
  | .hbm, ⟨69, _⟩ => ⟨S1x256x2048, .f32⟩
  | .hbm, ⟨70, _⟩ => ⟨S_, .f32⟩
  | .hbm, ⟨71, _⟩ => ⟨S1x256x2048, .f32⟩
  | .hbm, ⟨72, _⟩ => ⟨S1x256x2048, .f32⟩
  | .hbm, ⟨73, _⟩ => ⟨S_, .f32⟩
  | .hbm, ⟨74, _⟩ => ⟨S1x256x2048, .f32⟩
  | .hbm, ⟨75, _⟩ => ⟨S1x256x2048, .f32⟩
  | .hbm, ⟨76, _⟩ => ⟨S1x256x2048, .f32⟩
  | .hbm, ⟨77, _⟩ => ⟨S8192x2048, .f32⟩
  | .hbm, ⟨78, _⟩ => ⟨S256x2048, .f32⟩
  | .hbm, ⟨79, _⟩ => ⟨S8448x2048, .f32⟩
  | _, _ => ⟨S8448x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_call1_v0 : Ref sig .tc := ⟨.hbm, 33, rfl⟩
abbrev main_call1_v1 : Ref sig .tc := ⟨.hbm, 34, rfl⟩
abbrev main_call1_cst : Ref sig .tc := ⟨.hbm, 35, rfl⟩
abbrev main_call1_v2 : Ref sig .tc := ⟨.hbm, 36, rfl⟩
abbrev main_call1_v3 : Ref sig .tc := ⟨.hbm, 37, rfl⟩
abbrev main_call1_cst_0 : Ref sig .tc := ⟨.hbm, 38, rfl⟩
abbrev main_call1_v4 : Ref sig .tc := ⟨.hbm, 39, rfl⟩
abbrev main_call1_v5 : Ref sig .tc := ⟨.hbm, 40, rfl⟩
abbrev main_v28 : Ref sig .tc := ⟨.hbm, 41, rfl⟩
abbrev main_c_0 : Ref sig .tc := ⟨.hbm, 42, rfl⟩
abbrev main_call2_v0 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_call3_v0 : Ref sig .tc := ⟨.hbm, 68, rfl⟩
abbrev main_call3_v1 : Ref sig .tc := ⟨.hbm, 69, rfl⟩
abbrev main_call3_cst : Ref sig .tc := ⟨.hbm, 70, rfl⟩
abbrev main_call3_v2 : Ref sig .tc := ⟨.hbm, 71, rfl⟩
abbrev main_call3_v3 : Ref sig .tc := ⟨.hbm, 72, rfl⟩
abbrev main_call3_cst_0 : Ref sig .tc := ⟨.hbm, 73, rfl⟩
abbrev main_call3_v4 : Ref sig .tc := ⟨.hbm, 74, rfl⟩
abbrev main_call3_v5 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩

abbrev nD : Nat := 1
abbrev τ : Topo := Topo.v7x

variable {F : FTy → Type} [FloatOps F]
-- ==== Kernel13.lean ====
abbrev S8448x3072 : Shape := ⟨2, ![8448, 3072]⟩
abbrev S3x3072 : Shape := ⟨2, ![3, 3072]⟩
abbrev S3072 : Shape := ⟨1, ![3072]⟩
abbrev S1x3072 : Shape := ⟨2, ![1, 3072]⟩
abbrev S8192x3072 : Shape := ⟨2, ![8192, 3072]⟩
abbrev S256x3072 : Shape := ⟨2, ![256, 3072]⟩
abbrev S8448x128 : Shape := ⟨2, ![8448, 128]⟩
abbrev S3x128 : Shape := ⟨2, ![3, 128]⟩
abbrev S1x128 : Shape := ⟨2, ![1, 128]⟩
abbrev S8192x128 : Shape := ⟨2, ![8192, 128]⟩
abbrev S256x128 : Shape := ⟨2, ![256, 128]⟩

abbrev nBuf : Space → Nat
  | .hbm => 6
  | .vmem => 10
  | .smem => 0
  | _ => 0

abbrev bufTy : (tb : Table) → Fin (tcTables nBuf tb) → BufTy
  | .hbm, ⟨0, _⟩ => ⟨S8448x3072, .f32⟩
  | .hbm, ⟨1, _⟩ => ⟨S3x3072, .f32⟩
  | .hbm, ⟨2, _⟩ => ⟨S3072, .f32⟩
  | .hbm, ⟨3, _⟩ => ⟨S1x3072, .f32⟩
  | .hbm, ⟨4, _⟩ => ⟨S8192x3072, .f32⟩
  | .hbm, ⟨5, _⟩ => ⟨S256x3072, .f32⟩
  | .local _ .vmem, ⟨0, _⟩ => ⟨S8448x128, .f32⟩
  | .local _ .vmem, ⟨1, _⟩ => ⟨S8448x128, .f32⟩
  | .local _ .vmem, ⟨2, _⟩ => ⟨S3x128, .f32⟩
  | .local _ .vmem, ⟨3, _⟩ => ⟨S3x128, .f32⟩
  | .local _ .vmem, ⟨4, _⟩ => ⟨S1x128, .f32⟩
  | .local _ .vmem, ⟨5, _⟩ => ⟨S1x128, .f32⟩
  | .local _ .vmem, ⟨6, _⟩ => ⟨S8192x128, .f32⟩
  | .local _ .vmem, ⟨7, _⟩ => ⟨S8192x128, .f32⟩
  | .local _ .vmem, ⟨8, _⟩ => ⟨S256x128, .f32⟩
  | .local _ .vmem, ⟨9, _⟩ => ⟨S256x128, .f32⟩
  | _, _ => ⟨S8448x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8448x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference13Ideal.lean ====
abbrev S8448x3072 : Shape := ⟨2, ![8448, 3072]⟩
abbrev S3x3072 : Shape := ⟨2, ![3, 3072]⟩
abbrev S3072 : Shape := ⟨1, ![3072]⟩
abbrev S1x8448x3072 : Shape := ⟨3, ![1, 8448, 3072]⟩
abbrev S1x8192x3072 : Shape := ⟨3, ![1, 8192, 3072]⟩
abbrev S_ : Shape := ⟨0, ![]⟩
abbrev S1x8194x3072 : Shape := ⟨3, ![1, 8194, 3072]⟩
abbrev S1x3072 : Shape := ⟨2, ![1, 3072]⟩
abbrev S1x1x3072 : Shape := ⟨3, ![1, 1, 3072]⟩
abbrev S1x256x3072 : Shape := ⟨3, ![1, 256, 3072]⟩
abbrev S1x258x3072 : Shape := ⟨3, ![1, 258, 3072]⟩
abbrev S8192x3072 : Shape := ⟨2, ![8192, 3072]⟩
abbrev S256x3072 : Shape := ⟨2, ![256, 3072]⟩

abbrev nBuf : Space → Nat
  | .hbm => 60
  | .vmem => 0
  | .smem => 0
  | _ => 0

abbrev bufTy : (tb : Table) → Fin (tcTables nBuf tb) → BufTy
  | .hbm, ⟨0, _⟩ => ⟨S8448x3072, .f32⟩
  | .hbm, ⟨1, _⟩ => ⟨S3x3072, .f32⟩
  | .hbm, ⟨2, _⟩ => ⟨S3072, .f32⟩
  | .hbm, ⟨3, _⟩ => ⟨S1x8448x3072, .f32⟩
  | .hbm, ⟨4, _⟩ => ⟨S1x8192x3072, .f32⟩
  | .hbm, ⟨5, _⟩ => ⟨S_, .i32⟩
  | .hbm, ⟨6, _⟩ => ⟨S_, .f32⟩
  | .hbm, ⟨7, _⟩ => ⟨S1x8194x3072, .f32⟩
  | .hbm, ⟨8, _⟩ => ⟨S1x8192x3072, .f32⟩
  | .hbm, ⟨9, _⟩ => ⟨S1x3072, .f32⟩
  | .hbm, ⟨10, _⟩ => ⟨S3072, .f32⟩
  | .hbm, ⟨11, _⟩ => ⟨S1x1x3072, .f32⟩
  | .hbm, ⟨12, _⟩ => ⟨S1x8192x3072, .f32⟩
  | .hbm, ⟨13, _⟩ => ⟨S1x8192x3072, .f32⟩
  | .hbm, ⟨14, _⟩ => ⟨S1x8192x3072, .f32⟩
  | .hbm, ⟨15, _⟩ => ⟨S1x3072, .f32⟩
  | .hbm, ⟨16, _⟩ => ⟨S3072, .f32⟩
  | .hbm, ⟨17, _⟩ => ⟨S1x1x3072, .f32⟩
  | .hbm, ⟨18, _⟩ => ⟨S1x8192x3072, .f32⟩
  | .hbm, ⟨19, _⟩ => ⟨S1x8192x3072, .f32⟩
  | .hbm, ⟨20, _⟩ => ⟨S1x8192x3072, .f32⟩
  | .hbm, ⟨21, _⟩ => ⟨S1x8192x3072, .f32⟩
  | .hbm, ⟨22, _⟩ => ⟨S1x3072, .f32⟩
  | .hbm, ⟨23, _⟩ => ⟨S3072, .f32⟩
  | .hbm, ⟨24, _⟩ => ⟨S1x1x3072, .f32⟩
  | .hbm, ⟨25, _⟩ => ⟨S1x8192x3072, .f32⟩
  | .hbm, ⟨26, _⟩ => ⟨S1x8192x3072, .f32⟩
  | .hbm, ⟨27, _⟩ => ⟨S1x8192x3072, .f32⟩
  | .hbm, ⟨28, _⟩ => ⟨S1x1x3072, .f32⟩
  | .hbm, ⟨29, _⟩ => ⟨S1x8192x3072, .f32⟩
  | .hbm, ⟨30, _⟩ => ⟨S1x8192x3072, .f32⟩
  | .hbm, ⟨31, _⟩ => ⟨S1x256x3072, .f32⟩
  | .hbm, ⟨32, _⟩ => ⟨S_, .i32⟩
  | .hbm, ⟨33, _⟩ => ⟨S_, .f32⟩
  | .hbm, ⟨34, _⟩ => ⟨S1x258x3072, .f32⟩
  | .hbm, ⟨35, _⟩ => ⟨S1x256x3072, .f32⟩
  | .hbm, ⟨36, _⟩ => ⟨S1x3072, .f32⟩
  | .hbm, ⟨37, _⟩ => ⟨S3072, .f32⟩
  | .hbm, ⟨38, _⟩ => ⟨S1x1x3072, .f32⟩
  | .hbm, ⟨39, _⟩ => ⟨S1x256x3072, .f32⟩
  | .hbm, ⟨40, _⟩ => ⟨S1x256x3072, .f32⟩
  | .hbm, ⟨41, _⟩ => ⟨S1x256x3072, .f32⟩
  | .hbm, ⟨42, _⟩ => ⟨S1x3072, .f32⟩
  | .hbm, ⟨43, _⟩ => ⟨S3072, .f32⟩
  | .hbm, ⟨44, _⟩ => ⟨S1x1x3072, .f32⟩
  | .hbm, ⟨45, _⟩ => ⟨S1x256x3072, .f32⟩
  | .hbm, ⟨46, _⟩ => ⟨S1x256x3072, .f32⟩
  | .hbm, ⟨47, _⟩ => ⟨S1x256x3072, .f32⟩
  | .hbm, ⟨48, _⟩ => ⟨S1x256x3072, .f32⟩
  | .hbm, ⟨49, _⟩ => ⟨S1x3072, .f32⟩
  | .hbm, ⟨50, _⟩ => ⟨S3072, .f32⟩
  | .hbm, ⟨51, _⟩ => ⟨S1x1x3072, .f32⟩
  | .hbm, ⟨52, _⟩ => ⟨S1x256x3072, .f32⟩
  | .hbm, ⟨53, _⟩ => ⟨S1x256x3072, .f32⟩
  | .hbm, ⟨54, _⟩ => ⟨S1x256x3072, .f32⟩
  | .hbm, ⟨55, _⟩ => ⟨S1x1x3072, .f32⟩
  | .hbm, ⟨56, _⟩ => ⟨S1x256x3072, .f32⟩
  | .hbm, ⟨57, _⟩ => ⟨S1x256x3072, .f32⟩
  | .hbm, ⟨58, _⟩ => ⟨S8192x3072, .f32⟩
  | .hbm, ⟨59, _⟩ => ⟨S256x3072, .f32⟩
  | _, _ => ⟨S8448x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_c_0 : Ref sig .tc := ⟨.hbm, 32, rfl⟩
abbrev main_call1_v0 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩

abbrev nD : Nat := 1
abbrev τ : Topo := Topo.v7x

variable {F : FTy → Type} [FloatOps F]
-- ==== Proof.Scan.lean ====
/- The chunked scalar-decay scan as plain mathematics over the extended reals: one head has a real log decay `g`, the
   state is a matrix, a chunk has 128 positions. Nothing here mentions a program. -/
module

public import Idealize.ShloMosaic.PureOps.Ideal
public import Idealize.ShloMosaic.PureOps.Ideal.Laws
public import Mathlib.Data.EReal.Operations

@[expose] public section

noncomputable section

open Idealize.ShloMosaic
open scoped BigOperators

namespace Cert.Scan

/-- The decay over `n` positions: `exp (n g)`, a positive real. -/
def E (g : ℝ) (n : ℤ) : EReal := ((Real.exp (n * g) : ℝ) : EReal)

/-- The exponential of an integer multiple of the log decay is the decay. -/
theorem exp_mul (g : ℝ) (n : ℤ) : Ideal.exp (((n * g : ℝ)) : EReal) = E g n := rfl

/-- A decay is not negative. -/
theorem E_nonneg (g : ℝ) (n : ℤ) : 0 ≤ E g n := EReal.coe_nonneg.2 (Real.exp_pos _).le

/-- A decay is finite. -/
theorem E_ne_top (g : ℝ) (n : ℤ) : E g n ≠ ⊤ := EReal.coe_ne_top _

/-- A finite factor that is not negative goes under a sum of extended reals. -/
theorem mul_sum {ι : Type*} (s : Finset ι) (x : EReal) (h0 : 0 ≤ x) (ht : x ≠ ⊤) (f : ι → EReal) :
    x * ∑ i ∈ s, f i = ∑ i ∈ s, x * f i := by
  classical
  induction s using Finset.induction_on with
  | empty => simp
  | insert a s ha ih => rw [Finset.sum_insert ha, Finset.sum_insert ha, EReal.left_distrib_of_nonneg_of_ne_top h0 ht, ih]

/-- The sum of one real over the positions up to `i` (the others contribute zero) is `(i + 1)` times it. -/
theorem sum_upto (g : ℝ) (i : Fin 128) :
    ∑ l : Fin 128, (if l ≤ i then (g : EReal) else 0) = ((((i.val + 1 : ℕ) : ℝ) * g : ℝ) : EReal) := by
  rw [← Finset.sum_filter, Finset.sum_const, show (Finset.univ.filter fun l : Fin 128 => l ≤ i) = Finset.Iic i from by ext; simp,
    Fin.card_Iic, ← EReal.coe_nsmul, nsmul_eq_mul]

variable (g : ℝ)

/-- One chunk's effect on the state: the state decays over the 128 positions, then every position's key-value product
    enters, decayed to the chunk's end. -/
def step (k : Fin 128 → Fin 128 → EReal) (v : Fin 128 → Fin 256 → EReal) (S : Fin 128 → Fin 256 → EReal) (d : Fin 128) (e : Fin 256) : EReal :=
  E g 128 * S d e + ∑ j : Fin 128, k j d * (v j e * E g (127 - (j.val : ℤ)))

/-- One chunk's output at position `i`: the state before the chunk, decayed to `i`, read by the query, plus the earlier
    positions of the chunk, each weighted by query times key and the decay between them. -/
def out (q k : Fin 128 → Fin 128 → EReal) (v : Fin 128 → Fin 256 → EReal) (S : Fin 128 → Fin 256 → EReal) (i : Fin 128) (e : Fin 256) : EReal :=
  E g ((i.val : ℤ) + 1) * ∑ d : Fin 128, q i d * S d e
    + ∑ j : Fin 128, (∑ d : Fin 128, q i d * k j d) * (if j ≤ i then E g ((i.val : ℤ) - j.val) else 0) * v j e

/-- The state before chunk `n` of a sequence of chunks, from the zero state. -/
def state (k : ℕ → Fin 128 → Fin 128 → EReal) (v : ℕ → Fin 128 → Fin 256 → EReal) : ℕ → Fin 128 → Fin 256 → EReal
  | 0 => fun _ _ => 0
  | n + 1 => step g (k n) (v n) (state k v n)

/-- The decay of the position's running log decay. -/
theorem exp_cum (i : ℕ) : Ideal.exp ((((i + 1 : ℕ) : ℝ) * g : ℝ) : EReal) = E g ((i : ℤ) + 1) := by
  rw [Ideal.exp_coe]; unfold E; push_cast; rfl

/-- The decay between two positions is the exponential of the difference of their running log decays. -/
theorem exp_cum_sub (i j : ℕ) :
    Ideal.exp (((((i + 1 : ℕ) : ℝ) * g : ℝ) : EReal) - ((((j + 1 : ℕ) : ℝ) * g : ℝ) : EReal)) = E g ((i : ℤ) - j) := by
  rw [← EReal.coe_sub, Ideal.exp_coe]; unfold E; push_cast; congr 2; ring

end Cert.Scan

end
-- ==== Proof.Pay.lean ====
/- What the kernel's payloads compute, read at an index over the extended reals: the running log decay, and for each of
   the four heads one chunk's output and the state after it. The second chunk of a point runs the same operations in
   other groupings, so its payloads are the first chunk's. -/
module

public import proofs.«01_k».proof.Defs
public import proofs.«01_k».proof.Proof.Gen.KernelIdeal.Skeleton
public import proofs.«01_k».proof.Proof.Scan
public import Idealize.ShloMosaic.Lib.Pointwise
public import Idealize.ShloMosaic.Lib.IdealHost
public import Idealize.ShloMosaic.Lib.WordCmp

@[expose] public section

set_option maxRecDepth 16384

noncomputable section

open Idealize.ShloMosaic Cert.Scan

namespace Cert.KernelIdeal.Pay

open Cert.KernelIdeal Cert.KernelIdeal.Gen

/-- The named mask constant is minus infinity. -/
theorem mask_bot : Named.named (F := Ideal) κ "mask" (φ := .f32) 0xF149F2CA#32 = (⊥ : EReal) :=
  (IdealRules.named_const.statement κ "mask" .f32 0xF149F2CA#32 ⊥ rfl).2.2

/-- A select by the causal mask keeps the positions up to the row. -/
theorem select_mask {α : Type} (i l : Fin 128) (a b : α) :
    Scalar.select (k0_pay4 (ix2 i l)) a b = if l ≤ i then a else b := by
  have hi := i.isLt; have hl := l.isLt
  pointwise [k0_pay4]
  have h : IntOp.cmpi CmpIPredicate.sge (BitVec.ofNat 32 ↑i) (BitVec.ofNat 32 ↑l) = if l ≤ i then 1#1 else 0#1 := by
    rw [WordCmp.cmpi_sge_ofNat (by omega) (by omega)]
    by_cases hle : l.val ≤ i.val
    · rw [if_pos (Fin.le_def.2 hle), decide_eq_true hle]; rfl
    · rw [if_neg (fun h => hle (Fin.le_def.1 h)), decide_eq_false hle]; rfl
  rw [h]; split <;> rfl

/-- The triangular matrix of ones. -/
theorem tri_apply (i l : Fin 128) : k0_pay5 (F := Ideal) (ix2 i l) = if l ≤ i then 1 else 0 := by
  pointwise [k0_pay5]
  rw [select_mask]

variable (la : Vec Ideal S128x128 .f32) (g : ℝ)

/-- The running log decay of a lane whose log decay is the real `g` at every position is `(i + 1) g`: the three parts
    the row is split in are itself and two zeros. -/
theorem cum_apply (h : Fin 128) (hla : ∀ l, la (ix2 l h) = (g : EReal)) (i : Fin 128) :
    k0_pay6 la (ix2 i h) = ((((i.val + 1 : ℕ) : ℝ) * g : ℝ) : EReal) := by
  pointwise [k0_pay6]
  have z : (g : EReal) - g = 0 := by rw [← EReal.coe_sub, sub_self, EReal.coe_zero]
  simp only [tri_apply, hla, z, sub_zero, mul_zero, Finset.sum_const_zero, add_zero, ite_mul, one_mul, zero_mul]
  exact sum_upto g i

variable (qb kb : Vec Ideal S128x128 .f32) (vb : Vec Ideal S128x256 .f32) (Sb : Vec Ideal S1x128x256 .f32)

/-- Head 0's output of one chunk. -/
theorem y0 (hla : ∀ l, la (ix2 l 0) = (g : EReal)) (x : S128x256.Idx) :
    k0_pay16 k0_pay4 (k0_pay6 la) (k0_pay7 la) (k0_pay9 la) (k0_pay12 qb) (k0_pay13 qb kb) vb Sb x
      = out g (fun i d => qb (ix2 i d)) (fun j d => kb (ix2 j d)) (fun j e => vb (ix2 j e)) (fun d e => Sb (ix3 0 d e)) (x 0) (x 1) := by
  obtain ⟨i, e, rfl⟩ : ∃ i e, x = ix2 i e := ⟨x 0, x 1, ValueIdx.eq_ix2 x⟩
  pointwise [k0_pay16, k0_pay15, k0_pay7, k0_pay9, k0_pay12, k0_pay13]
  simp only [select_mask, cum_apply la g 0 hla, mask_bot, exp_cum, apply_ite Ideal.exp, Ideal.exp_bot, exp_cum_sub]
  rfl

/-- Head 0's state after one chunk. -/
theorem s0 (hla : ∀ l, la (ix2 l 0) = (g : EReal)) (x : S1x128x256.Idx) :
    k0_pay17 (k0_pay10 la) (k0_pay11 la) (k0_pay14 kb) vb Sb x
      = step g (fun j d => kb (ix2 j d)) (fun j e => vb (ix2 j e)) (fun d e => Sb (ix3 0 d e)) (x 1) (x 2) := by
  obtain ⟨d, e, rfl⟩ : ∃ d e, x = ix3 0 d e := ⟨x 1, x 2, by rw [ValueIdx.eq_ix3 x]; congr 1; exact Subsingleton.elim (α := Fin 1) _ _⟩
  pointwise [k0_pay17, k0_pay15, k0_pay8, k0_pay10, k0_pay11, k0_pay14]
  simp only [cum_apply la g 0 hla, exp_cum, exp_cum_sub]
  rfl

/-- Head 1's output of one chunk. -/
theorem y1 (hla : ∀ l, la (ix2 l 1) = (g : EReal)) (x : S128x256.Idx) :
    k0_pay22 k0_pay4 (k0_pay6 la) (k0_pay7 la) (k0_pay9 la) (k0_pay18 qb) (k0_pay19 qb kb) vb Sb x
      = out g (fun i d => qb (ix2 i d)) (fun j d => kb (ix2 j d)) (fun j e => vb (ix2 j e)) (fun d e => Sb (ix3 0 d e)) (x 0) (x 1) := by
  obtain ⟨i, e, rfl⟩ : ∃ i e, x = ix2 i e := ⟨x 0, x 1, ValueIdx.eq_ix2 x⟩
  pointwise [k0_pay22, k0_pay21, k0_pay7, k0_pay9, k0_pay18, k0_pay19]
  simp only [select_mask, cum_apply la g 1 hla, mask_bot, exp_cum, apply_ite Ideal.exp, Ideal.exp_bot, exp_cum_sub]
  rfl

/-- Head 1's state after one chunk. -/
theorem s1 (hla : ∀ l, la (ix2 l 1) = (g : EReal)) (x : S1x128x256.Idx) :
    k0_pay23 (k0_pay10 la) (k0_pay11 la) (k0_pay20 kb) vb Sb x
      = step g (fun j d => kb (ix2 j d)) (fun j e => vb (ix2 j e)) (fun d e => Sb (ix3 0 d e)) (x 1) (x 2) := by
  obtain ⟨d, e, rfl⟩ : ∃ d e, x = ix3 0 d e := ⟨x 1, x 2, by rw [ValueIdx.eq_ix3 x]; congr 1; exact Subsingleton.elim (α := Fin 1) _ _⟩
  pointwise [k0_pay23, k0_pay21, k0_pay8, k0_pay10, k0_pay11, k0_pay20]
  simp only [cum_apply la g 1 hla, exp_cum, exp_cum_sub]
  rfl

/-- Head 2's output of one chunk. -/
theorem y2 (hla : ∀ l, la (ix2 l 2) = (g : EReal)) (x : S128x256.Idx) :
    k0_pay28 k0_pay4 (k0_pay6 la) (k0_pay7 la) (k0_pay9 la) (k0_pay24 qb) (k0_pay25 qb kb) vb Sb x
      = out g (fun i d => qb (ix2 i d)) (fun j d => kb (ix2 j d)) (fun j e => vb (ix2 j e)) (fun d e => Sb (ix3 0 d e)) (x 0) (x 1) := by
  obtain ⟨i, e, rfl⟩ : ∃ i e, x = ix2 i e := ⟨x 0, x 1, ValueIdx.eq_ix2 x⟩
  pointwise [k0_pay28, k0_pay27, k0_pay7, k0_pay9, k0_pay24, k0_pay25]
  simp only [select_mask, cum_apply la g 2 hla, mask_bot, exp_cum, apply_ite Ideal.exp, Ideal.exp_bot, exp_cum_sub]
  rfl

/-- Head 2's state after one chunk. -/
theorem s2 (hla : ∀ l, la (ix2 l 2) = (g : EReal)) (x : S1x128x256.Idx) :
    k0_pay29 (k0_pay10 la) (k0_pay11 la) (k0_pay26 kb) vb Sb x
      = step g (fun j d => kb (ix2 j d)) (fun j e => vb (ix2 j e)) (fun d e => Sb (ix3 0 d e)) (x 1) (x 2) := by
  obtain ⟨d, e, rfl⟩ : ∃ d e, x = ix3 0 d e := ⟨x 1, x 2, by rw [ValueIdx.eq_ix3 x]; congr 1; exact Subsingleton.elim (α := Fin 1) _ _⟩
  pointwise [k0_pay29, k0_pay27, k0_pay8, k0_pay10, k0_pay11, k0_pay26]
  simp only [cum_apply la g 2 hla, exp_cum, exp_cum_sub]
  rfl

/-- Head 3's output of one chunk. -/
theorem y3 (hla : ∀ l, la (ix2 l 3) = (g : EReal)) (x : S128x256.Idx) :
    k0_pay34 k0_pay4 (k0_pay6 la) (k0_pay7 la) (k0_pay9 la) (k0_pay30 qb) (k0_pay31 qb kb) vb Sb x
      = out g (fun i d => qb (ix2 i d)) (fun j d => kb (ix2 j d)) (fun j e => vb (ix2 j e)) (fun d e => Sb (ix3 0 d e)) (x 0) (x 1) := by
  obtain ⟨i, e, rfl⟩ : ∃ i e, x = ix2 i e := ⟨x 0, x 1, ValueIdx.eq_ix2 x⟩
  pointwise [k0_pay34, k0_pay33, k0_pay7, k0_pay9, k0_pay30, k0_pay31]
  simp only [select_mask, cum_apply la g 3 hla, mask_bot, exp_cum, apply_ite Ideal.exp, Ideal.exp_bot, exp_cum_sub]
  rfl

/-- Head 3's state after one chunk. -/
theorem s3 (hla : ∀ l, la (ix2 l 3) = (g : EReal)) (x : S1x128x256.Idx) :
    k0_pay35 (k0_pay10 la) (k0_pay11 la) (k0_pay32 kb) vb Sb x
      = step g (fun j d => kb (ix2 j d)) (fun j e => vb (ix2 j e)) (fun d e => Sb (ix3 0 d e)) (x 1) (x 2) := by
  obtain ⟨d, e, rfl⟩ : ∃ d e, x = ix3 0 d e := ⟨x 1, x 2, by rw [ValueIdx.eq_ix3 x]; congr 1; exact Subsingleton.elim (α := Fin 1) _ _⟩
  pointwise [k0_pay35, k0_pay33, k0_pay8, k0_pay10, k0_pay11, k0_pay32]
  simp only [cum_apply la g 3 hla, exp_cum, exp_cum_sub]
  rfl

/-! ### The second chunk of a point: the same values in other groupings -/

/-- The second chunk's running log decay is the first chunk's, of its own rows. -/
theorem cum_second : k0_pay41 k0_pay5 (k0_pay37 la) (k0_pay39 la) (k0_pay40 la) = k0_pay6 la := rfl

/-- Head 0's output of the second chunk. -/
theorem y0b (hla : ∀ l, la (ix2 l 0) = (g : EReal)) (x : S128x256.Idx) :
    k0_pay49 k0_pay4 k0_pay5 (k0_pay37 la) (k0_pay39 la) (k0_pay40 la) qb kb vb Sb x
      = out g (fun i d => qb (ix2 i d)) (fun j d => kb (ix2 j d)) (fun j e => vb (ix2 j e)) (fun d e => Sb (ix3 0 d e)) (x 0) (x 1) :=
  y0 la g qb kb vb Sb hla x

/-- Head 0's state after the second chunk. -/
theorem s0b (hla : ∀ l, la (ix2 l 0) = (g : EReal)) (x : S1x128x256.Idx) :
    k0_pay50 (k0_pay45 k0_pay5 (k0_pay37 la) (k0_pay39 la) (k0_pay40 la)) (k0_pay46 k0_pay5 (k0_pay37 la) (k0_pay39 la) (k0_pay40 la)) (k0_pay47 kb) vb (k0_pay48 Sb) x
      = step g (fun j d => kb (ix2 j d)) (fun j e => vb (ix2 j e)) (fun d e => Sb (ix3 0 d e)) (x 1) (x 2) :=
  s0 la g kb vb Sb hla x

/-- Head 1's output of the second chunk. -/
theorem y1b (hla : ∀ l, la (ix2 l 1) = (g : EReal)) (x : S128x256.Idx) :
    k0_pay53 k0_pay4 (k0_pay41 k0_pay5 (k0_pay37 la) (k0_pay39 la) (k0_pay40 la)) (k0_pay42 k0_pay5 (k0_pay37 la) (k0_pay39 la) (k0_pay40 la)) (k0_pay44 k0_pay5 (k0_pay37 la) (k0_pay39 la) (k0_pay40 la)) qb kb vb Sb x
      = out g (fun i d => qb (ix2 i d)) (fun j d => kb (ix2 j d)) (fun j e => vb (ix2 j e)) (fun d e => Sb (ix3 0 d e)) (x 0) (x 1) :=
  y1 la g qb kb vb Sb hla x

/-- Head 1's state after the second chunk. -/
theorem s1b (hla : ∀ l, la (ix2 l 1) = (g : EReal)) (x : S1x128x256.Idx) :
    k0_pay54 (k0_pay45 k0_pay5 (k0_pay37 la) (k0_pay39 la) (k0_pay40 la)) (k0_pay46 k0_pay5 (k0_pay37 la) (k0_pay39 la) (k0_pay40 la)) (k0_pay51 kb) vb (k0_pay52 Sb) x
      = step g (fun j d => kb (ix2 j d)) (fun j e => vb (ix2 j e)) (fun d e => Sb (ix3 0 d e)) (x 1) (x 2) :=
  s1 la g kb vb Sb hla x

/-- Head 2's output of the second chunk. -/
theorem y2b (hla : ∀ l, la (ix2 l 2) = (g : EReal)) (x : S128x256.Idx) :
    k0_pay60 (k0_pay58 (k0_pay44 k0_pay5 (k0_pay37 la) (k0_pay39 la) (k0_pay40 la)) qb Sb) (k0_pay59 k0_pay4 (k0_pay41 k0_pay5 (k0_pay37 la) (k0_pay39 la) (k0_pay40 la)) (k0_pay42 k0_pay5 (k0_pay37 la) (k0_pay39 la) (k0_pay40 la)) qb kb vb) x
      = out g (fun i d => qb (ix2 i d)) (fun j d => kb (ix2 j d)) (fun j e => vb (ix2 j e)) (fun d e => Sb (ix3 0 d e)) (x 0) (x 1) :=
  y2 la g qb kb vb Sb hla x

/-- Head 2's state after the second chunk. -/
theorem s2b (hla : ∀ l, la (ix2 l 2) = (g : EReal)) (x : S1x128x256.Idx) :
    k0_pay61 (k0_pay45 k0_pay5 (k0_pay37 la) (k0_pay39 la) (k0_pay40 la)) (k0_pay46 k0_pay5 (k0_pay37 la) (k0_pay39 la) (k0_pay40 la)) (k0_pay56 kb) vb (k0_pay57 Sb) x
      = step g (fun j d => kb (ix2 j d)) (fun j e => vb (ix2 j e)) (fun d e => Sb (ix3 0 d e)) (x 1) (x 2) :=
  s2 la g kb vb Sb hla x

/-- Head 3's output of the second chunk. -/
theorem y3b (hla : ∀ l, la (ix2 l 3) = (g : EReal)) (x : S128x256.Idx) :
    k0_pay1 (k0_pay65 (k0_pay44 k0_pay5 (k0_pay37 la) (k0_pay39 la) (k0_pay40 la)) qb Sb) (k0_pay66 k0_pay4 (k0_pay41 k0_pay5 (k0_pay37 la) (k0_pay39 la) (k0_pay40 la)) (k0_pay42 k0_pay5 (k0_pay37 la) (k0_pay39 la) (k0_pay40 la)) qb kb) (k0_pay67 vb) x
      = out g (fun i d => qb (ix2 i d)) (fun j d => kb (ix2 j d)) (fun j e => vb (ix2 j e)) (fun d e => Sb (ix3 0 d e)) (x 0) (x 1) :=
  y3 la g qb kb vb Sb hla x

/-- Head 3's state after the second chunk. -/
theorem s3b (hla : ∀ l, la (ix2 l 3) = (g : EReal)) (x : S1x128x256.Idx) :
    k0_pay2 (k0_pay45 k0_pay5 (k0_pay37 la) (k0_pay39 la) (k0_pay40 la)) (k0_pay46 k0_pay5 (k0_pay37 la) (k0_pay39 la) (k0_pay40 la)) (k0_pay63 kb) vb (k0_pay64 Sb) x
      = step g (fun j d => kb (ix2 j d)) (fun j e => vb (ix2 j e)) (fun d e => Sb (ix3 0 d e)) (x 1) (x 2) :=
  s3 la g kb vb Sb hla x

end Cert.KernelIdeal.Pay

end
-- ==== Proof.Block.lean ====
/- One grid point of the scan as plain mathematics: a block of 256 rows holds two chunks of 128 positions, its columns the
   four heads side by side. What the block's output array and the four states hold afterwards. -/
module

public import proofs.«01_k».proof.Proof.Scan
public import Idealize.ShloMosaic.Lib.ValueIdxCore

@[expose] public section

noncomputable section

open Idealize.ShloMosaic Idealize.ShloMosaic.ValueIdx

namespace Cert.Scan

/-- Row `i` of chunk `s` of a block of 256 rows. -/
abbrev row (s : Fin 2) (i : Fin 128) : Fin 256 := ⟨128 * s.val + i.val, by omega⟩
/-- Channel `d` of head `h` among the 512 key channels. -/
abbrev kcol (h : Fin 4) (d : Fin 128) : Fin 512 := ⟨128 * h.val + d.val, by omega⟩
/-- Channel `e` of head `h` among the 1024 value channels. -/
abbrev vcol (h : Fin 4) (e : Fin 256) : Fin 1024 := ⟨256 * h.val + e.val, by omega⟩

/-- Queries or keys of one chunk and head, from a block. -/
def keys (x : (⟨2, ![256, 512]⟩ : Shape).Idx → EReal) (s : Fin 2) (h : Fin 4) (i d : Fin 128) : EReal := x (ix2 (row s i) (kcol h d))
/-- Values of one chunk and head, from a block. -/
def vals (x : (⟨2, ![256, 1024]⟩ : Shape).Idx → EReal) (s : Fin 2) (h : Fin 4) (j : Fin 128) (e : Fin 256) : EReal := x (ix2 (row s j) (vcol h e))

variable (g : Fin 4 → ℝ) (x0 x1 : (⟨2, ![256, 512]⟩ : Shape).Idx → EReal) (x2 : (⟨2, ![256, 1024]⟩ : Shape).Idx → EReal)
  (S : Fin 4 → Fin 128 → Fin 256 → EReal)

/-- The states after the block's first chunk. -/
def mid (h : Fin 4) : Fin 128 → Fin 256 → EReal := step (g h) (keys x1 0 h) (vals x2 0 h) (S h)
/-- The states after the block. -/
def fin (h : Fin 4) : Fin 128 → Fin 256 → EReal := step (g h) (keys x1 1 h) (vals x2 1 h) (mid g x1 x2 S h)

/-- The output of head `h` and chunk `s` of a block. -/
def outAt (s : Fin 2) (h : Fin 4) : Fin 128 → Fin 256 → EReal :=
  out (g h) (keys x0 s h) (keys x1 s h) (vals x2 s h) (if s = 0 then S h else mid g x1 x2 S h)

/-- The block's output array. -/
def outBlk (y : (⟨2, ![256, 1024]⟩ : Shape).Idx) : EReal :=
  outAt g x0 x1 x2 S ⟨(y 0).val / 128, by have : (y 0).val < 256 := (y 0).isLt; omega⟩ ⟨(y 1).val / 256, by have : (y 1).val < 1024 := (y 1).isLt; omega⟩
    ⟨(y 0).val % 128, Nat.mod_lt _ (by omega)⟩ ⟨(y 1).val % 256, Nat.mod_lt _ (by omega)⟩

/-- The states after the block, as one array. -/
def finBlk (y : (⟨3, ![4, 128, 256]⟩ : Shape).Idx) : EReal := fin g x1 x2 S (y 0) (y 1) (y 2)

/-- The block's output array at a row and a column given by chunk, position, head and channel. -/
theorem outBlk_at (y : (⟨2, ![256, 1024]⟩ : Shape).Idx) (s : Fin 2) (h : Fin 4) (i : Fin 128) (e : Fin 256)
    (h0 : (y 0).val = 128 * s.val + i.val) (h1 : (y 1).val = 256 * h.val + e.val) :
    outBlk g x0 x1 x2 S y = outAt g x0 x1 x2 S s h i e := by
  have es : (⟨(y 0).val / 128, by have : (y 0).val < 256 := (y 0).isLt; omega⟩ : Fin 2) = s := Fin.ext (by dsimp only; omega)
  have eh : (⟨(y 1).val / 256, by have : (y 1).val < 1024 := (y 1).isLt; omega⟩ : Fin 4) = h := Fin.ext (by dsimp only; omega)
  have ei : (⟨(y 0).val % 128, Nat.mod_lt _ (by omega)⟩ : Fin 128) = i := Fin.ext (by dsimp only; omega)
  have ee : (⟨(y 1).val % 256, Nat.mod_lt _ (by omega)⟩ : Fin 256) = e := Fin.ext (by dsimp only; omega)
  unfold outBlk
  rw [es, eh, ei, ee]

variable {g x0 x1 x2 S}

/-- One chunk's output depends on its arrays' entries alone; in the block's first chunk. -/
theorem outAt_first {h : Fin 4} {q k : Fin 128 → Fin 128 → EReal} {v : Fin 128 → Fin 256 → EReal} {T : Fin 128 → Fin 256 → EReal}
    (hq : ∀ i d, q i d = x0 (ix2 (row 0 i) (kcol h d))) (hk : ∀ i d, k i d = x1 (ix2 (row 0 i) (kcol h d)))
    (hv : ∀ i e, v i e = x2 (ix2 (row 0 i) (vcol h e))) (hS : ∀ d e, T d e = S h d e) (i : Fin 128) (e : Fin 256) :
    out (g h) q k v T i e = outAt g x0 x1 x2 S 0 h i e := by
  rw [show q = keys x0 0 h from funext fun i => funext fun d => hq i d, show k = keys x1 0 h from funext fun i => funext fun d => hk i d,
    show v = vals x2 0 h from funext fun i => funext fun d => hv i d, show T = S h from funext fun i => funext fun d => hS i d]
  rfl

/-- In the block's second chunk. -/
theorem outAt_second {h : Fin 4} {q k : Fin 128 → Fin 128 → EReal} {v : Fin 128 → Fin 256 → EReal} {T : Fin 128 → Fin 256 → EReal}
    (hq : ∀ i d, q i d = x0 (ix2 (row 1 i) (kcol h d))) (hk : ∀ i d, k i d = x1 (ix2 (row 1 i) (kcol h d)))
    (hv : ∀ i e, v i e = x2 (ix2 (row 1 i) (vcol h e))) (hS : ∀ d e, T d e = mid g x1 x2 S h d e) (i : Fin 128) (e : Fin 256) :
    out (g h) q k v T i e = outAt g x0 x1 x2 S 1 h i e := by
  rw [show q = keys x0 1 h from funext fun i => funext fun d => hq i d, show k = keys x1 1 h from funext fun i => funext fun d => hk i d,
    show v = vals x2 1 h from funext fun i => funext fun d => hv i d, show T = mid g x1 x2 S h from funext fun i => funext fun d => hS i d]
  rfl

/-- The state after the block's first chunk, from arrays with the same entries. -/
theorem mid_eq {h : Fin 4} {k : Fin 128 → Fin 128 → EReal} {v : Fin 128 → Fin 256 → EReal} {T : Fin 128 → Fin 256 → EReal}
    (hk : ∀ i d, k i d = x1 (ix2 (row 0 i) (kcol h d))) (hv : ∀ i e, v i e = x2 (ix2 (row 0 i) (vcol h e))) (hS : ∀ d e, T d e = S h d e)
    (d : Fin 128) (e : Fin 256) : step (g h) k v T d e = mid g x1 x2 S h d e := by
  rw [show k = keys x1 0 h from funext fun i => funext fun d => hk i d, show v = vals x2 0 h from funext fun i => funext fun d => hv i d,
    show T = S h from funext fun i => funext fun d => hS i d]
  rfl

/-- The state after the block's second chunk, from arrays with the same entries. -/
theorem fin_eq {h : Fin 4} {k : Fin 128 → Fin 128 → EReal} {v : Fin 128 → Fin 256 → EReal} {T : Fin 128 → Fin 256 → EReal}
    (hk : ∀ i d, k i d = x1 (ix2 (row 1 i) (kcol h d))) (hv : ∀ i e, v i e = x2 (ix2 (row 1 i) (vcol h e)))
    (hS : ∀ d e, T d e = mid g x1 x2 S h d e) (d : Fin 128) (e : Fin 256) : step (g h) k v T d e = fin g x1 x2 S h d e := by
  rw [show k = keys x1 1 h from funext fun i => funext fun d => hk i d, show v = vals x2 1 h from funext fun i => funext fun d => hv i d,
    show T = mid g x1 x2 S h from funext fun i => funext fun d => hS i d]
  rfl

end Cert.Scan

end
-- ==== Proof.Point.lean ====
/- What one grid point of the kernel leaves: the block's outputs and the four states, as the plain mathematics of Block,
   from the blocks the point reads and the states the point before left. -/
module

public import proofs.«01_k».proof.Proof.Pay
public import proofs.«01_k».proof.Proof.Block
public import proofs.«01_k».proof.Proof.Gen.KernelIdeal.Frame
public import Idealize.ShloMosaic.Lib.Pipeline.Value
public import Idealize.ShloMosaic.Lib.Pipeline.ReadBack
public import Idealize.ShloMosaic.Lib.Pipeline.ValueKit.Tiles
public import Idealize.ShloMosaic.Lib.Tactic

@[expose] public section

set_option maxRecDepth 16384

noncomputable section

open Idealize.ShloMosaic Idealize.ShloMosaic.TcCoe Idealize.SL.Sem
open Cert.Scan

namespace Cert.KernelIdeal.Point

open Cert.KernelIdeal Cert.KernelIdeal.Gen Cert.KernelIdeal.Pay

variable (c : Dev nD) (i : grid0.Coords)
  (arg1 : Memref sig .tc .vmem S256x512 .f32) (harg1 : arg1.IsWhole) (arg2 : Memref sig .tc .vmem S256x512 .f32) (harg2 : arg2.IsWhole)
  (arg3 : Memref sig .tc .vmem S256x1024 .f32) (harg3 : arg3.IsWhole) (arg4 : Memref sig .tc .vmem S256x128 .f32) (harg4 : arg4.IsWhole)
  (arg5 : Memref sig .tc .vmem S256x1024 .f32) (harg5 : arg5.IsWhole) (arg6 : Memref sig .tc .vmem S4x128x256 .f32) (harg6 : arg6.IsWhole)
  (x0 x1 : Vec Ideal S256x512 .f32) (x2 : Vec Ideal S256x1024 .f32) (x3 : Vec Ideal S256x128 .f32) (g : Fin 4 → ℝ)

/-- The log-decay block holds, at every row, each head's real log decay in the head's lane. -/
def Lanes (x3 : Vec Ideal S256x128 .f32) (g : Fin 4 → ℝ) : Prop :=
  ∀ (r : Fin 256) (h : Fin 4), x3 (ix2 r ⟨h.val, by omega⟩) = (g h : EReal)

/-- A load of a rectangle from a buffer that holds a rank-two array reads the array there. -/
theorem rd2 {n0 n1 m0 m1 : ℕ} {arg : Memref sig .tc .vmem ⟨2, ![n0, n1]⟩ .f32} (harg : arg.IsWhole) (X : Vec Ideal ⟨2, ![n0, n1]⟩ .f32)
    (o0 o1 : ℕ) (inb : ∀ a, (![o0, o1] : Fin 2 → ℕ) a + (![m0, m1] : Fin 2 → ℕ) a ≤ (⟨2, ![n0, n1]⟩ : Shape).size a) (a : Fin m0) (b : Fin m1) (y0 : Fin n0) (y1 : Fin n1)
    (h0 : y0.val = o0 + a.val) (h1 : y1.val = o1 + b.val) :
    View.readAt (Elt Ideal) arg.view (Rect.unit (s := ⟨2, ![n0, n1]⟩) ![o0, o1] ![m0, m1] inb).toLoadRect (harg.unread X) (ix2 a b) = X (ix2 y0 y1) := by
  rw [View.readAt_eq_ld, harg.read_unread]
  refine View.ld_unit_apply_of X _ _ inb _ _ fun d => ?_
  match d with
  | 0 => exact h0
  | 1 => exact h1

/-- A load of a slice from a buffer that holds a rank-three array reads the array there. -/
theorem rd3 {n0 n1 n2 m0 m1 m2 : ℕ} {arg : Memref sig .tc .vmem ⟨3, ![n0, n1, n2]⟩ .f32} (harg : arg.IsWhole) (X : Vec Ideal ⟨3, ![n0, n1, n2]⟩ .f32)
    (o0 o1 o2 : ℕ) (inb : ∀ a, (![o0, o1, o2] : Fin 3 → ℕ) a + (![m0, m1, m2] : Fin 3 → ℕ) a ≤ (⟨3, ![n0, n1, n2]⟩ : Shape).size a)
    (a : Fin m0) (b : Fin m1) (c : Fin m2) (y0 : Fin n0) (y1 : Fin n1) (y2 : Fin n2)
    (h0 : y0.val = o0 + a.val) (h1 : y1.val = o1 + b.val) (h2 : y2.val = o2 + c.val) :
    View.readAt (Elt Ideal) arg.view (Rect.unit (s := ⟨3, ![n0, n1, n2]⟩) ![o0, o1, o2] ![m0, m1, m2] inb).toLoadRect (harg.unread X) (ix3 a b c) = X (ix3 y0 y1 y2) := by
  rw [View.readAt_eq_ld, harg.read_unread]
  refine View.ld_unit_apply_of X _ _ inb _ _ fun d => ?_
  match d with
  | 0 => exact h0
  | 1 => exact h1
  | 2 => exact h2

/-- The first point fills the states with zeros. -/
theorem zero_fill (y : S4x128x256.Idx) : k0_pay3 (F := Ideal) y = (0 : EReal) := by
  pointwise [k0_pay3]

/-- The array of states after a block, at a head, a row and a column. -/
theorem finBlk_at (x1 : Vec Ideal S256x512 .f32) (x2 : Vec Ideal S256x1024 .f32) (S : Fin 4 → Fin 128 → Fin 256 → EReal) (y : S4x128x256.Idx)
    (h : Fin 4) (z : Fin 1) (d : Fin 128) (e : Fin 256) (h0 : (y 0).val = h.val + z.val) (h1 : (y 1).val = 0 + d.val) (h2 : (y 2).val = 0 + e.val) :
    finBlk g x1 x2 S y = fin g x1 x2 S h d e := by
  unfold finBlk
  rw [show y 0 = h from Fin.ext (by omega), show y 1 = d from Fin.ext (by omega), show y 2 = e from Fin.ext (by omega)]

/-- The place in the states of an entry of head `h`'s slice. -/
theorem finBlk_emb (x1 : Vec Ideal S256x512 .f32) (x2 : Vec Ideal S256x1024 .f32) (S : Fin 4 → Fin 128 → Fin 256 → EReal) (o : ℕ) (h : Fin 4) (ho : o = h.val)
    (inb : ∀ a, (![o, 0, 0] : Fin 3 → ℕ) a + S1x128x256.size a ≤ S4x128x256.size a) (x : S1x128x256.Idx) :
    finBlk g x1 x2 S ((Rect.unit (s := S4x128x256) ![o, 0, 0] S1x128x256.size inb).emb x) = fin g x1 x2 S h (x 1) (x 2) := by
  refine finBlk_at g x1 x2 S _ h (x 0) (x 1) (x 2) ?_ ?_ ?_
  · rw [← ho]; exact Rect.idx_unit_val (s := S4x128x256) ![o, 0, 0] S1x128x256.size inb x 0
  · exact Rect.idx_unit_val (s := S4x128x256) ![o, 0, 0] S1x128x256.size inb x 1
  · exact Rect.idx_unit_val (s := S4x128x256) ![o, 0, 0] S1x128x256.size inb x 2

/-- The place in the block's output of an entry of chunk `s`'s and head `h`'s rectangle. -/
theorem outBlk_emb (x0 x1 : Vec Ideal S256x512 .f32) (x2 : Vec Ideal S256x1024 .f32) (S : Fin 4 → Fin 128 → Fin 256 → EReal) (o p : ℕ) (s : Fin 2) (h : Fin 4)
    (ho : o = 128 * s.val) (hp : p = 256 * h.val) (inb : ∀ a, (![o, p] : Fin 2 → ℕ) a + S128x256.size a ≤ S256x1024.size a) (x : S128x256.Idx) :
    outBlk g x0 x1 x2 S ((Rect.unit (s := S256x1024) ![o, p] S128x256.size inb).emb x) = outAt g x0 x1 x2 S s h (x 0) (x 1) := by
  refine outBlk_at g x0 x1 x2 S _ s h (x 0) (x 1) ?_ ?_
  · rw [← ho]; exact Rect.idx_unit_val (s := S256x1024) ![o, p] S128x256.size inb x 0
  · rw [← hp]; exact Rect.idx_unit_val (s := S256x1024) ![o, p] S128x256.size inb x 1

/-- Stores of the four heads' slices cover the states. -/
theorem heads_cover {w3 w2 w1 w0 : S1x128x256.Idx → Elt Ideal .f32} (y : S4x128x256.Idx) :
    ∃ p ∈ ([⟨Rect.unit ![3, 0, 0] S1x128x256.size inb_S4x128x256_S1x128x256_3_0_0, w3⟩, ⟨Rect.unit ![2, 0, 0] S1x128x256.size inb_S4x128x256_S1x128x256_2_0_0, w2⟩,
      ⟨Rect.unit ![1, 0, 0] S1x128x256.size inb_S4x128x256_S1x128x256_1_0_0, w1⟩, ⟨Rect.unit ![0, 0, 0] S1x128x256.size inb_S4x128x256_S1x128x256_0_0_0, w0⟩] :
      List (View.Piece (Elt Ideal) S4x128x256 .f32)), y ∈ p.1.set :=
  View.cover_of_tiledL (s := S4x128x256) _ S1x128x256.size (by sl_kernel_rfl) y

section B
variable (hc0 : ¬cond0_0 i) (xs0 : Vec Ideal S4x128x256 .f32) (hla : Lanes x3 g)
include hla

/-- The output block of a later point. -/
theorem out_B : out0_B_4 c i arg1 harg1 arg2 harg2 arg3 harg3 arg4 harg4 arg5 harg5 arg6 harg6 hc0 x0 x1 x2 x3 xs0 = outBlk g x0 x1 x2 (fun h d e => xs0 (ix3 h d e)) := by
  funext y
  have hcov := cover0_B_4 c i arg1 harg1 arg2 harg2 arg3 harg3 arg4 harg4 arg5 harg5 arg6 harg6 hc0 x0 x1 x2 x3 xs0 y
  unfold out0_B_4
  rw [View.read_writes_junk_eq_canon]
  refine View.canon_apply_of_pieces _ _ (View.PiecesOf.mem ?_) _ hcov
  clear hcov
  unfold kernelRun0_B
  dsimp only
  sl_unfold_words
  refine ⟨?_, ?_, ?_, ?_, ?_, ?_, ?_, ?_, trivial⟩ <;> intro x
  · exact (y3b _ (g 3) _ _ _ _ (fun l => (rd2 harg4 x3 128 0 _ l 3 (row 1 l) ⟨(3 : Fin 4).val, by omega⟩ (by simp) (by simp)).trans (hla _ 3)) x).trans ((outAt_second (fun i d => rd2 harg1 x0 128 384 _ i d (row 1 i) (kcol 3 d) (by simp) (by simp)) (fun i d => rd2 harg2 x1 128 384 _ i d (row 1 i) (kcol 3 d) (by simp) (by simp)) (fun i e => rd2 harg3 x2 128 768 _ i e (row 1 i) (vcol 3 e) (by simp) (by simp))
      (fun d e => by
      rw [View.readCov_skip (h := by decide +kernel), View.readCov_skip (h := by decide +kernel), View.readCov_skip (h := by decide +kernel), View.readCov_cons_toLoadRect]
      exact (s3 _ (g 3) _ _ _ (fun l => (rd2 harg4 x3 0 0 _ l 3 (row 0 l) ⟨(3 : Fin 4).val, by omega⟩ (by simp) (by simp)).trans (hla _ 3)) (ix3 0 d e)).trans (mid_eq (fun i d => rd2 harg2 x1 0 384 _ i d (row 0 i) (kcol 3 d) (by simp) (by simp)) (fun i e => rd2 harg3 x2 0 768 _ i e (row 0 i) (vcol 3 e) (by simp) (by simp)) (fun d e => rd3 harg6 xs0 3 0 0 _ 0 d e 3 d e (by simp) (by simp) (by simp)) d e)) (x 0) (x 1)).trans
      (outBlk_emb g x0 x1 x2 _ 128 768 1 3 rfl rfl inb_S256x1024_S128x256_128_768 x).symm)
  · exact (y2b _ (g 2) _ _ _ _ (fun l => (rd2 harg4 x3 128 0 _ l 2 (row 1 l) ⟨(2 : Fin 4).val, by omega⟩ (by simp) (by simp)).trans (hla _ 2)) x).trans ((outAt_second (fun i d => rd2 harg1 x0 128 256 _ i d (row 1 i) (kcol 2 d) (by simp) (by simp)) (fun i d => rd2 harg2 x1 128 256 _ i d (row 1 i) (kcol 2 d) (by simp) (by simp)) (fun i e => rd2 harg3 x2 128 512 _ i e (row 1 i) (vcol 2 e) (by simp) (by simp))
      (fun d e => by
      rw [View.readCov_skip (h := by decide +kernel), View.readCov_skip (h := by decide +kernel), View.readCov_skip (h := by decide +kernel), View.readCov_cons_toLoadRect]
      exact (s2 _ (g 2) _ _ _ (fun l => (rd2 harg4 x3 0 0 _ l 2 (row 0 l) ⟨(2 : Fin 4).val, by omega⟩ (by simp) (by simp)).trans (hla _ 2)) (ix3 0 d e)).trans (mid_eq (fun i d => rd2 harg2 x1 0 256 _ i d (row 0 i) (kcol 2 d) (by simp) (by simp)) (fun i e => rd2 harg3 x2 0 512 _ i e (row 0 i) (vcol 2 e) (by simp) (by simp)) (fun d e => rd3 harg6 xs0 2 0 0 _ 0 d e 2 d e (by simp) (by simp) (by simp)) d e)) (x 0) (x 1)).trans
      (outBlk_emb g x0 x1 x2 _ 128 512 1 2 rfl rfl inb_S256x1024_S128x256_128_512 x).symm)
  · exact (y1b _ (g 1) _ _ _ _ (fun l => (rd2 harg4 x3 128 0 _ l 1 (row 1 l) ⟨(1 : Fin 4).val, by omega⟩ (by simp) (by simp)).trans (hla _ 1)) x).trans ((outAt_second (fun i d => rd2 harg1 x0 128 128 _ i d (row 1 i) (kcol 1 d) (by simp) (by simp)) (fun i d => rd2 harg2 x1 128 128 _ i d (row 1 i) (kcol 1 d) (by simp) (by simp)) (fun i e => rd2 harg3 x2 128 256 _ i e (row 1 i) (vcol 1 e) (by simp) (by simp))
      (fun d e => by
      rw [View.readCov_skip (h := by decide +kernel), View.readCov_skip (h := by decide +kernel), View.readCov_skip (h := by decide +kernel), View.readCov_cons_toLoadRect]
      exact (s1 _ (g 1) _ _ _ (fun l => (rd2 harg4 x3 0 0 _ l 1 (row 0 l) ⟨(1 : Fin 4).val, by omega⟩ (by simp) (by simp)).trans (hla _ 1)) (ix3 0 d e)).trans (mid_eq (fun i d => rd2 harg2 x1 0 128 _ i d (row 0 i) (kcol 1 d) (by simp) (by simp)) (fun i e => rd2 harg3 x2 0 256 _ i e (row 0 i) (vcol 1 e) (by simp) (by simp)) (fun d e => rd3 harg6 xs0 1 0 0 _ 0 d e 1 d e (by simp) (by simp) (by simp)) d e)) (x 0) (x 1)).trans
      (outBlk_emb g x0 x1 x2 _ 128 256 1 1 rfl rfl inb_S256x1024_S128x256_128_256 x).symm)
  · exact (y0b _ (g 0) _ _ _ _ (fun l => (rd2 harg4 x3 128 0 _ l 0 (row 1 l) ⟨(0 : Fin 4).val, by omega⟩ (by simp) (by simp)).trans (hla _ 0)) x).trans ((outAt_second (fun i d => rd2 harg1 x0 128 0 _ i d (row 1 i) (kcol 0 d) (by simp) (by simp)) (fun i d => rd2 harg2 x1 128 0 _ i d (row 1 i) (kcol 0 d) (by simp) (by simp)) (fun i e => rd2 harg3 x2 128 0 _ i e (row 1 i) (vcol 0 e) (by simp) (by simp))
      (fun d e => by
      rw [View.readCov_skip (h := by decide +kernel), View.readCov_skip (h := by decide +kernel), View.readCov_skip (h := by decide +kernel), View.readCov_cons_toLoadRect]
      exact (s0 _ (g 0) _ _ _ (fun l => (rd2 harg4 x3 0 0 _ l 0 (row 0 l) ⟨(0 : Fin 4).val, by omega⟩ (by simp) (by simp)).trans (hla _ 0)) (ix3 0 d e)).trans (mid_eq (fun i d => rd2 harg2 x1 0 0 _ i d (row 0 i) (kcol 0 d) (by simp) (by simp)) (fun i e => rd2 harg3 x2 0 0 _ i e (row 0 i) (vcol 0 e) (by simp) (by simp)) (fun d e => rd3 harg6 xs0 0 0 0 _ 0 d e 0 d e (by simp) (by simp) (by simp)) d e)) (x 0) (x 1)).trans
      (outBlk_emb g x0 x1 x2 _ 128 0 1 0 rfl rfl inb_S256x1024_S128x256_128_0 x).symm)
  · exact (y3 _ (g 3) _ _ _ _ (fun l => (rd2 harg4 x3 0 0 _ l 3 (row 0 l) ⟨(3 : Fin 4).val, by omega⟩ (by simp) (by simp)).trans (hla _ 3)) x).trans ((outAt_first (fun i d => rd2 harg1 x0 0 384 _ i d (row 0 i) (kcol 3 d) (by simp) (by simp)) (fun i d => rd2 harg2 x1 0 384 _ i d (row 0 i) (kcol 3 d) (by simp) (by simp)) (fun i e => rd2 harg3 x2 0 768 _ i e (row 0 i) (vcol 3 e) (by simp) (by simp))
      (fun d e => rd3 harg6 xs0 3 0 0 _ 0 d e 3 d e (by simp) (by simp) (by simp)) (x 0) (x 1)).trans
      (outBlk_emb g x0 x1 x2 _ 0 768 0 3 rfl rfl inb_S256x1024_S128x256_0_768 x).symm)
  · exact (y2 _ (g 2) _ _ _ _ (fun l => (rd2 harg4 x3 0 0 _ l 2 (row 0 l) ⟨(2 : Fin 4).val, by omega⟩ (by simp) (by simp)).trans (hla _ 2)) x).trans ((outAt_first (fun i d => rd2 harg1 x0 0 256 _ i d (row 0 i) (kcol 2 d) (by simp) (by simp)) (fun i d => rd2 harg2 x1 0 256 _ i d (row 0 i) (kcol 2 d) (by simp) (by simp)) (fun i e => rd2 harg3 x2 0 512 _ i e (row 0 i) (vcol 2 e) (by simp) (by simp))
      (fun d e => rd3 harg6 xs0 2 0 0 _ 0 d e 2 d e (by simp) (by simp) (by simp)) (x 0) (x 1)).trans
      (outBlk_emb g x0 x1 x2 _ 0 512 0 2 rfl rfl inb_S256x1024_S128x256_0_512 x).symm)
  · exact (y1 _ (g 1) _ _ _ _ (fun l => (rd2 harg4 x3 0 0 _ l 1 (row 0 l) ⟨(1 : Fin 4).val, by omega⟩ (by simp) (by simp)).trans (hla _ 1)) x).trans ((outAt_first (fun i d => rd2 harg1 x0 0 128 _ i d (row 0 i) (kcol 1 d) (by simp) (by simp)) (fun i d => rd2 harg2 x1 0 128 _ i d (row 0 i) (kcol 1 d) (by simp) (by simp)) (fun i e => rd2 harg3 x2 0 256 _ i e (row 0 i) (vcol 1 e) (by simp) (by simp))
      (fun d e => rd3 harg6 xs0 1 0 0 _ 0 d e 1 d e (by simp) (by simp) (by simp)) (x 0) (x 1)).trans
      (outBlk_emb g x0 x1 x2 _ 0 256 0 1 rfl rfl inb_S256x1024_S128x256_0_256 x).symm)
  · exact (y0 _ (g 0) _ _ _ _ (fun l => (rd2 harg4 x3 0 0 _ l 0 (row 0 l) ⟨(0 : Fin 4).val, by omega⟩ (by simp) (by simp)).trans (hla _ 0)) x).trans ((outAt_first (fun i d => rd2 harg1 x0 0 0 _ i d (row 0 i) (kcol 0 d) (by simp) (by simp)) (fun i d => rd2 harg2 x1 0 0 _ i d (row 0 i) (kcol 0 d) (by simp) (by simp)) (fun i e => rd2 harg3 x2 0 0 _ i e (row 0 i) (vcol 0 e) (by simp) (by simp))
      (fun d e => rd3 harg6 xs0 0 0 0 _ 0 d e 0 d e (by simp) (by simp) (by simp)) (x 0) (x 1)).trans
      (outBlk_emb g x0 x1 x2 _ 0 0 0 0 rfl rfl inb_S256x1024_S128x256_0_0 x).symm)

/-- The states a later point leaves. -/
theorem st_B : sout0_B_0 c i arg1 harg1 arg2 harg2 arg3 harg3 arg4 harg4 arg5 harg5 arg6 harg6 hc0 x0 x1 x2 x3 xs0 = finBlk g x1 x2 (fun h d e => xs0 (ix3 h d e)) := by
  funext y
  unfold sout0_B_0
  rw [View.read_writes_junk_eq_canon]
  unfold kernelRun0_B
  dsimp only
  sl_unfold_words
  refine View.canon_append_of_piecesOf (finBlk g x1 x2 _) _ [_, _, _, _] ⟨?_, ?_, ?_, ?_, trivial⟩ y (heads_cover y) <;> intro x
  · exact (s3b _ (g 3) _ _ _ (fun l => (rd2 harg4 x3 128 0 _ l 3 (row 1 l) ⟨(3 : Fin 4).val, by omega⟩ (by simp) (by simp)).trans (hla _ 3)) x).trans ((fin_eq (fun i d => rd2 harg2 x1 128 384 _ i d (row 1 i) (kcol 3 d) (by simp) (by simp)) (fun i e => rd2 harg3 x2 128 768 _ i e (row 1 i) (vcol 3 e) (by simp) (by simp))
      (fun d e => by
      rw [View.readCov_skip (h := by decide +kernel), View.readCov_skip (h := by decide +kernel), View.readCov_skip (h := by decide +kernel), View.readCov_cons_toLoadRect]
      exact (s3 _ (g 3) _ _ _ (fun l => (rd2 harg4 x3 0 0 _ l 3 (row 0 l) ⟨(3 : Fin 4).val, by omega⟩ (by simp) (by simp)).trans (hla _ 3)) (ix3 0 d e)).trans (mid_eq (fun i d => rd2 harg2 x1 0 384 _ i d (row 0 i) (kcol 3 d) (by simp) (by simp)) (fun i e => rd2 harg3 x2 0 768 _ i e (row 0 i) (vcol 3 e) (by simp) (by simp)) (fun d e => rd3 harg6 xs0 3 0 0 _ 0 d e 3 d e (by simp) (by simp) (by simp)) d e)) (x 1) (x 2)).trans (finBlk_emb g x1 x2 _ 3 3 rfl inb_S4x128x256_S1x128x256_3_0_0 x).symm)
  · exact (s2b _ (g 2) _ _ _ (fun l => (rd2 harg4 x3 128 0 _ l 2 (row 1 l) ⟨(2 : Fin 4).val, by omega⟩ (by simp) (by simp)).trans (hla _ 2)) x).trans ((fin_eq (fun i d => rd2 harg2 x1 128 256 _ i d (row 1 i) (kcol 2 d) (by simp) (by simp)) (fun i e => rd2 harg3 x2 128 512 _ i e (row 1 i) (vcol 2 e) (by simp) (by simp))
      (fun d e => by
      rw [View.readCov_skip (h := by decide +kernel), View.readCov_skip (h := by decide +kernel), View.readCov_skip (h := by decide +kernel), View.readCov_cons_toLoadRect]
      exact (s2 _ (g 2) _ _ _ (fun l => (rd2 harg4 x3 0 0 _ l 2 (row 0 l) ⟨(2 : Fin 4).val, by omega⟩ (by simp) (by simp)).trans (hla _ 2)) (ix3 0 d e)).trans (mid_eq (fun i d => rd2 harg2 x1 0 256 _ i d (row 0 i) (kcol 2 d) (by simp) (by simp)) (fun i e => rd2 harg3 x2 0 512 _ i e (row 0 i) (vcol 2 e) (by simp) (by simp)) (fun d e => rd3 harg6 xs0 2 0 0 _ 0 d e 2 d e (by simp) (by simp) (by simp)) d e)) (x 1) (x 2)).trans (finBlk_emb g x1 x2 _ 2 2 rfl inb_S4x128x256_S1x128x256_2_0_0 x).symm)
  · exact (s1b _ (g 1) _ _ _ (fun l => (rd2 harg4 x3 128 0 _ l 1 (row 1 l) ⟨(1 : Fin 4).val, by omega⟩ (by simp) (by simp)).trans (hla _ 1)) x).trans ((fin_eq (fun i d => rd2 harg2 x1 128 128 _ i d (row 1 i) (kcol 1 d) (by simp) (by simp)) (fun i e => rd2 harg3 x2 128 256 _ i e (row 1 i) (vcol 1 e) (by simp) (by simp))
      (fun d e => by
      rw [View.readCov_skip (h := by decide +kernel), View.readCov_skip (h := by decide +kernel), View.readCov_skip (h := by decide +kernel), View.readCov_cons_toLoadRect]
      exact (s1 _ (g 1) _ _ _ (fun l => (rd2 harg4 x3 0 0 _ l 1 (row 0 l) ⟨(1 : Fin 4).val, by omega⟩ (by simp) (by simp)).trans (hla _ 1)) (ix3 0 d e)).trans (mid_eq (fun i d => rd2 harg2 x1 0 128 _ i d (row 0 i) (kcol 1 d) (by simp) (by simp)) (fun i e => rd2 harg3 x2 0 256 _ i e (row 0 i) (vcol 1 e) (by simp) (by simp)) (fun d e => rd3 harg6 xs0 1 0 0 _ 0 d e 1 d e (by simp) (by simp) (by simp)) d e)) (x 1) (x 2)).trans (finBlk_emb g x1 x2 _ 1 1 rfl inb_S4x128x256_S1x128x256_1_0_0 x).symm)
  · exact (s0b _ (g 0) _ _ _ (fun l => (rd2 harg4 x3 128 0 _ l 0 (row 1 l) ⟨(0 : Fin 4).val, by omega⟩ (by simp) (by simp)).trans (hla _ 0)) x).trans ((fin_eq (fun i d => rd2 harg2 x1 128 0 _ i d (row 1 i) (kcol 0 d) (by simp) (by simp)) (fun i e => rd2 harg3 x2 128 0 _ i e (row 1 i) (vcol 0 e) (by simp) (by simp))
      (fun d e => by
      rw [View.readCov_skip (h := by decide +kernel), View.readCov_skip (h := by decide +kernel), View.readCov_skip (h := by decide +kernel), View.readCov_cons_toLoadRect]
      exact (s0 _ (g 0) _ _ _ (fun l => (rd2 harg4 x3 0 0 _ l 0 (row 0 l) ⟨(0 : Fin 4).val, by omega⟩ (by simp) (by simp)).trans (hla _ 0)) (ix3 0 d e)).trans (mid_eq (fun i d => rd2 harg2 x1 0 0 _ i d (row 0 i) (kcol 0 d) (by simp) (by simp)) (fun i e => rd2 harg3 x2 0 0 _ i e (row 0 i) (vcol 0 e) (by simp) (by simp)) (fun d e => rd3 harg6 xs0 0 0 0 _ 0 d e 0 d e (by simp) (by simp) (by simp)) d e)) (x 1) (x 2)).trans (finBlk_emb g x1 x2 _ 0 0 rfl inb_S4x128x256_S1x128x256_0_0_0 x).symm)

end B

section A
variable (hc0 : cond0_0 i) (hla : Lanes x3 g)
include hla

/-- The output block of the first point. -/
theorem out_A : out0_A_4 c i arg1 harg1 arg2 harg2 arg3 harg3 arg4 harg4 arg5 harg5 arg6 harg6 hc0 x0 x1 x2 x3 = outBlk g x0 x1 x2 (fun _ _ _ => 0) := by
  funext y
  have hcov := cover0_A_4 c i arg1 harg1 arg2 harg2 arg3 harg3 arg4 harg4 arg5 harg5 arg6 harg6 hc0 x0 x1 x2 x3 y
  unfold out0_A_4
  rw [View.read_writes_junk_eq_canon]
  refine View.canon_apply_of_pieces _ _ (View.PiecesOf.mem ?_) _ hcov
  clear hcov
  unfold kernelRun0_A
  dsimp only
  sl_unfold_words
  refine ⟨?_, ?_, ?_, ?_, ?_, ?_, ?_, ?_, trivial⟩ <;> intro x
  · exact (y3b _ (g 3) _ _ _ _ (fun l => (rd2 harg4 x3 128 0 _ l 3 (row 1 l) ⟨(3 : Fin 4).val, by omega⟩ (by simp) (by simp)).trans (hla _ 3)) x).trans ((outAt_second (fun i d => rd2 harg1 x0 128 384 _ i d (row 1 i) (kcol 3 d) (by simp) (by simp)) (fun i d => rd2 harg2 x1 128 384 _ i d (row 1 i) (kcol 3 d) (by simp) (by simp)) (fun i e => rd2 harg3 x2 128 768 _ i e (row 1 i) (vcol 3 e) (by simp) (by simp))
      (fun d e => by
      rw [View.readCov_skip (h := by decide +kernel), View.readCov_skip (h := by decide +kernel), View.readCov_skip (h := by decide +kernel), View.readCov_cons_toLoadRect]
      exact (s3 _ (g 3) _ _ _ (fun l => (rd2 harg4 x3 0 0 _ l 3 (row 0 l) ⟨(3 : Fin 4).val, by omega⟩ (by simp) (by simp)).trans (hla _ 3)) (ix3 0 d e)).trans (mid_eq (fun i d => rd2 harg2 x1 0 384 _ i d (row 0 i) (kcol 3 d) (by simp) (by simp)) (fun i e => rd2 harg3 x2 0 768 _ i e (row 0 i) (vcol 3 e) (by simp) (by simp)) (fun d e => by
      rw [View.readCov_skip (h := by decide +kernel), View.readCov_skip (h := by decide +kernel), View.readCov_skip (h := by decide +kernel), View.readCov_fill (h := by decide)]
      exact zero_fill _) d e)) (x 0) (x 1)).trans
      (outBlk_emb g x0 x1 x2 _ 128 768 1 3 rfl rfl inb_S256x1024_S128x256_128_768 x).symm)
  · exact (y2b _ (g 2) _ _ _ _ (fun l => (rd2 harg4 x3 128 0 _ l 2 (row 1 l) ⟨(2 : Fin 4).val, by omega⟩ (by simp) (by simp)).trans (hla _ 2)) x).trans ((outAt_second (fun i d => rd2 harg1 x0 128 256 _ i d (row 1 i) (kcol 2 d) (by simp) (by simp)) (fun i d => rd2 harg2 x1 128 256 _ i d (row 1 i) (kcol 2 d) (by simp) (by simp)) (fun i e => rd2 harg3 x2 128 512 _ i e (row 1 i) (vcol 2 e) (by simp) (by simp))
      (fun d e => by
      rw [View.readCov_skip (h := by decide +kernel), View.readCov_skip (h := by decide +kernel), View.readCov_skip (h := by decide +kernel), View.readCov_cons_toLoadRect]
      exact (s2 _ (g 2) _ _ _ (fun l => (rd2 harg4 x3 0 0 _ l 2 (row 0 l) ⟨(2 : Fin 4).val, by omega⟩ (by simp) (by simp)).trans (hla _ 2)) (ix3 0 d e)).trans (mid_eq (fun i d => rd2 harg2 x1 0 256 _ i d (row 0 i) (kcol 2 d) (by simp) (by simp)) (fun i e => rd2 harg3 x2 0 512 _ i e (row 0 i) (vcol 2 e) (by simp) (by simp)) (fun d e => by
      rw [View.readCov_skip (h := by decide +kernel), View.readCov_skip (h := by decide +kernel), View.readCov_fill (h := by decide)]
      exact zero_fill _) d e)) (x 0) (x 1)).trans
      (outBlk_emb g x0 x1 x2 _ 128 512 1 2 rfl rfl inb_S256x1024_S128x256_128_512 x).symm)
  · exact (y1b _ (g 1) _ _ _ _ (fun l => (rd2 harg4 x3 128 0 _ l 1 (row 1 l) ⟨(1 : Fin 4).val, by omega⟩ (by simp) (by simp)).trans (hla _ 1)) x).trans ((outAt_second (fun i d => rd2 harg1 x0 128 128 _ i d (row 1 i) (kcol 1 d) (by simp) (by simp)) (fun i d => rd2 harg2 x1 128 128 _ i d (row 1 i) (kcol 1 d) (by simp) (by simp)) (fun i e => rd2 harg3 x2 128 256 _ i e (row 1 i) (vcol 1 e) (by simp) (by simp))
      (fun d e => by
      rw [View.readCov_skip (h := by decide +kernel), View.readCov_skip (h := by decide +kernel), View.readCov_skip (h := by decide +kernel), View.readCov_cons_toLoadRect]
      exact (s1 _ (g 1) _ _ _ (fun l => (rd2 harg4 x3 0 0 _ l 1 (row 0 l) ⟨(1 : Fin 4).val, by omega⟩ (by simp) (by simp)).trans (hla _ 1)) (ix3 0 d e)).trans (mid_eq (fun i d => rd2 harg2 x1 0 128 _ i d (row 0 i) (kcol 1 d) (by simp) (by simp)) (fun i e => rd2 harg3 x2 0 256 _ i e (row 0 i) (vcol 1 e) (by simp) (by simp)) (fun d e => by
      rw [View.readCov_skip (h := by decide +kernel), View.readCov_fill (h := by decide)]
      exact zero_fill _) d e)) (x 0) (x 1)).trans
      (outBlk_emb g x0 x1 x2 _ 128 256 1 1 rfl rfl inb_S256x1024_S128x256_128_256 x).symm)
  · exact (y0b _ (g 0) _ _ _ _ (fun l => (rd2 harg4 x3 128 0 _ l 0 (row 1 l) ⟨(0 : Fin 4).val, by omega⟩ (by simp) (by simp)).trans (hla _ 0)) x).trans ((outAt_second (fun i d => rd2 harg1 x0 128 0 _ i d (row 1 i) (kcol 0 d) (by simp) (by simp)) (fun i d => rd2 harg2 x1 128 0 _ i d (row 1 i) (kcol 0 d) (by simp) (by simp)) (fun i e => rd2 harg3 x2 128 0 _ i e (row 1 i) (vcol 0 e) (by simp) (by simp))
      (fun d e => by
      rw [View.readCov_skip (h := by decide +kernel), View.readCov_skip (h := by decide +kernel), View.readCov_skip (h := by decide +kernel), View.readCov_cons_toLoadRect]
      exact (s0 _ (g 0) _ _ _ (fun l => (rd2 harg4 x3 0 0 _ l 0 (row 0 l) ⟨(0 : Fin 4).val, by omega⟩ (by simp) (by simp)).trans (hla _ 0)) (ix3 0 d e)).trans (mid_eq (fun i d => rd2 harg2 x1 0 0 _ i d (row 0 i) (kcol 0 d) (by simp) (by simp)) (fun i e => rd2 harg3 x2 0 0 _ i e (row 0 i) (vcol 0 e) (by simp) (by simp)) (fun d e => by
      rw [View.readCov_fill (h := by decide)]
      exact zero_fill _) d e)) (x 0) (x 1)).trans
      (outBlk_emb g x0 x1 x2 _ 128 0 1 0 rfl rfl inb_S256x1024_S128x256_128_0 x).symm)
  · exact (y3 _ (g 3) _ _ _ _ (fun l => (rd2 harg4 x3 0 0 _ l 3 (row 0 l) ⟨(3 : Fin 4).val, by omega⟩ (by simp) (by simp)).trans (hla _ 3)) x).trans ((outAt_first (fun i d => rd2 harg1 x0 0 384 _ i d (row 0 i) (kcol 3 d) (by simp) (by simp)) (fun i d => rd2 harg2 x1 0 384 _ i d (row 0 i) (kcol 3 d) (by simp) (by simp)) (fun i e => rd2 harg3 x2 0 768 _ i e (row 0 i) (vcol 3 e) (by simp) (by simp))
      (fun d e => by
      rw [View.readCov_skip (h := by decide +kernel), View.readCov_skip (h := by decide +kernel), View.readCov_skip (h := by decide +kernel), View.readCov_fill (h := by decide)]
      exact zero_fill _) (x 0) (x 1)).trans
      (outBlk_emb g x0 x1 x2 _ 0 768 0 3 rfl rfl inb_S256x1024_S128x256_0_768 x).symm)
  · exact (y2 _ (g 2) _ _ _ _ (fun l => (rd2 harg4 x3 0 0 _ l 2 (row 0 l) ⟨(2 : Fin 4).val, by omega⟩ (by simp) (by simp)).trans (hla _ 2)) x).trans ((outAt_first (fun i d => rd2 harg1 x0 0 256 _ i d (row 0 i) (kcol 2 d) (by simp) (by simp)) (fun i d => rd2 harg2 x1 0 256 _ i d (row 0 i) (kcol 2 d) (by simp) (by simp)) (fun i e => rd2 harg3 x2 0 512 _ i e (row 0 i) (vcol 2 e) (by simp) (by simp))
      (fun d e => by
      rw [View.readCov_skip (h := by decide +kernel), View.readCov_skip (h := by decide +kernel), View.readCov_fill (h := by decide)]
      exact zero_fill _) (x 0) (x 1)).trans
      (outBlk_emb g x0 x1 x2 _ 0 512 0 2 rfl rfl inb_S256x1024_S128x256_0_512 x).symm)
  · exact (y1 _ (g 1) _ _ _ _ (fun l => (rd2 harg4 x3 0 0 _ l 1 (row 0 l) ⟨(1 : Fin 4).val, by omega⟩ (by simp) (by simp)).trans (hla _ 1)) x).trans ((outAt_first (fun i d => rd2 harg1 x0 0 128 _ i d (row 0 i) (kcol 1 d) (by simp) (by simp)) (fun i d => rd2 harg2 x1 0 128 _ i d (row 0 i) (kcol 1 d) (by simp) (by simp)) (fun i e => rd2 harg3 x2 0 256 _ i e (row 0 i) (vcol 1 e) (by simp) (by simp))
      (fun d e => by
      rw [View.readCov_skip (h := by decide +kernel), View.readCov_fill (h := by decide)]
      exact zero_fill _) (x 0) (x 1)).trans
      (outBlk_emb g x0 x1 x2 _ 0 256 0 1 rfl rfl inb_S256x1024_S128x256_0_256 x).symm)
  · exact (y0 _ (g 0) _ _ _ _ (fun l => (rd2 harg4 x3 0 0 _ l 0 (row 0 l) ⟨(0 : Fin 4).val, by omega⟩ (by simp) (by simp)).trans (hla _ 0)) x).trans ((outAt_first (fun i d => rd2 harg1 x0 0 0 _ i d (row 0 i) (kcol 0 d) (by simp) (by simp)) (fun i d => rd2 harg2 x1 0 0 _ i d (row 0 i) (kcol 0 d) (by simp) (by simp)) (fun i e => rd2 harg3 x2 0 0 _ i e (row 0 i) (vcol 0 e) (by simp) (by simp))
      (fun d e => by
      rw [View.readCov_fill (h := by decide)]
      exact zero_fill _) (x 0) (x 1)).trans
      (outBlk_emb g x0 x1 x2 _ 0 0 0 0 rfl rfl inb_S256x1024_S128x256_0_0 x).symm)

/-- The states the first point leaves. -/
theorem st_A : sout0_A_0 c i arg1 harg1 arg2 harg2 arg3 harg3 arg4 harg4 arg5 harg5 arg6 harg6 hc0 x0 x1 x2 x3 = finBlk g x1 x2 (fun _ _ _ => 0) := by
  funext y
  unfold sout0_A_0
  rw [View.read_writes_junk_eq_canon]
  unfold kernelRun0_A
  dsimp only
  sl_unfold_words
  refine View.canon_append_of_piecesOf (finBlk g x1 x2 _) _ [_, _, _, _] ⟨?_, ?_, ?_, ?_, trivial⟩ y (heads_cover y) <;> intro x
  · exact (s3b _ (g 3) _ _ _ (fun l => (rd2 harg4 x3 128 0 _ l 3 (row 1 l) ⟨(3 : Fin 4).val, by omega⟩ (by simp) (by simp)).trans (hla _ 3)) x).trans ((fin_eq (fun i d => rd2 harg2 x1 128 384 _ i d (row 1 i) (kcol 3 d) (by simp) (by simp)) (fun i e => rd2 harg3 x2 128 768 _ i e (row 1 i) (vcol 3 e) (by simp) (by simp))
      (fun d e => by
      rw [View.readCov_skip (h := by decide +kernel), View.readCov_skip (h := by decide +kernel), View.readCov_skip (h := by decide +kernel), View.readCov_cons_toLoadRect]
      exact (s3 _ (g 3) _ _ _ (fun l => (rd2 harg4 x3 0 0 _ l 3 (row 0 l) ⟨(3 : Fin 4).val, by omega⟩ (by simp) (by simp)).trans (hla _ 3)) (ix3 0 d e)).trans (mid_eq (fun i d => rd2 harg2 x1 0 384 _ i d (row 0 i) (kcol 3 d) (by simp) (by simp)) (fun i e => rd2 harg3 x2 0 768 _ i e (row 0 i) (vcol 3 e) (by simp) (by simp)) (fun d e => by
      rw [View.readCov_skip (h := by decide +kernel), View.readCov_skip (h := by decide +kernel), View.readCov_skip (h := by decide +kernel), View.readCov_fill (h := by decide)]
      exact zero_fill _) d e)) (x 1) (x 2)).trans (finBlk_emb g x1 x2 _ 3 3 rfl inb_S4x128x256_S1x128x256_3_0_0 x).symm)
  · exact (s2b _ (g 2) _ _ _ (fun l => (rd2 harg4 x3 128 0 _ l 2 (row 1 l) ⟨(2 : Fin 4).val, by omega⟩ (by simp) (by simp)).trans (hla _ 2)) x).trans ((fin_eq (fun i d => rd2 harg2 x1 128 256 _ i d (row 1 i) (kcol 2 d) (by simp) (by simp)) (fun i e => rd2 harg3 x2 128 512 _ i e (row 1 i) (vcol 2 e) (by simp) (by simp))
      (fun d e => by
      rw [View.readCov_skip (h := by decide +kernel), View.readCov_skip (h := by decide +kernel), View.readCov_skip (h := by decide +kernel), View.readCov_cons_toLoadRect]
      exact (s2 _ (g 2) _ _ _ (fun l => (rd2 harg4 x3 0 0 _ l 2 (row 0 l) ⟨(2 : Fin 4).val, by omega⟩ (by simp) (by simp)).trans (hla _ 2)) (ix3 0 d e)).trans (mid_eq (fun i d => rd2 harg2 x1 0 256 _ i d (row 0 i) (kcol 2 d) (by simp) (by simp)) (fun i e => rd2 harg3 x2 0 512 _ i e (row 0 i) (vcol 2 e) (by simp) (by simp)) (fun d e => by
      rw [View.readCov_skip (h := by decide +kernel), View.readCov_skip (h := by decide +kernel), View.readCov_fill (h := by decide)]
      exact zero_fill _) d e)) (x 1) (x 2)).trans (finBlk_emb g x1 x2 _ 2 2 rfl inb_S4x128x256_S1x128x256_2_0_0 x).symm)
  · exact (s1b _ (g 1) _ _ _ (fun l => (rd2 harg4 x3 128 0 _ l 1 (row 1 l) ⟨(1 : Fin 4).val, by omega⟩ (by simp) (by simp)).trans (hla _ 1)) x).trans ((fin_eq (fun i d => rd2 harg2 x1 128 128 _ i d (row 1 i) (kcol 1 d) (by simp) (by simp)) (fun i e => rd2 harg3 x2 128 256 _ i e (row 1 i) (vcol 1 e) (by simp) (by simp))
      (fun d e => by
      rw [View.readCov_skip (h := by decide +kernel), View.readCov_skip (h := by decide +kernel), View.readCov_skip (h := by decide +kernel), View.readCov_cons_toLoadRect]
      exact (s1 _ (g 1) _ _ _ (fun l => (rd2 harg4 x3 0 0 _ l 1 (row 0 l) ⟨(1 : Fin 4).val, by omega⟩ (by simp) (by simp)).trans (hla _ 1)) (ix3 0 d e)).trans (mid_eq (fun i d => rd2 harg2 x1 0 128 _ i d (row 0 i) (kcol 1 d) (by simp) (by simp)) (fun i e => rd2 harg3 x2 0 256 _ i e (row 0 i) (vcol 1 e) (by simp) (by simp)) (fun d e => by
      rw [View.readCov_skip (h := by decide +kernel), View.readCov_fill (h := by decide)]
      exact zero_fill _) d e)) (x 1) (x 2)).trans (finBlk_emb g x1 x2 _ 1 1 rfl inb_S4x128x256_S1x128x256_1_0_0 x).symm)
  · exact (s0b _ (g 0) _ _ _ (fun l => (rd2 harg4 x3 128 0 _ l 0 (row 1 l) ⟨(0 : Fin 4).val, by omega⟩ (by simp) (by simp)).trans (hla _ 0)) x).trans ((fin_eq (fun i d => rd2 harg2 x1 128 0 _ i d (row 1 i) (kcol 0 d) (by simp) (by simp)) (fun i e => rd2 harg3 x2 128 0 _ i e (row 1 i) (vcol 0 e) (by simp) (by simp))
      (fun d e => by
      rw [View.readCov_skip (h := by decide +kernel), View.readCov_skip (h := by decide +kernel), View.readCov_skip (h := by decide +kernel), View.readCov_cons_toLoadRect]
      exact (s0 _ (g 0) _ _ _ (fun l => (rd2 harg4 x3 0 0 _ l 0 (row 0 l) ⟨(0 : Fin 4).val, by omega⟩ (by simp) (by simp)).trans (hla _ 0)) (ix3 0 d e)).trans (mid_eq (fun i d => rd2 harg2 x1 0 0 _ i d (row 0 i) (kcol 0 d) (by simp) (by simp)) (fun i e => rd2 harg3 x2 0 0 _ i e (row 0 i) (vcol 0 e) (by simp) (by simp)) (fun d e => by
      rw [View.readCov_fill (h := by decide)]
      exact zero_fill _) d e)) (x 1) (x 2)).trans (finBlk_emb g x1 x2 _ 0 0 rfl inb_S4x128x256_S1x128x256_0_0_0 x).symm)

end A

end Cert.KernelIdeal.Point

end
-- ==== Proof.Seq.lean ====
/- The whole forward scan as plain mathematics: the context rows 8192..8447 come first, then the latent rows 0..8191, in
   66 chunks of 128 positions; every head from the zero state. -/
module

public import proofs.«01_k».proof.Proof.Block

@[expose] public section

noncomputable section

open Idealize.ShloMosaic Idealize.ShloMosaic.ValueIdx

namespace Cert.Scan

/-- The array row at scan position `n`. -/
abbrev seqRow (n : ℕ) : Fin 8448 := ⟨(8192 + n) % 8448, Nat.mod_lt _ (by omega)⟩

/-- Queries or keys of chunk `n` and head `h`, from the whole array. -/
def keysOf (x : (⟨2, ![8448, 512]⟩ : Shape).Idx → EReal) (h : Fin 4) (n : ℕ) (i d : Fin 128) : EReal := x (ix2 (seqRow (128 * n + i.val)) (kcol h d))
/-- Values of chunk `n` and head `h`, from the whole array. -/
def valsOf (x : (⟨2, ![8448, 1024]⟩ : Shape).Idx → EReal) (h : Fin 4) (n : ℕ) (j : Fin 128) (e : Fin 256) : EReal := x (ix2 (seqRow (128 * n + j.val)) (vcol h e))

variable (g : Fin 4 → ℝ) (q k : (⟨2, ![8448, 512]⟩ : Shape).Idx → EReal) (v : (⟨2, ![8448, 1024]⟩ : Shape).Idx → EReal)

/-- Head `h`'s state before chunk `n`. -/
def stateOf (h : Fin 4) (n : ℕ) : Fin 128 → Fin 256 → EReal := state (g h) (keysOf k h) (valsOf v h) n

/-- Head `h`'s output of chunk `n`. -/
def outOf (h : Fin 4) (n : ℕ) : Fin 128 → Fin 256 → EReal := out (g h) (keysOf q h n) (keysOf k h n) (valsOf v h n) (stateOf g k v h n)

/-- The scan's output array: row `r` is scan position `(r + 256) mod 8448`. -/
def scanned (y : (⟨2, ![8448, 1024]⟩ : Shape).Idx) : EReal :=
  outOf g q k v ⟨(y 1).val / 256, by have : (y 1).val < 1024 := (y 1).isLt; omega⟩ (((y 0).val + 256) % 8448 / 128)
    ⟨((y 0).val + 256) % 8448 % 128, Nat.mod_lt _ (by omega)⟩ ⟨(y 1).val % 256, Nat.mod_lt _ (by omega)⟩

/-- The output array at a row and a column given by chunk, position, head and channel. -/
theorem scanned_at (y : (⟨2, ![8448, 1024]⟩ : Shape).Idx) (n : ℕ) (hn : n < 66) (h : Fin 4) (i : Fin 128) (e : Fin 256)
    (h0 : (y 0).val = (8192 + (128 * n + i.val)) % 8448) (h1 : (y 1).val = 256 * h.val + e.val) :
    scanned g q k v y = outOf g q k v h n i e := by
  have eh : (⟨(y 1).val / 256, by have : (y 1).val < 1024 := (y 1).isLt; omega⟩ : Fin 4) = h := Fin.ext (by dsimp only; omega)
  have en : ((y 0).val + 256) % 8448 / 128 = n := by omega
  have ei : (⟨((y 0).val + 256) % 8448 % 128, Nat.mod_lt _ (by omega)⟩ : Fin 128) = i := Fin.ext (by dsimp only; omega)
  have ee : (⟨(y 1).val % 256, Nat.mod_lt _ (by omega)⟩ : Fin 256) = e := Fin.ext (by dsimp only; omega)
  unfold scanned
  rw [eh, en, ei, ee]

/-! ### A block of 256 rows inside the sequence -/

variable {q k v} {x0 x1 : (⟨2, ![256, 512]⟩ : Shape).Idx → EReal} {x2 : (⟨2, ![256, 1024]⟩ : Shape).Idx → EReal}

/-- A block of 256 rows starting at scan position `256 t` holds chunks `2 t` and `2 t + 1`: keys. -/
theorem keys_blk (t : ℕ) (hx : ∀ (r : Fin 256) (c : Fin 512), x1 (ix2 r c) = k (ix2 (seqRow (256 * t + r.val)) c)) (s : Fin 2) (h : Fin 4) :
    keys x1 s h = keysOf k h (2 * t + s.val) := by
  funext i d
  unfold keys keysOf
  rw [hx]
  congr 2
  apply Fin.ext
  show (8192 + (256 * t + (128 * s.val + i.val))) % 8448 = (8192 + (128 * (2 * t + s.val) + i.val)) % 8448
  congr 2
  omega

/-- Values. -/
theorem vals_blk (t : ℕ) (hx : ∀ (r : Fin 256) (c : Fin 1024), x2 (ix2 r c) = v (ix2 (seqRow (256 * t + r.val)) c)) (s : Fin 2) (h : Fin 4) :
    vals x2 s h = valsOf v h (2 * t + s.val) := by
  funext i d
  unfold vals valsOf
  rw [hx]
  congr 2
  apply Fin.ext
  show (8192 + (256 * t + (128 * s.val + i.val))) % 8448 = (8192 + (128 * (2 * t + s.val) + i.val)) % 8448
  congr 2
  omega

section
variable (t : ℕ) (hx0 : ∀ (r : Fin 256) (c : Fin 512), x0 (ix2 r c) = q (ix2 (seqRow (256 * t + r.val)) c))
  (hx1 : ∀ (r : Fin 256) (c : Fin 512), x1 (ix2 r c) = k (ix2 (seqRow (256 * t + r.val)) c))
  (hx2 : ∀ (r : Fin 256) (c : Fin 1024), x2 (ix2 r c) = v (ix2 (seqRow (256 * t + r.val)) c))
include hx1 hx2

/-- The states after a block's first chunk. -/
theorem mid_blk (h : Fin 4) : mid g x1 x2 (fun h => stateOf g k v h (2 * t)) h = stateOf g k v h (2 * t + 1) := by
  unfold mid
  rw [keys_blk t hx1, vals_blk t hx2]
  rfl

/-- The states after a block. -/
theorem fin_blk (h : Fin 4) : fin g x1 x2 (fun h => stateOf g k v h (2 * t)) h = stateOf g k v h (2 * (t + 1)) := by
  unfold fin
  rw [mid_blk g t hx1 hx2, keys_blk t hx1, vals_blk t hx2]
  rfl

include hx0
/-- A block's output. -/
theorem outAt_blk (s : Fin 2) (h : Fin 4) : outAt g x0 x1 x2 (fun h => stateOf g k v h (2 * t)) s h = outOf g q k v h (2 * t + s.val) := by
  unfold outAt outOf
  rw [mid_blk g t hx1 hx2, keys_blk t hx0, keys_blk t hx1, vals_blk t hx2]
  match s with
  | 0 => rfl
  | 1 => rfl

/-- A block's output array is the scan's output array at the block's rows. -/
theorem outBlk_blk (ht : t < 33) (y : (⟨2, ![256, 1024]⟩ : Shape).Idx) :
    outBlk g x0 x1 x2 (fun h => stateOf g k v h (2 * t)) y = scanned g q k v (ix2 (seqRow (256 * t + (y 0).val)) (y 1)) := by
  have hy : (y 0).val < 256 := (y 0).isLt
  unfold outBlk
  rw [outAt_blk g t hx0 hx1 hx2]
  refine (scanned_at g q k v _ _ (by dsimp only; omega) _ _ _ ?_ ?_).symm
  · show (8192 + (256 * t + (y 0).val)) % 8448 = (8192 + (128 * (2 * t + (y 0).val / 128) + (y 0).val % 128)) % 8448
    congr 2
    omega
  · show (y 1).val = 256 * ((y 1).val / 256) + (y 1).val % 256
    omega
end

end Cert.Scan

end
-- ==== Proof.KRun.lean ====
/- The forward scan kernel's run: what each grid point leaves, by induction over the points, and so what the result array
   holds when the run ends. -/
module

public import proofs.«01_k».proof.Proof.Point
public import proofs.«01_k».proof.Proof.Seq
public import proofs.«01_k».proof.Proof.Gen.KernelIdeal.Value

@[expose] public section

set_option maxRecDepth 16384

noncomputable section

open Idealize.ShloMosaic Idealize.ShloMosaic.TcCoe Idealize.SL.Sem
open Cert.Scan

namespace Cert.KernelIdeal.Point

open Cert.KernelIdeal Cert.KernelIdeal.Gen

variable (m : (ℓ : Loc nD τ sig) → Buf (Elt Ideal) ℓ) (ρ : Dev nD → PrngReg) (g : Fin 4 → ℝ)

/-- The queries, keys and values as launched. -/
abbrev argQ (c : Dev nD) : S8448x512.Idx → EReal := m ((c : Thread nD τ).loc main_arg0)
abbrev argK (c : Dev nD) : S8448x512.Idx → EReal := m ((c : Thread nD τ).loc main_arg1)
/-- The values are columns 1024..2047 of the third argument. -/
abbrev argV (c : Dev nD) : S8448x1024.Idx → EReal := fun y =>
  (m ((c : Thread nD τ).loc main_arg2) : S8448x3072.Idx → EReal) (ix2 (y 0) ⟨1024 + (y 1).val, by have : (y 1).val < 1024 := (y 1).isLt; omega⟩)

/-- The block index of every window at point `t`: the context's block first, then the latent blocks. -/
theorem index_eq : ∀ t : Fin cfg0.N,
    (win0_0.index t 0 = (32 + t.val) % 33 ∧ win0_0.index t 1 = 0) ∧ (win0_1.index t 0 = (32 + t.val) % 33 ∧ win0_1.index t 1 = 0)
    ∧ (win0_2.index t 0 = (32 + t.val) % 33 ∧ win0_2.index t 1 = 1) ∧ (win0_3.index t 0 = (32 + t.val) % 33 ∧ win0_3.index t 1 = 0)
    ∧ (win0_4.index t 0 = (32 + t.val) % 33 ∧ win0_4.index t 1 = 0) :=
  (by decide +kernel : ∀ t : Fin grid0.N, _)

/-- The query block at point `t`. -/
theorem blkQ (c : Dev nD) (t : Fin cfg0.N) (r : Fin 256) (d : Fin 512) :
    (iblk m c 0 t : Vec Ideal S256x512 .f32) (ix2 r d) = argQ m c (ix2 (seqRow (256 * t.val + r.val)) d) := by
  have hN : t.val < 33 := lt_of_lt_of_eq t.isLt (show cfg0.N = 33 from N_0)
  unfold iblk
  rw [View.read_apply]
  show V m c main_arg0 _ = m (c.tc.loc main_arg0) _
  rw [V_main_arg0]
  congr 1
  funext a
  apply Fin.ext
  match a with
  | 0 =>
    show win0_0.index t 0 * 256 + 1 * r.val = (8192 + (256 * t.val + r.val)) % 8448
    rw [(index_eq t).1.1]; omega
  | 1 =>
    show win0_0.index t 1 * 512 + 1 * d.val = d.val
    rw [(index_eq t).1.2]; omega

/-- The key block at point `t`. -/
theorem blkK (c : Dev nD) (t : Fin cfg0.N) (r : Fin 256) (d : Fin 512) :
    (iblk m c 1 t : Vec Ideal S256x512 .f32) (ix2 r d) = argK m c (ix2 (seqRow (256 * t.val + r.val)) d) := by
  have hN : t.val < 33 := lt_of_lt_of_eq t.isLt (show cfg0.N = 33 from N_0)
  unfold iblk
  rw [View.read_apply]
  show V m c main_arg1 _ = m (c.tc.loc main_arg1) _
  rw [V_main_arg1]
  congr 1
  funext a
  apply Fin.ext
  match a with
  | 0 =>
    show win0_1.index t 0 * 256 + 1 * r.val = (8192 + (256 * t.val + r.val)) % 8448
    rw [(index_eq t).2.1.1]; omega
  | 1 =>
    show win0_1.index t 1 * 512 + 1 * d.val = d.val
    rw [(index_eq t).2.1.2]; omega

/-- The value block at point `t`. -/
theorem blkV (c : Dev nD) (t : Fin cfg0.N) (r : Fin 256) (d : Fin 1024) :
    (iblk m c 2 t : Vec Ideal S256x1024 .f32) (ix2 r d) = argV m c (ix2 (seqRow (256 * t.val + r.val)) d) := by
  have hN : t.val < 33 := lt_of_lt_of_eq t.isLt (show cfg0.N = 33 from N_0)
  unfold iblk
  rw [View.read_apply]
  show V m c main_arg2 _ = (m (c.tc.loc main_arg2) : S8448x3072.Idx → EReal) _
  rw [V_main_arg2]
  congr 1
  funext a
  apply Fin.ext
  match a with
  | 0 =>
    show win0_2.index t 0 * 256 + 1 * r.val = (8192 + (256 * t.val + r.val)) % 8448
    rw [(index_eq t).2.2.1.1]; omega
  | 1 =>
    show win0_2.index t 1 * 1024 + 1 * d.val = 1024 + d.val
    rw [(index_eq t).2.2.1.2]; omega

/-- The log-decay block at point `t`, from the whole log-decay array. -/
theorem blkLa (c : Dev nD) (t : Fin cfg0.N) (hla : ∀ (r : Fin 8448) (h : Fin 4), (V m c main_v10 : S8448x128.Idx → EReal) (ix2 r ⟨h.val, by omega⟩) = (g h : EReal)) :
    Lanes (iblk m c 3 t) g := by
  intro r h
  have hN : t.val < 33 := lt_of_lt_of_eq t.isLt (show cfg0.N = 33 from N_0)
  refine Eq.trans ?_ (hla (seqRow (256 * t.val + r.val)) h)
  unfold iblk
  rw [View.read_apply]
  show V m c main_v10 _ = V m c main_v10 _
  congr 1
  funext a
  apply Fin.ext
  match a with
  | 0 =>
    show win0_3.index t 0 * 256 + 1 * r.val = (8192 + (256 * t.val + r.val)) % 8448
    rw [(index_eq t).2.2.2.1.1]; omega
  | 1 =>
    show win0_3.index t 1 * 128 + 1 * h.val = h.val
    rw [(index_eq t).2.2.2.1.2]; omega

section
variable (c : Dev nD) (hla : ∀ (r : Fin 8448) (h : Fin 4), (V m c main_v10 : S8448x128.Idx → EReal) (ix2 r ⟨h.val, by omega⟩) = (g h : EReal))
include hla

/-- The states after point `n`: the states before chunk `2 (n + 1)` of the sequence. -/
theorem states_eq : ∀ (n : ℕ) (hn : n < cfg0.N),
    (outsAt0 m c n hn).2 = fun y : S4x128x256.Idx => stateOf g (argK m c) (argV m c) (y 0) (2 * (n + 1)) (y 1) (y 2)
  | 0, hn => by
    rw [show outsAt0 m c 0 hn = _ from outsAt0_A m c ⟨0, hn⟩ rfl]
    dsimp only
    rw [st_A (g := g) (hla := blkLa m g c ⟨0, hn⟩ hla)]
    funext y
    exact congrFun (congrFun (fin_blk g 0 (blkK m c ⟨0, hn⟩) (blkV m c ⟨0, hn⟩) (y 0)) (y 1)) (y 2)
  | n + 1, hn => by
    have hN : n + 1 < 33 := lt_of_lt_of_eq hn (show cfg0.N = 33 from N_0)
    have hB : ¬(⟨n + 1, hn⟩ : Fin cfg0.N).val % 33 = 0 := by dsimp only; omega
    rw [show outsAt0 m c (n + 1) hn = _ from outsAt0_B m c ⟨n + 1, hn⟩ hB]
    dsimp only
    rw [st_B (g := g) (hla := blkLa m g c ⟨n + 1, hn⟩ hla), show (outsAt0 m c (n + 1 - 1) _).2 = _ from states_eq n (Nat.lt_of_succ_lt hn)]
    funext y
    exact congrFun (congrFun (fin_blk g (n + 1) (blkK m c ⟨n + 1, hn⟩) (blkV m c ⟨n + 1, hn⟩) (y 0)) (y 1)) (y 2)

/-- The output block of point `t`: the scan's output at the block's rows. -/
theorem outs_eq (t : Fin cfg0.N) (y : S256x1024.Idx) :
    (outsAt0 m c t.val t.isLt).1 y = scanned g (argQ m c) (argK m c) (argV m c) (ix2 (seqRow (256 * t.val + (y 0).val)) (y 1)) := by
  have hN : t.val < 33 := lt_of_lt_of_eq t.isLt (show cfg0.N = 33 from N_0)
  refine Eq.trans ?_ (outBlk_blk g t.val (blkQ m c t) (blkK m c t) (blkV m c t) hN y)
  by_cases h0 : t.val % 33 = 0
  · rw [outsAt0_A m c t h0]
    dsimp only
    rw [out_A (g := g) (hla := blkLa m g c t hla)]
    have h0' : t.val = 0 := by omega
    rw [h0']
    rfl
  · rw [outsAt0_B m c t h0]
    dsimp only
    rw [out_B (g := g) (hla := blkLa m g c t hla), states_eq m g c hla (t.val - 1) _, show 2 * (t.val - 1 + 1) = 2 * t.val by omega]
    rfl

/-- What point `t` writes back is its block of the scan's output array. -/
theorem flushed_eq (t : Fin cfg0.N) :
    (dats m 0 c).flushed 4 t = ((cfg0.win 4).blk t).view.read (Elt Ideal) (scanned g (argQ m c) (argK m c) (argV m c)) := by
  have hN : t.val < 33 := lt_of_lt_of_eq t.isLt (show cfg0.N = 33 from N_0)
  rw [Value.flushed4]
  funext y
  rw [View.read_apply]
  refine (outs_eq m g c hla t y).trans ?_
  have hy : (y 0).val < 256 := (y 0).isLt
  congr 1
  funext a
  apply Fin.ext
  match a with
  | 0 =>
    show (8192 + (256 * t.val + (y 0).val)) % 8448 = win0_4.index t 0 * 256 + 1 * (y 0).val
    rw [(index_eq t).2.2.2.2.1]; omega
  | 1 =>
    show (y 1).val = win0_4.index t 1 * 1024 + 1 * (y 1).val
    rw [(index_eq t).2.2.2.2.2]; omega

/-- The result array when the run ends is the scan's output array. -/
theorem final : (dats m 0 c).arrAt 4 cfg0.N = scanned g (argQ m c) (argK m c) (argV m c) :=
  (dats m 0 c).arrAt_eq_of_cover 4 _ (fun t _ => flushed_eq m g c hla t) fun i => by
    have h0 : (i 0).val < 8448 := (i 0).isLt
    have h1 : (i 1).val < 1024 := (i 1).isLt
    have hN : cfg0.N = 33 := N_0
    refine ⟨⟨((i 0).val / 256 + 1) % 33, by rw [hN]; omega⟩, flush0_4 _, ?_⟩
    generalize ht : (⟨((i 0).val / 256 + 1) % 33, by rw [hN]; omega⟩ : Fin cfg0.N) = t
    have htv : t.val = ((i 0).val / 256 + 1) % 33 := by rw [← ht]
    show i ∈ ((View.whole main_v11).slice (win0_4.rect t)).set
    rw [View.set_slice_whole, Rect.mem_set_unit]
    intro a
    match a with
    | ⟨0, _⟩ =>
      show win0_4.index t 0 * 256 ≤ (i 0).val ∧ (i 0).val < win0_4.index t 0 * 256 + 256
      rw [(index_eq t).2.2.2.2.1]; omega
    | ⟨1, _⟩ =>
      show win0_4.index t 1 * 1024 ≤ (i 1).val ∧ (i 1).val < win0_4.index t 1 * 1024 + 1024
      rw [(index_eq t).2.2.2.2.2]; omega

end

end Cert.KernelIdeal.Point

end
-- ==== Proof.Gamma.lean ====
/- A head's log decay `log (1 - exp (c (-5 - h)))`, with `c` the single-precision logarithm of two, as a real number, and
   the extended-real term both programs compute for it. -/
module

public import Idealize.ShloMosaic.PureOps.Ideal
public import Idealize.ShloMosaic.PureOps.Ideal.Laws

@[expose] public section

noncomputable section

open Idealize.ShloMosaic

namespace Cert.Scan

/-- The single-precision logarithm of two. -/
def ln2 : ℝ := 11629080 / 16777216

/-- Head `h`'s log decay. -/
def gamma (h : Fin 4) : ℝ := Real.log (1 + -Real.exp (ln2 * (-5 - (h.val : ℝ))))

theorem ofBits_ln2 : Ideal.ofBits .f32 0x3F317218#32 = ((ln2 : ℝ) : EReal) := by
  simp [Ideal.ofBits, Ideal.ieee, -EReal.coe_mul, ln2]; norm_num

theorem ofBits_neg5 : Ideal.ofBits .f32 0xC0A00000#32 = (((-5) : ℝ) : EReal) := by
  simp [Ideal.ofBits, Ideal.ieee, -EReal.coe_mul, -EReal.coe_neg]; norm_num

/-- A head's number as a float. -/
theorem sitofp_head (h : Fin 4) : (FloatOps.sitofp .f32 (BitVec.ofNat 32 h.val) : Ideal .f32) = ((h.val : ℝ) : EReal) := by
  show ((((BitVec.ofNat 32 h.val).toInt : ℤ) : ℝ) : EReal) = _
  have : (BitVec.ofNat 32 h.val).toInt = (h.val : ℤ) := by revert h; decide
  rw [this]; norm_cast

/-- The term both programs compute is the real log decay. -/
theorem gamma_eq (h : Fin 4) :
    Ideal.log1p (-Ideal.exp (Ideal.ofBits .f32 1060205080#32 * (Ideal.ofBits .f32 3231711232#32 - (FloatOps.sitofp .f32 (BitVec.ofNat 32 h.val) : Ideal .f32)))) = ((gamma h : ℝ) : EReal) := by
  rw [ofBits_ln2, ofBits_neg5, sitofp_head]
  rw [← EReal.coe_sub, ← EReal.coe_mul, Ideal.exp_coe, ← EReal.coe_neg]
  unfold Ideal.log1p
  rw [← EReal.coe_one, ← EReal.coe_add, Ideal.log_coe, if_neg]
  · rfl
  · have hneg : ln2 * (-5 - (h.val : ℝ)) < 0 := by
      have h0 : (0 : ℝ) ≤ (h.val : ℝ) := Nat.cast_nonneg _
      have : (0 : ℝ) < ln2 := by unfold ln2; norm_num
      nlinarith
    have := Real.exp_lt_exp.mpr hneg
    rw [Real.exp_zero] at this
    linarith

end Cert.Scan

end
-- ==== Proof.Lanes.lean ====
/- The log-decay array the host hands the kernel: head `h`'s log decay `log (1 - exp (c (-5 - h)))`, a real number, in
   lane `h` of every row. -/
module

public import proofs.«01_k».proof.Proof.KRun
public import proofs.«01_k».proof.Proof.Gamma
public import Idealize.ShloMosaic.Lib.StableHlo.ReadAt
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.KernelIdeal.Point

open Cert.KernelIdeal Cert.KernelIdeal.Gen

variable (m : (ℓ : Loc nD τ sig) → Buf (Elt Ideal) ℓ)

/-- The log-decay array at a row and a head's lane. -/
theorem la_apply (c : Dev nD) (r : Fin 8448) (h : Fin 4) : (V m c main_v10 : S8448x128.Idx → EReal) (ix2 r ⟨h.val, by omega⟩) = (Cert.Scan.gamma h : EReal) := by
  unfold V
  simp only [List.flatten_cons, List.flatten_nil, List.append_nil, List.cons_append, List.nil_append]
  after_reads_at
  exact Cert.Scan.gamma_eq h

/-- The kernel's run: the result array at the scan of the queries, keys and values with the heads' log decays; the
    arguments as launched. -/
theorem run (ρ : Dev nD → PrngReg) : θ_run defs (onTc (τ := τ) (main (F := Ideal))) ⟨m, fun _ => 0, ρ⟩ fun r => ∀ c : Dev nD,
      r.2.mem ((c : Thread nD τ).loc main_v11) = Cert.Scan.scanned Cert.Scan.gamma (argQ m c) (argK m c) (argV m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m _ c (la_apply m c)), (h c).2⟩) (Value.run_blocks m ρ)

end Cert.KernelIdeal.Point

end
-- ==== Proof.RefLayout.lean ====
module

public import proofs.«01_k».proof.Proof.Seq
public import proofs.«01_k».proof.Proof.Gamma
public import proofs.«01_k».proof.Proof.Gen.ReferenceIdeal.Run
public import Idealize.ShloMosaic.Lib.StableHlo.ReadAt
public import Idealize.ShloMosaic.Lib.Pointwise
public import Idealize.ShloMosaic.Lib.Claim

@[expose] public section

set_option maxRecDepth 16384

noncomputable section

open Idealize.ShloMosaic Idealize.ShloMosaic.TcCoe Idealize.SL.Sem Idealize.ShloMosaic.StableHlo
open Cert.Scan

namespace Cert.ReferenceIdeal.Ref

open Cert.ReferenceIdeal Cert.ReferenceIdeal.Gen

/-! ### Rows and columns of the arrays -/

/-- The context rows moved to the front, read at scan position `r`. -/
theorem rolled_apply {w : ℕ} (x : (⟨2, ![8448, w]⟩ : Shape).Idx → EReal) (xc : (⟨2, ![256, w]⟩ : Shape).Idx → EReal) (xl : (⟨2, ![8192, w]⟩ : Shape).Idx → EReal)
    (hc : Shape.Concatenates [⟨2, ![256, w]⟩, ⟨2, ![8192, w]⟩] ⟨2, ![8448, w]⟩ 0)
    (h1 : ∀ (r : Fin 256) (c : Fin w), xc (ix2 r c) = x (ix2 ⟨8192 + r.val, by have := r.isLt; omega⟩ c))
    (h2 : ∀ (r : Fin 8192) (c : Fin w), xl (ix2 r c) = x (ix2 ⟨r.val, by have := r.isLt; omega⟩ c)) (r : Fin 8448) (c : Fin w) :
    concatenate ⟨2, ![8448, w]⟩ 0 [⟨⟨2, ![256, w]⟩, xc⟩, ⟨⟨2, ![8192, w]⟩, xl⟩] hc (ix2 r c) = x (ix2 (seqRow r.val) c) := by
  have hlt := r.isLt
  by_cases hr : r.val < 256
  · refine (concatenate_pair_apply_left (t := ⟨2, ![8448, w]⟩) 0 xc xl hc (ix2 r c) rfl (ix2 ⟨r.val, hr⟩ c) ?_).trans ((h1 _ _).trans ?_)
    · intro b; match b with | ⟨0, _⟩ => rfl | ⟨1, _⟩ => rfl
    · congr 2
      apply Fin.ext; dsimp only; omega
  · refine (concatenate_pair_apply_right (t := ⟨2, ![8448, w]⟩) 0 xc xl hc (ix2 r c) rfl rfl (ix2 ⟨r.val - 256, by omega⟩ c) ?_ ?_).trans ((h2 _ _).trans ?_)
    · intro b hb; match b with | ⟨0, _⟩ => exact absurd rfl hb | ⟨1, _⟩ => rfl
    · show r.val - 256 + 256 = r.val; omega
    · congr 2
      apply Fin.ext; dsimp only; omega

/-- The split of 8448 rows and 512 columns into chunks, positions, heads and channels. -/
theorem split_key (x : S8448x512.Idx → EReal) (h1 : S8448x512.ShapeCasts S1x8448x4x128) (h2 : S1x8448x4x128.ShapeCasts S1x66x128x4x128)
    (n : Fin 66) (i : Fin 128) (h : Fin 4) (d : Fin 128) :
    shapeCast S1x66x128x4x128 (shapeCast S1x8448x4x128 x h1) h2 (ix5 0 n i h d) =
      x (ix2 ⟨128 * n.val + i.val, by have := n.isLt; have := i.isLt; omega⟩ (kcol h d)) := by
  rw [shapeCast_apply (k := ix4 0 ⟨128 * n.val + i.val, by have := n.isLt; have := i.isLt; omega⟩ h d),
    shapeCast_apply (k := ix2 ⟨128 * n.val + i.val, by have := n.isLt; have := i.isLt; omega⟩ (kcol h d))]
  · rw [Shape.rowMajor_val_two, Shape.rowMajor_val_four]
    show (128 * n.val + i.val) * 512 + (128 * h.val + d.val) = ((0 * 8448 + (128 * n.val + i.val)) * 4 + h.val) * 128 + d.val
    omega
  · rw [Shape.rowMajor_val_four, Shape.rowMajor_val_five]
    show ((0 * 8448 + (128 * n.val + i.val)) * 4 + h.val) * 128 + d.val = (((0 * 66 + n.val) * 128 + i.val) * 4 + h.val) * 128 + d.val
    omega

/-- The split of 8448 rows and 1024 columns into chunks, positions, heads and channels. -/
theorem split_val (x : S8448x1024.Idx → EReal) (h1 : S8448x1024.ShapeCasts S1x8448x4x256) (h2 : S1x8448x4x256.ShapeCasts S1x66x128x4x256)
    (n : Fin 66) (i : Fin 128) (h : Fin 4) (e : Fin 256) :
    shapeCast S1x66x128x4x256 (shapeCast S1x8448x4x256 x h1) h2 (ix5 0 n i h e) =
      x (ix2 ⟨128 * n.val + i.val, by have := n.isLt; have := i.isLt; omega⟩ (vcol h e)) := by
  rw [shapeCast_apply (k := ix4 0 ⟨128 * n.val + i.val, by have := n.isLt; have := i.isLt; omega⟩ h e),
    shapeCast_apply (k := ix2 ⟨128 * n.val + i.val, by have := n.isLt; have := i.isLt; omega⟩ (vcol h e))]
  · rw [Shape.rowMajor_val_two, Shape.rowMajor_val_four]
    show (128 * n.val + i.val) * 1024 + (256 * h.val + e.val) = ((0 * 8448 + (128 * n.val + i.val)) * 4 + h.val) * 256 + e.val
    omega
  · rw [Shape.rowMajor_val_four, Shape.rowMajor_val_five]
    show ((0 * 8448 + (128 * n.val + i.val)) * 4 + h.val) * 256 + e.val = (((0 * 66 + n.val) * 128 + i.val) * 4 + h.val) * 256 + e.val
    omega

/-- The split of 8448 rows and 4 heads into chunks and positions. -/
theorem split_head (x : S1x8448x4.Idx → EReal) (h2 : S1x8448x4.ShapeCasts S1x66x128x4)
    (n : Fin 66) (i : Fin 128) (h : Fin 4) :
    shapeCast S1x66x128x4 x h2 (ix4 0 n i h) = x (ix3 0 ⟨128 * n.val + i.val, by have := n.isLt; have := i.isLt; omega⟩ h) := by
  rw [shapeCast_apply (k := ix3 0 ⟨128 * n.val + i.val, by have := n.isLt; have := i.isLt; omega⟩ h)]
  · rw [Shape.rowMajor_val_three, Shape.rowMajor_val_four]
    show (0 * 8448 + (128 * n.val + i.val)) * 4 + h.val = ((0 * 66 + n.val) * 128 + i.val) * 4 + h.val
    omega

/-- A left fold of sums is the sum. -/
theorem foldl_add_eq_sum {N : ℕ} (f : Fin N → EReal) (a : EReal) : (List.finRange N).foldl (fun r n => r + f n) a = a + ∑ n, f n := by
  have : ∀ (l : List (Fin N)) (a : EReal), l.foldl (fun r n => r + f n) a = a + (l.map f).sum := by
    intro l
    induction l with
    | nil => intro a; simp
    | cons x l ih => intro a; rw [List.foldl_cons, ih, List.map_cons, List.sum_cons, add_assoc]
  rw [this, ← List.ofFn_eq_map, List.sum_ofFn]

/-- The running sum inside a chunk, of an array constant along its positions. -/
theorem running_sum (x : S1x66x128x4.Idx → EReal) (init : S_.Idx → EReal) (hw : S1x66x128x4.ReduceWindows ![1, 1, 128, 1] ![1, 1, 1, 1] ![0, 0, 127, 0] ![0, 0, 0, 0] S1x66x128x4)
    (hu : 0 < S_.numel) (h0 : init (Shape.Idx.first hu) = 0) (g : Fin 4 → ℝ) (hx : ∀ n j h, x (ix4 0 n j h) = ((g h : ℝ) : EReal))
    (n : Fin 66) (i : Fin 128) (h : Fin 4) :
    (Host.reduceWindowAdd (F := Ideal) (φ := .f32) ![1, 1, 128, 1] ![1, 1, 1, 1] ![0, 0, 127, 0] ![0, 0, 0, 0] x init hw hu : S1x66x128x4.Idx → EReal) (ix4 0 n i h) =
      ((((i.val + 1 : ℕ) : ℝ) * g h : ℝ) : EReal) := by
  have key : ∀ w : (⟨4, ![1, 1, 128, 1]⟩ : Shape).Idx, w = ix4 0 0 (w 2) 0 := fun w => by
    refine funext fun a => ?_
    match a with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _
  let e : (⟨4, ![1, 1, 128, 1]⟩ : Shape).Idx ≃ Fin 128 := ⟨fun w => w 2, fun j => ix4 0 0 j 0, fun w => (key w).symm, fun _ => rfl⟩
  refine (foldl_add_eq_sum _ _).trans ?_
  dsimp only
  rw [h0, zero_add]
  refine (Fintype.sum_equiv ((⟨4, ![1, 1, 128, 1]⟩ : Shape).rowMajor.symm.trans (e.trans Fin.revPerm)) _
    (fun l : Fin 128 => if l ≤ i then ((g h : ℝ) : EReal) else 0) fun k => ?_).trans (sum_upto (g h) i)
  show _ = if Fin.rev (((⟨4, ![1, 1, 128, 1]⟩ : Shape).rowMajor.symm k) 2) ≤ i then ((g h : ℝ) : EReal) else 0
  obtain ⟨j, hw⟩ : ∃ j : Fin 128, ((⟨4, ![1, 1, 128, 1]⟩ : Shape).rowMajor.symm k) = ix4 0 0 j 0 := ⟨_, key _⟩
  have w1 : (((⟨4, ![1, 1, 128, 1]⟩ : Shape).rowMajor.symm k) 1).val = 0 := by rw [hw]; rfl
  have w2 : (((⟨4, ![1, 1, 128, 1]⟩ : Shape).rowMajor.symm k) 2).val = j.val := by rw [hw]; rfl
  have w3 : (((⟨4, ![1, 1, 128, 1]⟩ : Shape).rowMajor.symm k) 3).val = 0 := by rw [hw]; rfl
  have w0 : (((⟨4, ![1, 1, 128, 1]⟩ : Shape).rowMajor.symm k) 0).val = 0 := by rw [hw]; rfl
  have hi := i.isLt; have hj' := j.isLt
  by_cases hj : 127 ≤ i.val + j.val
  · rw [dif_pos, if_pos]
    · refine Eq.trans (congrArg x ?_) (hx n ⟨i.val + j.val - 127, by omega⟩ h)
      refine funext fun a => ?_
      match a with
      | ⟨0, _⟩ => exact Subsingleton.elim (α := Fin 1) _ _
      | ⟨1, _⟩ => exact Fin.ext (show n.val * 1 + (((⟨4, ![1, 1, 128, 1]⟩ : Shape).rowMajor.symm k) 1).val - 0 = n.val by omega)
      | ⟨2, _⟩ => exact Fin.ext (show i.val * 1 + (((⟨4, ![1, 1, 128, 1]⟩ : Shape).rowMajor.symm k) 2).val - 127 = i.val + j.val - 127 by omega)
      | ⟨3, _⟩ => exact Fin.ext (show h.val * 1 + (((⟨4, ![1, 1, 128, 1]⟩ : Shape).rowMajor.symm k) 3).val - 0 = h.val by omega)
    · exact Fin.le_def.2 (show 128 - ((((⟨4, ![1, 1, 128, 1]⟩ : Shape).rowMajor.symm k) 2).val + 1) ≤ i.val by omega)
    · intro a
      match a with
      | ⟨0, _⟩ => exact ⟨Nat.zero_le _, show 0 * 1 + (((⟨4, ![1, 1, 128, 1]⟩ : Shape).rowMajor.symm k) 0).val - 0 < 1 by omega⟩
      | ⟨1, _⟩ => exact ⟨Nat.zero_le _, show n.val * 1 + (((⟨4, ![1, 1, 128, 1]⟩ : Shape).rowMajor.symm k) 1).val - 0 < 66 by have := n.isLt; omega⟩
      | ⟨2, _⟩ => exact ⟨show 127 ≤ i.val * 1 + (((⟨4, ![1, 1, 128, 1]⟩ : Shape).rowMajor.symm k) 2).val by omega, show i.val * 1 + (((⟨4, ![1, 1, 128, 1]⟩ : Shape).rowMajor.symm k) 2).val - 127 < 128 by omega⟩
      | ⟨3, _⟩ => exact ⟨Nat.zero_le _, show h.val * 1 + (((⟨4, ![1, 1, 128, 1]⟩ : Shape).rowMajor.symm k) 3).val - 0 < 4 by have := h.isLt; omega⟩
  · rw [dif_neg, if_neg]
    · exact fun hle => hj (by have : 128 - ((((⟨4, ![1, 1, 128, 1]⟩ : Shape).rowMajor.symm k) 2).val + 1) ≤ i.val := Fin.le_def.1 hle; omega)
    · exact fun hin => hj (by have : 127 ≤ i.val * 1 + (((⟨4, ![1, 1, 128, 1]⟩ : Shape).rowMajor.symm k) 2).val := (hin 2).1; omega)

end Cert.ReferenceIdeal.Ref
end
-- ==== Proof.RefPre.lean ====
module

public import proofs.«01_k».proof.Proof.RefLayout
public import proofs.«01_k».proof.Proof.Gamma
public import proofs.«01_k».proof.Proof.Gen.ReferenceIdeal.Run
public import Idealize.ShloMosaic.Lib.StableHlo.ReadAt
public import Idealize.ShloMosaic.Lib.Pointwise
public import Idealize.ShloMosaic.Lib.Claim

@[expose] public section

set_option maxRecDepth 16384

noncomputable section

open Idealize.ShloMosaic Idealize.ShloMosaic.TcCoe Idealize.SL.Sem Idealize.ShloMosaic.StableHlo
open Cert.Scan

namespace Cert.ReferenceIdeal.Ref

open Cert.ReferenceIdeal Cert.ReferenceIdeal.Gen

/-! ### The buffers by name -/

section Names

variable (V : Valuation τ sig (Elt Ideal))

/-- The buffer of the state the loop starts from. -/
abbrev bZ : S1x4x128x256.Idx → EReal := V (Proc.devRef .tc main_v22)
/-- The buffer of queries. -/
abbrev bQ : S1x66x128x4x128.Idx → EReal := V (Proc.devRef .tc main_v23)
/-- The buffer of keys. -/
abbrev bK : S1x66x128x4x128.Idx → EReal := V (Proc.devRef .tc main_v24)
/-- The buffer of values. -/
abbrev bW : S1x66x128x4x256.Idx → EReal := V (Proc.devRef .tc main_v25)
/-- The buffer of log decays. -/
abbrev bG : S1x66x128x4.Idx → EReal := V (Proc.devRef .tc main_v26)
/-- The buffer of running log decays. -/
abbrev bC : S1x66x128x4.Idx → EReal := V (Proc.devRef .tc main_v27)
/-- The buffer of mask. -/
abbrev bM : S128x128.Idx → BitVec 1 := V (Proc.devRef .tc main_v30)
/-- The buffer of differences of running log decays. -/
abbrev bD : S1x66x4x128x128.Idx → EReal := V (Proc.devRef .tc main_v35)
/-- The buffer of masked decays. -/
abbrev bL : S1x66x4x128x128.Idx → EReal := V (Proc.devRef .tc main_v38)
/-- The buffer of outputs from the chunk's own positions. -/
abbrev bY : S1x66x128x4x256.Idx → EReal := V (Proc.devRef .tc main_v42)
/-- The buffer of decays over a chunk. -/
abbrev bA : S66x1x4.Idx → EReal := V (Proc.devRef .tc main_v57_0)
/-- The buffer of the chunks' additions to the state. -/
abbrev bB : S66x1x4x128x256.Idx → EReal := V (Proc.devRef .tc main_v57_1)
/-- The buffer of the state. -/
abbrev bS : S1x4x128x256.Idx → EReal := V (Proc.devRef .tc main_v57_3)
/-- The buffer of the stacked states. -/
abbrev bH : S66x1x4x128x256.Idx → EReal := V (Proc.devRef .tc main_v57_4)

end Names

/-! ### The buffers before the running sum -/

variable (V : Valuation τ sig (Elt Ideal))

/-- The queries of the chunks, heads split. -/
theorem v23_at (n : Fin 66) (i : Fin 128) (h : Fin 4) (d : Fin 128) :
    bQ (after hostOps0 V) (ix5 0 n i h d) = keysOf (V (Proc.devRef .tc main_arg0)) h n.val i d := by
  after_reads_simp
  refine (split_key _ _ _ n i h d).trans (rolled_apply _ _ _ _ (fun r c => ?_) (fun r c => ?_) _ _)
  all_goals
    after_reads_simp
    pointwise

/-- The keys of the chunks, heads split. -/
theorem v24_at (n : Fin 66) (i : Fin 128) (h : Fin 4) (d : Fin 128) :
    bK (after hostOps0 V) (ix5 0 n i h d) = keysOf (V (Proc.devRef .tc main_arg1)) h n.val i d := by
  after_reads_simp
  refine (split_key _ _ _ n i h d).trans (rolled_apply _ _ _ _ (fun r c => ?_) (fun r c => ?_) _ _)
  all_goals
    after_reads_simp
    pointwise

/-- The value columns: columns 1024 to 2047 of the third argument. -/
def vals (V : Valuation τ sig (Elt Ideal)) (y : S8448x1024.Idx) : EReal :=
  (V (Proc.devRef .tc main_arg2) : S8448x3072.Idx → EReal) (ix2 (y 0) ⟨1024 + (y 1).val, by have : (y 1).val < 1024 := (y 1).isLt; omega⟩)

/-- The values of the chunks, heads split. -/
theorem v25_at (n : Fin 66) (i : Fin 128) (h : Fin 4) (e : Fin 256) :
    bW (after hostOps0 V) (ix5 0 n i h e) = valsOf (vals V) h n.val i e := by
  after_reads_simp
  refine (split_val _ _ _ n i h e).trans (rolled_apply (vals V) _ _ _ (fun r c => ?_) (fun r c => ?_) _ _)
  all_goals
    after_reads_simp
    pointwise
    rfl

/-- The log decay at every position. -/
theorem v26_at (n : Fin 66) (i : Fin 128) (h : Fin 4)  :
    bG (after hostOps0 V) (ix4 0 n i h) = ((gamma h : ℝ) : EReal) := by
  after_reads_simp
  refine (split_head _ _ n i h).trans ?_
  pointwise
  exact gamma_eq h

/-- The zero state. -/
theorem v22_at (y : S1x4x128x256.Idx) :
    bZ (after hostOps0 V) y = (0 : EReal) := by
  after_reads_at

/-- The running log decay inside a chunk. -/
theorem v27_at (hV : ∀ n i h, bG V (ix4 0 n i h) = ((gamma h : ℝ) : EReal)) (n : Fin 66) (i : Fin 128) (h : Fin 4) :
    bC (after hostOps0_1 V) (ix4 0 n i h) = ((((i.val + 1 : ℕ) : ℝ) * gamma h : ℝ) : EReal) := by
  after_reads_simp
  try simp -implicitDefEqProofs only [StableHlo.TRef.toBuf, StableHlo.TRef.ofBuf, cast_cast, cast_eq]
  exact running_sum _ _ _ _ (by pointwise) gamma hV n i h

/-! ### The buffers between the running sum and the loop -/

/-- The mask: position `j` is not after position `i`. -/
theorem v30_at (i j : Fin 128) : bM (after hostOps0_3 (after hostOps0_2 V)) (ix2 i j) = if j ≤ i then 1#1 else 0#1 := by
  after_reads_at
  have hi := i.isLt; have hj := j.isLt
  have e : IntOp.cmpi CmpIPredicate.sge (IntOp.addi (BitVec.ofNat 32 i.val) 0#32) (BitVec.ofNat 32 j.val) = if j ≤ i then 1#1 else 0#1 := by
    revert i j; decide +kernel
  rw [e]
  split <;> rfl

/-- The difference of two running log decays. -/
theorem v35_at (n : Fin 66) (h : Fin 4) (i j : Fin 128) : bD (after hostOps0_4 (after hostOps0_3 (after hostOps0_2 V))) (ix5 0 n h i j) =
    bC V (ix4 0 n i h) - bC V (ix4 0 n j h) := by
  after_reads_at

/-- The decay between two positions of a chunk, zero above the diagonal. -/
theorem v38_at (n : Fin 66) (h : Fin 4) (i j : Fin 128) (h30 : bM V (ix2 i j) = if j ≤ i then 1#1 else 0#1) :
    bL (after hostOps0_7 (after hostOps0_6 (after hostOps0_5 V))) (ix5 0 n h i j) =
      if j ≤ i then Ideal.exp (bD V (ix5 0 n h i j)) else 0 := by
  after_reads_at
  simp only [id_eq]
  pointwise
  refine (congrArg (fun b => Scalar.select b (Ideal.exp (Scalar.select b _ _)) 0) h30).trans ?_
  split <;> rfl

/-- What the chunk's own positions give the output. -/
theorem v42_at (n : Fin 66) (h : Fin 4) (i : Fin 128) (e : Fin 256) : bY (after hostOps0_8 V) (ix5 0 n i h e) =
    ∑ x : Fin 128, bW V (ix5 0 n x h e) *
        ((∑ d : Fin 128, bQ V (ix5 0 n i h d) * bK V (ix5 0 n x h d)) *
          bL V (ix5 0 n h i x)) := by
  after_reads_at

/-- The decay over a whole chunk. -/
theorem v57_0_at (n : Fin 66) (h : Fin 4)  : bA (after hostOps0_8 V) (ix3 n 0 h) =
    Ideal.exp (bC V (ix4 0 n 127 h)) := by
  after_reads_at
  simp only [id_eq]
  pointwise

/-- What a chunk's keys and values give the state. -/
theorem v57_1_at (n : Fin 66) (h : Fin 4) (d : Fin 128) (e : Fin 256) : bB (after hostOps0_8 V) (ix5 n 0 h d e) =
    ∑ x : Fin 128, bK V (ix5 0 n x h d) *
        (Ideal.exp (bC V (ix4 0 n 127 h) - bC V (ix4 0 n x h)) *
          bW V (ix5 0 n x h e)) := by
  after_reads_at
  simp only [id_eq]
  pointwise

/-- The loop's counter starts at zero and its state is the zero state. -/
theorem v57_3_at (y : S1x4x128x256.Idx) : bS (after hostOps0_8 V) y = bZ V y := by
  after_reads_at
  simp only [id_eq]

end Cert.ReferenceIdeal.Ref
end
-- ==== Proof.RefEntry.lean ====
module

public import proofs.«01_k».proof.Proof.RefPre
public import proofs.«01_k».proof.Proof.Gamma
public import proofs.«01_k».proof.Proof.Gen.ReferenceIdeal.Run
public import Idealize.ShloMosaic.Lib.StableHlo.ReadAt
public import Idealize.ShloMosaic.Lib.Pointwise
public import Idealize.ShloMosaic.Lib.Claim

@[expose] public section

set_option maxRecDepth 16384

noncomputable section

open Idealize.ShloMosaic Idealize.ShloMosaic.TcCoe Idealize.SL.Sem Idealize.ShloMosaic.StableHlo
open Cert.Scan

namespace Cert.ReferenceIdeal.Ref

open Cert.ReferenceIdeal Cert.ReferenceIdeal.Gen

/-! # What the loop finds: every buffer it or the lines after it read, from the arguments -/

variable (V : Valuation τ sig (Elt Ideal))

/-- The contents before the running sum. -/
def V1 : Valuation τ sig (Elt Ideal) := after (hostOps0 (F := Ideal)) V
/-- The contents after the running sum. -/
def V2 : Valuation τ sig (Elt Ideal) := after (hostOps0_1 (F := Ideal)) (V1 V)
/-- The contents after the mask. -/
def V3 : Valuation τ sig (Elt Ideal) := after (hostOps0_3 (F := Ideal)) (after (hostOps0_2 (F := Ideal)) (V2 V))
/-- The contents after the differences of the running log decays. -/
def V4 : Valuation τ sig (Elt Ideal) := after (hostOps0_4 (F := Ideal)) (V3 V)
/-- The contents after the masked decays. -/
def V5 : Valuation τ sig (Elt Ideal) := after (hostOps0_7 (F := Ideal)) (after (hostOps0_6 (F := Ideal)) (after (hostOps0_5 (F := Ideal)) (V4 V)))
/-- The contents the loop finds. -/
def V6 : Valuation τ sig (Elt Ideal) := after (hostOps0_8 (F := Ideal)) (V5 V)

/-- A buffer that neither the mask nor the differences nor the decays write. -/
theorem keep_V5 (b : Ref sig .tc)
    (hb : b ∉ Value.hostOps0_2_W ++ (Value.hostOps0_3_W ++ (Value.hostOps0_4_W ++ (Value.hostOps0_5_W ++ (Value.hostOps0_6_W ++ Value.hostOps0_7_W))))) :
    V5 V (Proc.devRef .tc b) = V2 V (Proc.devRef .tc b) := by
  simp only [List.mem_append, not_or] at hb
  obtain ⟨h2, h3, h4, h5, h6, h7⟩ := hb
  exact (after_of_writes_sub _ _ Value.hostOps0_7_writes h7).trans <| (after_of_writes_sub _ _ Value.hostOps0_6_writes h6).trans <|
    (after_of_writes_sub _ _ Value.hostOps0_5_writes h5).trans <| (after_of_writes_sub _ _ Value.hostOps0_4_writes h4).trans <|
    (after_of_writes_sub _ _ Value.hostOps0_3_writes h3).trans (after_of_writes_sub _ _ Value.hostOps0_2_writes h2)

/-- A buffer that the running sum does not write either. -/
theorem keep_V5' (b : Ref sig .tc) (h1 : b ∉ Value.hostOps0_1_W)
    (hb : b ∉ Value.hostOps0_2_W ++ (Value.hostOps0_3_W ++ (Value.hostOps0_4_W ++ (Value.hostOps0_5_W ++ (Value.hostOps0_6_W ++ Value.hostOps0_7_W))))) :
    V5 V (Proc.devRef .tc b) = V1 V (Proc.devRef .tc b) :=
  (keep_V5 V b hb).trans (after_of_writes_sub _ _ Value.hostOps0_1_writes h1)

/-- The query array. -/
abbrev aQ : S8448x512.Idx → EReal := V (Proc.devRef .tc main_arg0)
/-- The key array. -/
abbrev aK : S8448x512.Idx → EReal := V (Proc.devRef .tc main_arg1)

theorem V5_Q (n : Fin 66) (i : Fin 128) (h : Fin 4) (d : Fin 128) : bQ (V5 V) (ix5 0 n i h d) = keysOf (aQ V) h n.val i d :=
  (congrFun (keep_V5' V main_v23 (by decide +kernel) (by decide +kernel)) _).trans (v23_at V n i h d)

theorem V5_K (n : Fin 66) (i : Fin 128) (h : Fin 4) (d : Fin 128) : bK (V5 V) (ix5 0 n i h d) = keysOf (aK V) h n.val i d :=
  (congrFun (keep_V5' V main_v24 (by decide +kernel) (by decide +kernel)) _).trans (v24_at V n i h d)

theorem V5_W (n : Fin 66) (i : Fin 128) (h : Fin 4) (e : Fin 256) : bW (V5 V) (ix5 0 n i h e) = valsOf (vals V) h n.val i e :=
  (congrFun (keep_V5' V main_v25 (by decide +kernel) (by decide +kernel)) _).trans (v25_at V n i h e)

theorem V5_Z (y : S1x4x128x256.Idx) : bZ (V5 V) y = 0 :=
  (congrFun (keep_V5' V main_v22 (by decide +kernel) (by decide +kernel)) _).trans (v22_at V y)

theorem V2_C (n : Fin 66) (i : Fin 128) (h : Fin 4) : bC (V2 V) (ix4 0 n i h) = ((((i.val + 1 : ℕ) : ℝ) * gamma h : ℝ) : EReal) :=
  v27_at (V1 V) (v26_at V) n i h

theorem V5_C (n : Fin 66) (i : Fin 128) (h : Fin 4) : bC (V5 V) (ix4 0 n i h) = ((((i.val + 1 : ℕ) : ℝ) * gamma h : ℝ) : EReal) :=
  (congrFun (keep_V5 V main_v27 (by decide +kernel)) _).trans (V2_C V n i h)

theorem V5_L (n : Fin 66) (h : Fin 4) (i j : Fin 128) : bL (V5 V) (ix5 0 n h i j) = if j ≤ i then E (gamma h) ((i.val : ℤ) - j.val) else 0 := by
  have h30 : bM (V4 V) (ix2 i j) = if j ≤ i then 1#1 else 0#1 :=
    (congrFun (after_of_writes_sub (r := main_v30) hostOps0_4 (V3 V) Value.hostOps0_4_writes (by decide +kernel)) _).trans (v30_at (V2 V) i j)
  have h35 : bD (V4 V) (ix5 0 n h i j) = bC (V2 V) (ix4 0 n i h) - bC (V2 V) (ix4 0 n j h) := v35_at (V2 V) n h i j
  have e := v38_at (V4 V) n h i j h30
  rw [h35, V2_C, V2_C, exp_cum_sub] at e
  exact e

/-! ### The loop's entry -/

theorem V6_Q (n : Fin 66) (i : Fin 128) (h : Fin 4) (d : Fin 128) : bQ (V6 V) (ix5 0 n i h d) = keysOf (aQ V) h n.val i d :=
  (congrFun (after_of_writes_sub (r := main_v23) hostOps0_8 (V5 V) Value.hostOps0_8_writes (by decide +kernel)) _).trans (V5_Q V n i h d)

theorem V6_C (n : Fin 66) (i : Fin 128) (h : Fin 4) : bC (V6 V) (ix4 0 n i h) = ((((i.val + 1 : ℕ) : ℝ) * gamma h : ℝ) : EReal) :=
  (congrFun (after_of_writes_sub (r := main_v27) hostOps0_8 (V5 V) Value.hostOps0_8_writes (by decide +kernel)) _).trans (V5_C V n i h)

/-- What the chunk's own positions give the output. -/
theorem V6_Y (n : Fin 66) (h : Fin 4) (i : Fin 128) (e : Fin 256) : bY (V6 V) (ix5 0 n i h e) =
    ∑ j : Fin 128, (∑ d : Fin 128, keysOf (aQ V) h n.val i d * keysOf (aK V) h n.val j d) * (if j ≤ i then E (gamma h) ((i.val : ℤ) - j.val) else 0) * valsOf (vals V) h n.val j e := by
  exact (v42_at (V5 V) n h i e).trans (Finset.sum_congr rfl fun j _ =>
    (congrArg₂ (· * ·) (V5_W V n j h e) (congrArg₂ (· * ·)
      (Finset.sum_congr rfl fun d _ => congrArg₂ (· * ·) (V5_Q V n i h d) (V5_K V n j h d)) (V5_L V n h i j))).trans (mul_comm _ _))

/-- The decay over a chunk. -/
theorem V6_A (n : Fin 66) (h : Fin 4) : bA (V6 V) (ix3 n 0 h) = E (gamma h) 128 := by
  refine (v57_0_at (V5 V) n h).trans ?_
  rw [V5_C, exp_cum]; rfl

/-- What a chunk adds to the state. -/
theorem V6_B (n : Fin 66) (h : Fin 4) (d : Fin 128) (e : Fin 256) : bB (V6 V) (ix5 n 0 h d e) =
    ∑ j : Fin 128, keysOf (aK V) h n.val j d * (valsOf (vals V) h n.val j e * E (gamma h) (127 - (j.val : ℤ))) := by
  refine (v57_1_at (V5 V) n h d e).trans (Finset.sum_congr rfl fun j _ => ?_)
  rw [V5_K, V5_W, V5_C, V5_C, exp_cum_sub, mul_comm (E _ _)]
  rfl

/-- The state starts at zero. -/
theorem V6_S (y : S1x4x128x256.Idx) : bS (V6 V) y = 0 := (v57_3_at (V5 V) y).trans (V5_Z V y)

end Cert.ReferenceIdeal.Ref
end
-- ==== Proof.RefLoop.lean ====
module

public import proofs.«01_k».proof.Proof.RefEntry
public import proofs.«01_k».proof.Proof.Gamma
public import proofs.«01_k».proof.Proof.Gen.ReferenceIdeal.Run
public import Idealize.ShloMosaic.Lib.StableHlo.ReadAt
public import Idealize.ShloMosaic.Lib.Pointwise
public import Idealize.ShloMosaic.Lib.Claim

@[expose] public section

set_option maxRecDepth 16384

noncomputable section

open Idealize.ShloMosaic Idealize.ShloMosaic.TcCoe Idealize.SL.Sem Idealize.ShloMosaic.StableHlo
open Cert.Scan

namespace Cert.ReferenceIdeal.Ref

open Cert.ReferenceIdeal Cert.ReferenceIdeal.Gen

/-! # The loop: the state and the stacked states after `k` trips -/

variable (X : Valuation τ sig (Elt Ideal))

/-- The loop's counter. -/
abbrev bI : S_.Idx → BitVec 32 := X (Proc.devRef .tc main_v57_2)

/-- A slice of one chunk's decays, at chunk `k`. -/
theorem slice_A (x : S66x1x4.Idx → EReal) (s : Fin 3 → ℤ) (fit : S66x1x4.Slices (fun _ => 0) S1x1x4) (k : Fin 66) (h0 : s 0 = k.val) (h1 : s 1 = 0) (h2 : s 2 = 0) (h : Fin 4) :
    Host.dynamicSlice S1x1x4 x s fit (ix3 0 0 h) = x (ix3 k 0 h) := by
  have hk := k.isLt
  refine congrArg x (funext fun a => Fin.ext ?_)
  match a with
  | ⟨0, _⟩ => show (min (max (s 0) 0) ((66 - 1 : ℕ) : ℤ)).toNat + 0 = k.val; rw [h0]; omega
  | ⟨1, _⟩ => show (min (max (s 1) 0) ((1 - 1 : ℕ) : ℤ)).toNat + 0 = 0; rw [h1]; omega
  | ⟨2, _⟩ => show (min (max (s 2) 0) ((4 - 4 : ℕ) : ℤ)).toNat + h.val = h.val; rw [h2]; omega

/-- A slice of one chunk's addition to the state, at chunk `k`. -/
theorem slice_B (x : S66x1x4x128x256.Idx → EReal) (s : Fin 5 → ℤ) (fit : S66x1x4x128x256.Slices (fun _ => 0) S1x1x4x128x256) (k : Fin 66)
    (h0 : s 0 = k.val) (h1 : s 1 = 0) (h2 : s 2 = 0) (h3 : s 3 = 0) (h4 : s 4 = 0) (h : Fin 4) (d : Fin 128) (e : Fin 256) :
    Host.dynamicSlice S1x1x4x128x256 x s fit (ix5 0 0 h d e) = x (ix5 k 0 h d e) := by
  have hk := k.isLt
  refine congrArg x (funext fun a => Fin.ext ?_)
  match a with
  | ⟨0, _⟩ => show (min (max (s 0) 0) ((66 - 1 : ℕ) : ℤ)).toNat + 0 = k.val; rw [h0]; omega
  | ⟨1, _⟩ => show (min (max (s 1) 0) ((1 - 1 : ℕ) : ℤ)).toNat + 0 = 0; rw [h1]; omega
  | ⟨2, _⟩ => show (min (max (s 2) 0) ((4 - 4 : ℕ) : ℤ)).toNat + h.val = h.val; rw [h2]; omega
  | ⟨3, _⟩ => show (min (max (s 3) 0) ((128 - 128 : ℕ) : ℤ)).toNat + d.val = d.val; rw [h3]; omega
  | ⟨4, _⟩ => show (min (max (s 4) 0) ((256 - 256 : ℕ) : ℤ)).toNat + e.val = e.val; rw [h4]; omega

/-- The state written at chunk `k` of the stacked states, read at chunk `n`. -/
theorem update_H (x : S66x1x4x128x256.Idx → EReal) (u : S1x1x4x128x256.Idx → EReal) (s : Fin 5 → ℤ) (fit : S66x1x4x128x256.Slices (fun _ => 0) S1x1x4x128x256) (k : Fin 66)
    (h0 : s 0 = k.val) (h1 : s 1 = 0) (h2 : s 2 = 0) (h3 : s 3 = 0) (h4 : s 4 = 0) (n : Fin 66) (h : Fin 4) (d : Fin 128) (e : Fin 256) :
    Host.dynamicUpdateSlice x u s fit (ix5 n 0 h d e) = if n = k then u (ix5 0 0 h d e) else x (ix5 n 0 h d e) := by
  have hk := k.isLt; have hn := n.isLt
  have fk : S66x1x4x128x256.Slices ![k.val, 0, 0, 0, 0] S1x1x4x128x256 := ⟨rfl, fun a => by
    match a with
    | ⟨0, _⟩ => show k.val + 1 ≤ 66; omega
    | ⟨1, _⟩ => show 0 + 1 ≤ 1; omega
    | ⟨2, _⟩ => show 0 + 4 ≤ 4; omega
    | ⟨3, _⟩ => show 0 + 128 ≤ 128; omega
    | ⟨4, _⟩ => show 0 + 256 ≤ 256; omega⟩
  rw [Host.dynamicUpdateSlice_eq_updateSlice x u s fit ![k.val, 0, 0, 0, 0] (fun a => by
    match a with
    | ⟨0, _⟩ => show (min (max (s 0) 0) ((66 - 1 : ℕ) : ℤ)).toNat = k.val; rw [h0]; omega
    | ⟨1, _⟩ => show (min (max (s 1) 0) ((1 - 1 : ℕ) : ℤ)).toNat = 0; rw [h1]; omega
    | ⟨2, _⟩ => show (min (max (s 2) 0) ((4 - 4 : ℕ) : ℤ)).toNat = 0; rw [h2]; omega
    | ⟨3, _⟩ => show (min (max (s 3) 0) ((128 - 128 : ℕ) : ℤ)).toNat = 0; rw [h3]; omega
    | ⟨4, _⟩ => show (min (max (s 4) 0) ((256 - 256 : ℕ) : ℤ)).toNat = 0; rw [h4]; omega) fk]
  unfold updateSlice
  by_cases hnk : n = k
  · subst hnk
    rw [dif_pos, if_pos rfl]
    · refine congrArg u (funext fun a => Fin.ext ?_)
      match a with
      | ⟨0, _⟩ => show n.val - n.val = 0; omega
      | ⟨1, _⟩ => rfl
      | ⟨2, _⟩ => rfl
      | ⟨3, _⟩ => rfl
      | ⟨4, _⟩ => rfl
    · intro a
      match a with
      | ⟨0, _⟩ => exact ⟨le_refl n.val, show n.val < n.val + 1 by omega⟩
      | ⟨1, _⟩ => exact ⟨Nat.zero_le _, show 0 < 0 + 1 by omega⟩
      | ⟨2, _⟩ => exact ⟨Nat.zero_le _, show h.val < 0 + 4 by have := h.isLt; omega⟩
      | ⟨3, _⟩ => exact ⟨Nat.zero_le _, show d.val < 0 + 128 by have := d.isLt; omega⟩
      | ⟨4, _⟩ => exact ⟨Nat.zero_le _, show e.val < 0 + 256 by have := e.isLt; omega⟩
  · rw [dif_neg, if_neg hnk]
    intro hin
    have := hin 0
    have e1 : k.val ≤ n.val := this.1
    have e2 : n.val < k.val + 1 := this.2
    exact hnk (Fin.ext (by omega))

/-- One step of the recurrence, over whatever the two slices are. -/
theorem step_form (y : S1x1x4.Idx → EReal) (st : S1x4x128x256.Idx → EReal) (z : S1x1x4x128x256.Idx → EReal) (h : Fin 4) (d : Fin 128) (e : Fin 256) :
    (addf (F := Ideal) (φ := .f32) (mulf (broadcastInDim S1x4x128x256 ![0, 1, 2, 3] bcast_S1x4x1x1_S1x4x128x256_0_1_2_3
      (broadcastInDim S1x4x1x1 ![0, 1] bcast_S1x4_S1x4x1x1_0_1 (shapeCast S1x4 y shapeCasts_S1x1x4_S1x4))) st)
      (shapeCast S1x4x128x256 z shapeCasts_S1x1x4x128x256_S1x4x128x256) : S1x4x128x256.Idx → EReal) (ix4 0 h d e) =
      y (ix3 0 0 h) * st (ix4 0 h d e) + z (ix5 0 0 h d e) := by
  pointwise

/-- The state with a unit axis in front. -/
theorem lift_form (st : S1x4x128x256.Idx → EReal) (h : Fin 4) (d : Fin 128) (e : Fin 256) :
    broadcastInDim S1x1x4x128x256 ![1, 2, 3, 4] bcast_S1x4x128x256_S1x1x4x128x256_1_2_3_4 st (ix5 0 0 h d e) = st (ix4 0 h d e) := by
  pointwise

/-- A counter below 66, read as an integer. -/
theorem toInt_ctr (k : Fin 66) : (BitVec.ofNat 32 k.val).toInt = k.val := by revert k; decide +kernel

/-- The state after one more trip. -/
theorem trip_S (k : Fin 66) (hk : X (Proc.devRef .tc main_v57_2) = fun _ => BitVec.ofNat 32 k.val) (h : Fin 4) (d : Fin 128) (e : Fin 256) :
    bS (afterL Value.bodyI X) (ix4 0 h d e) = bA X (ix3 k 0 h) * bS X (ix4 0 h d e) + bB X (ix5 k 0 h d e) := by
  refine (congrFun (Value.trip_main_v57_3 X) _).trans ?_
  rw [hk]
  simp only [id_eq]
  refine (step_form _ _ _ h d e).trans ?_
  exact congrArg₂ (· + ·) (congrArg (· * _) (slice_A _ _ _ k (toInt_ctr k) rfl rfl h)) (slice_B _ _ _ k (toInt_ctr k) rfl rfl rfl rfl h d e)

/-- The stacked states after one more trip. -/
theorem trip_H (k : Fin 66) (hk : X (Proc.devRef .tc main_v57_2) = fun _ => BitVec.ofNat 32 k.val) (n : Fin 66) (h : Fin 4) (d : Fin 128) (e : Fin 256) :
    bH (afterL Value.bodyI X) (ix5 n 0 h d e) = if n = k then bS X (ix4 0 h d e) else bH X (ix5 n 0 h d e) := by
  refine (congrFun (Value.trip_main_v57_4 X) _).trans ?_
  rw [hk]
  simp only [id_eq]
  refine (update_H _ _ _ _ k (toInt_ctr k) rfl rfl rfl rfl n h d e).trans ?_
  rw [lift_form]

/-! ### The lines after the loop -/

theorem post_at (n : Fin 66) (i : Fin 128) (h : Fin 4) (e : Fin 256) :
    (after hostOps0_9 X (Proc.devRef .tc main_v65) : S1x66x128x4x256.Idx → EReal) (ix5 0 n i h e) =
      bY X (ix5 0 n i h e) + ∑ d : Fin 128, bH X (ix5 n 0 h d e) * (bQ X (ix5 0 n i h d) * Ideal.exp (bC X (ix4 0 n i h))) := by
  after_reads_at

end Cert.ReferenceIdeal.Ref
end
-- ==== Proof.RefRun.lean ====
module

public import proofs.«01_k».proof.Proof.RefLoop
public import Idealize.ShloMosaic.Lib.Quiescent
public import proofs.«01_k».proof.Proof.Gamma
public import proofs.«01_k».proof.Proof.Gen.ReferenceIdeal.Run
public import Idealize.ShloMosaic.Lib.StableHlo.ReadAt
public import Idealize.ShloMosaic.Lib.Pointwise
public import Idealize.ShloMosaic.Lib.Claim

@[expose] public section

set_option maxRecDepth 16384

noncomputable section

open Idealize.ShloMosaic Idealize.ShloMosaic.TcCoe Idealize.SL.Sem Idealize.ShloMosaic.StableHlo
open Cert.Scan

namespace Cert.ReferenceIdeal.Ref

open Cert.ReferenceIdeal Cert.ReferenceIdeal.Gen

/-! # The reference's result -/

/-- The scan's rows with the latent rows in front again, read at row `r`. -/
theorem unrolled_apply (x : S8448x1024.Idx → EReal) (xl : S8192x1024.Idx → EReal) (xc : S256x1024.Idx → EReal)
    (hc : Shape.Concatenates [S8192x1024, S256x1024] S8448x1024 0)
    (h1 : ∀ (r : Fin 8192) (c : Fin 1024), xl (ix2 r c) = x (ix2 ⟨256 + r.val, by have := r.isLt; omega⟩ c))
    (h2 : ∀ (r : Fin 256) (c : Fin 1024), xc (ix2 r c) = x (ix2 ⟨r.val, by have := r.isLt; omega⟩ c)) (r : Fin 8448) (c : Fin 1024) :
    concatenate S8448x1024 0 [⟨S8192x1024, xl⟩, ⟨S256x1024, xc⟩] hc (ix2 r c) = x (ix2 ⟨(r.val + 256) % 8448, Nat.mod_lt _ (by omega)⟩ c) := by
  have hlt := r.isLt
  by_cases hr : r.val < 8192
  · refine (concatenate_pair_apply_left (t := S8448x1024) 0 xl xc hc (ix2 r c) rfl (ix2 ⟨r.val, hr⟩ c) ?_).trans ((h1 _ _).trans ?_)
    · intro b; match b with | ⟨0, _⟩ => rfl | ⟨1, _⟩ => rfl
    · refine congrArg x (congrArg (fun k => ix2 k c) (Fin.ext ?_))
      show 256 + r.val = (r.val + 256) % 8448; omega
  · refine (concatenate_pair_apply_right (t := S8448x1024) 0 xl xc hc (ix2 r c) rfl rfl (ix2 ⟨r.val - 8192, by omega⟩ c) ?_ ?_).trans ((h2 _ _).trans ?_)
    · intro b hb; match b with | ⟨0, _⟩ => exact absurd rfl hb | ⟨1, _⟩ => rfl
    · show r.val - 8192 + 8192 = r.val; omega
    · refine congrArg x (congrArg (fun k => ix2 k c) (Fin.ext ?_))
      show r.val - 8192 = (r.val + 256) % 8448; omega

/-- Chunks, positions, heads and channels put back into rows and columns. -/
theorem join_val (z : S1x66x128x4x256.Idx → EReal) (h1 : S1x66x128x4x256.ShapeCasts S1x8448x4x256) (h2 : S1x8448x4x256.ShapeCasts S8448x1024)
    (n : Fin 66) (i : Fin 128) (h : Fin 4) (e : Fin 256) (r : Fin 8448) (hr : r.val = 128 * n.val + i.val) (c : Fin 1024) (hc : c.val = 256 * h.val + e.val) :
    shapeCast S8448x1024 (shapeCast S1x8448x4x256 z h1) h2 (ix2 r c) = z (ix5 0 n i h e) := by
  refine (shapeCast_apply _ h2 (ix2 r c) (ix4 0 r h e) ?_).trans (shapeCast_apply z h1 (ix4 0 r h e) (ix5 0 n i h e) ?_)
  · rw [Shape.rowMajor_val_two, Shape.rowMajor_val_four]
    show ((0 * 8448 + r.val) * 4 + h.val) * 256 + e.val = r.val * 1024 + c.val
    omega
  · rw [Shape.rowMajor_val_five, Shape.rowMajor_val_four]
    show (((0 * 66 + n.val) * 128 + i.val) * 4 + h.val) * 256 + e.val = ((0 * 8448 + r.val) * 4 + h.val) * 256 + e.val
    omega

/-- Rows from 256 on. -/
theorem cut_lat (x : S8448x1024.Idx → EReal) (hs : S8448x1024.Slices ![256, 0] S8192x1024) (r : Fin 8192) (c : Fin 1024) :
    extractStridedSlice S8192x1024 ![256, 0] x hs (ix2 r c) = x (ix2 ⟨256 + r.val, by have := r.isLt; omega⟩ c) := by
  pointwise

/-- Rows below 256. -/
theorem cut_ctx (x : S8448x1024.Idx → EReal) (hs : S8448x1024.Slices ![0, 0] S256x1024) (r : Fin 256) (c : Fin 1024) :
    extractStridedSlice S256x1024 ![0, 0] x hs (ix2 r c) = x (ix2 ⟨r.val, by have := r.isLt; omega⟩ c) := by
  pointwise

section Post

variable (X : Valuation τ sig (Elt Ideal))

/-- The result's rows are the scan's, turned by 256. -/
theorem v70_at (r : Fin 8448) (c : Fin 1024) : (after hostOps0_9 X (Proc.devRef .tc main_v70) : S8448x1024.Idx → EReal) (ix2 r c) =
    (after hostOps0_9 X (Proc.devRef .tc main_v67) : S8448x1024.Idx → EReal) (ix2 ⟨(r.val + 256) % 8448, Nat.mod_lt _ (by omega)⟩ c) := by
  generalize hx : (after hostOps0_9 X (Proc.devRef .tc main_v67) : S8448x1024.Idx → EReal) = x
  after_reads_simp
  refine unrolled_apply x _ _ _ (fun r c => ?_) (fun r c => ?_) r c
  · rw [← hx]
    after_reads_simp
    exact cut_lat _ _ r c
  · rw [← hx]
    after_reads_simp
    exact cut_ctx _ _ r c

/-- The scan's rows, by chunk, position, head and channel. -/
theorem v67_at (n : Fin 66) (i : Fin 128) (h : Fin 4) (e : Fin 256) (r : Fin 8448) (hr : r.val = 128 * n.val + i.val) (c : Fin 1024) (hc : c.val = 256 * h.val + e.val) :
    (after hostOps0_9 X (Proc.devRef .tc main_v67) : S8448x1024.Idx → EReal) (ix2 r c) =
      (after hostOps0_9 X (Proc.devRef .tc main_v65) : S1x66x128x4x256.Idx → EReal) (ix5 0 n i h e) := by
  after_reads_simp
  exact join_val _ _ _ n i h e r hr c hc

end Post

variable (m : (ℓ : Loc nD τ sig) → Buf (Elt Ideal) ℓ)

/-- The memory of device `c` at the start. -/
abbrev start (c : Dev nD) : Valuation τ sig (Elt Ideal) := fun b => m (c, b)

theorem entry_eq (c : Dev nD) : Value.atK m 0 c = V6 (start m c) := rfl

/-- A buffer that neither the condition nor the body writes keeps its contents through the loop. -/
theorem keep_loop (c : Dev nD) (b : Ref sig .tc)
    (hb : b ∉ Value.condOps_W ++ (Value.while0Ops0_W ++ (Value.while0Ops0_1_W ++ (Value.while0Ops0_2_W ++ (Value.while0Ops0_3_W ++ Value.while0Ops0_4_W))))) :
    ∀ k, Value.atK m k c (Proc.devRef .tc b) = V6 (start m c) (Proc.devRef .tc b)
  | 0 => rfl
  | k + 1 => by
    have ih := keep_loop c b hb k
    simp only [List.mem_append, not_or] at hb
    obtain ⟨hc, h0, h1, h2, h3, h4⟩ := hb
    rw [show Value.atK m (k + 1) c = afterL Value.bodyI (after Value.condOps (Value.atK m k c)) from rfl]
    simp only [afterL_cons, afterL_nil]
    exact (after_of_writes_sub _ _ Value.while0Ops0_4_writes h4).trans <| (after_of_writes_sub _ _ Value.while0Ops0_3_writes h3).trans <|
      (after_of_writes_sub _ _ Value.while0Ops0_2_writes h2).trans <| (after_of_writes_sub _ _ Value.while0Ops0_1_writes h1).trans <|
      (after_of_writes_sub _ _ Value.while0Ops0_writes h0).trans ((after_of_writes_sub _ _ Value.condOps_writes hc).trans ih)

/-- The counter at trip `k`, where the body starts. -/
theorem ctr_at (c : Dev nD) (k : Fin 66) : after Value.condOps (Value.atK m k.val c) (Proc.devRef .tc main_v57_2) = fun _ => BitVec.ofNat 32 k.val := by
  refine (Value.ctr_cond _).trans ((Value.atK_ctr m c k.val).trans ?_)
  funext _
  revert k; decide +kernel

/-- The chunks' decays keep through the loop. -/
theorem atK_A (c : Dev nD) : ∀ k, bA (Value.atK m k c) = bA (V6 (start m c))
  | 0 => rfl
  | k + 1 => (Value.trip_main_v57_0 _).trans ((Value.cond_keeps _ _ (by decide +kernel)).trans (atK_A c k))

/-- The chunks' additions keep through the loop. -/
theorem atK_B (c : Dev nD) : ∀ k, bB (Value.atK m k c) = bB (V6 (start m c))
  | 0 => rfl
  | k + 1 => (Value.trip_main_v57_1 _).trans ((Value.cond_keeps _ _ (by decide +kernel)).trans (atK_B c k))

/-- The state before trip `k` is the state before chunk `k`. -/
theorem atK_S (c : Dev nD) : ∀ (k : ℕ) (_ : k ≤ 66) (h : Fin 4) (d : Fin 128) (e : Fin 256),
    bS (Value.atK m k c) (ix4 0 h d e) = stateOf gamma (aK (start m c)) (vals (start m c)) h k d e
  | 0, _, h, d, e => V6_S (start m c) _
  | k + 1, hk, h, d, e => by
    have hk' : k < 66 := by omega
    refine (trip_S _ ⟨k, hk'⟩ (ctr_at m c ⟨k, hk'⟩) h d e).trans ?_
    have eA : bA (after Value.condOps (Value.atK m k c)) = bA (V6 (start m c)) := (Value.cond_keeps _ _ (by decide +kernel)).trans (atK_A m c k)
    have eB : bB (after Value.condOps (Value.atK m k c)) = bB (V6 (start m c)) := (Value.cond_keeps _ _ (by decide +kernel)).trans (atK_B m c k)
    have eS : bS (after Value.condOps (Value.atK m k c)) = bS (Value.atK m k c) := Value.cond_keeps _ _ (by decide +kernel)
    have e1 := V6_A (start m c) ⟨k, hk'⟩ h
    have e2 := V6_B (start m c) ⟨k, hk'⟩ h d e
    have e3 := atK_S c k (by omega) h d e
    exact congrArg₂ (· + ·) (congrArg₂ (· * ·) ((congrFun eA _).trans e1) ((congrFun eS _).trans e3)) ((congrFun eB _).trans e2)

/-- The stacked states before trip `k`: those of the chunks before `k`. -/
theorem atK_H (c : Dev nD) : ∀ (k : ℕ) (_ : k ≤ 66) (n : Fin 66) (_ : n.val < k) (h : Fin 4) (d : Fin 128) (e : Fin 256),
    bH (Value.atK m k c) (ix5 n 0 h d e) = stateOf gamma (aK (start m c)) (vals (start m c)) h n.val d e
  | 0, _, n, hn, _, _, _ => absurd hn (by omega)
  | k + 1, hk, n, hn, h, d, e => by
    have hk' : k < 66 := by omega
    refine (trip_H _ ⟨k, hk'⟩ (ctr_at m c ⟨k, hk'⟩) n h d e).trans ?_
    have eS : bS (after Value.condOps (Value.atK m k c)) = bS (Value.atK m k c) := Value.cond_keeps _ _ (by decide +kernel)
    have eH : bH (after Value.condOps (Value.atK m k c)) = bH (Value.atK m k c) := Value.cond_keeps _ _ (by decide +kernel)
    by_cases hnk : n = ⟨k, hk'⟩
    · rw [if_pos hnk, hnk]
      exact (congrFun eS _).trans (atK_S m c k (by omega) h d e)
    · rw [if_neg hnk]
      exact (congrFun eH _).trans (atK_H c k (by omega) n (by have : n.val ≠ k := fun hh => hnk (Fin.ext hh); omega) h d e)

/-- The same after the condition has run for the last time. -/
theorem keep_last (c : Dev nD) (b : Ref sig .tc) (hb : b ∉ Value.condOps_W ++ (Value.while0Ops0_W ++ (Value.while0Ops0_1_W ++ (Value.while0Ops0_2_W ++ (Value.while0Ops0_3_W ++ Value.while0Ops0_4_W))))) :
    after Value.condOps (Value.atK m 66 c) (Proc.devRef .tc b) = V6 (start m c) (Proc.devRef .tc b) :=
  (after_of_writes_sub _ _ Value.condOps_writes (fun h => hb (List.mem_append_left _ h))).trans (keep_loop m c b hb 66)

/-- The buffers written after the loop, in order. -/
abbrev last_W : List (Ref sig .tc) := [main_v58, main_v59, main_v60, main_v61, main_v62, main_v63, main_v64, main_v65, main_v66, main_v67, main_v68, main_v69, main_v70]

/-- The operations after the loop write these buffers only. -/
theorem last_writes : (hostOps0_9 : List (HloOp τ sig (Elt Ideal))).Forall fun op => op.writes ⊆ (last_W.map (Proc.devRef (τ := τ) .tc)).toFinset :=
  StableHlo.forall_writes_sub_of_map rfl

/-- A buffer that no operation writes ends as it started. -/
theorem keep_all (c : Dev nD) (b : Ref sig .tc) (h9 : b ∉ last_W) (hl : b ∉ Value.condOps_W ++ (Value.while0Ops0_W ++ (Value.while0Ops0_1_W ++ (Value.while0Ops0_2_W ++ (Value.while0Ops0_3_W ++ Value.while0Ops0_4_W))))) (h8 : b ∉ Value.hostOps0_8_W)
    (hp : b ∉ Value.hostOps0_2_W ++ (Value.hostOps0_3_W ++ (Value.hostOps0_4_W ++ (Value.hostOps0_5_W ++ (Value.hostOps0_6_W ++ Value.hostOps0_7_W)))))
    (h1 : b ∉ Value.hostOps0_1_W) (h0 : b ∉ Value.hostOps0_W) :
    after hostOps0_9 (after Value.condOps (Value.atK m 66 c)) (Proc.devRef .tc b) = m (c, Proc.devRef .tc b) :=
  (after_of_writes_sub _ _ last_writes h9).trans <| (keep_last m c b hl).trans <|
    (after_of_writes_sub _ _ Value.hostOps0_8_writes h8).trans <| (keep_V5' _ b h1 hp).trans (after_of_writes_sub _ _ Value.hostOps0_writes h0)

/-- The result is the scan of the three arguments. -/
theorem result_eq (c : Dev nD) :
    (after hostOps0_9 (after Value.condOps (Value.atK m 66 c)) (Proc.devRef .tc main_v70) : S8448x1024.Idx → EReal) =
      scanned gamma (aQ (start m c)) (aK (start m c)) (vals (start m c)) := by
  funext y
  have hy0 : (y 0).val < 8448 := (y 0).isLt
  have hy1 : (y 1).val < 1024 := (y 1).isLt
  have hn : ((y 0).val + 256) % 8448 / 128 < 66 := by omega
  have hh : (y 1).val / 256 < 4 := by omega
  obtain ⟨n, en⟩ : ∃ n : Fin 66, n.val = ((y 0).val + 256) % 8448 / 128 := ⟨⟨_, hn⟩, rfl⟩
  obtain ⟨i, ei⟩ : ∃ i : Fin 128, i.val = ((y 0).val + 256) % 8448 % 128 := ⟨⟨_, Nat.mod_lt _ (by omega)⟩, rfl⟩
  obtain ⟨h, eh⟩ : ∃ h : Fin 4, h.val = (y 1).val / 256 := ⟨⟨_, hh⟩, rfl⟩
  obtain ⟨e, ee⟩ : ∃ e : Fin 256, e.val = (y 1).val % 256 := ⟨⟨_, Nat.mod_lt _ (by omega)⟩, rfl⟩
  have hy : y = ix2 (y 0) (y 1) := funext fun a => by match a with | ⟨0, _⟩ => rfl | ⟨1, _⟩ => rfl
  refine Eq.trans ?_ (scanned_at gamma _ _ _ y n.val n.isLt h i e (by omega) (by omega)).symm
  rw [hy]
  refine (v70_at _ (y 0) (y 1)).trans ((v67_at _ n i h e _ (by dsimp only; omega) _ (by omega)).trans ((post_at _ n i h e).trans ?_))
  have eY : bY (after Value.condOps (Value.atK m 66 c)) = bY (V6 (start m c)) := keep_last m c main_v42 (by decide +kernel)
  have eQ : bQ (after Value.condOps (Value.atK m 66 c)) = bQ (V6 (start m c)) := keep_last m c main_v23 (by decide +kernel)
  have eC : bC (after Value.condOps (Value.atK m 66 c)) = bC (V6 (start m c)) := keep_last m c main_v27 (by decide +kernel)
  have eH : bH (after Value.condOps (Value.atK m 66 c)) = bH (Value.atK m 66 c) := Value.cond_keeps _ _ (by decide +kernel)
  have e1 := V6_Y (start m c) n h i e
  have e2 : ∀ d, bH (after Value.condOps (Value.atK m 66 c)) (ix5 n 0 h d e) * (bQ (after Value.condOps (Value.atK m 66 c)) (ix5 0 n i h d) * Ideal.exp (bC (after Value.condOps (Value.atK m 66 c)) (ix4 0 n i h))) =
      E (gamma h) ((i.val : ℤ) + 1) * (keysOf (aQ (start m c)) h n.val i d * stateOf gamma (aK (start m c)) (vals (start m c)) h n.val d e) := fun d => by
    rw [eH, atK_H m c 66 (le_refl _) n n.isLt h d e, eQ, eC, V6_Q (start m c) n i h d, V6_C (start m c) n i h, exp_cum, mul_comm, mul_comm (keysOf _ _ _ _ _) (E _ _), mul_assoc]
  unfold outOf out
  rw [mul_sum _ _ (E_nonneg _ _) (E_ne_top _ _), add_comm]
  exact congrArg₂ (· + ·) (Finset.sum_congr rfl fun d _ => e2 d) ((congrFun eY _).trans e1)

/-- Every run of the reference ends with the scan of its arguments in the result's buffer, its arguments unchanged and no semaphore raised. -/
theorem run (ρ : Dev nD → PrngReg) : θ_run (defs (F := Ideal)) (onTc (τ := τ) (main (F := Ideal))) ⟨m, fun _ => 0, ρ⟩ fun r => (∀ c : Dev nD,
      r.2.mem ((c.tc : Thread nD τ).loc main_v70) = scanned gamma (aQ (start m c)) (aK (start m c)) (vals (start m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 := by
  refine (θ_run defs _ _).mono (fun r h => ⟨fun c => ⟨?_, ?_, ?_, ?_⟩, sem_eq_zero_of_no_sems rfl _⟩) (Value.run_fold m ρ)
  · exact (h c main_v70 rfl).trans (result_eq m c)
  · exact (h c main_arg0 rfl).trans (keep_all m c main_arg0 (by decide +kernel) (by decide +kernel) (by decide +kernel) (by decide +kernel) (by decide +kernel) (by decide +kernel))
  · exact (h c main_arg1 rfl).trans (keep_all m c main_arg1 (by decide +kernel) (by decide +kernel) (by decide +kernel) (by decide +kernel) (by decide +kernel) (by decide +kernel))
  · exact (h c main_arg2 rfl).trans (keep_all m c main_arg2 (by decide +kernel) (by decide +kernel) (by decide +kernel) (by decide +kernel) (by decide +kernel) (by decide +kernel))

end Cert.ReferenceIdeal.Ref
end
-- ==== Proof.Blocks.lean ====
/- Places in blocks: an index from its coordinates, a coordinate inside a block, and the block that holds a coordinate. -/
module

public import Idealize.ShloMosaic.Lib.Pointwise

@[expose] public section

noncomputable section

open Idealize.ShloMosaic

namespace Cert.Blocks

/-- An index with given coordinates. -/
theorem ix2_of {a b : ℕ} (y : (⟨2, ![a, b]⟩ : Shape).Idx) (r : Fin a) (c : Fin b) (h0 : (y 0).val = r.val) (h1 : (y 1).val = c.val) : y = ix2 r c := by
  funext k
  apply Fin.ext
  match k with
  | 0 => exact h0
  | 1 => exact h1

/-- An index of three coordinates with given coordinates. -/
theorem ix3_of {a b c : ℕ} (y : (⟨3, ![a, b, c]⟩ : Shape).Idx) (p : Fin a) (q : Fin b) (r : Fin c) (h0 : (y 0).val = p.val) (h1 : (y 1).val = q.val) (h2 : (y 2).val = r.val) :
    y = ix3 p q r := by
  funext k
  apply Fin.ext
  match k with
  | 0 => exact h0
  | 1 => exact h1
  | 2 => exact h2

/-- A coordinate inside the block at a given place. -/
theorem place {k n r q R : ℕ} (hk : k = q) (hR : R = q * n + r) : k * n + 1 * r = R := by subst hk; omega

/-- A coordinate inside the first block. -/
theorem place_zero {k n : ℕ} (hk : k = 0) (r : ℕ) : k * n + 1 * r = r := by subst hk; omega

/-- A coordinate lies in the block of its quotient. -/
theorem in_block {k n i : ℕ} (hn : 0 < n) (hk : k = i / n) : k * n ≤ i ∧ i < k * n + n := by
  have h := Nat.div_add_mod i n
  have h' := Nat.mod_lt i hn
  subst hk
  rw [Nat.mul_comm] at h
  omega

end Cert.Blocks

end
-- ==== Proof.Product.lean ====
/- The product of an array with the first of two weight matrices, element by element over the extended reals. -/
module

public import Idealize.ShloMosaic.Lib.Pointwise

@[expose] public section

noncomputable section

open Idealize.ShloMosaic

namespace Cert.Product

/-- Row `r` of the product at column `c`: the sum over the inner index of the array's entries times those of the first matrix. -/
def mulAt {m k n : ℕ} (a : (⟨2, ![m, k]⟩ : Shape).Idx → EReal) (w : (⟨3, ![2, k, n]⟩ : Shape).Idx → EReal) (r : Fin m) (c : Fin n) : EReal :=
  ∑ d : Fin k, a (ix2 r d) * w (ix3 0 d c)

/-- The whole product. -/
def mul {m k n : ℕ} (a : (⟨2, ![m, k]⟩ : Shape).Idx → EReal) (w : (⟨3, ![2, k, n]⟩ : Shape).Idx → EReal) : (⟨2, ![m, n]⟩ : Shape).Idx → EReal :=
  fun y => mulAt a w (y 0) (y 1)

/-- A block's row times a block's column is the product at their place in the arrays. -/
theorem mulAt_of {m k n p q : ℕ} (a : (⟨2, ![m, k]⟩ : Shape).Idx → EReal) (w : (⟨3, ![2, k, n]⟩ : Shape).Idx → EReal) (x : (⟨2, ![p, k]⟩ : Shape).Idx → EReal)
    (v : (⟨3, ![1, k, q]⟩ : Shape).Idx → EReal) (r : Fin p) (e : Fin q) (R : Fin m) (C : Fin n) (hx : ∀ d, x (ix2 r d) = a (ix2 R d)) (hv : ∀ d, v (ix3 0 d e) = w (ix3 0 d C)) :
    ∑ d : Fin k, x (ix2 r d) * v (ix3 0 d e) = mulAt a w R C :=
  Finset.sum_congr rfl fun d _ => congrArg₂ (fun a b : EReal => a * b) (hx d) (hv d)

end Cert.Product

end
-- ==== Proof.In2.lean ====
/- The projection to 3072 columns: each grid point multiplies 768 rows by 512 columns of the weights, the blocks tile the result, and
   the reference's product is the same sum. -/
module

public import proofs.«01_k».proof.Defs
public import proofs.«01_k».proof.Proof.Blocks
public import proofs.«01_k».proof.Proof.Product
public import proofs.«01_k».proof.Proof.Gen.Kernel2Ideal.Value
public import proofs.«01_k».proof.Proof.Gen.Reference2Ideal.Run
public import Idealize.ShloMosaic.Lib.Pipeline.ValueKit.Tiles
public import Idealize.ShloMosaic.Lib.Pipeline.ValueKit.Basic
public import Idealize.ShloMosaic.Lib.Pointwise
public import Idealize.ShloMosaic.Lib.IdealHost
public import Idealize.ShloMosaic.Lib.Claim
public import Idealize.ShloMosaic.Lib.Quiescent

@[expose] public section

set_option maxRecDepth 16384

noncomputable section

open Idealize.ShloMosaic Idealize.ShloMosaic.TcCoe Idealize.SL.Sem
open Cert.Product Cert.Blocks

namespace Cert.Kernel2Ideal.Point

open Cert.Kernel2Ideal Cert.Kernel2Ideal.Gen

variable (m : (ℓ : Loc nD τ sig) → Buf (Elt Ideal) ℓ) (ρ : Dev nD → PrngReg)

/-- The normalised tokens as launched. -/
abbrev argA (c : Dev nD) : S8448x4096.Idx → EReal := m ((c : Thread nD τ).loc main_arg0)
/-- The weights as launched. -/
abbrev argW (c : Dev nD) : S2x4096x3072.Idx → EReal := m ((c : Thread nD τ).loc main_arg1)

/-- The block index of every window at point `t`. -/
theorem index_eq : ∀ t : Fin cfg0.N,
    (win0_0.index t 0 = t.val / 6 ∧ win0_0.index t 1 = 0) ∧ (win0_1.index t 0 = 0 ∧ win0_1.index t 1 = 0 ∧ win0_1.index t 2 = t.val % 6)
    ∧ (win0_2.index t 0 = t.val / 6 ∧ win0_2.index t 1 = t.val % 6) :=
  (by decide +kernel : ∀ t : Fin grid0.N, _)

/-- The token block at point `t`. -/
theorem blkA (c : Dev nD) (t : Fin cfg0.N) (r : Fin 768) (d : Fin 4096) (R : Fin 8448) (hR : R.val = t.val / 6 * 768 + r.val) :
    (iblk m c 0 t : Vec Ideal S768x4096 .bf16) (ix2 r d) = argA m c (ix2 R d) := by
  unfold iblk
  rw [View.read_apply]
  exact (congrFun (V_main_arg0 m c) _).trans (congrArg (argA m c) (ix2_of _ R d (place (index_eq t).1.1 hR) (place_zero (index_eq t).1.2 _)))

/-- The weight block at point `t`. -/
theorem blkW (c : Dev nD) (t : Fin cfg0.N) (d : Fin 4096) (e : Fin 512) (C : Fin 3072) (hC : C.val = t.val % 6 * 512 + e.val) :
    (iblk m c 1 t : Vec Ideal S1x4096x512 .bf16) (ix3 0 d e) = argW m c (ix3 0 d C) := by
  unfold iblk
  rw [View.read_apply]
  exact (congrFun (V_main_arg1 m c) _).trans (congrArg (argW m c)
    (ix3_of _ 0 d C (place_zero (index_eq t).2.1.1 _) (place_zero (index_eq t).2.1.2.1 _) (place (index_eq t).2.1.2.2 hC)))

/-- One block's product. -/
theorem pay_apply (x0 : Vec Ideal S768x4096 .bf16) (x1 : Vec Ideal S1x4096x512 .bf16) (r : Fin 768) (e : Fin 512) :
    k0_pay1 x0 x1 (ix2 r e) = ∑ d : Fin 4096, x0 (ix2 r d) * x1 (ix3 0 d e) := by
  pointwise [k0_pay1]

/-- The body's result, entry by entry. -/
theorem out_apply (x0 : Vec Ideal S768x4096 .bf16) (x1 : Vec Ideal S1x4096x512 .bf16) (r : Fin 768) (e : Fin 512) :
    out0_2 x0 x1 (ix2 r e) = ∑ d : Fin 4096, x0 (ix2 r d) * x1 (ix3 0 d e) := by
  unfold out0_2
  rw [View.canon_cons_unit_lit _ _ _ (by decide), View.ld_unit_lit _ _ (by decide), View.ld_unit_lit _ _ (by decide)]
  exact pay_apply x0 x1 r e

/-- The body's result at point `t` is the product at that point's rows and columns. -/
theorem block_eq (c : Dev nD) (t : Fin cfg0.N) (y : S768x512.Idx) (R : Fin 8448) (C : Fin 3072) (hR : R.val = t.val / 6 * 768 + (y 0).val) (hC : C.val = t.val % 6 * 512 + (y 1).val) :
    out0_2 (iblk m c 0 t) (iblk m c 1 t) y = mul (argA m c) (argW m c) (ix2 R C) := by
  obtain ⟨r, e, rfl⟩ : ∃ r e, y = ix2 r e := ⟨y 0, y 1, ValueIdx.eq_ix2 y⟩
  exact (out_apply (iblk m c 0 t) (iblk m c 1 t) r e).trans (mulAt_of (argA m c) (argW m c) _ _ r e R C (fun d => blkA m c t r d R hR) (fun d => blkW m c t d e C hC))

/-- What point `t` writes back is its block of the product. -/
theorem flushed_eq (c : Dev nD) (t : Fin cfg0.N) :
    (dats m 0 c).flushed 2 t = ((cfg0.win 2).blk t).view.read (Elt Ideal) (mul (argA m c) (argW m c)) := by
  have hN : t.val < 66 := lt_of_lt_of_eq t.isLt (show cfg0.N = 66 from N_0)
  rw [Value.flushed2]
  funext y
  rw [View.read_apply]
  have h0 : (y 0).val < 768 := (y 0).isLt
  have h1 : (y 1).val < 512 := (y 1).isLt
  refine (block_eq m c t y ⟨t.val / 6 * 768 + (y 0).val, by omega⟩ ⟨t.val % 6 * 512 + (y 1).val, by omega⟩ rfl rfl).trans ?_
  exact congrArg (mul (argA m c) (argW m c)) (ix2_of _ _ _ (place (index_eq t).2.2.1 rfl) (place (index_eq t).2.2.2 rfl)).symm

/-- The result array when the run ends is the product. -/
theorem final (c : Dev nD) : (dats m 0 c).arrAt 2 cfg0.N = mul (argA m c) (argW m c) :=
  (dats m 0 c).arrAt_eq_of_cover 2 _ (fun t _ => flushed_eq m c t) fun i => by
    have h0 : (i 0).val < 8448 := (i 0).isLt
    have h1 : (i 1).val < 3072 := (i 1).isLt
    have hN : cfg0.N = 66 := N_0
    obtain ⟨t, ht⟩ : ∃ t : Fin cfg0.N, t.val = (i 0).val / 768 * 6 + (i 1).val / 512 := ⟨⟨_, by rw [hN]; omega⟩, rfl⟩
    refine ⟨t, flush0_2 _, ?_⟩
    show i ∈ ((View.whole main_v0).slice (win0_2.rect t)).set
    rw [View.set_slice_whole, Rect.mem_set_unit]
    intro a
    match a with
    | ⟨0, _⟩ => exact in_block (k := win0_2.index t 0) (n := 768) (i := (i 0).val) (by omega) ((index_eq t).2.2.1.trans (by omega))
    | ⟨1, _⟩ => exact in_block (k := win0_2.index t 1) (n := 512) (i := (i 1).val) (by omega) ((index_eq t).2.2.2.trans (by omega))

/-- Every run of the kernel ends with the product in the result's buffer and its arguments unchanged. -/
theorem run : θ_run defs (onTc (τ := τ) (main (F := Ideal))) ⟨m, fun _ => 0, ρ⟩ fun r => ∀ c : Dev nD,
      r.2.mem ((c : Thread nD τ).loc main_v0) = mul (argA m c) (argW m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel2Ideal.Point

namespace Cert.Reference2Ideal.Ref

open Cert.Reference2Ideal Cert.Reference2Ideal.Gen

variable (m : (ℓ : Loc nD τ sig) → Buf (Elt Ideal) ℓ) (ρ : Dev nD → PrngReg)

/-- The reference's product, entry by entry. -/
theorem product_eq (a : S8448x4096.Idx → EReal) (w : S2x4096x3072.Idx → EReal) :
    (Host.dotGeneral (F := Ideal) (φ₁ := .f32) (φ₂ := .f32) dot_S8448x4096_S4096x3072_S8448x3072_1_0_0_1_n_n none (extf (F := Ideal) (φ := .bf16) .f32 a bitsLt_bf16_f32)
      (extf (F := Ideal) (φ := .bf16) .f32 (shapeCast S4096x3072 (extractStridedSlice S1x4096x3072 ![0, 0, 0] w slices_S2x4096x3072_S1x4096x3072_0_0_0) shapeCasts_S1x4096x3072_S4096x3072) bitsLt_bf16_f32)
        : S8448x3072.Idx → EReal) = mul a w := by
  funext y
  obtain ⟨r, c, rfl⟩ : ∃ r c, y = ix2 r c := ⟨y 0, y 1, ValueIdx.eq_ix2 y⟩
  show _ = mulAt a w r c
  unfold mulAt
  pointwise

/-- Every run of the reference ends with the product in the result's buffer, its arguments unchanged and no semaphore raised. -/
theorem run : θ_run (defs (F := Ideal)) (onTc (τ := τ) (main (F := Ideal))) ⟨m, fun _ => 0, ρ⟩ fun r => (∀ c : Dev nD,
      r.2.mem ((c.tc : Thread nD τ).loc main_v4) = mul (m ((c.tc : Thread nD τ).loc main_arg0) : S8448x4096.Idx → EReal) (m ((c.tc : Thread nD τ).loc main_arg1) : S2x4096x3072.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun _ h => ⟨fun c => ⟨(h c).1.trans (product_eq _ _), (h c).2⟩, sem_eq_zero_of_no_sems rfl _⟩) (Value.run m ρ)

end Cert.Reference2Ideal.Ref

end
-- ==== Proof.In3.lean ====
/- The projection to 5120 columns: each grid point multiplies 768 rows by 512 columns of the weights, the blocks tile the result, and
   the reference's product is the same sum. -/
module

public import proofs.«01_k».proof.Defs
public import proofs.«01_k».proof.Proof.Blocks
public import proofs.«01_k».proof.Proof.Product
public import proofs.«01_k».proof.Proof.In2
public import proofs.«01_k».proof.Proof.Gen.Kernel3Ideal.Value
public import proofs.«01_k».proof.Proof.Gen.Reference3Ideal.Run
public import Idealize.ShloMosaic.Lib.Pipeline.ValueKit.Tiles
public import Idealize.ShloMosaic.Lib.Pipeline.ValueKit.Basic
public import Idealize.ShloMosaic.Lib.Pointwise
public import Idealize.ShloMosaic.Lib.IdealHost
public import Idealize.ShloMosaic.Lib.Claim
public import Idealize.ShloMosaic.Lib.Quiescent

@[expose] public section

set_option maxRecDepth 16384

noncomputable section

open Idealize.ShloMosaic Idealize.ShloMosaic.TcCoe Idealize.SL.Sem
open Cert.Product Cert.Blocks

namespace Cert.Kernel3Ideal.Point

open Cert.Kernel3Ideal Cert.Kernel3Ideal.Gen

variable (m : (ℓ : Loc nD τ sig) → Buf (Elt Ideal) ℓ) (ρ : Dev nD → PrngReg)

/-- The normalised tokens as launched. -/
abbrev argA (c : Dev nD) : S8448x4096.Idx → EReal := m ((c : Thread nD τ).loc main_arg0)
/-- The weights as launched. -/
abbrev argW (c : Dev nD) : S2x4096x5120.Idx → EReal := m ((c : Thread nD τ).loc main_arg1)

/-- The block index of every window at point `t`. -/
theorem index_eq : ∀ t : Fin cfg0.N,
    (win0_0.index t 0 = t.val / 10 ∧ win0_0.index t 1 = 0) ∧ (win0_1.index t 0 = 0 ∧ win0_1.index t 1 = 0 ∧ win0_1.index t 2 = t.val % 10)
    ∧ (win0_2.index t 0 = t.val / 10 ∧ win0_2.index t 1 = t.val % 10) :=
  (by decide +kernel : ∀ t : Fin grid0.N, _)

/-- The token block at point `t`. -/
theorem blkA (c : Dev nD) (t : Fin cfg0.N) (r : Fin 768) (d : Fin 4096) (R : Fin 8448) (hR : R.val = t.val / 10 * 768 + r.val) :
    (iblk m c 0 t : Vec Ideal S768x4096 .bf16) (ix2 r d) = argA m c (ix2 R d) := by
  unfold iblk
  rw [View.read_apply]
  exact (congrFun (V_main_arg0 m c) _).trans (congrArg (argA m c) (ix2_of _ R d (place (index_eq t).1.1 hR) (place_zero (index_eq t).1.2 _)))

/-- The weight block at point `t`. -/
theorem blkW (c : Dev nD) (t : Fin cfg0.N) (d : Fin 4096) (e : Fin 512) (C : Fin 5120) (hC : C.val = t.val % 10 * 512 + e.val) :
    (iblk m c 1 t : Vec Ideal S1x4096x512 .bf16) (ix3 0 d e) = argW m c (ix3 0 d C) := by
  unfold iblk
  rw [View.read_apply]
  exact (congrFun (V_main_arg1 m c) _).trans (congrArg (argW m c)
    (ix3_of _ 0 d C (place_zero (index_eq t).2.1.1 _) (place_zero (index_eq t).2.1.2.1 _) (place (index_eq t).2.1.2.2 hC)))

/-- The body's result at point `t` is the product at that point's rows and columns. -/
theorem block_eq (c : Dev nD) (t : Fin cfg0.N) (y : S768x512.Idx) (R : Fin 8448) (C : Fin 5120) (hR : R.val = t.val / 10 * 768 + (y 0).val) (hC : C.val = t.val % 10 * 512 + (y 1).val) :
    out0_2 (iblk m c 0 t) (iblk m c 1 t) y = mul (argA m c) (argW m c) (ix2 R C) := by
  obtain ⟨r, e, rfl⟩ : ∃ r e, y = ix2 r e := ⟨y 0, y 1, ValueIdx.eq_ix2 y⟩
  exact (Cert.Kernel2Ideal.Point.out_apply (iblk m c 0 t) (iblk m c 1 t) r e).trans (mulAt_of (argA m c) (argW m c) _ _ r e R C (fun d => blkA m c t r d R hR) (fun d => blkW m c t d e C hC))

/-- What point `t` writes back is its block of the product. -/
theorem flushed_eq (c : Dev nD) (t : Fin cfg0.N) :
    (dats m 0 c).flushed 2 t = ((cfg0.win 2).blk t).view.read (Elt Ideal) (mul (argA m c) (argW m c)) := by
  have hN : t.val < 110 := lt_of_lt_of_eq t.isLt (show cfg0.N = 110 from N_0)
  rw [Value.flushed2]
  funext y
  rw [View.read_apply]
  have h0 : (y 0).val < 768 := (y 0).isLt
  have h1 : (y 1).val < 512 := (y 1).isLt
  refine (block_eq m c t y ⟨t.val / 10 * 768 + (y 0).val, by omega⟩ ⟨t.val % 10 * 512 + (y 1).val, by omega⟩ rfl rfl).trans ?_
  exact congrArg (mul (argA m c) (argW m c)) (ix2_of _ _ _ (place (index_eq t).2.2.1 rfl) (place (index_eq t).2.2.2 rfl)).symm

/-- The result array when the run ends is the product. -/
theorem final (c : Dev nD) : (dats m 0 c).arrAt 2 cfg0.N = mul (argA m c) (argW m c) :=
  (dats m 0 c).arrAt_eq_of_cover 2 _ (fun t _ => flushed_eq m c t) fun i => by
    have h0 : (i 0).val < 8448 := (i 0).isLt
    have h1 : (i 1).val < 5120 := (i 1).isLt
    have hN : cfg0.N = 110 := N_0
    obtain ⟨t, ht⟩ : ∃ t : Fin cfg0.N, t.val = (i 0).val / 768 * 10 + (i 1).val / 512 := ⟨⟨_, by rw [hN]; omega⟩, rfl⟩
    refine ⟨t, flush0_2 _, ?_⟩
    show i ∈ ((View.whole main_v0).slice (win0_2.rect t)).set
    rw [View.set_slice_whole, Rect.mem_set_unit]
    intro a
    match a with
    | ⟨0, _⟩ => exact in_block (k := win0_2.index t 0) (n := 768) (i := (i 0).val) (by omega) ((index_eq t).2.2.1.trans (by omega))
    | ⟨1, _⟩ => exact in_block (k := win0_2.index t 1) (n := 512) (i := (i 1).val) (by omega) ((index_eq t).2.2.2.trans (by omega))

/-- Every run of the kernel ends with the product in the result's buffer and its arguments unchanged. -/
theorem run : θ_run defs (onTc (τ := τ) (main (F := Ideal))) ⟨m, fun _ => 0, ρ⟩ fun r => ∀ c : Dev nD,
      r.2.mem ((c : Thread nD τ).loc main_v0) = mul (argA m c) (argW m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel3Ideal.Point

namespace Cert.Reference3Ideal.Ref

open Cert.Reference3Ideal Cert.Reference3Ideal.Gen

variable (m : (ℓ : Loc nD τ sig) → Buf (Elt Ideal) ℓ) (ρ : Dev nD → PrngReg)

/-- The reference's product, entry by entry. -/
theorem product_eq (a : S8448x4096.Idx → EReal) (w : S2x4096x5120.Idx → EReal) :
    (Host.dotGeneral (F := Ideal) (φ₁ := .f32) (φ₂ := .f32) dot_S8448x4096_S4096x5120_S8448x5120_1_0_0_1_n_n none (extf (F := Ideal) (φ := .bf16) .f32 a bitsLt_bf16_f32)
      (extf (F := Ideal) (φ := .bf16) .f32 (shapeCast S4096x5120 (extractStridedSlice S1x4096x5120 ![0, 0, 0] w slices_S2x4096x5120_S1x4096x5120_0_0_0) shapeCasts_S1x4096x5120_S4096x5120) bitsLt_bf16_f32)
        : S8448x5120.Idx → EReal) = mul a w := by
  funext y
  obtain ⟨r, c, rfl⟩ : ∃ r c, y = ix2 r c := ⟨y 0, y 1, ValueIdx.eq_ix2 y⟩
  show _ = mulAt a w r c
  unfold mulAt
  pointwise

/-- Every run of the reference ends with the product in the result's buffer, its arguments unchanged and no semaphore raised. -/
theorem run : θ_run (defs (F := Ideal)) (onTc (τ := τ) (main (F := Ideal))) ⟨m, fun _ => 0, ρ⟩ fun r => (∀ c : Dev nD,
      r.2.mem ((c.tc : Thread nD τ).loc main_v4) = mul (m ((c.tc : Thread nD τ).loc main_arg0) : S8448x4096.Idx → EReal) (m ((c.tc : Thread nD τ).loc main_arg1) : S2x4096x5120.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun _ h => ⟨fun c => ⟨(h c).1.trans (product_eq _ _), (h c).2⟩, sem_eq_zero_of_no_sems rfl _⟩) (Value.run m ρ)

end Cert.Reference3Ideal.Ref

end
-- ==== Proof.In6.lean ====
/- The projection to the time steps' 256 columns: each grid point multiplies 768 rows by all the columns of the weights, the blocks tile the
   result, and the reference's product is the same sum. -/
module

public import proofs.«01_k».proof.Defs
public import proofs.«01_k».proof.Proof.Blocks
public import proofs.«01_k».proof.Proof.Product
public import proofs.«01_k».proof.Proof.Gen.Kernel6Ideal.Value
public import proofs.«01_k».proof.Proof.Gen.Reference6Ideal.Run
public import Idealize.ShloMosaic.Lib.Pipeline.ValueKit.Tiles
public import Idealize.ShloMosaic.Lib.Pipeline.ValueKit.Basic
public import Idealize.ShloMosaic.Lib.Pointwise
public import Idealize.ShloMosaic.Lib.IdealHost
public import Idealize.ShloMosaic.Lib.Claim
public import Idealize.ShloMosaic.Lib.Quiescent

@[expose] public section

set_option maxRecDepth 16384

noncomputable section

open Idealize.ShloMosaic Idealize.ShloMosaic.TcCoe Idealize.SL.Sem
open Cert.Product Cert.Blocks

namespace Cert.Kernel6Ideal.Point

open Cert.Kernel6Ideal Cert.Kernel6Ideal.Gen

variable (m : (ℓ : Loc nD τ sig) → Buf (Elt Ideal) ℓ) (ρ : Dev nD → PrngReg)

/-- The normalised tokens as launched. -/
abbrev argA (c : Dev nD) : S8448x4096.Idx → EReal := m ((c : Thread nD τ).loc main_arg0)
/-- The weights as launched. -/
abbrev argW (c : Dev nD) : S2x4096x256.Idx → EReal := m ((c : Thread nD τ).loc main_arg1)

/-- The block index of every window at point `t`. -/
theorem index_eq : ∀ t : Fin cfg0.N,
    (win0_0.index t 0 = t.val / 1 ∧ win0_0.index t 1 = 0) ∧ (win0_1.index t 0 = 0 ∧ win0_1.index t 1 = 0 ∧ win0_1.index t 2 = t.val % 1)
    ∧ (win0_2.index t 0 = t.val / 1 ∧ win0_2.index t 1 = t.val % 1) :=
  (by decide +kernel : ∀ t : Fin grid0.N, _)

/-- The token block at point `t`. -/
theorem blkA (c : Dev nD) (t : Fin cfg0.N) (r : Fin 768) (d : Fin 4096) (R : Fin 8448) (hR : R.val = t.val / 1 * 768 + r.val) :
    (iblk m c 0 t : Vec Ideal S768x4096 .bf16) (ix2 r d) = argA m c (ix2 R d) := by
  unfold iblk
  rw [View.read_apply]
  exact (congrFun (V_main_arg0 m c) _).trans (congrArg (argA m c) (ix2_of _ R d (place (index_eq t).1.1 hR) (place_zero (index_eq t).1.2 _)))

/-- The weight block at point `t`. -/
theorem blkW (c : Dev nD) (t : Fin cfg0.N) (d : Fin 4096) (e : Fin 256) (C : Fin 256) (hC : C.val = t.val % 1 * 256 + e.val) :
    (iblk m c 1 t : Vec Ideal S1x4096x256 .bf16) (ix3 0 d e) = argW m c (ix3 0 d C) := by
  unfold iblk
  rw [View.read_apply]
  exact (congrFun (V_main_arg1 m c) _).trans (congrArg (argW m c)
    (ix3_of _ 0 d C (place_zero (index_eq t).2.1.1 _) (place_zero (index_eq t).2.1.2.1 _) (place (index_eq t).2.1.2.2 hC)))

/-- One block's product. -/
theorem pay_apply (x0 : Vec Ideal S768x4096 .bf16) (x1 : Vec Ideal S1x4096x256 .bf16) (r : Fin 768) (e : Fin 256) :
    k0_pay1 x0 x1 (ix2 r e) = ∑ d : Fin 4096, x0 (ix2 r d) * x1 (ix3 0 d e) := by
  pointwise [k0_pay1]

/-- The body's result, entry by entry. -/
theorem out_apply (x0 : Vec Ideal S768x4096 .bf16) (x1 : Vec Ideal S1x4096x256 .bf16) (r : Fin 768) (e : Fin 256) :
    out0_2 x0 x1 (ix2 r e) = ∑ d : Fin 4096, x0 (ix2 r d) * x1 (ix3 0 d e) := by
  unfold out0_2
  rw [View.canon_cons_unit_lit _ _ _ (by decide), View.ld_unit_lit _ _ (by decide), View.ld_unit_lit _ _ (by decide)]
  exact pay_apply x0 x1 r e

/-- The body's result at point `t` is the product at that point's rows and columns. -/
theorem block_eq (c : Dev nD) (t : Fin cfg0.N) (y : S768x256.Idx) (R : Fin 8448) (C : Fin 256) (hR : R.val = t.val / 1 * 768 + (y 0).val) (hC : C.val = t.val % 1 * 256 + (y 1).val) :
    out0_2 (iblk m c 0 t) (iblk m c 1 t) y = mul (argA m c) (argW m c) (ix2 R C) := by
  obtain ⟨r, e, rfl⟩ : ∃ r e, y = ix2 r e := ⟨y 0, y 1, ValueIdx.eq_ix2 y⟩
  exact (out_apply (iblk m c 0 t) (iblk m c 1 t) r e).trans (mulAt_of (argA m c) (argW m c) _ _ r e R C (fun d => blkA m c t r d R hR) (fun d => blkW m c t d e C hC))

/-- What point `t` writes back is its block of the product. -/
theorem flushed_eq (c : Dev nD) (t : Fin cfg0.N) :
    (dats m 0 c).flushed 2 t = ((cfg0.win 2).blk t).view.read (Elt Ideal) (mul (argA m c) (argW m c)) := by
  have hN : t.val < 11 := lt_of_lt_of_eq t.isLt (show cfg0.N = 11 from N_0)
  rw [Value.flushed2]
  funext y
  rw [View.read_apply]
  have h0 : (y 0).val < 768 := (y 0).isLt
  have h1 : (y 1).val < 256 := (y 1).isLt
  refine (block_eq m c t y ⟨t.val / 1 * 768 + (y 0).val, by omega⟩ ⟨t.val % 1 * 256 + (y 1).val, by omega⟩ rfl rfl).trans ?_
  exact congrArg (mul (argA m c) (argW m c)) (ix2_of _ _ _ (place (index_eq t).2.2.1 rfl) (place (index_eq t).2.2.2 rfl)).symm

/-- The result array when the run ends is the product. -/
theorem final (c : Dev nD) : (dats m 0 c).arrAt 2 cfg0.N = mul (argA m c) (argW m c) :=
  (dats m 0 c).arrAt_eq_of_cover 2 _ (fun t _ => flushed_eq m c t) fun i => by
    have h0 : (i 0).val < 8448 := (i 0).isLt
    have h1 : (i 1).val < 256 := (i 1).isLt
    have hN : cfg0.N = 11 := N_0
    obtain ⟨t, ht⟩ : ∃ t : Fin cfg0.N, t.val = (i 0).val / 768 * 1 + (i 1).val / 256 := ⟨⟨_, by rw [hN]; omega⟩, rfl⟩
    refine ⟨t, flush0_2 _, ?_⟩
    show i ∈ ((View.whole main_v0).slice (win0_2.rect t)).set
    rw [View.set_slice_whole, Rect.mem_set_unit]
    intro a
    match a with
    | ⟨0, _⟩ => exact in_block (k := win0_2.index t 0) (n := 768) (i := (i 0).val) (by omega) ((index_eq t).2.2.1.trans (by omega))
    | ⟨1, _⟩ => exact in_block (k := win0_2.index t 1) (n := 256) (i := (i 1).val) (by omega) ((index_eq t).2.2.2.trans (by omega))

/-- Every run of the kernel ends with the product in the result's buffer and its arguments unchanged. -/
theorem run : θ_run defs (onTc (τ := τ) (main (F := Ideal))) ⟨m, fun _ => 0, ρ⟩ fun r => ∀ c : Dev nD,
      r.2.mem ((c : Thread nD τ).loc main_v0) = mul (argA m c) (argW m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel6Ideal.Point

namespace Cert.Reference6Ideal.Ref

open Cert.Reference6Ideal Cert.Reference6Ideal.Gen

variable (m : (ℓ : Loc nD τ sig) → Buf (Elt Ideal) ℓ) (ρ : Dev nD → PrngReg)

/-- The reference's product, entry by entry. -/
theorem product_eq (a : S8448x4096.Idx → EReal) (w : S2x4096x256.Idx → EReal) :
    (Host.dotGeneral (F := Ideal) (φ₁ := .f32) (φ₂ := .f32) dot_S8448x4096_S4096x256_S8448x256_1_0_0_1_n_n none (extf (F := Ideal) (φ := .bf16) .f32 a bitsLt_bf16_f32)
      (extf (F := Ideal) (φ := .bf16) .f32 (shapeCast S4096x256 (extractStridedSlice S1x4096x256 ![0, 0, 0] w slices_S2x4096x256_S1x4096x256_0_0_0) shapeCasts_S1x4096x256_S4096x256) bitsLt_bf16_f32)
        : S8448x256.Idx → EReal) = mul a w := by
  funext y
  obtain ⟨r, c, rfl⟩ : ∃ r c, y = ix2 r c := ⟨y 0, y 1, ValueIdx.eq_ix2 y⟩
  show _ = mulAt a w r c
  unfold mulAt
  pointwise

/-- Every run of the reference ends with the product in the result's buffer, its arguments unchanged and no semaphore raised. -/
theorem run : θ_run (defs (F := Ideal)) (onTc (τ := τ) (main (F := Ideal))) ⟨m, fun _ => 0, ρ⟩ fun r => (∀ c : Dev nD,
      r.2.mem ((c.tc : Thread nD τ).loc main_v4) = mul (m ((c.tc : Thread nD τ).loc main_arg0) : S8448x4096.Idx → EReal) (m ((c.tc : Thread nD τ).loc main_arg1) : S2x4096x256.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun _ h => ⟨fun c => ⟨(h c).1.trans (product_eq _ _), (h c).2⟩, sem_eq_zero_of_no_sems rfl _⟩) (Value.run m ρ)

end Cert.Reference6Ideal.Ref

end
-- ==== Proof.Out.lean ====
/- The output projection with its gated residual: the four heads' parts times their quarters of the weights, summed, scaled by the gate of
   the row's kind and added to the stream. The reference joins the parts and multiplies once; its sum over 4096 columns splits into the
   kernel's four sums. -/
module

public import proofs.«01_k».proof.Defs
public import proofs.«01_k».proof.Proof.Blocks
public import proofs.«01_k».proof.Proof.Gen.Kernel4Ideal.Value
public import proofs.«01_k».proof.Proof.Gen.Reference4Ideal.Run
public import Idealize.ShloMosaic.Lib.Pipeline.ValueKit.Tiles
public import Idealize.ShloMosaic.Lib.Pipeline.ValueKit.Basic
public import Idealize.ShloMosaic.Lib.Pointwise
public import Idealize.ShloMosaic.Lib.WordCmp
public import Idealize.ShloMosaic.Lib.IdealHost
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Out

/-- One part's contribution to an entry: its row times the weights' rows from `o` on. -/
def partAt (p : (⟨2, ![8448, 1024]⟩ : Shape).Idx → EReal) (w : (⟨3, ![2, 4096, 4096]⟩ : Shape).Idx → EReal) (o : ℕ) (ho : o + 1024 ≤ 4096)
    (r : Fin 8448) (c : Fin 4096) : EReal :=
  ∑ d : Fin 1024, p (ix2 r d) * w (ix3 0 ⟨o + d.val, by omega⟩ c)

/-- The gate of a row: the first for a latent row, the second for a context row. -/
def gateAt (g : (⟨2, ![2, 4096]⟩ : Shape).Idx → EReal) (r : Fin 8448) (c : Fin 4096) : EReal :=
  if r.val < 8192 then g (ix2 0 c) else g (ix2 1 c)

/-- The layer's output at a row and a column. -/
def outAt (p0 p1 p2 p3 : (⟨2, ![8448, 1024]⟩ : Shape).Idx → EReal) (w : (⟨3, ![2, 4096, 4096]⟩ : Shape).Idx → EReal)
    (x : (⟨2, ![8448, 4096]⟩ : Shape).Idx → EReal) (g : (⟨2, ![2, 4096]⟩ : Shape).Idx → EReal) (r : Fin 8448) (c : Fin 4096) : EReal :=
  x (ix2 r c) + gateAt g r c * (partAt p0 w 0 (by omega) r c + partAt p1 w 1024 (by omega) r c + partAt p2 w 2048 (by omega) r c
    + partAt p3 w 3072 (by omega) r c)

/-- The layer's output as an array. -/
def out (p0 p1 p2 p3 : (⟨2, ![8448, 1024]⟩ : Shape).Idx → EReal) (w : (⟨3, ![2, 4096, 4096]⟩ : Shape).Idx → EReal)
    (x : (⟨2, ![8448, 4096]⟩ : Shape).Idx → EReal) (g : (⟨2, ![2, 4096]⟩ : Shape).Idx → EReal) : (⟨2, ![8448, 4096]⟩ : Shape).Idx → EReal :=
  fun y => outAt p0 p1 p2 p3 w x g (y 0) (y 1)

/-- A sum over 4096 columns is the sum of the sums over its four quarters. -/
theorem sum_quarters (f : Fin 4096 → EReal) :
    ∑ d, f d = (∑ d : Fin 1024, f ⟨0 + d.val, by omega⟩) + (∑ d : Fin 1024, f ⟨1024 + d.val, by omega⟩) + (∑ d : Fin 1024, f ⟨2048 + d.val, by omega⟩)
      + (∑ d : Fin 1024, f ⟨3072 + d.val, by omega⟩) := by
  refine (Fin.sum_univ_add (a := 3072) (b := 1024) f).trans (congrArg₂ (fun a b : EReal => a + b) ?_ rfl)
  refine (Fin.sum_univ_add (a := 2048) (b := 1024) _).trans (congrArg₂ (fun a b : EReal => a + b) ?_ rfl)
  refine (Fin.sum_univ_add (a := 1024) (b := 1024) _).trans (congrArg₂ (fun a b : EReal => a + b) ?_ rfl)
  exact Finset.sum_congr rfl fun d _ => congrArg f (Fin.ext (Nat.zero_add _).symm)

end Cert.Out

open Cert.Out Cert.Blocks

namespace Cert.Kernel4Ideal.Point

open Cert.Kernel4Ideal Cert.Kernel4Ideal.Gen

variable (m : (ℓ : Loc nD τ sig) → Buf (Elt Ideal) ℓ) (ρ : Dev nD → PrngReg)

/-- The first part as launched. -/
abbrev arg0 (c : Dev nD) : S8448x1024.Idx → EReal := m ((c : Thread nD τ).loc main_arg0)
/-- The second part as launched. -/
abbrev arg1 (c : Dev nD) : S8448x1024.Idx → EReal := m ((c : Thread nD τ).loc main_arg1)
/-- The third part as launched. -/
abbrev arg2 (c : Dev nD) : S8448x1024.Idx → EReal := m ((c : Thread nD τ).loc main_arg2)
/-- The fourth part as launched. -/
abbrev arg3 (c : Dev nD) : S8448x1024.Idx → EReal := m ((c : Thread nD τ).loc main_arg3)
/-- The weights as launched. -/
abbrev argW (c : Dev nD) : S2x4096x4096.Idx → EReal := m ((c : Thread nD τ).loc main_arg4)
/-- The stream as launched. -/
abbrev argX (c : Dev nD) : S8448x4096.Idx → EReal := m ((c : Thread nD τ).loc main_arg5)
/-- The gates as launched. -/
abbrev argG (c : Dev nD) : S2x4096.Idx → EReal := m ((c : Thread nD τ).loc main_arg6)

/-- The output of the arrays as launched. -/
abbrev outM (c : Dev nD) : S8448x4096.Idx → EReal := out (arg0 m c) (arg1 m c) (arg2 m c) (arg3 m c) (argW m c) (argX m c) (argG m c)

/-- The first grid coordinate of point `t`. -/
theorem coords_eq : ∀ t : Fin cfg0.N, (grid0.coords t 0).val = t.val / 8 :=
  (by decide +kernel : ∀ t : Fin grid0.N, _)

/-- The block index of the parts' windows at point `t`. -/
theorem parts_index : ∀ t : Fin cfg0.N, (win0_0.index t 0 = t.val / 8 ∧ win0_0.index t 1 = 0) ∧ (win0_1.index t 0 = t.val / 8 ∧ win0_1.index t 1 = 0)
    ∧ (win0_2.index t 0 = t.val / 8 ∧ win0_2.index t 1 = 0) ∧ (win0_3.index t 0 = t.val / 8 ∧ win0_3.index t 1 = 0) :=
  (by decide +kernel : ∀ t : Fin grid0.N, _)

/-- The block index of the other windows at point `t`. -/
theorem index_eq : ∀ t : Fin cfg0.N, (win0_4.index t 0 = 0 ∧ win0_4.index t 1 = 0 ∧ win0_4.index t 2 = t.val % 8)
    ∧ (win0_5.index t 0 = t.val / 8 ∧ win0_5.index t 1 = t.val % 8) ∧ (win0_6.index t 0 = 0 ∧ win0_6.index t 1 = t.val % 8)
    ∧ (win0_7.index t 0 = t.val / 8 ∧ win0_7.index t 1 = t.val % 8) :=
  (by decide +kernel : ∀ t : Fin grid0.N, _)

/-- The parts' blocks at point `t`. -/
theorem blkP (c : Dev nD) (t : Fin cfg0.N) (r : Fin 768) (d : Fin 1024) (R : Fin 8448) (hR : R.val = t.val / 8 * 768 + r.val) :
    (iblk m c 0 t : Vec Ideal S768x1024 .bf16) (ix2 r d) = arg0 m c (ix2 R d) ∧ (iblk m c 1 t : Vec Ideal S768x1024 .bf16) (ix2 r d) = arg1 m c (ix2 R d)
    ∧ (iblk m c 2 t : Vec Ideal S768x1024 .bf16) (ix2 r d) = arg2 m c (ix2 R d) ∧ (iblk m c 3 t : Vec Ideal S768x1024 .bf16) (ix2 r d) = arg3 m c (ix2 R d) := by
  have hd : d.val = 0 * 1024 + d.val := by omega
  obtain ⟨⟨a0, b0⟩, ⟨a1, b1⟩, ⟨a2, b2⟩, ⟨a3, b3⟩⟩ := parts_index t
  unfold iblk
  rw [View.read_apply, View.read_apply, View.read_apply, View.read_apply]
  exact ⟨congrArg (arg0 m c) (ix2_of _ R d (place a0 hR) (place b0 hd)), congrArg (arg1 m c) (ix2_of _ R d (place a1 hR) (place b1 hd)),
    congrArg (arg2 m c) (ix2_of _ R d (place a2 hR) (place b2 hd)), congrArg (arg3 m c) (ix2_of _ R d (place a3 hR) (place b3 hd))⟩

/-- The stream's block at point `t`. -/
theorem blkX (c : Dev nD) (t : Fin cfg0.N) (r : Fin 768) (e : Fin 512) (R : Fin 8448) (C : Fin 4096) (hR : R.val = t.val / 8 * 768 + r.val)
    (hC : C.val = t.val % 8 * 512 + e.val) : (iblk m c 5 t : Vec Ideal S768x512 .f32) (ix2 r e) = argX m c (ix2 R C) := by
  unfold iblk
  rw [View.read_apply]
  exact congrArg (argX m c) (ix2_of _ R C (place (index_eq t).2.1.1 hR) (place (index_eq t).2.1.2 hC))

/-- The gates' block at point `t`. -/
theorem blkG (c : Dev nD) (t : Fin cfg0.N) (k : Fin 2) (e : Fin 512) (C : Fin 4096) (hC : C.val = t.val % 8 * 512 + e.val) :
    (iblk m c 6 t : Vec Ideal S2x512 .f32) (ix2 k e) = argG m c (ix2 k C) := by
  unfold iblk
  rw [View.read_apply]
  have hk : k.val = 0 * 2 + k.val := by omega
  exact congrArg (argG m c) (ix2_of _ k C (place (index_eq t).2.2.1.1 hk) (place (index_eq t).2.2.1.2 hC))

/-- The weight block at point `t`. -/
theorem blkW (c : Dev nD) (t : Fin cfg0.N) (d : Fin 4096) (e : Fin 512) (C : Fin 4096) (hC : C.val = t.val % 8 * 512 + e.val) :
    (iblk m c 4 t : Vec Ideal S1x4096x512 .bf16) (ix3 0 d e) = argW m c (ix3 0 d C) := by
  have hd : d.val = 0 * 4096 + d.val := by omega
  unfold iblk
  rw [View.read_apply]
  show argW m c _ = _
  congr 1
  funext a
  apply Fin.ext
  match a with
  | 0 => exact place (n := 1) (index_eq t).1.1 rfl
  | 1 => exact place (index_eq t).1.2.1 hd
  | 2 => exact place (index_eq t).1.2.2 hC

/-- A load of 1024 rows of the weight block. -/
theorem ldW (x : Vec Ideal S1x4096x512 .bf16) (o : ℕ) (ho : o + 1024 ≤ 4096) (inb) (d : Fin 1024) (e : Fin 512) :
    (View.ld x (Rect.unit (s := S1x4096x512) ![0, o, 0] S1x1024x512.size inb) : Vec Ideal S1x1024x512 .bf16) (ix3 0 d e) = x (ix3 0 ⟨o + d.val, by omega⟩ e) := by
  refine View.ld_unit_apply_of x _ _ inb _ _ fun a => ?_
  match a with
  | 0 => rfl
  | 1 => rfl
  | 2 => exact (Nat.zero_add _).symm

/-- A load of one row of the gates' block. -/
theorem ldG (x : Vec Ideal S2x512 .f32) (k : Fin 2) (inb) (e : Fin 512) :
    (View.ld x (Rect.unit (s := S2x512) ![k.val, 0] S1x512.size inb) : Vec Ideal S1x512 .f32) (ix2 0 e) = x (ix2 k e) := by
  refine View.ld_unit_apply_of x _ _ inb _ _ fun a => ?_
  match a with
  | 0 => rfl
  | 1 => exact (Nat.zero_add _).symm

/-- The four products, summed. -/
theorem sums_apply (p0 p1 p2 p3 : Vec Ideal S768x1024 .bf16) (w0 w1 w2 w3 : Vec Ideal S1x1024x512 .bf16) (r : Fin 768) (e : Fin 512) :
    k0_pay2 p0 w0 p1 w1 p2 w2 p3 w3 (ix2 r e) = (∑ d : Fin 1024, p0 (ix2 r d) * w0 (ix3 0 d e)) + (∑ d : Fin 1024, p1 (ix2 r d) * w1 (ix3 0 d e))
      + (∑ d : Fin 1024, p2 (ix2 r d) * w2 (ix3 0 d e)) + (∑ d : Fin 1024, p3 (ix2 r d) * w3 (ix3 0 d e)) := by
  pointwise [k0_pay2]

/-- The gated residual, entry by entry. -/
theorem gated_apply (s x : Vec Ideal S768x512 .f32) (b : IVec S768x1 1) (g0 g1 : Vec Ideal S1x512 .f32) (r : Fin 768) (e : Fin 512) :
    k0_pay1 s x b g0 g1 (ix2 r e) = (x (ix2 r e) + Scalar.select (b (ix2 r 0)) (g0 (ix2 0 e)) (g1 (ix2 0 e)) * s (ix2 r e) : EReal) := by
  pointwise [k0_pay1]

/-- The mask of the latent rows. -/
theorem mask_apply (i : grid0.Coords) (q : ℕ) (hi : (i 0).val = q) (hq : q < 11) (r : Fin 768) :
    k0_pay3 i (ix2 r 0) = if q * 768 + r.val < 8192 then 1#1 else 0#1 := by
  subst hi
  refine Eq.trans ?_ (WordCmp.cmpi_slt_mul_add_ofNat (w := 32) (i 0).val 768 r.val 8192 (by omega) (by omega))
  unfold k0_pay3
  pointwise
  rfl

/-- The body's result, entry by entry. -/
theorem out_apply (i : grid0.Coords) (q : ℕ) (hi : (i 0).val = q) (hq : q < 11) (p0 p1 p2 p3 : Vec Ideal S768x1024 .bf16) (w : Vec Ideal S1x4096x512 .bf16)
    (x : Vec Ideal S768x512 .f32) (g : Vec Ideal S2x512 .f32) (r : Fin 768) (e : Fin 512) :
    out0_7 i p0 p1 p2 p3 w x g (ix2 r e) = (x (ix2 r e) + (if q * 768 + r.val < 8192 then g (ix2 0 e) else g (ix2 1 e))
      * ((∑ d : Fin 1024, p0 (ix2 r d) * w (ix3 0 ⟨0 + d.val, by omega⟩ e)) + (∑ d : Fin 1024, p1 (ix2 r d) * w (ix3 0 ⟨1024 + d.val, by omega⟩ e))
      + (∑ d : Fin 1024, p2 (ix2 r d) * w (ix3 0 ⟨2048 + d.val, by omega⟩ e)) + (∑ d : Fin 1024, p3 (ix2 r d) * w (ix3 0 ⟨3072 + d.val, by omega⟩ e))) : EReal) := by
  unfold out0_7
  have e4 (p : Vec Ideal S768x1024 .bf16) : View.ld p r0_0 = p := View.ld_unit_lit _ _ (by decide)
  have ex : View.ld x r0_5 = x := View.ld_unit_lit _ _ (by decide)
  rw [View.canon_cons_unit_lit _ _ _ (by decide), e4 p0, e4 p1, e4 p2, e4 p3, ex]
  refine (gated_apply _ x _ _ _ r e).trans (congrArg₂ (fun a b : EReal => a + b) rfl (congrArg₂ (fun a b : EReal => a * b) ?_ ?_))
  · rw [mask_apply i q hi hq r]
    refine Eq.trans (congrArg₂ (Scalar.select _) (ldG g 0 _ e) (ldG g 1 _ e)) ?_
    split <;> rfl
  · refine (sums_apply p0 p1 p2 p3 _ _ _ _ r e).trans (congrArg₂ (fun a b : EReal => a + b) (congrArg₂ (fun a b : EReal => a + b)
      (congrArg₂ (fun a b : EReal => a + b) ?_ ?_) ?_) ?_)
    · exact Finset.sum_congr rfl fun d _ => congrArg (fun b : EReal => (p0 (ix2 r d) : EReal) * b) (ldW w 0 (by omega) _ d e)
    · exact Finset.sum_congr rfl fun d _ => congrArg (fun b : EReal => (p1 (ix2 r d) : EReal) * b) (ldW w 1024 (by omega) _ d e)
    · exact Finset.sum_congr rfl fun d _ => congrArg (fun b : EReal => (p2 (ix2 r d) : EReal) * b) (ldW w 2048 (by omega) _ d e)
    · exact Finset.sum_congr rfl fun d _ => congrArg (fun b : EReal => (p3 (ix2 r d) : EReal) * b) (ldW w 3072 (by omega) _ d e)

/-- The body's result at point `t` is the output at that point's rows and columns. -/
theorem block_eq (c : Dev nD) (t : Fin cfg0.N) (y : S768x512.Idx) (R : Fin 8448) (C : Fin 4096) (hR : R.val = t.val / 8 * 768 + (y 0).val) (hC : C.val = t.val % 8 * 512 + (y 1).val) :
    out0_7 (grid0.coords t) (iblk m c 0 t) (iblk m c 1 t) (iblk m c 2 t) (iblk m c 3 t) (iblk m c 4 t) (iblk m c 5 t) (iblk m c 6 t) y = outM m c (ix2 R C) := by
  obtain ⟨r, e, rfl⟩ : ∃ r e, y = ix2 r e := ⟨y 0, y 1, ValueIdx.eq_ix2 y⟩
  have hN : t.val < 88 := lt_of_lt_of_eq t.isLt (show cfg0.N = 88 from N_0)
  refine (out_apply (grid0.coords t) (t.val / 8) (coords_eq t) (by omega) (iblk m c 0 t) (iblk m c 1 t) (iblk m c 2 t) (iblk m c 3 t) (iblk m c 4 t)
    (iblk m c 5 t) (iblk m c 6 t) r e).trans ?_
  refine congrArg₂ (fun a b : EReal => a + b) (blkX m c t r e R C hR hC) (congrArg₂ (fun a b : EReal => a * b) ?_ (congrArg₂ (fun a b : EReal => a + b)
    (congrArg₂ (fun a b : EReal => a + b) (congrArg₂ (fun a b : EReal => a + b) ?_ ?_) ?_) ?_))
  · show _ = gateAt (argG m c) R C
    have hR' : R.val = t.val / 8 * 768 + r.val := hR
    unfold gateAt
    rw [hR', blkG m c t 0 e C hC, blkG m c t 1 e C hC]
  · exact Finset.sum_congr rfl fun d _ => congrArg₂ (fun a b : EReal => a * b) (blkP m c t r d R hR).1 (blkW m c t _ e C hC)
  · exact Finset.sum_congr rfl fun d _ => congrArg₂ (fun a b : EReal => a * b) (blkP m c t r d R hR).2.1 (blkW m c t _ e C hC)
  · exact Finset.sum_congr rfl fun d _ => congrArg₂ (fun a b : EReal => a * b) (blkP m c t r d R hR).2.2.1 (blkW m c t _ e C hC)
  · exact Finset.sum_congr rfl fun d _ => congrArg₂ (fun a b : EReal => a * b) (blkP m c t r d R hR).2.2.2 (blkW m c t _ e C hC)

/-- What point `t` writes back is its block of the output. -/
theorem flushed_eq (c : Dev nD) (t : Fin cfg0.N) :
    (dats m 0 c).flushed 7 t = ((cfg0.win 7).blk t).view.read (Elt Ideal) (outM m c) := by
  have hN : t.val < 88 := lt_of_lt_of_eq t.isLt (show cfg0.N = 88 from N_0)
  rw [Value.flushed7]
  funext y
  rw [View.read_apply]
  have h0 : (y 0).val < 768 := (y 0).isLt
  have h1 : (y 1).val < 512 := (y 1).isLt
  refine (block_eq m c t y ⟨t.val / 8 * 768 + (y 0).val, by omega⟩ ⟨t.val % 8 * 512 + (y 1).val, by omega⟩ rfl rfl).trans ?_
  exact congrArg (outM m c) (ix2_of _ _ _ (place (index_eq t).2.2.2.1 rfl) (place (index_eq t).2.2.2.2 rfl)).symm

/-- The result array when the run ends is the output. -/
theorem final (c : Dev nD) : (dats m 0 c).arrAt 7 cfg0.N = outM m c :=
  (dats m 0 c).arrAt_eq_of_cover 7 _ (fun t _ => flushed_eq m c t) fun i => by
    have h0 : (i 0).val < 8448 := (i 0).isLt
    have h1 : (i 1).val < 4096 := (i 1).isLt
    have hN : cfg0.N = 88 := N_0
    obtain ⟨t, ht⟩ : ∃ t : Fin cfg0.N, t.val = (i 0).val / 768 * 8 + (i 1).val / 512 := ⟨⟨_, by rw [hN]; omega⟩, rfl⟩
    refine ⟨t, flush0_7 _, ?_⟩
    show i ∈ ((View.whole main_v0).slice (win0_7.rect t)).set
    rw [View.set_slice_whole, Rect.mem_set_unit]
    intro a
    match a with
    | ⟨0, _⟩ => exact in_block (k := win0_7.index t 0) (n := 768) (i := (i 0).val) (by omega) ((index_eq t).2.2.2.1.trans (by omega))
    | ⟨1, _⟩ => exact in_block (k := win0_7.index t 1) (n := 512) (i := (i 1).val) (by omega) ((index_eq t).2.2.2.2.trans (by omega))

/-- Every run of the kernel ends with the output in the result's buffer and its arguments unchanged. -/
theorem run : θ_run defs (onTc (τ := τ) (main (F := Ideal))) ⟨m, fun _ => 0, ρ⟩ fun r => ∀ c : Dev nD,
      r.2.mem ((c : Thread nD τ).loc main_v0) = outM m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final m c), (h c).2⟩) (Value.run_blocks m ρ)

end Cert.Kernel4Ideal.Point

namespace Cert.Reference4Ideal.Ref

open Cert.Reference4Ideal Cert.Reference4Ideal.Gen

/-- The joined parts, column by column. -/
theorem joined_apply (p0 p1 p2 p3 : S8448x1024.Idx → EReal) (hc) (r : Fin 8448) (d : Fin 1024) :
    (concatenate S8448x4096 1 [⟨S8448x1024, p0⟩, ⟨S8448x1024, p1⟩, ⟨S8448x1024, p2⟩, ⟨S8448x1024, p3⟩] hc : S8448x4096.Idx → EReal) (ix2 r ⟨0 + d.val, by omega⟩) = p0 (ix2 r d)
    ∧ (concatenate S8448x4096 1 [⟨S8448x1024, p0⟩, ⟨S8448x1024, p1⟩, ⟨S8448x1024, p2⟩, ⟨S8448x1024, p3⟩] hc : S8448x4096.Idx → EReal) (ix2 r ⟨1024 + d.val, by omega⟩) = p1 (ix2 r d)
    ∧ (concatenate S8448x4096 1 [⟨S8448x1024, p0⟩, ⟨S8448x1024, p1⟩, ⟨S8448x1024, p2⟩, ⟨S8448x1024, p3⟩] hc : S8448x4096.Idx → EReal) (ix2 r ⟨2048 + d.val, by omega⟩) = p2 (ix2 r d)
    ∧ (concatenate S8448x4096 1 [⟨S8448x1024, p0⟩, ⟨S8448x1024, p1⟩, ⟨S8448x1024, p2⟩, ⟨S8448x1024, p3⟩] hc : S8448x4096.Idx → EReal) (ix2 r ⟨3072 + d.val, by omega⟩) = p3 (ix2 r d) := by
  have off : ∀ (o : ℕ) (ho : o + 1024 ≤ 4096) (b : Fin 2), b ≠ 1 → ((ix2 r d : S8448x1024.Idx) b).val = ((ix2 r ⟨o + d.val, by omega⟩ : S8448x4096.Idx) b).val :=
    fun o ho b hb => match b with
      | 0 => rfl
      | 1 => absurd rfl hb
  exact ⟨concatenate_apply_piece 1 _ hc _ 0 (by decide : 0 < 4) S8448x1024 p0 rfl rfl 0 rfl (ix2 r d) (off 0 (by omega)) rfl,
    concatenate_apply_piece 1 _ hc _ 1 (by decide : 1 < 4) S8448x1024 p1 rfl rfl 1024 rfl (ix2 r d) (off 1024 (by omega)) rfl,
    concatenate_apply_piece 1 _ hc _ 2 (by decide : 2 < 4) S8448x1024 p2 rfl rfl 2048 rfl (ix2 r d) (off 2048 (by omega)) rfl,
    concatenate_apply_piece 1 _ hc _ 3 (by decide : 3 < 4) S8448x1024 p3 rfl rfl 3072 rfl (ix2 r d) (off 3072 (by omega)) rfl⟩

/-- The product of a row of the joined parts is the sum of the parts' products. -/
theorem joined_sum (p0 p1 p2 p3 : S8448x1024.Idx → EReal) (w : S2x4096x4096.Idx → EReal) (hc) (r : Fin 8448) (c : Fin 4096) :
    ∑ d : Fin 4096, (concatenate S8448x4096 1 [⟨S8448x1024, p0⟩, ⟨S8448x1024, p1⟩, ⟨S8448x1024, p2⟩, ⟨S8448x1024, p3⟩] hc : S8448x4096.Idx → EReal) (ix2 r d) * w (ix3 0 d c)
      = partAt p0 w 0 (by omega) r c + partAt p1 w 1024 (by omega) r c + partAt p2 w 2048 (by omega) r c + partAt p3 w 3072 (by omega) r c := by
  have j := joined_apply p0 p1 p2 p3 hc r
  refine (sum_quarters _).trans (congrArg₂ (fun a b : EReal => a + b) (congrArg₂ (fun a b : EReal => a + b) (congrArg₂ (fun a b : EReal => a + b) ?_ ?_) ?_) ?_)
  · exact Finset.sum_congr rfl fun d _ => congrArg (fun a : EReal => a * w (ix3 0 ⟨0 + d.val, by omega⟩ c)) (j d).1
  · exact Finset.sum_congr rfl fun d _ => congrArg (fun a : EReal => a * w (ix3 0 ⟨1024 + d.val, by omega⟩ c)) (j d).2.1
  · exact Finset.sum_congr rfl fun d _ => congrArg (fun a : EReal => a * w (ix3 0 ⟨2048 + d.val, by omega⟩ c)) (j d).2.2.1
  · exact Finset.sum_congr rfl fun d _ => congrArg (fun a : EReal => a * w (ix3 0 ⟨3072 + d.val, by omega⟩ c)) (j d).2.2.2

/-- The latent rows of the reference, from the joined parts. -/
abbrev latent (J : S8448x4096.Idx → EReal) (w : S2x4096x4096.Idx → EReal) (x : S8448x4096.Idx → EReal) (g : S2x4096.Idx → EReal) : S8192x4096.Idx → EReal :=
  addf (F := Ideal) (φ := .f32) (extractStridedSlice S8192x4096 ![0, 0] x slices_S8448x4096_S8192x4096_0_0)
    (mulf (F := Ideal) (φ := .f32) (broadcastInDim S8192x4096 ![0, 1] bcast_S1x4096_S8192x4096_0_1 (broadcastInDim S1x4096 ![1] bcast_S4096_S1x4096_1
        (shapeCast S4096 (extractStridedSlice S1x4096 ![0, 0] g slices_S2x4096_S1x4096_0_0) shapeCasts_S1x4096_S4096)))
      (Host.dotGeneral (F := Ideal) (φ₁ := .f32) (φ₂ := .f32) dot_S8192x4096_S4096x4096_S8192x4096_1_0_0_1_n_n none
        (extractStridedSlice S8192x4096 ![0, 0] (extf (F := Ideal) (φ := .bf16) .f32 J bitsLt_bf16_f32) slices_S8448x4096_S8192x4096_0_0)
        (extf (F := Ideal) (φ := .bf16) .f32 (shapeCast S4096x4096 (extractStridedSlice S1x4096x4096 ![0, 0, 0] w slices_S2x4096x4096_S1x4096x4096_0_0_0) shapeCasts_S1x4096x4096_S4096x4096) bitsLt_bf16_f32)))

/-- The context rows of the reference, from the joined parts. -/
abbrev context (J : S8448x4096.Idx → EReal) (w : S2x4096x4096.Idx → EReal) (x : S8448x4096.Idx → EReal) (g : S2x4096.Idx → EReal) : S256x4096.Idx → EReal :=
  addf (F := Ideal) (φ := .f32) (extractStridedSlice S256x4096 ![8192, 0] x slices_S8448x4096_S256x4096_8192_0)
    (mulf (F := Ideal) (φ := .f32) (broadcastInDim S256x4096 ![0, 1] bcast_S1x4096_S256x4096_0_1 (broadcastInDim S1x4096 ![1] bcast_S4096_S1x4096_1
        (shapeCast S4096 (extractStridedSlice S1x4096 ![1, 0] g slices_S2x4096_S1x4096_1_0) shapeCasts_S1x4096_S4096)))
      (Host.dotGeneral (F := Ideal) (φ₁ := .f32) (φ₂ := .f32) dot_S256x4096_S4096x4096_S256x4096_1_0_0_1_n_n none
        (extractStridedSlice S256x4096 ![8192, 0] (extf (F := Ideal) (φ := .bf16) .f32 J bitsLt_bf16_f32) slices_S8448x4096_S256x4096_8192_0)
        (extf (F := Ideal) (φ := .bf16) .f32 (shapeCast S4096x4096 (extractStridedSlice S1x4096x4096 ![0, 0, 0] w slices_S2x4096x4096_S1x4096x4096_0_0_0) shapeCasts_S1x4096x4096_S4096x4096) bitsLt_bf16_f32)))

/-- A latent row, entry by entry. -/
theorem latent_apply (J : S8448x4096.Idx → EReal) (w : S2x4096x4096.Idx → EReal) (x : S8448x4096.Idx → EReal) (g : S2x4096.Idx → EReal) (r : Fin 8192) (R : Fin 8448)
    (hR : R.val = r.val) (c : Fin 4096) :
    latent J w x g (ix2 r c) = x (ix2 R c) + g (ix2 0 c) * ∑ d : Fin 4096, J (ix2 R d) * w (ix3 0 d c) := by
  obtain rfl : R = ⟨r.val, Nat.lt_of_lt_of_le r.isLt (by decide)⟩ := Fin.ext hR
  pointwise

/-- A context row, entry by entry. -/
theorem context_apply (J : S8448x4096.Idx → EReal) (w : S2x4096x4096.Idx → EReal) (x : S8448x4096.Idx → EReal) (g : S2x4096.Idx → EReal) (r : Fin 256) (R : Fin 8448)
    (hR : R.val = 8192 + r.val) (c : Fin 4096) :
    context J w x g (ix2 r c) = x (ix2 R c) + g (ix2 1 c) * ∑ d : Fin 4096, J (ix2 R d) * w (ix3 0 d c) := by
  obtain rfl : R = ⟨8192 + r.val, Nat.add_lt_add_left r.isLt 8192⟩ := Fin.ext hR
  pointwise

/-- The reference's result is the output. -/
theorem result_eq (p0 p1 p2 p3 : S8448x1024.Idx → EReal) (w : S2x4096x4096.Idx → EReal) (x : S8448x4096.Idx → EReal) (g : S2x4096.Idx → EReal) (hc) (hr) :
    (concatenate S8448x4096 0
        [⟨S8192x4096, latent (concatenate S8448x4096 1 [⟨S8448x1024, p0⟩, ⟨S8448x1024, p1⟩, ⟨S8448x1024, p2⟩, ⟨S8448x1024, p3⟩] hc) w x g⟩,
          ⟨S256x4096, context (concatenate S8448x4096 1 [⟨S8448x1024, p0⟩, ⟨S8448x1024, p1⟩, ⟨S8448x1024, p2⟩, ⟨S8448x1024, p3⟩] hc) w x g⟩] hr
      : S8448x4096.Idx → EReal) = out p0 p1 p2 p3 w x g := by
  funext y
  obtain ⟨r, c, rfl⟩ : ∃ r c, y = ix2 r c := ⟨y 0, y 1, ValueIdx.eq_ix2 y⟩
  show _ = outAt p0 p1 p2 p3 w x g r c
  unfold outAt gateAt
  rw [← joined_sum p0 p1 p2 p3 w hc r c]
  by_cases h : r.val < 8192
  · rw [if_pos h, ← latent_apply _ w x g ⟨r.val, h⟩ r rfl c]
    refine concatenate_apply_piece 0 _ hr _ 0 (by decide : 0 < 2) S8192x4096 _ rfl rfl 0 rfl (ix2 ⟨r.val, h⟩ c) (fun b hb => ?_) (Nat.zero_add _)
    match b with
    | 0 => exact absurd rfl hb
    | 1 => rfl
  · have hR : r.val = 8192 + (r.val - 8192) := by omega
    rw [if_neg h, ← context_apply _ w x g ⟨r.val - 8192, by omega⟩ r hR c]
    refine concatenate_apply_piece 0 _ hr _ 1 (by decide : 1 < 2) S256x4096 _ rfl rfl 8192 rfl (ix2 ⟨r.val - 8192, by omega⟩ c) (fun b hb => ?_) hR.symm
    match b with
    | 0 => exact absurd rfl hb
    | 1 => rfl

variable (m : (ℓ : Loc nD τ sig) → Buf (Elt Ideal) ℓ) (ρ : Dev nD → PrngReg)

/-- Every run of the reference ends with the output in the result's buffer, its arguments unchanged and no semaphore raised. -/
theorem run : θ_run (defs (F := Ideal)) (onTc (τ := τ) (main (F := Ideal))) ⟨m, fun _ => 0, ρ⟩ fun r => (∀ c : Dev nD,
      r.2.mem ((c.tc : Thread nD τ).loc main_v23) = out (m ((c.tc : Thread nD τ).loc main_arg0) : S8448x1024.Idx → EReal) (m ((c.tc : Thread nD τ).loc main_arg1) : S8448x1024.Idx → EReal)
        (m ((c.tc : Thread nD τ).loc main_arg2) : S8448x1024.Idx → EReal) (m ((c.tc : Thread nD τ).loc main_arg3) : S8448x1024.Idx → EReal)
        (m ((c.tc : Thread nD τ).loc main_arg4) : S2x4096x4096.Idx → EReal) (m ((c.tc : Thread nD τ).loc main_arg5) : S8448x4096.Idx → EReal)
        (m ((c.tc : Thread nD τ).loc main_arg6) : S2x4096.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0 :=
  (θ_run defs _ _).mono (fun _ h => ⟨fun c => ⟨(h c).1.trans (result_eq _ _ _ _ _ _ _ _ _), (h c).2⟩, sem_eq_zero_of_no_sems rfl _⟩) (Value.run m ρ)

end Cert.Reference4Ideal.Ref

end
-- ==== Proof.Norm.lean ====
/- Normalising a row in groups: each entry over the root of its group's mean square. The operations of one group inside a block of rows, entry
   by entry, and the entry's dependence on its row alone. -/
module

public import Idealize.ShloMosaic.Lib.Pipeline.ValueKit.Tiles
public import Idealize.ShloMosaic.Lib.Pipeline.ValueKit.Basic
public import Idealize.ShloMosaic.Lib.Pointwise
public import Idealize.ShloMosaic.Lib.IdealHost

@[expose] public section

noncomputable section

open Idealize.ShloMosaic Idealize.ShloMosaic.TcCoe

namespace Cert.Norm

/-- A matrix of extended reals. -/
abbrev Arr (a b : ℕ) : Type := (⟨2, ![a, b]⟩ : Shape).Idx → EReal

/-- The columns of a column's group lie among the columns. -/
theorem group_lt {n : ℕ} (hn : n ∣ 1024) (c : Fin 1024) (d : Fin n) : c.val / n * n + d.val < 1024 := by
  obtain ⟨k, hk⟩ := hn
  have hc : c.val / n < k := Nat.div_lt_of_lt_mul (hk ▸ c.isLt)
  calc c.val / n * n + d.val < c.val / n * n + n := Nat.add_lt_add_left d.isLt _
    _ = (c.val / n + 1) * n := (Nat.succ_mul _ _).symm
    _ ≤ k * n := Nat.mul_le_mul_right n hc
    _ = 1024 := by rw [Nat.mul_comm]; exact hk.symm

/-- An entry over the root of its group's mean square: groups of `n` columns, `q` the group's size as a number. -/
def normAt {n R : ℕ} (q : BitVec 32) (hn : n ∣ 1024) (x : Arr R 1024) (r : Fin R) (c : Fin 1024) : EReal :=
  x (ix2 r c) * Ideal.rsqrt (Ideal.div (∑ d : Fin n, x (ix2 r ⟨c.val / n * n + d.val, group_lt hn c d⟩) * x (ix2 r ⟨c.val / n * n + d.val, group_lt hn c d⟩))
    (Ideal.ofBits .f32 q) + Ideal.ofBits .f32 0x358637BD#32)

/-- It depends on its row alone. -/
theorem normAt_congr {n R R' : ℕ} (q : BitVec 32) (hn : n ∣ 1024) (x : Arr R 1024) (x' : Arr R' 1024) (r : Fin R) (r' : Fin R')
    (h : ∀ c, x (ix2 r c) = x' (ix2 r' c)) (c : Fin 1024) : normAt q hn x r c = normAt q hn x' r' c := by
  unfold normAt
  simp only [h]

/-- The normalised entry, its group's first column named. -/
theorem normAt_group {n R : ℕ} (q : BitVec 32) (hn : n ∣ 1024) (x : Arr R 1024) (r : Fin R) (c : Fin 1024) (o : ℕ) (ho : ∀ d : Fin n, o + d.val < 1024) (hg : c.val / n * n = o) :
    normAt q hn x r c = x (ix2 r c) * Ideal.rsqrt (Ideal.div (∑ d : Fin n, x (ix2 r ⟨o + d.val, ho d⟩) * x (ix2 r ⟨o + d.val, ho d⟩))
      (Ideal.ofBits .f32 q) + Ideal.ofBits .f32 0x358637BD#32) := by
  subst hg
  rfl

/-- An entry against its gate: the entry times its logistic. -/
def silu (a : EReal) : EReal := a * Ideal.logistic a

/-- One group of a block of rows as the operations that normalise it, `w` the group's weights and `o` its first column. -/
def group {n : ℕ} (q : BitVec 32) (o : ℕ) (x : FVec Ideal ⟨2, ![256, 1024]⟩ .f32) (w : Vec Ideal ⟨2, ![1, n]⟩ .f32)
    (hs : (⟨2, ![256, 1024]⟩ : Shape).Slices ![0, o] ⟨2, ![256, n]⟩) (hr : (⟨2, ![256, n]⟩ : Shape).Reduces [1] ⟨1, ![256]⟩)
    (hc : (⟨1, ![256]⟩ : Shape).ShapeCasts ⟨2, ![256, 1]⟩) (hb : (⟨2, ![256, 1]⟩ : Shape).Broadcasts ⟨2, ![256, n]⟩)
    (hw : (⟨2, ![1, n]⟩ : Shape).ShapeCasts ⟨2, ![1, n]⟩) (hv : (⟨2, ![1, n]⟩ : Shape).Broadcasts ⟨2, ![256, n]⟩) : FVec Ideal ⟨2, ![256, n]⟩ .f32 :=
  mulf (mulf (extractStridedSlice ⟨2, ![256, n]⟩ ![0, o] x hs) (broadcastTo ⟨2, ![256, n]⟩ (rsqrt (addf (divf (shapeCast ⟨2, ![256, 1]⟩
      (multiReduction .add [1] ⟨1, ![256]⟩ (mulf (extractStridedSlice ⟨2, ![256, n]⟩ ![0, o] x hs) (extractStridedSlice ⟨2, ![256, n]⟩ ![0, o] x hs)) 0x00000000#32 hr (.inl rfl) rfl) hc)
      (broadcast ⟨2, ![256, 1]⟩ (Scalar.ofBits .f32 q))) (broadcast ⟨2, ![256, 1]⟩ (Scalar.ofBits .f32 0x358637BD#32)))) hb))
    (broadcastTo ⟨2, ![256, n]⟩ (shapeCast ⟨2, ![1, n]⟩ w hw) hv)

/-- A row spread over a block's rows reads the row. -/
theorem spread_apply {n : ℕ} (w : Vec Ideal ⟨2, ![1, n]⟩ .f32) (hv : (⟨2, ![1, n]⟩ : Shape).Broadcasts ⟨2, ![256, n]⟩) (r : Fin 256) (e : Fin n) :
    broadcastTo ⟨2, ![256, n]⟩ w hv (ix2 r e) = w (ix2 0 e) := by
  show w _ = w _
  refine congrArg w (funext fun a => Fin.ext ?_)
  match a with
  | 0 => rfl
  | 1 =>
    show (if h : n = 1 then (⟨0, _⟩ : Fin n) else ⟨e.val, _⟩).val = e.val
    split
    · next h => have := e.isLt; show 0 = e.val; omega
    · rfl

variable {n : ℕ} (q : BitVec 32) (o : ℕ) (x : FVec Ideal ⟨2, ![256, 1024]⟩ .f32) (w : Vec Ideal ⟨2, ![1, n]⟩ .f32) (hs hr hc hb hw hv)

/-- The operations of one group, entry by entry. -/
theorem group_apply (r : Fin 256) (e : Fin n) (ho : ∀ d : Fin n, o + d.val < 1024) :
    group q o x w hs hr hc hb hw hv (ix2 r e)
      = x (ix2 r ⟨o + e.val, ho e⟩) * Ideal.rsqrt (Ideal.div (∑ d : Fin n, x (ix2 r ⟨o + d.val, ho d⟩) * x (ix2 r ⟨o + d.val, ho d⟩))
          (Ideal.ofBits .f32 q) + Ideal.ofBits .f32 0x358637BD#32) * w (ix2 0 e) := by
  unfold group
  refine congrArg₂ (fun a b : EReal => a * b) ?_ ((spread_apply _ hv r e).trans ?_)
  · pointwise
  · pointwise

/-- The operations of one group at a block's entry are the normalised entry times its weight. -/
theorem group_emb (hn : n ∣ 1024) (W : Vec Ideal ⟨2, ![1, 1024]⟩ .f32) (hq : ∃ k, o = k * n)
    (inb : ∀ a, (![0, o] : Fin 2 → ℕ) a + (![256, n] : Fin 2 → ℕ) a ≤ (⟨2, ![256, 1024]⟩ : Shape).size a)
    (inb' : ∀ a, (![0, o] : Fin 2 → ℕ) a + (![1, n] : Fin 2 → ℕ) a ≤ (⟨2, ![1, 1024]⟩ : Shape).size a) (y : (⟨2, ![256, n]⟩ : Shape).Idx) :
    group q o x (View.ld W (Rect.unit (s := ⟨2, ![1, 1024]⟩) ![0, o] ![1, n] inb')) hs hr hc hb hw hv y
      = (fun i : (⟨2, ![256, 1024]⟩ : Shape).Idx => normAt q hn x (i 0) (i 1) * W (ix2 0 (i 1))) ((Rect.unit (s := ⟨2, ![256, 1024]⟩) ![0, o] ![256, n] inb).emb y) := by
  obtain ⟨r, e, rfl⟩ : ∃ r e, y = ix2 r e := ⟨y 0, y 1, ValueIdx.eq_ix2 y⟩
  obtain ⟨k, hk⟩ := hq
  have ho : ∀ d : Fin n, o + d.val < 1024 := fun d => by
    have h := inb 1
    have : o + n ≤ 1024 := h
    omega
  have hi : (Rect.unit (s := ⟨2, ![256, 1024]⟩) ![0, o] ![256, n] inb).emb (ix2 r e) = ix2 r ⟨o + e.val, ho e⟩ := by
    funext a
    apply Fin.ext
    match a with
    | 0 => show 0 + 1 * r.val = r.val; omega
    | 1 => show o + 1 * e.val = o + e.val; omega
  have hg : (o + e.val) / n * n = o := by
    have hp : 0 < n := Nat.lt_of_le_of_lt (Nat.zero_le _) e.isLt
    rw [hk, Nat.add_comm, Nat.add_mul_div_right _ _ hp, Nat.div_eq_of_lt e.isLt, Nat.zero_add]
  rw [hi]
  refine (group_apply q o x _ hs hr hc hb hw hv r e ho).trans (congrArg₂ (fun a b : EReal => a * b) ?_ ?_)
  · exact (normAt_group q hn x r ⟨o + e.val, ho e⟩ o ho hg).symm
  · refine View.ld_unit_apply_of W _ _ inb' _ _ fun a => ?_
    match a with
    | 0 => rfl
    | 1 => rfl

/-- The operations of one group and its gate, at a block's entry: the normalised entry times its weight and its gate. -/
theorem gated_emb (hn : n ∣ 1024) (W : Vec Ideal ⟨2, ![1, 1024]⟩ .f32) (s : FVec Ideal ⟨2, ![256, 1024]⟩ .f32) (hq : ∃ k, o = k * n)
    (inb : ∀ a, (![0, o] : Fin 2 → ℕ) a + (![256, n] : Fin 2 → ℕ) a ≤ (⟨2, ![256, 1024]⟩ : Shape).size a)
    (inb' : ∀ a, (![0, o] : Fin 2 → ℕ) a + (![1, n] : Fin 2 → ℕ) a ≤ (⟨2, ![1, 1024]⟩ : Shape).size a) (hl : FTy.bits .bf16 < FTy.bits .f32) (y : (⟨2, ![256, n]⟩ : Shape).Idx) :
    truncf (F := Ideal) .bf16 (mulf (group q o x (View.ld W (Rect.unit (s := ⟨2, ![1, 1024]⟩) ![0, o] ![1, n] inb')) hs hr hc hb hw hv) (extractStridedSlice ⟨2, ![256, n]⟩ ![0, o] s hs)) hl y
      = (fun i : (⟨2, ![256, 1024]⟩ : Shape).Idx => normAt q hn x (i 0) (i 1) * W (ix2 0 (i 1)) * s i) ((Rect.unit (s := ⟨2, ![256, 1024]⟩) ![0, o] ![256, n] inb).emb y) :=
  congrArg₂ (fun a b : EReal => a * b) (group_emb q o x hs hr hc hb hw hv hn W hq inb inb' y)
    (congrFun (View.ld_unit (Val := Elt Ideal) (e := .f32) (S := ⟨2, ![256, 1024]⟩) s ![0, o] ![256, n] inb).symm y)

end Cert.Norm

end
-- ==== Proof.Post.lean ====
/- The retention's last step: the two directions' sum, normalised in four groups of 256 columns, weighted and gated. Each grid point takes 256
   rows, its four stores tile the block, and the reference normalises the same groups. -/
module

public import proofs.«01_k».proof.Defs
public import proofs.«01_k».proof.Proof.Blocks
public import proofs.«01_k».proof.Proof.Norm
public import proofs.«01_k».proof.Proof.Gen.Kernel7Ideal.Value
public import proofs.«01_k».proof.Proof.Gen.Reference7Ideal.Run
public import Idealize.ShloMosaic.Lib.Pipeline.ValueKit.Tiles
public import Idealize.ShloMosaic.Lib.Pipeline.ValueKit.Basic
public import Idealize.ShloMosaic.Lib.Pipeline.ReadBack
public import Idealize.ShloMosaic.Lib.Pointwise
public import Idealize.ShloMosaic.Lib.IdealHost
public import Idealize.ShloMosaic.Lib.Claim
public import Idealize.ShloMosaic.Lib.Quiescent

@[expose] public section

set_option maxRecDepth 16384

noncomputable section

open Idealize.ShloMosaic Idealize.ShloMosaic.TcCoe Idealize.SL.Sem
open Cert.Norm Cert.Blocks

namespace Cert.Post

/-- The retention's result, entry by entry. -/
def outAt (a b : Arr 8448 1024) (u : Arr 8448 3072) (g : (⟨1, ![1024]⟩ : Shape).Idx → EReal) (R : Fin 8448) (C : Fin 1024) : EReal :=
  normAt (n := 256) 0x43800000#32 (by decide) (fun i => a i + b i) R C * g (ix1 C) * silu (u (ix2 R ⟨2048 + C.val, by omega⟩))

/-- The retention's result. -/
def out (a b : Arr 8448 1024) (u : Arr 8448 3072) (g : (⟨1, ![1024]⟩ : Shape).Idx → EReal) : Arr 8448 1024 := fun i => outAt a b u g (i 0) (i 1)

end Cert.Post

namespace Cert.Kernel7Ideal.Point

open Cert.Kernel7Ideal Cert.Kernel7Ideal.Gen Cert.Post

variable (m : (ℓ : Loc nD τ sig) → Buf (Elt Ideal) ℓ) (ρ : Dev nD → PrngReg)

/-- The first direction as launched. -/
abbrev argA (c : Dev nD) : Arr 8448 1024 := m ((c : Thread nD τ).loc main_arg0)
/-- The second direction as launched. -/
abbrev argB (c : Dev nD) : Arr 8448 1024 := m ((c : Thread nD τ).loc main_arg1)
/-- The projection, whose last third gates, as launched. -/
abbrev argU (c : Dev nD) : Arr 8448 3072 := m ((c : Thread nD τ).loc main_arg2)
/-- The weights as launched. -/
abbrev argG (c : Dev nD) : (⟨1, ![1024]⟩ : Shape).Idx → EReal := m ((c : Thread nD τ).loc main_arg3)

/-- The block index of every window at point `t`. -/
theorem index_eq : ∀ t : Fin cfg0.N,
    (win0_0.index t 0 = t.val ∧ win0_0.index t 1 = 0) ∧ (win0_1.index t 0 = t.val ∧ win0_1.index t 1 = 0) ∧ (win0_2.index t 0 = t.val ∧ win0_2.index t 1 = 2)
    ∧ (win0_3.index t 0 = 0 ∧ win0_3.index t 1 = 0) ∧ (win0_4.index t 0 = t.val ∧ win0_4.index t 1 = 0) :=
  (by decide +kernel : ∀ t : Fin grid0.N, _)

/-- The first direction's block at point `t`. -/
theorem blkA (c : Dev nD) (t : Fin cfg0.N) (r : Fin 256) (C : Fin 1024) (R : Fin 8448) (hR : R.val = t.val * 256 + r.val) :
    (iblk m c 0 t : Vec Ideal S256x1024 .f32) (ix2 r C) = argA m c (ix2 R C) := by
  unfold iblk
  rw [View.read_apply]
  exact (congrFun (V_main_arg0 m c) _).trans (congrArg (argA m c) (ix2_of _ R C (place (index_eq t).1.1 hR) (place_zero (index_eq t).1.2 _)))

/-- The second direction's block at point `t`. -/
theorem blkB (c : Dev nD) (t : Fin cfg0.N) (r : Fin 256) (C : Fin 1024) (R : Fin 8448) (hR : R.val = t.val * 256 + r.val) :
    (iblk m c 1 t : Vec Ideal S256x1024 .f32) (ix2 r C) = argB m c (ix2 R C) := by
  unfold iblk
  rw [View.read_apply]
  exact (congrFun (V_main_arg1 m c) _).trans (congrArg (argB m c) (ix2_of _ R C (place (index_eq t).2.1.1 hR) (place_zero (index_eq t).2.1.2 _)))

/-- The gates' block at point `t`. -/
theorem blkU (c : Dev nD) (t : Fin cfg0.N) (r : Fin 256) (C : Fin 1024) (R : Fin 8448) (hR : R.val = t.val * 256 + r.val) :
    (iblk m c 2 t : Vec Ideal S256x1024 .f32) (ix2 r C) = argU m c (ix2 R ⟨2048 + C.val, by omega⟩) := by
  unfold iblk
  rw [View.read_apply]
  exact (congrFun (V_main_arg2 m c) _).trans (congrArg (argU m c) (ix2_of _ R ⟨2048 + C.val, by omega⟩ (place (index_eq t).2.2.1.1 hR) (place (index_eq t).2.2.1.2 rfl)))

/-- The weights as the region finds them: a row. -/
theorem row_eq (c : Dev nD) : (V m c main_v0 : Arr 1 1024) = shapeCast S1x1024 (argG m c) shapeCasts_S1024_S1x1024 := by
  show StableHlo.after hostOps0 _ _ = _
  after_results
  rfl

/-- The weights' block at every point. -/
theorem blkG (c : Dev nD) (t : Fin cfg0.N) (C : Fin 1024) : (iblk m c 3 t : Vec Ideal S1x1024 .f32) (ix2 0 C) = argG m c (ix1 C) := by
  unfold iblk
  rw [View.read_apply]
  refine (congrFun (row_eq m c) _).trans ((congrArg (shapeCast S1x1024 (argG m c) shapeCasts_S1024_S1x1024)
    (ix2_of _ 0 C (place_zero (index_eq t).2.2.2.1.1 _) (place_zero (index_eq t).2.2.2.1.2 _))).trans ?_)
  pointwise

section Body

variable (x0 x1 x2 : Vec Ideal S256x1024 .f32) (x3 : Vec Ideal S1x1024 .f32)

/-- The body's result as one function of the block's entries. -/
def outBlk : Arr 256 1024 := fun i => normAt (n := 256) 0x43800000#32 (by decide) (fun i => x0 i + x1 i) (i 0) (i 1) * x3 (ix2 0 (i 1)) * silu (x2 i)

/-- One store of the body, the group that starts at column `o`, is its part of that function. -/
theorem store_eq (o : ℕ) (hq : ∃ k, o = k * 256) (inb inb') (hs) (y : S256x256.Idx) :
    truncf (F := Ideal) .bf16 (mulf (group 0x43800000#32 o (addf (F := Ideal) (φ := .f32) x0 x1) (View.ld x3 (Rect.unit (s := S1x1024) ![0, o] ![1, 256] inb')) hs reduces_S256x256_S256 shapeCasts_S256_S256x1
        broadcasts_S256x1_S256x256 shapeCasts_S1x256_S1x256 broadcasts_S1x256_S256x256) (extractStridedSlice S256x256 ![0, o] (k0_pay2 x2) hs)) bitsLt_bf16_f32 y
      = outBlk x0 x1 x2 x3 ((Rect.unit (s := S256x1024) ![0, o] ![256, 256] inb).emb y) :=
  gated_emb _ o _ hs _ _ _ _ _ (by decide) x3 (k0_pay2 x2) hq inb inb' _ y

/-- The body's result. -/
theorem out_eq : out0_4 x0 x1 x2 x3 = outBlk x0 x1 x2 x3 := by
  funext y
  unfold_out out0_4
  have hl : ∀ x : Vec Ideal S256x1024 .f32, View.ld x r0_0 = x := fun x => View.ld_unit_lit _ x (by decide)
  rw [hl x0, hl x1, hl x2]
  refine View.canon_apply_of_pieces _ _ (View.PiecesOf.mem ?_) _ (cover0_4 _ _ _ _ y)
  exact ⟨store_eq x0 x1 x2 x3 768 ⟨3, rfl⟩ inb_S256x1024_S256x256_0_768 _ _,
    store_eq x0 x1 x2 x3 512 ⟨2, rfl⟩ inb_S256x1024_S256x256_0_512 _ _,
    store_eq x0 x1 x2 x3 256 ⟨1, rfl⟩ inb_S256x1024_S256x256_0_256 _ _,
    store_eq x0 x1 x2 x3 0 ⟨0, rfl⟩ inb_S256x1024_S256x256_0_0 _ _, trivial⟩

end Body

/-- The body's result at point `t` is the retention's at that point's rows. -/
theorem block_eq (c : Dev nD) (t : Fin cfg0.N) (y : S256x1024.Idx) (R : Fin 8448) (hR : R.val = t.val * 256 + (y 0).val) :
    out0_4 (iblk m c 0 t) (iblk m c 1 t) (iblk m c 2 t) (iblk m c 3 t) y = out (argA m c) (argB m c) (argU m c) (argG m c) (ix2 R (y 1)) := by
  obtain ⟨r, C, rfl⟩ : ∃ r C, y = ix2 r C := ⟨y 0, y 1, ValueIdx.eq_ix2 y⟩
  refine (congrFun (out_eq (iblk m c 0 t) (iblk m c 1 t) (iblk m c 2 t) (iblk m c 3 t)) _).trans ?_
  refine congrArg₂ (fun a b : EReal => a * b) (congrArg₂ (fun a b : EReal => a * b) ?_ (blkG m c t C)) (congrArg silu (blkU m c t r C R hR))
  exact normAt_congr _ _ _ _ r R (fun d => congrArg₂ (fun a b : EReal => a + b) (blkA m c t r d R hR) (blkB m c t r d R hR)) C

/-- What point `t` writes back is its block of the result. -/
theorem flushed_eq (c : Dev nD) (t : Fin cfg0.N) :
    (dats m 0 c).flushed 4 t = ((cfg0.win 4).blk t).view.read (Elt Ideal) (out (argA m c) (argB m c) (argU m c) (argG m c)) := by
  have hN : t.val < 33 := lt_of_lt_of_eq t.isLt (show cfg0.N = 33 from N_0)
  rw [Value.flushed4]
  funext y
  rw [View.read_apply]
  have h0 : (y 0).val < 256 := (y 0).isLt
  refine (block_eq m c t y ⟨t.val * 256 + (y 0).val, by omega⟩ rfl).trans ?_
  exact congrArg (out (argA m c) (argB m c) (argU m c) (argG m c)) (ix2_of _ _ _ (place (index_eq t).2.2.2.2.1 rfl) (place_zero (index_eq t).2.2.2.2.2 _)).symm

/-- The result array when the run ends. -/
theorem final (c : Dev nD) : (dats m 0 c).arrAt 4 cfg0.N = out (argA m c) (argB m c) (argU m c) (argG m c) :=
  (dats m 0 c).arrAt_eq_of_cover 4 _ (fun t _ => flushed_eq m c t) fun i => by
    have h0 : (i 0).val < 8448 := (i 0).isLt
    have h1 : (i 1).val < 1024 := (i 1).isLt
    have hN : cfg0.N = 33 := N_0
    obtain ⟨t, ht⟩ : ∃ t : Fin cfg0.N, t.val = (i 0).val / 256 := ⟨⟨_, by rw [hN]; omega⟩, rfl⟩
    refine ⟨t, flush0_4 _, ?_⟩
    show i ∈ ((View.whole main_v1).slice (win0_4.rect t)).set
    rw [View.set_slice_whole, Rect.mem_set_unit]
    intro a
    match a with
    | ⟨0, _⟩ => exact in_block (k := win0_4.index t 0) (n := 256) (i := (i 0).val) (by omega) ((index_eq t).2.2.2.2.1.trans (by omega))
    | ⟨1, _⟩ => exact in_block (k := win0_4.index t 1) (n := 1024) (i := (i 1).val) (by omega) ((index_eq t).2.2.2.2.2.trans (by omega))

/-- Every run of the kernel ends with the retention's result in the result's buffer and its arguments unchanged. -/
theorem run : θ_run defs (onTc (τ := τ) (main (F := Ideal))) ⟨m, fun _ => 0, ρ⟩ fun r => ∀ c : Dev nD,
      r.2.mem ((c : Thread nD τ).loc main_v1) = out (argA m c) (argB m c) (argU m c) (argG m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.Kernel7Ideal.Point

namespace Cert.Reference7Ideal.Ref

open Cert.Reference7Ideal Cert.Reference7Ideal.Gen Cert.Post

variable (m : (ℓ : Loc nD τ sig) → Buf (Elt Ideal) ℓ) (ρ : Dev nD → PrngReg)

/-- Every run of the reference ends with the retention's result in the result's buffer, its arguments unchanged and no semaphore raised. -/
theorem run : θ_run (defs (F := Ideal)) (onTc (τ := τ) (main (F := Ideal))) ⟨m, fun _ => 0, ρ⟩ fun r => (∀ c : Dev nD,
      r.2.mem ((c.tc : Thread nD τ).loc main_v19) = out (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 := by
  refine (θ_run defs _ _).mono (fun _ h => ⟨fun c => ⟨(h c).1.trans ?_, (h c).2⟩, sem_eq_zero_of_no_sems rfl _⟩) (Value.run m ρ)
  funext y
  obtain ⟨r, c, rfl⟩ : ∃ r c, y = ix2 r c := ⟨y 0, y 1, ValueIdx.eq_ix2 y⟩
  show _ = outAt _ _ _ _ r c
  unfold outAt normAt silu Ideal.logistic
  pointwise

end Cert.Reference7Ideal.Ref

end
-- ==== Proof.SsdPost.lean ====
/- The state-space mixer's last step: the two directions' sum and the skip, gated, then normalised in four groups of 256 columns and weighted. Each
   grid point takes 256 rows, its four stores tile the block, and the reference normalises the same groups. -/
module

public import proofs.«01_k».proof.Defs
public import proofs.«01_k».proof.Proof.Blocks
public import proofs.«01_k».proof.Proof.Norm
public import proofs.«01_k».proof.Proof.Gen.Kernel8Ideal.Value
public import proofs.«01_k».proof.Proof.Gen.Reference8Ideal.Run
public import Idealize.ShloMosaic.Lib.Pipeline.ValueKit.Tiles
public import Idealize.ShloMosaic.Lib.Pipeline.ValueKit.Basic
public import Idealize.ShloMosaic.Lib.Pipeline.ReadBack
public import Idealize.ShloMosaic.Lib.Pointwise
public import Idealize.ShloMosaic.Lib.IdealHost
public import Idealize.ShloMosaic.Lib.Claim
public import Idealize.ShloMosaic.Lib.Quiescent

@[expose] public section

set_option maxRecDepth 16384

noncomputable section

open Idealize.ShloMosaic Idealize.ShloMosaic.TcCoe Idealize.SL.Sem
open Cert.Norm Cert.Blocks

namespace Cert.SsdPost

/-- What is normalised: the two directions and the skip of the first half of `v`, one factor `d` for every 64 columns, times the gate. -/
def gated (a b : Arr 8448 1024) (v : Arr 8448 2048) (d : (⟨1, ![16]⟩ : Shape).Idx → EReal) (u : Arr 8448 3072) : Arr 8448 1024 := fun i =>
  (v (ix2 (i 0) ⟨(i 1).val, by have h : (i 1).val < 1024 := (i 1).isLt; omega⟩) * d (ix1 ⟨(i 1).val / 64, by have h : (i 1).val < 1024 := (i 1).isLt; omega⟩) + a i + b i)
    * silu (u (ix2 (i 0) ⟨(i 1).val, by have h : (i 1).val < 1024 := (i 1).isLt; omega⟩))

/-- The mixer's result, entry by entry. -/
def outAt (a b : Arr 8448 1024) (v : Arr 8448 2048) (d : (⟨1, ![16]⟩ : Shape).Idx → EReal) (u : Arr 8448 3072) (g : (⟨1, ![1024]⟩ : Shape).Idx → EReal) (R : Fin 8448) (C : Fin 1024) : EReal :=
  normAt (n := 256) 0x43800000#32 (by decide) (gated a b v d u) R C * g (ix1 C)

/-- The mixer's result. -/
def out (a b : Arr 8448 1024) (v : Arr 8448 2048) (d : (⟨1, ![16]⟩ : Shape).Idx → EReal) (u : Arr 8448 3072) (g : (⟨1, ![1024]⟩ : Shape).Idx → EReal) : Arr 8448 1024 :=
  fun i => outAt a b v d u g (i 0) (i 1)

end Cert.SsdPost

namespace Cert.Kernel8Ideal.Point

open Cert.Kernel8Ideal Cert.Kernel8Ideal.Gen Cert.SsdPost

variable (m : (ℓ : Loc nD τ sig) → Buf (Elt Ideal) ℓ) (ρ : Dev nD → PrngReg)

/-- The first direction as launched. -/
abbrev argA (c : Dev nD) : Arr 8448 1024 := m ((c : Thread nD τ).loc main_arg0)
/-- The second direction as launched. -/
abbrev argB (c : Dev nD) : Arr 8448 1024 := m ((c : Thread nD τ).loc main_arg1)
/-- The convolved inputs as launched. -/
abbrev argV (c : Dev nD) : Arr 8448 2048 := m ((c : Thread nD τ).loc main_arg2)
/-- The skip's factors as launched. -/
abbrev argD (c : Dev nD) : (⟨1, ![16]⟩ : Shape).Idx → EReal := m ((c : Thread nD τ).loc main_arg3)
/-- The projection, whose first third gates, as launched. -/
abbrev argU (c : Dev nD) : Arr 8448 3072 := m ((c : Thread nD τ).loc main_arg4)
/-- The weights as launched. -/
abbrev argG (c : Dev nD) : (⟨1, ![1024]⟩ : Shape).Idx → EReal := m ((c : Thread nD τ).loc main_arg5)

/-- The block index of every window at point `t`. -/
theorem index_eq : ∀ t : Fin cfg0.N,
    (win0_0.index t 0 = t.val ∧ win0_0.index t 1 = 0) ∧ (win0_1.index t 0 = t.val ∧ win0_1.index t 1 = 0) ∧ (win0_2.index t 0 = t.val ∧ win0_2.index t 1 = 0)
    ∧ (win0_3.index t 0 = 0 ∧ win0_3.index t 1 = 0) ∧ (win0_4.index t 0 = t.val ∧ win0_4.index t 1 = 0) ∧ (win0_5.index t 0 = 0 ∧ win0_5.index t 1 = 0)
    ∧ (win0_6.index t 0 = t.val ∧ win0_6.index t 1 = 0) :=
  (by decide +kernel : ∀ t : Fin grid0.N, _)

/-- The first direction's block at point `t`. -/
theorem blkA (c : Dev nD) (t : Fin cfg0.N) (r : Fin 256) (C : Fin 1024) (R : Fin 8448) (hR : R.val = t.val * 256 + r.val) :
    (iblk m c 0 t : Vec Ideal S256x1024 .f32) (ix2 r C) = argA m c (ix2 R C) := by
  unfold iblk
  rw [View.read_apply]
  exact (congrFun (V_main_arg0 m c) _).trans (congrArg (argA m c) (ix2_of _ R C (place (index_eq t).1.1 hR) (place_zero (index_eq t).1.2 _)))

/-- The second direction's block at point `t`. -/
theorem blkB (c : Dev nD) (t : Fin cfg0.N) (r : Fin 256) (C : Fin 1024) (R : Fin 8448) (hR : R.val = t.val * 256 + r.val) :
    (iblk m c 1 t : Vec Ideal S256x1024 .f32) (ix2 r C) = argB m c (ix2 R C) := by
  unfold iblk
  rw [View.read_apply]
  exact (congrFun (V_main_arg1 m c) _).trans (congrArg (argB m c) (ix2_of _ R C (place (index_eq t).2.1.1 hR) (place_zero (index_eq t).2.1.2 _)))

/-- The block of the convolved inputs at point `t`. -/
theorem blkV (c : Dev nD) (t : Fin cfg0.N) (r : Fin 256) (C : Fin 1024) (R : Fin 8448) (hR : R.val = t.val * 256 + r.val) :
    (iblk m c 2 t : Vec Ideal S256x1024 .f32) (ix2 r C) = argV m c (ix2 R ⟨C.val, by omega⟩) := by
  unfold iblk
  rw [View.read_apply]
  exact (congrFun (V_main_arg2 m c) _).trans (congrArg (argV m c) (ix2_of _ R ⟨C.val, by omega⟩ (place (index_eq t).2.2.1.1 hR) (place_zero (index_eq t).2.2.1.2 _)))

/-- The gates' block at point `t`. -/
theorem blkU (c : Dev nD) (t : Fin cfg0.N) (r : Fin 256) (C : Fin 1024) (R : Fin 8448) (hR : R.val = t.val * 256 + r.val) :
    (iblk m c 4 t : Vec Ideal S256x1024 .f32) (ix2 r C) = argU m c (ix2 R ⟨C.val, by omega⟩) := by
  unfold iblk
  rw [View.read_apply]
  exact (congrFun (V_main_arg4 m c) _).trans (congrArg (argU m c) (ix2_of _ R ⟨C.val, by omega⟩ (place (index_eq t).2.2.2.2.1.1 hR) (place_zero (index_eq t).2.2.2.2.1.2 _)))

/-- The skip's factors as the region finds them: a row, each factor 64 times. -/
theorem skip_eq (c : Dev nD) : (V m c main_v2 : Arr 1 1024)
    = shapeCast S1x1024 (shapeCast S1024 (broadcastInDim S16x64 ![0] bcast_S16_S16x64_0 (argD m c)) shapeCasts_S16x64_S1024) shapeCasts_S1024_S1x1024 := by
  show StableHlo.after hostOps0 _ _ = _
  after_results
  rfl

/-- The skip's block at every point. -/
theorem blkD (c : Dev nD) (t : Fin cfg0.N) (C : Fin 1024) : (iblk m c 3 t : Vec Ideal S1x1024 .f32) (ix2 0 C) = argD m c (ix1 ⟨C.val / 64, by omega⟩) := by
  unfold iblk
  rw [View.read_apply]
  refine (congrFun (skip_eq m c) _).trans ((congrArg (shapeCast S1x1024 (shapeCast S1024 (broadcastInDim S16x64 ![0] bcast_S16_S16x64_0 (argD m c)) shapeCasts_S16x64_S1024) shapeCasts_S1024_S1x1024)
    (ix2_of _ 0 C (place_zero (index_eq t).2.2.2.1.1 _) (place_zero (index_eq t).2.2.2.1.2 _))).trans ?_)
  pointwise

/-- The weights as the region finds them: a row. -/
theorem row_eq (c : Dev nD) : (V m c main_v3 : Arr 1 1024) = shapeCast S1x1024 (argG m c) shapeCasts_S1024_S1x1024 := by
  show StableHlo.after hostOps0 _ _ = _
  after_results
  rfl

/-- The weights' block at every point. -/
theorem blkG (c : Dev nD) (t : Fin cfg0.N) (C : Fin 1024) : (iblk m c 5 t : Vec Ideal S1x1024 .f32) (ix2 0 C) = argG m c (ix1 C) := by
  unfold iblk
  rw [View.read_apply]
  refine (congrFun (row_eq m c) _).trans ((congrArg (shapeCast S1x1024 (argG m c) shapeCasts_S1024_S1x1024)
    (ix2_of _ 0 C (place_zero (index_eq t).2.2.2.2.2.1.1 _) (place_zero (index_eq t).2.2.2.2.2.1.2 _))).trans ?_)
  pointwise

section Body

variable (x0 x1 x2 : Vec Ideal S256x1024 .f32) (x3 : Vec Ideal S1x1024 .f32) (x4 : Vec Ideal S256x1024 .f32) (x5 : Vec Ideal S1x1024 .f32)

/-- What the body normalises, entry by entry. -/
theorem gated_apply (r : Fin 256) (C : Fin 1024) :
    k0_pay1 x0 x1 x2 x3 x4 (ix2 r C) = (x0 (ix2 r C) + x1 (ix2 r C) + x2 (ix2 r C) * x3 (ix2 0 C)) * silu (x4 (ix2 r C)) := by
  unfold silu
  pointwise [k0_pay1]

/-- The body's result as one function of the block's entries. -/
def outBlk : Arr 256 1024 := fun i => normAt (n := 256) 0x43800000#32 (by decide) (k0_pay1 x0 x1 x2 x3 x4) (i 0) (i 1) * x5 (ix2 0 (i 1))

/-- One store of the body, the group that starts at column `o`, is its part of that function. -/
theorem store_eq (o : ℕ) (hq : ∃ k, o = k * 256) (inb inb') (hs) (y : S256x256.Idx) :
    truncf (F := Ideal) .bf16 (group 0x43800000#32 o (k0_pay1 x0 x1 x2 x3 x4) (View.ld x5 (Rect.unit (s := S1x1024) ![0, o] ![1, 256] inb')) hs reduces_S256x256_S256 shapeCasts_S256_S256x1
        broadcasts_S256x1_S256x256 shapeCasts_S1x256_S1x256 broadcasts_S1x256_S256x256) bitsLt_bf16_f32 y
      = outBlk x0 x1 x2 x3 x4 x5 ((Rect.unit (s := S256x1024) ![0, o] ![256, 256] inb).emb y) :=
  group_emb _ o _ hs _ _ _ _ _ (by decide) x5 hq inb inb' y

/-- The body's result. -/
theorem out_eq : out0_6 x0 x1 x2 x3 x4 x5 = outBlk x0 x1 x2 x3 x4 x5 := by
  funext y
  unfold_out out0_6
  have hl : ∀ x : Vec Ideal S256x1024 .f32, View.ld x r0_0 = x := fun x => View.ld_unit_lit _ x (by decide)
  have hr : View.ld x3 r0_1 = x3 := View.ld_unit_lit _ x3 (by decide)
  rw [hl x0, hl x1, hl x2, hl x4, hr]
  refine View.canon_apply_of_pieces _ _ (View.PiecesOf.mem ?_) _ (cover0_6 _ _ _ _ y)
  exact ⟨store_eq x0 x1 x2 x3 x4 x5 768 ⟨3, rfl⟩ inb_S256x1024_S256x256_0_768 _ _,
    store_eq x0 x1 x2 x3 x4 x5 512 ⟨2, rfl⟩ inb_S256x1024_S256x256_0_512 _ _,
    store_eq x0 x1 x2 x3 x4 x5 256 ⟨1, rfl⟩ inb_S256x1024_S256x256_0_256 _ slices_S256x1024_o0_256_S256x256,
    store_eq x0 x1 x2 x3 x4 x5 0 ⟨0, rfl⟩ inb_S256x1024_S256x256_0_0 _ _, trivial⟩

end Body

/-- The body's result at point `t` is the mixer's at that point's rows. -/
theorem block_eq (c : Dev nD) (t : Fin cfg0.N) (y : S256x1024.Idx) (R : Fin 8448) (hR : R.val = t.val * 256 + (y 0).val) :
    out0_6 (iblk m c 0 t) (iblk m c 1 t) (iblk m c 2 t) (iblk m c 3 t) (iblk m c 4 t) (iblk m c 5 t) y = out (argA m c) (argB m c) (argV m c) (argD m c) (argU m c) (argG m c) (ix2 R (y 1)) := by
  obtain ⟨r, C, rfl⟩ : ∃ r C, y = ix2 r C := ⟨y 0, y 1, ValueIdx.eq_ix2 y⟩
  refine (congrFun (out_eq (iblk m c 0 t) (iblk m c 1 t) (iblk m c 2 t) (iblk m c 3 t) (iblk m c 4 t) (iblk m c 5 t)) _).trans ?_
  refine congrArg₂ (fun a b : EReal => a * b) (normAt_congr _ _ _ _ r R (fun d => ?_) C) (blkG m c t C)
  refine (gated_apply (iblk m c 0 t) (iblk m c 1 t) (iblk m c 2 t) (iblk m c 3 t) (iblk m c 4 t) r d).trans ?_
  refine congrArg₂ (fun a b : EReal => a * b) ?_ (congrArg silu (blkU m c t r d R hR))
  refine (congrArg₂ (fun a b : EReal => a + b) (congrArg₂ (fun a b : EReal => a + b) (blkA m c t r d R hR) (blkB m c t r d R hR))
    (congrArg₂ (fun a b : EReal => a * b) (blkV m c t r d R hR) (blkD m c t d))).trans ?_
  exact (add_comm _ _).trans (add_assoc _ _ _).symm

/-- What point `t` writes back is its block of the result. -/
theorem flushed_eq (c : Dev nD) (t : Fin cfg0.N) :
    (dats m 0 c).flushed 6 t = ((cfg0.win 6).blk t).view.read (Elt Ideal) (out (argA m c) (argB m c) (argV m c) (argD m c) (argU m c) (argG m c)) := by
  have hN : t.val < 33 := lt_of_lt_of_eq t.isLt (show cfg0.N = 33 from N_0)
  rw [Value.flushed6]
  funext y
  rw [View.read_apply]
  have h0 : (y 0).val < 256 := (y 0).isLt
  refine (block_eq m c t y ⟨t.val * 256 + (y 0).val, by omega⟩ rfl).trans ?_
  exact congrArg (out (argA m c) (argB m c) (argV m c) (argD m c) (argU m c) (argG m c)) (ix2_of _ _ _ (place (index_eq t).2.2.2.2.2.2.1 rfl) (place_zero (index_eq t).2.2.2.2.2.2.2 _)).symm

/-- The result array when the run ends. -/
theorem final (c : Dev nD) : (dats m 0 c).arrAt 6 cfg0.N = out (argA m c) (argB m c) (argV m c) (argD m c) (argU m c) (argG m c) :=
  (dats m 0 c).arrAt_eq_of_cover 6 _ (fun t _ => flushed_eq m c t) fun i => by
    have h0 : (i 0).val < 8448 := (i 0).isLt
    have h1 : (i 1).val < 1024 := (i 1).isLt
    have hN : cfg0.N = 33 := N_0
    obtain ⟨t, ht⟩ : ∃ t : Fin cfg0.N, t.val = (i 0).val / 256 := ⟨⟨_, by rw [hN]; omega⟩, rfl⟩
    refine ⟨t, flush0_6 _, ?_⟩
    show i ∈ ((View.whole main_v4).slice (win0_6.rect t)).set
    rw [View.set_slice_whole, Rect.mem_set_unit]
    intro a
    match a with
    | ⟨0, _⟩ => exact in_block (k := win0_6.index t 0) (n := 256) (i := (i 0).val) (by omega) ((index_eq t).2.2.2.2.2.2.1.trans (by omega))
    | ⟨1, _⟩ => exact in_block (k := win0_6.index t 1) (n := 1024) (i := (i 1).val) (by omega) ((index_eq t).2.2.2.2.2.2.2.trans (by omega))

/-- Every run of the kernel ends with the mixer's result in the result's buffer and its arguments unchanged. -/
theorem run : θ_run defs (onTc (τ := τ) (main (F := Ideal))) ⟨m, fun _ => 0, ρ⟩ fun r => ∀ c : Dev nD,
      r.2.mem ((c : Thread nD τ).loc main_v4) = out (argA m c) (argB m c) (argV m c) (argD m c) (argU m c) (argG m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Value.run_blocks m ρ)

end Cert.Kernel8Ideal.Point

namespace Cert.Reference8Ideal.Ref

open Cert.Reference8Ideal Cert.Reference8Ideal.Gen Cert.SsdPost

variable (m : (ℓ : Loc nD τ sig) → Buf (Elt Ideal) ℓ) (ρ : Dev nD → PrngReg)

/-- Every run of the reference ends with the mixer's result in the result's buffer, its arguments unchanged and no semaphore raised. -/
theorem run : θ_run (defs (F := Ideal)) (onTc (τ := τ) (main (F := Ideal))) ⟨m, fun _ => 0, ρ⟩ fun r => (∀ c : Dev nD,
      r.2.mem ((c.tc : Thread nD τ).loc main_v27) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 := by
  refine (θ_run defs _ _).mono (fun _ h => ⟨fun c => ⟨(h c).1.trans ?_, (h c).2⟩, sem_eq_zero_of_no_sems rfl _⟩) (Value.run m ρ)
  funext y
  obtain ⟨r, c, rfl⟩ : ∃ r c, y = ix2 r c := ⟨y 0, y 1, ValueIdx.eq_ix2 y⟩
  show _ = outAt _ _ _ _ _ _ r c
  unfold outAt normAt gated silu Ideal.logistic
  pointwise
  simp only [Nat.div_add_mod']

end Cert.Reference8Ideal.Ref

end
-- ==== Proof.HgPost.lean ====
/- The gated recurrence's last step: the two directions' sum, normalised in eight groups of 128 columns, weighted and gated. Each grid point takes
   256 rows, its eight stores tile the block, and the reference normalises the same groups. -/
module

public import proofs.«01_k».proof.Defs
public import proofs.«01_k».proof.Proof.Blocks
public import proofs.«01_k».proof.Proof.Norm
public import proofs.«01_k».proof.Proof.Gen.Kernel9Ideal.Value
public import proofs.«01_k».proof.Proof.Gen.Reference9Ideal.Run
public import Idealize.ShloMosaic.Lib.Pipeline.ValueKit.Tiles
public import Idealize.ShloMosaic.Lib.Pipeline.ValueKit.Basic
public import Idealize.ShloMosaic.Lib.Pipeline.ReadBack
public import Idealize.ShloMosaic.Lib.Pointwise
public import Idealize.ShloMosaic.Lib.IdealHost
public import Idealize.ShloMosaic.Lib.Claim
public import Idealize.ShloMosaic.Lib.Quiescent

@[expose] public section

set_option maxRecDepth 16384

noncomputable section

open Idealize.ShloMosaic Idealize.ShloMosaic.TcCoe Idealize.SL.Sem
open Cert.Norm Cert.Blocks

namespace Cert.HgPost

/-- The recurrence's result, entry by entry. -/
def outAt (a b : Arr 8448 1024) (u : Arr 8448 5120) (g : (⟨1, ![1024]⟩ : Shape).Idx → EReal) (R : Fin 8448) (C : Fin 1024) : EReal :=
  normAt (n := 128) 0x43000000#32 (by decide) (fun i => a i + b i) R C * g (ix1 C) * silu (u (ix2 R ⟨4096 + C.val, by omega⟩))

/-- The recurrence's result. -/
def out (a b : Arr 8448 1024) (u : Arr 8448 5120) (g : (⟨1, ![1024]⟩ : Shape).Idx → EReal) : Arr 8448 1024 := fun i => outAt a b u g (i 0) (i 1)

end Cert.HgPost

namespace Cert.Kernel9Ideal.Point

open Cert.Kernel9Ideal Cert.Kernel9Ideal.Gen Cert.HgPost

variable (m : (ℓ : Loc nD τ sig) → Buf (Elt Ideal) ℓ) (ρ : Dev nD → PrngReg)

/-- The first direction as launched. -/
abbrev argA (c : Dev nD) : Arr 8448 1024 := m ((c : Thread nD τ).loc main_arg0)
/-- The second direction as launched. -/
abbrev argB (c : Dev nD) : Arr 8448 1024 := m ((c : Thread nD τ).loc main_arg1)
/-- The projection, whose last fifth gates, as launched. -/
abbrev argU (c : Dev nD) : Arr 8448 5120 := m ((c : Thread nD τ).loc main_arg2)
/-- The weights as launched. -/
abbrev argG (c : Dev nD) : (⟨1, ![1024]⟩ : Shape).Idx → EReal := m ((c : Thread nD τ).loc main_arg3)

/-- The block index of every window at point `t`. -/
theorem index_eq : ∀ t : Fin cfg0.N,
    (win0_0.index t 0 = t.val ∧ win0_0.index t 1 = 0) ∧ (win0_1.index t 0 = t.val ∧ win0_1.index t 1 = 0) ∧ (win0_2.index t 0 = t.val ∧ win0_2.index t 1 = 4)
    ∧ (win0_3.index t 0 = 0 ∧ win0_3.index t 1 = 0) ∧ (win0_4.index t 0 = t.val ∧ win0_4.index t 1 = 0) :=
  (by decide +kernel : ∀ t : Fin grid0.N, _)

/-- The first direction's block at point `t`. -/
theorem blkA (c : Dev nD) (t : Fin cfg0.N) (r : Fin 256) (C : Fin 1024) (R : Fin 8448) (hR : R.val = t.val * 256 + r.val) :
    (iblk m c 0 t : Vec Ideal S256x1024 .f32) (ix2 r C) = argA m c (ix2 R C) := by
  unfold iblk
  rw [View.read_apply]
  exact (congrFun (V_main_arg0 m c) _).trans (congrArg (argA m c) (ix2_of _ R C (place (index_eq t).1.1 hR) (place_zero (index_eq t).1.2 _)))

/-- The second direction's block at point `t`. -/
theorem blkB (c : Dev nD) (t : Fin cfg0.N) (r : Fin 256) (C : Fin 1024) (R : Fin 8448) (hR : R.val = t.val * 256 + r.val) :
    (iblk m c 1 t : Vec Ideal S256x1024 .f32) (ix2 r C) = argB m c (ix2 R C) := by
  unfold iblk
  rw [View.read_apply]
  exact (congrFun (V_main_arg1 m c) _).trans (congrArg (argB m c) (ix2_of _ R C (place (index_eq t).2.1.1 hR) (place_zero (index_eq t).2.1.2 _)))

/-- The gates' block at point `t`. -/
theorem blkU (c : Dev nD) (t : Fin cfg0.N) (r : Fin 256) (C : Fin 1024) (R : Fin 8448) (hR : R.val = t.val * 256 + r.val) :
    (iblk m c 2 t : Vec Ideal S256x1024 .f32) (ix2 r C) = argU m c (ix2 R ⟨4096 + C.val, by omega⟩) := by
  unfold iblk
  rw [View.read_apply]
  exact (congrFun (V_main_arg2 m c) _).trans (congrArg (argU m c) (ix2_of _ R ⟨4096 + C.val, by omega⟩ (place (index_eq t).2.2.1.1 hR) (place (index_eq t).2.2.1.2 rfl)))

/-- The weights as the region finds them: a row. -/
theorem row_eq (c : Dev nD) : (V m c main_v0 : Arr 1 1024) = shapeCast S1x1024 (argG m c) shapeCasts_S1024_S1x1024 := by
  show StableHlo.after hostOps0 _ _ = _
  after_results
  rfl

/-- The weights' block at every point. -/
theorem blkG (c : Dev nD) (t : Fin cfg0.N) (C : Fin 1024) : (iblk m c 3 t : Vec Ideal S1x1024 .f32) (ix2 0 C) = argG m c (ix1 C) := by
  unfold iblk
  rw [View.read_apply]
  refine (congrFun (row_eq m c) _).trans ((congrArg (shapeCast S1x1024 (argG m c) shapeCasts_S1024_S1x1024)
    (ix2_of _ 0 C (place_zero (index_eq t).2.2.2.1.1 _) (place_zero (index_eq t).2.2.2.1.2 _))).trans ?_)
  pointwise

section Body

variable (x0 x1 x2 : Vec Ideal S256x1024 .f32) (x3 : Vec Ideal S1x1024 .f32)

/-- The body's result as one function of the block's entries. -/
def outBlk : Arr 256 1024 := fun i => normAt (n := 128) 0x43000000#32 (by decide) (fun i => x0 i + x1 i) (i 0) (i 1) * x3 (ix2 0 (i 1)) * silu (x2 i)

/-- One store of the body, the group that starts at column `o`, is its part of that function. -/
theorem store_eq (o : ℕ) (hq : ∃ k, o = k * 128) (inb inb') (hs) (y : S256x128.Idx) :
    truncf (F := Ideal) .bf16 (mulf (group 0x43000000#32 o (addf (F := Ideal) (φ := .f32) x0 x1) (View.ld x3 (Rect.unit (s := S1x1024) ![0, o] ![1, 128] inb')) hs reduces_S256x128_S256 shapeCasts_S256_S256x1
        broadcasts_S256x1_S256x128 shapeCasts_S1x128_S1x128 broadcasts_S1x128_S256x128) (extractStridedSlice S256x128 ![0, o] (k0_pay4 x2) hs)) bitsLt_bf16_f32 y
      = outBlk x0 x1 x2 x3 ((Rect.unit (s := S256x1024) ![0, o] ![256, 128] inb).emb y) :=
  gated_emb _ o _ hs _ _ _ _ _ (by decide) x3 (k0_pay4 x2) hq inb inb' _ y

/-- The body's result. -/
theorem out_eq : out0_4 x0 x1 x2 x3 = outBlk x0 x1 x2 x3 := by
  funext y
  unfold_out out0_4
  have hl : ∀ x : Vec Ideal S256x1024 .f32, View.ld x r0_0 = x := fun x => View.ld_unit_lit _ x (by decide)
  rw [hl x0, hl x1, hl x2]
  refine View.canon_apply_of_pieces _ _ (View.PiecesOf.mem ?_) _ (cover0_4 _ _ _ _ _ _ _ _ y)
  exact ⟨store_eq x0 x1 x2 x3 896 ⟨7, rfl⟩ inb_S256x1024_S256x128_0_896 _ _,
    store_eq x0 x1 x2 x3 768 ⟨6, rfl⟩ inb_S256x1024_S256x128_0_768 _ _,
    store_eq x0 x1 x2 x3 640 ⟨5, rfl⟩ inb_S256x1024_S256x128_0_640 _ _,
    store_eq x0 x1 x2 x3 512 ⟨4, rfl⟩ inb_S256x1024_S256x128_0_512 _ _,
    store_eq x0 x1 x2 x3 384 ⟨3, rfl⟩ inb_S256x1024_S256x128_0_384 _ _,
    store_eq x0 x1 x2 x3 256 ⟨2, rfl⟩ inb_S256x1024_S256x128_0_256 _ _,
    store_eq x0 x1 x2 x3 128 ⟨1, rfl⟩ inb_S256x1024_S256x128_0_128 _ _,
    store_eq x0 x1 x2 x3 0 ⟨0, rfl⟩ inb_S256x1024_S256x128_0_0 _ _, trivial⟩

end Body

/-- The body's result at point `t` is the recurrence's at that point's rows. -/
theorem block_eq (c : Dev nD) (t : Fin cfg0.N) (y : S256x1024.Idx) (R : Fin 8448) (hR : R.val = t.val * 256 + (y 0).val) :
    out0_4 (iblk m c 0 t) (iblk m c 1 t) (iblk m c 2 t) (iblk m c 3 t) y = out (argA m c) (argB m c) (argU m c) (argG m c) (ix2 R (y 1)) := by
  obtain ⟨r, C, rfl⟩ : ∃ r C, y = ix2 r C := ⟨y 0, y 1, ValueIdx.eq_ix2 y⟩
  refine (congrFun (out_eq (iblk m c 0 t) (iblk m c 1 t) (iblk m c 2 t) (iblk m c 3 t)) _).trans ?_
  refine congrArg₂ (fun a b : EReal => a * b) (congrArg₂ (fun a b : EReal => a * b) ?_ (blkG m c t C)) (congrArg silu (blkU m c t r C R hR))
  exact normAt_congr _ _ _ _ r R (fun d => congrArg₂ (fun a b : EReal => a + b) (blkA m c t r d R hR) (blkB m c t r d R hR)) C

/-- What point `t` writes back is its block of the result. -/
theorem flushed_eq (c : Dev nD) (t : Fin cfg0.N) :
    (dats m 0 c).flushed 4 t = ((cfg0.win 4).blk t).view.read (Elt Ideal) (out (argA m c) (argB m c) (argU m c) (argG m c)) := by
  have hN : t.val < 33 := lt_of_lt_of_eq t.isLt (show cfg0.N = 33 from N_0)
  rw [Value.flushed4]
  funext y
  rw [View.read_apply]
  have h0 : (y 0).val < 256 := (y 0).isLt
  refine (block_eq m c t y ⟨t.val * 256 + (y 0).val, by omega⟩ rfl).trans ?_
  exact congrArg (out (argA m c) (argB m c) (argU m c) (argG m c)) (ix2_of _ _ _ (place (index_eq t).2.2.2.2.1 rfl) (place_zero (index_eq t).2.2.2.2.2 _)).symm

/-- The result array when the run ends. -/
theorem final (c : Dev nD) : (dats m 0 c).arrAt 4 cfg0.N = out (argA m c) (argB m c) (argU m c) (argG m c) :=
  (dats m 0 c).arrAt_eq_of_cover 4 _ (fun t _ => flushed_eq m c t) fun i => by
    have h0 : (i 0).val < 8448 := (i 0).isLt
    have h1 : (i 1).val < 1024 := (i 1).isLt
    have hN : cfg0.N = 33 := N_0
    obtain ⟨t, ht⟩ : ∃ t : Fin cfg0.N, t.val = (i 0).val / 256 := ⟨⟨_, by rw [hN]; omega⟩, rfl⟩
    refine ⟨t, flush0_4 _, ?_⟩
    show i ∈ ((View.whole main_v1).slice (win0_4.rect t)).set
    rw [View.set_slice_whole, Rect.mem_set_unit]
    intro a
    match a with
    | ⟨0, _⟩ => exact in_block (k := win0_4.index t 0) (n := 256) (i := (i 0).val) (by omega) ((index_eq t).2.2.2.2.1.trans (by omega))
    | ⟨1, _⟩ => exact in_block (k := win0_4.index t 1) (n := 1024) (i := (i 1).val) (by omega) ((index_eq t).2.2.2.2.2.trans (by omega))

/-- Every run of the kernel ends with the recurrence's result in the result's buffer and its arguments unchanged. -/
theorem run : θ_run defs (onTc (τ := τ) (main (F := Ideal))) ⟨m, fun _ => 0, ρ⟩ fun r => ∀ c : Dev nD,
      r.2.mem ((c : Thread nD τ).loc main_v1) = out (argA m c) (argB m c) (argU m c) (argG m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.Kernel9Ideal.Point

namespace Cert.Reference9Ideal.Ref

open Cert.Reference9Ideal Cert.Reference9Ideal.Gen Cert.HgPost

variable (m : (ℓ : Loc nD τ sig) → Buf (Elt Ideal) ℓ) (ρ : Dev nD → PrngReg)

/-- Every run of the reference ends with the recurrence's result in the result's buffer, its arguments unchanged and no semaphore raised. -/
theorem run : θ_run (defs (F := Ideal)) (onTc (τ := τ) (main (F := Ideal))) ⟨m, fun _ => 0, ρ⟩ fun r => (∀ c : Dev nD,
      r.2.mem ((c.tc : Thread nD τ).loc main_v19) = out (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 := by
  refine (θ_run defs _ _).mono (fun _ h => ⟨fun c => ⟨(h c).1.trans ?_, (h c).2⟩, sem_eq_zero_of_no_sems rfl _⟩) (Value.run m ρ)
  funext y
  obtain ⟨r, c, rfl⟩ : ∃ r c, y = ix2 r c := ⟨y 0, y 1, ValueIdx.eq_ix2 y⟩
  show _ = outAt _ _ _ _ r c
  unfold outAt normAt silu Ideal.logistic
  pointwise

end Cert.Reference9Ideal.Ref

end
-- ==== Proof.Dt.lean ====
/- The state-space mixer's time steps: the softplus of a projection plus its bias, and the log decays, that times the heads' factors. Each grid
   point takes 256 rows, and the reference computes the same entries. -/
module

public import proofs.«01_k».proof.Defs
public import proofs.«01_k».proof.Proof.Blocks
public import proofs.«01_k».proof.Proof.Norm
public import proofs.«01_k».proof.Proof.Gen.Kernel10Ideal.Value
public import proofs.«01_k».proof.Proof.Gen.Reference10Ideal.Run
public import Idealize.ShloMosaic.Lib.Pipeline.ValueKit.Tiles
public import Idealize.ShloMosaic.Lib.Pipeline.ValueKit.Basic
public import Idealize.ShloMosaic.Lib.Pipeline.ReadBack
public import Idealize.ShloMosaic.Lib.Pointwise
public import Idealize.ShloMosaic.Lib.IdealHost
public import Idealize.ShloMosaic.Lib.KernelVsHost
public import Idealize.ShloMosaic.Lib.Claim
public import Idealize.ShloMosaic.Lib.Quiescent

@[expose] public section

set_option maxRecDepth 16384

noncomputable section

open Idealize.ShloMosaic Idealize.ShloMosaic.TcCoe Idealize.SL.Sem
open Cert.Norm Cert.Blocks

namespace Cert.Dt

/-- The softplus as both compute it: the positive part plus the log of one plus the exponential of the negated distance from zero. -/
def softplus (x : EReal) : EReal := max x 0 + Ideal.log1p (Ideal.exp (-(FloatOps.absf (F := Ideal) (φ := .f32) x)))

/-- A value per direction and head, each direction's heads followed by zeros to 128 columns. -/
def wide (b : Arr 2 16) : Arr 2 128 := fun i => if h : (i 1).val < 16 then b (ix2 (i 0) ⟨(i 1).val, h⟩) else 0

/-- Padding 16 columns to 128 with zeros makes it. -/
theorem pad_eq (b : Arr 2 16) (hp : (⟨2, ![2, 16]⟩ : Shape).Pads ![0, 0] ![0, 112] ![0, 0] ⟨2, ![2, 128]⟩) (h0 : 0 < (⟨0, ![]⟩ : Shape).numel) :
    (pad ⟨2, ![2, 128]⟩ ![0, 0] ![0, 112] ![0, 0] b (sitofp (F := Ideal) .f32 (constantI ⟨0, ![]⟩ 32 0#32)) hp h0 : Arr 2 128) = wide b := by
  funext y
  obtain ⟨r, c, rfl⟩ : ∃ r c, y = ix2 r c := ⟨y 0, y 1, ValueIdx.eq_ix2 y⟩
  pointwise [wide]
  rw [show (FloatOps.sitofp (F := Ideal) .f32 0#32 : EReal) = 0 from sitofp_zero]

/-- A time step. -/
def dtAt (a : Arr 8448 256) (b : Arr 2 16) (R : Fin 8448) (C : Fin 256) : EReal :=
  softplus (a (ix2 R C) + wide b (ix2 ⟨C.val / 128, by omega⟩ ⟨C.val % 128, by omega⟩))

/-- A log decay. -/
def laAt (a : Arr 8448 256) (b d : Arr 2 16) (R : Fin 8448) (C : Fin 256) : EReal :=
  dtAt a b R C * wide (fun i => -(Ideal.exp (d i))) (ix2 ⟨C.val / 128, by omega⟩ ⟨C.val % 128, by omega⟩)

/-- The time steps. -/
def dt (a : Arr 8448 256) (b : Arr 2 16) : Arr 8448 256 := fun i => dtAt a b (i 0) (i 1)

/-- The log decays. -/
def la (a : Arr 8448 256) (b d : Arr 2 16) : Arr 8448 256 := fun i => laAt a b d (i 0) (i 1)

end Cert.Dt

namespace Cert.Kernel10Ideal.Point

open Cert.Kernel10Ideal Cert.Kernel10Ideal.Gen Cert.Dt

variable (m : (ℓ : Loc nD τ sig) → Buf (Elt Ideal) ℓ) (ρ : Dev nD → PrngReg)

/-- The projection as launched. -/
abbrev argA (c : Dev nD) : Arr 8448 256 := m ((c : Thread nD τ).loc main_arg0)
/-- The biases as launched. -/
abbrev argB (c : Dev nD) : Arr 2 16 := m ((c : Thread nD τ).loc main_arg1)
/-- The logs of the heads' factors as launched. -/
abbrev argD (c : Dev nD) : Arr 2 16 := m ((c : Thread nD τ).loc main_arg2)

/-- The block index of every window at point `t`. -/
theorem index_eq : ∀ t : Fin cfg0.N,
    (win0_0.index t 0 = t.val ∧ win0_0.index t 1 = 0) ∧ (win0_1.index t 0 = 0 ∧ win0_1.index t 1 = 0) ∧ (win0_2.index t 0 = 0 ∧ win0_2.index t 1 = 0)
    ∧ (win0_3.index t 0 = t.val ∧ win0_3.index t 1 = 0) ∧ (win0_4.index t 0 = t.val ∧ win0_4.index t 1 = 0) :=
  (by decide +kernel : ∀ t : Fin grid0.N, _)

/-- The projection's block at point `t`. -/
theorem blkA (c : Dev nD) (t : Fin cfg0.N) (r : Fin 256) (C : Fin 256) (R : Fin 8448) (hR : R.val = t.val * 256 + r.val) :
    (iblk m c 0 t : Vec Ideal S256x256 .f32) (ix2 r C) = argA m c (ix2 R C) := by
  unfold iblk
  rw [View.read_apply]
  exact (congrFun (V_main_arg0 m c) _).trans (congrArg (argA m c) (ix2_of _ R C (place (index_eq t).1.1 hR) (place_zero (index_eq t).1.2 _)))

/-- The biases as the region finds them: a row of both directions' padded heads. -/
theorem rowB_eq (c : Dev nD) : (V m c main_v1 : Arr 1 256) = shapeCast S1x256 (wide (argB m c)) shapeCasts_S2x128_S1x256 := by
  rw [← pad_eq _ pads_S2x16_S2x128_000_01120 h_S_]
  simp only [V, hostOps0, hostOps0_1, hostOps0_2, hostOps0_3, hostOps0_4, List.flatten_cons, List.flatten_nil, List.append_nil, List.cons_append,
    List.nil_append, StableHlo.TRef.unary, StableHlo.TRef.binary, StableHlo.TRef.toBuf, StableHlo.TRef.ofBuf, cast_eq]
  after_results
  rfl

/-- The factors as the region finds them. -/
theorem rowD_eq (c : Dev nD) : (V m c main_v5 : Arr 1 256) = shapeCast S1x256 (wide (fun i => -(Ideal.exp (argD m c i)))) shapeCasts_S2x128_S1x256 := by
  rw [← pad_eq _ pads_S2x16_S2x128_000_01120 h_S_]
  simp only [V, hostOps0, hostOps0_1, hostOps0_2, hostOps0_3, hostOps0_4, List.flatten_cons, List.flatten_nil, List.append_nil, List.cons_append,
    List.nil_append, StableHlo.TRef.unary, StableHlo.TRef.binary, StableHlo.TRef.toBuf, StableHlo.TRef.ofBuf, cast_eq]
  after_results
  rfl

/-- A row of both directions' heads reads the head's entry. -/
theorem row_apply (w : Arr 2 128) (C : Fin 256) :
    (shapeCast S1x256 w shapeCasts_S2x128_S1x256 : Arr 1 256) (ix2 0 C) = w (ix2 ⟨C.val / 128, by omega⟩ ⟨C.val % 128, by omega⟩) := by
  pointwise

/-- The biases' block at every point. -/
theorem blkB (c : Dev nD) (t : Fin cfg0.N) (C : Fin 256) :
    (iblk m c 1 t : Vec Ideal S1x256 .f32) (ix2 0 C) = wide (argB m c) (ix2 ⟨C.val / 128, by omega⟩ ⟨C.val % 128, by omega⟩) := by
  unfold iblk
  rw [View.read_apply]
  exact (congrFun (rowB_eq m c) _).trans ((congrArg (shapeCast S1x256 (wide (argB m c)) shapeCasts_S2x128_S1x256)
    (ix2_of _ 0 C (place_zero (index_eq t).2.1.1 _) (place_zero (index_eq t).2.1.2 _))).trans (row_apply _ C))

/-- The factors' block at every point. -/
theorem blkD (c : Dev nD) (t : Fin cfg0.N) (C : Fin 256) :
    (iblk m c 2 t : Vec Ideal S1x256 .f32) (ix2 0 C) = wide (fun i => -(Ideal.exp (argD m c i))) (ix2 ⟨C.val / 128, by omega⟩ ⟨C.val % 128, by omega⟩) := by
  unfold iblk
  rw [View.read_apply]
  exact (congrFun (rowD_eq m c) _).trans ((congrArg (shapeCast S1x256 (wide (fun i => -(Ideal.exp (argD m c i)))) shapeCasts_S2x128_S1x256)
    (ix2_of _ 0 C (place_zero (index_eq t).2.2.1.1 _) (place_zero (index_eq t).2.2.1.2 _))).trans (row_apply _ C))

section Body

variable (x0 : Vec Ideal S256x256 .f32) (x1 x2 : Vec Ideal S1x256 .f32)

/-- The body's time step. -/
theorem step_apply (r c : Fin 256) : k0_pay1 (F := Ideal) x0 x1 (ix2 r c) = softplus (x0 (ix2 r c) + x1 (ix2 0 c)) := by
  pointwise [k0_pay1, softplus]
  simp only [sub_eq_add_neg, zero_add]

/-- The body's log decay. -/
theorem decay_apply (r c : Fin 256) : k0_pay2 (F := Ideal) x0 x1 x2 (ix2 r c) = softplus (x0 (ix2 r c) + x1 (ix2 0 c)) * x2 (ix2 0 c) := by
  rw [← step_apply]
  unfold k0_pay2
  pointwise

/-- The block of time steps. -/
theorem out3_apply (r c : Fin 256) : out0_3 x0 x1 x2 (ix2 r c) = softplus (x0 (ix2 r c) + x1 (ix2 0 c)) := by
  unfold out0_3
  rw [View.canon_cons_unit_lit _ _ _ (by decide), View.ld_unit_lit _ x0 (by decide), View.ld_unit_lit _ x1 (by decide)]
  exact step_apply x0 x1 r c

/-- The block of log decays. -/
theorem out4_apply (r c : Fin 256) : out0_4 x0 x1 x2 (ix2 r c) = softplus (x0 (ix2 r c) + x1 (ix2 0 c)) * x2 (ix2 0 c) := by
  unfold out0_4
  rw [View.canon_cons_unit_lit _ _ _ (by decide), View.ld_unit_lit _ x0 (by decide), View.ld_unit_lit _ x1 (by decide), View.ld_unit_lit _ x2 (by decide)]
  exact decay_apply x0 x1 x2 r c

end Body

/-- The body's time steps at point `t` are those of that point's rows. -/
theorem step_eq (c : Dev nD) (t : Fin cfg0.N) (r C : Fin 256) (R : Fin 8448) (hR : R.val = t.val * 256 + r.val) :
    softplus (@HAdd.hAdd EReal EReal EReal _ ((iblk m c 0 t : Vec Ideal S256x256 .f32) (ix2 r C)) ((iblk m c 1 t : Vec Ideal S1x256 .f32) (ix2 0 C))) = dtAt (argA m c) (argB m c) R C :=
  congrArg softplus (congrArg₂ (fun a b : EReal => a + b) (blkA m c t r C R hR) (blkB m c t C))

/-- The time steps point `t` writes back. -/
theorem flushed3_eq (c : Dev nD) (t : Fin cfg0.N) :
    (dats m 0 c).flushed 3 t = ((cfg0.win 3).blk t).view.read (Elt Ideal) (dt (argA m c) (argB m c)) := by
  have hN : t.val < 33 := lt_of_lt_of_eq t.isLt (show cfg0.N = 33 from N_0)
  rw [Value.flushed3]
  funext y
  rw [View.read_apply]
  obtain ⟨r, C, rfl⟩ : ∃ (r C : Fin 256), y = ix2 r C := ⟨y 0, y 1, ValueIdx.eq_ix2 y⟩
  refine (out3_apply (iblk m c 0 t) (iblk m c 1 t) (iblk m c 2 t) r C).trans ((step_eq m c t r C ⟨t.val * 256 + r.val, by omega⟩ rfl).trans ?_)
  exact congrArg (dt (argA m c) (argB m c)) (ix2_of _ ⟨t.val * 256 + r.val, by omega⟩ C (place (index_eq t).2.2.2.1.1 rfl) (place_zero (index_eq t).2.2.2.1.2 _)).symm

/-- The log decays point `t` writes back. -/
theorem flushed4_eq (c : Dev nD) (t : Fin cfg0.N) :
    (dats m 0 c).flushed 4 t = ((cfg0.win 4).blk t).view.read (Elt Ideal) (la (argA m c) (argB m c) (argD m c)) := by
  have hN : t.val < 33 := lt_of_lt_of_eq t.isLt (show cfg0.N = 33 from N_0)
  rw [Value.flushed4]
  funext y
  rw [View.read_apply]
  obtain ⟨r, C, rfl⟩ : ∃ (r C : Fin 256), y = ix2 r C := ⟨y 0, y 1, ValueIdx.eq_ix2 y⟩
  refine (out4_apply (iblk m c 0 t) (iblk m c 1 t) (iblk m c 2 t) r C).trans
    ((congrArg₂ (fun a b : EReal => a * b) (step_eq m c t r C ⟨t.val * 256 + r.val, by omega⟩ rfl) (blkD m c t C)).trans ?_)
  exact congrArg (la (argA m c) (argB m c) (argD m c)) (ix2_of _ ⟨t.val * 256 + r.val, by omega⟩ C (place (index_eq t).2.2.2.2.1 rfl) (place_zero (index_eq t).2.2.2.2.2 _)).symm

/-- The point whose block holds an entry. -/
theorem point_of (i : S8448x256.Idx) : ∃ t : Fin cfg0.N, t.val = (i 0).val / 256 := by
  have h0 : (i 0).val < 8448 := (i 0).isLt
  have hN : cfg0.N = 33 := N_0
  exact ⟨⟨_, by rw [hN]; omega⟩, rfl⟩

/-- The time steps when the run ends. -/
theorem final3 (c : Dev nD) : (dats m 0 c).arrAt 3 cfg0.N = dt (argA m c) (argB m c) :=
  (dats m 0 c).arrAt_eq_of_cover 3 _ (fun t _ => flushed3_eq m c t) fun i => by
    have h1 : (i 1).val < 256 := (i 1).isLt
    obtain ⟨t, ht⟩ := point_of i
    refine ⟨t, flush0_3 _, ?_⟩
    show i ∈ ((View.whole main_v6_0).slice (win0_3.rect t)).set
    rw [View.set_slice_whole, Rect.mem_set_unit]
    intro a
    match a with
    | ⟨0, _⟩ => exact in_block (k := win0_3.index t 0) (n := 256) (i := (i 0).val) (by omega) ((index_eq t).2.2.2.1.1.trans (by omega))
    | ⟨1, _⟩ => exact in_block (k := win0_3.index t 1) (n := 256) (i := (i 1).val) (by omega) ((index_eq t).2.2.2.1.2.trans (by omega))

/-- The log decays when the run ends. -/
theorem final4 (c : Dev nD) : (dats m 0 c).arrAt 4 cfg0.N = la (argA m c) (argB m c) (argD m c) :=
  (dats m 0 c).arrAt_eq_of_cover 4 _ (fun t _ => flushed4_eq m c t) fun i => by
    have h1 : (i 1).val < 256 := (i 1).isLt
    obtain ⟨t, ht⟩ := point_of i
    refine ⟨t, flush0_4 _, ?_⟩
    show i ∈ ((View.whole main_v6_1).slice (win0_4.rect t)).set
    rw [View.set_slice_whole, Rect.mem_set_unit]
    intro a
    match a with
    | ⟨0, _⟩ => exact in_block (k := win0_4.index t 0) (n := 256) (i := (i 0).val) (by omega) ((index_eq t).2.2.2.2.1.trans (by omega))
    | ⟨1, _⟩ => exact in_block (k := win0_4.index t 1) (n := 256) (i := (i 1).val) (by omega) ((index_eq t).2.2.2.2.2.trans (by omega))

/-- Every run of the kernel ends with the time steps and the log decays in the results' buffers and its arguments unchanged. -/
theorem run : θ_run defs (onTc (τ := τ) (main (F := Ideal))) ⟨m, fun _ => 0, ρ⟩ fun r => ∀ c : Dev nD,
      r.2.mem ((c : Thread nD τ).loc main_v6_0) = dt (argA m c) (argB m c)
      ∧ r.2.mem ((c : Thread nD τ).loc main_v6_1) = la (argA m c) (argB m c) (argD m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final3 m c), (h c).2.1.trans (final4 m c), (h c).2.2⟩) (Value.run_blocks m ρ)

end Cert.Kernel10Ideal.Point

namespace Cert.Reference10Ideal.Ref

open Cert.Reference10Ideal Cert.Reference10Ideal.Gen Cert.Dt

variable (m : (ℓ : Loc nD τ sig) → Buf (Elt Ideal) ℓ) (ρ : Dev nD → PrngReg)

/-- Every run of the reference ends with the time steps and the log decays in the results' buffers, its arguments unchanged and no semaphore
    raised. -/
theorem run : θ_run (defs (F := Ideal)) (onTc (τ := τ) (main (F := Ideal))) ⟨m, fun _ => 0, ρ⟩ fun r => (∀ c : Dev nD,
      r.2.mem ((c.tc : Thread nD τ).loc main_v9) = dt (m ((c.tc : Thread nD τ).loc main_arg0)) (m ((c.tc : Thread nD τ).loc main_arg1))
      ∧ r.2.mem ((c.tc : Thread nD τ).loc main_v13) = la (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 := by
  refine (θ_run defs _ _).mono (fun _ h => ⟨fun c => ⟨(h c).1.trans ?_, (h c).2.1.trans ?_, (h c).2.2⟩, sem_eq_zero_of_no_sems rfl _⟩) (Value.run m ρ)
  · rw [pad_eq]
    funext y
    obtain ⟨r, c, rfl⟩ : ∃ r c, y = ix2 r c := ⟨y 0, y 1, ValueIdx.eq_ix2 y⟩
    show _ = dtAt _ _ r c
    unfold dtAt softplus
    pointwise
    simp only [ne_eq, not_true_eq_false, if_false]
  · rw [pad_eq, pad_eq]
    funext y
    obtain ⟨r, c, rfl⟩ : ∃ r c, y = ix2 r c := ⟨y 0, y 1, ValueIdx.eq_ix2 y⟩
    show _ = laAt _ _ _ r c
    unfold laAt dtAt softplus
    pointwise
    simp only [ne_eq, not_true_eq_false, if_false]
    rfl

end Cert.Reference10Ideal.Ref

end
-- ==== Proof.Rope.lean ====
/- The retention's queries and keys, turned by their positions: in each head the first half of the columns and the second are the two
   coordinates of 64 planes, and a row's position times a plane's frequency is the plane's angle. Each grid point takes 256 rows, its four
   stores are the four heads, and the reference turns the same planes. -/
module

public import proofs.«01_k».proof.Defs
public import proofs.«01_k».proof.Proof.Blocks
public import proofs.«01_k».proof.Proof.Norm
public import proofs.«01_k».proof.Proof.Gen.Kernel11Ideal.Value
public import proofs.«01_k».proof.Proof.Gen.Reference11Ideal.Run
public import Idealize.ShloMosaic.Lib.Pipeline.ValueKit.Tiles
public import Idealize.ShloMosaic.Lib.Pipeline.ValueKit.Basic
public import Idealize.ShloMosaic.Lib.Pipeline.ReadBack
public import Idealize.ShloMosaic.Lib.Pointwise
public import Idealize.ShloMosaic.Lib.WordCmp
public import Idealize.ShloMosaic.Lib.IdealHost
public import Idealize.ShloMosaic.Lib.Claim
public import Idealize.ShloMosaic.Lib.Quiescent

@[expose] public section

set_option maxRecDepth 16384

noncomputable section

open Idealize.ShloMosaic Idealize.ShloMosaic.TcCoe Idealize.SL.Sem
open Cert.Norm Cert.Blocks

namespace Cert.Rope

/-- A frequency per plane. -/
abbrev Freqs : Type := (⟨1, ![64]⟩ : Shape).Idx → EReal

/-- The planes' frequencies: ten thousand to the power of minus the plane's number over 64. -/
def freqs (h : (⟨0, ![]⟩ : Shape).BroadcastsInDim ⟨1, ![64]⟩ (![] : Fin 0 → Fin 1)) : Freqs :=
  Host.powf (F := Ideal) (φ := .f32) (broadcastInDim ⟨1, ![64]⟩ ![] h (constant ⟨0, ![]⟩ .f32 0x461C4000#32))
    (Host.divf (Host.negf (sitofp .f32 (iotaInDim ⟨1, ![64]⟩ 32 0))) (broadcastInDim ⟨1, ![64]⟩ ![] h (constant ⟨0, ![]⟩ .f32 0x42800000#32)))

/-- The position of a row: the latent rows stand after the 256 context rows. -/
def pos (R : ℕ) : EReal := FloatOps.sitofp (F := Ideal) .f32 (BitVec.ofNat 32 (if R < 8192 then R + 256 else R - 8192))

/-- A turned coordinate: `a` its own value, `b` the plane's other one, `g` the angle. -/
def turned (first : Prop) [Decidable first] (a b g : EReal) : EReal :=
  if first then a * Ideal.cos g - b * Ideal.sin g else b * Ideal.sin g + a * Ideal.cos g

/-- The column of the plane's other coordinate. -/
def other (C : ℕ) : ℕ := C / 128 * 128 + (C % 128 + 64) % 128

/-- It is one of the columns. -/
theorem other_lt (C : Fin 512) : other C.val < 512 := by unfold other; omega

/-- The turned entry of the columns that start at `o`, scaled. -/
def outAt (f : Freqs) (o : ℕ) (ho : o + 512 ≤ 3072) (s : BitVec 32) (u : Arr 8448 3072) (R : Fin 8448) (C : Fin 512) : EReal :=
  turned (C.val % 128 < 64) (u (ix2 R ⟨o + C.val, by omega⟩)) (u (ix2 R ⟨o + other C.val, by have := other_lt C; omega⟩))
    (pos R.val * f (ix1 ⟨C.val % 64, by omega⟩)) * Ideal.ofBits .f32 s

/-- The turned queries, from the first 512 columns. -/
def queries (u : Arr 8448 3072) : Arr 8448 512 := fun i => outAt (freqs (by decide)) 0 (by decide) 0x3F800000#32 u (i 0) (i 1)

/-- The turned keys, from the next 512 columns, over the root of the heads' width. -/
def keys (u : Arr 8448 3072) : Arr 8448 512 := fun i => outAt (freqs (by decide)) 512 (by decide) 0x3DB504F3#32 u (i 0) (i 1)

/-- The operations that turn one head. -/
def head (s : BitVec 32) (cs sn x : FVec Ideal ⟨2, ![256, 128]⟩ .f32) (hr : (⟨2, ![256, 128]⟩ : Shape).Rotates 1 none) : FVec Ideal ⟨2, ![256, 128]⟩ .f32 :=
  mulf (addf (mulf x cs) (mulf (dynamicRotate 1 64#32 none x hr) sn)) (broadcast ⟨2, ![256, 128]⟩ (Scalar.ofBits .f32 s))

/-- The operations that turn one head, entry by entry. -/
theorem head_apply (s : BitVec 32) (cs sn x : FVec Ideal ⟨2, ![256, 128]⟩ .f32) (hr) (r : Fin 256) (e : Fin 128) :
    head s cs sn x hr (ix2 r e) = (x (ix2 r e) * cs (ix2 r e) + x (ix2 r ⟨(e.val + 128 - 64) % 128, Nat.mod_lt _ (by decide)⟩) * sn (ix2 r e)) * Ideal.ofBits .f32 s := by
  unfold head
  pointwise

/-- The position as the kernel counts it. -/
theorem pos_eq (q r : ℕ) (hq : q < 33) (hr : r < 256) :
    FloatOps.sitofp (F := Ideal) .f32 (Scalar.select
        (IntOp.cmpi .slt (IntOp.addi (Scalar.muli (BitVec.ofNat 32 q) 256#32) (BitVec.ofNat 32 r)) 8192#32)
        (IntOp.addi (IntOp.addi (Scalar.muli (BitVec.ofNat 32 q) 256#32) (BitVec.ofNat 32 r)) 256#32)
        (IntOp.subi (IntOp.addi (Scalar.muli (BitVec.ofNat 32 q) 256#32) (BitVec.ofNat 32 r)) 8192#32)) = pos (q * 256 + r) := by
  unfold pos
  refine congrArg (FloatOps.sitofp (F := Ideal) .f32) ?_
  rw [show IntOp.addi (Scalar.muli (BitVec.ofNat 32 q) 256#32) (BitVec.ofNat 32 r) = BitVec.ofNat 32 (q * 256 + r) by
    rw [BitVec.ofNat_add, BitVec.ofNat_mul]; rfl]
  rw [show (8192#32 : BitVec 32) = BitVec.ofNat 32 8192 from rfl, WordCmp.cmpi_slt_ofNat (by omega) (by omega)]
  by_cases h : q * 256 + r < 8192
  · rw [if_pos h, decide_eq_true h]
    exact (BitVec.ofNat_add _ _).symm
  · rw [if_neg h, decide_eq_false h]
    show BitVec.ofNat 32 (q * 256 + r) - BitVec.ofNat 32 8192 = _
    apply BitVec.eq_of_toNat_eq
    simp only [BitVec.toNat_sub, BitVec.toNat_ofNat]
    omega

end Cert.Rope

namespace Cert.Kernel11Ideal.Point

open Cert.Kernel11Ideal Cert.Kernel11Ideal.Gen Cert.Rope

section Body

variable (i : grid0.Coords) (q : ℕ) (hi : (i 0).val = q) (hq : q < 33) (x : Vec Ideal S256x512 .f32) (w : Vec Ideal S1x128 .f32)

include hi hq in
/-- The body's angles. -/
theorem angle_apply (r : Fin 256) (e : Fin 128) : k0_pay3 (F := Ideal) i w (ix2 r e) = pos (q * 256 + r.val) * w (ix2 0 e) := by
  subst hi
  rw [← pos_eq (i 0).val r.val hq r.isLt]
  pointwise [k0_pay3]

include hi hq in
/-- The body's cosines. -/
theorem cos_apply (r : Fin 256) (e : Fin 128) : k0_pay4 (F := Ideal) i w (ix2 r e) = Ideal.cos (pos (q * 256 + r.val) * w (ix2 0 e)) := by
  rw [← angle_apply i q hi hq w r e]
  pointwise [k0_pay4]

include hi hq in
/-- The body's sines, negated in the first half. -/
theorem sin_apply (r : Fin 256) (e : Fin 128) : k0_pay5 (F := Ideal) i w (ix2 r e)
    = if e.val < 64 then -(Ideal.sin (pos (q * 256 + r.val) * w (ix2 0 e))) else Ideal.sin (pos (q * 256 + r.val) * w (ix2 0 e)) := by
  rw [← angle_apply i q hi hq w r e]
  have hc : IntOp.cmpi .slt (BitVec.ofNat 32 e.val) 64#32 = BitVec.ofBool (decide (e.val < 64)) := WordCmp.cmpi_slt_ofNat (by omega) (by omega)
  pointwise [k0_pay5]
  rw [hc]
  by_cases h : e.val < 64
  · rw [if_pos h, decide_eq_true h]
    exact (sub_eq_add_neg _ _).trans (zero_add _)
  · rw [if_neg h, decide_eq_false h]
    rfl

/-- A block's result, entry by entry. -/
def outBlk (s : BitVec 32) : Arr 256 512 := fun y =>
  turned ((y 1).val % 128 < 64) (x y) (x (ix2 (y 0) ⟨other (y 1).val, other_lt (y 1)⟩))
    (pos (q * 256 + (y 0).val) * w (ix2 0 ⟨(y 1).val % 128, Nat.mod_lt _ (by decide)⟩)) * Ideal.ofBits .f32 s

include hi hq in
/-- One store of the body, the head that starts at column `o`, is its part of the block's result. -/
theorem store_eq (s : BitVec 32) (o : ℕ) (ho : ∃ k, o = k * 128) (inb inb') (y : S256x128.Idx) :
    head s (k0_pay4 i w) (k0_pay5 i w) (View.ld x (Rect.unit (s := S256x512) ![0, o] ![256, 128] inb')) rotates_S256x128_d1 y
      = outBlk q x w s ((Rect.unit (s := S256x512) ![0, o] ![256, 128] inb).emb y) := by
  obtain ⟨r, e, rfl⟩ : ∃ r e, y = ix2 r e := ⟨y 0, y 1, ValueIdx.eq_ix2 y⟩
  obtain ⟨k, hk⟩ := ho
  have hb : o + 128 ≤ 512 := inb 1
  have he (d : Fin 128) : (Rect.unit (s := S256x512) ![0, o] ![256, 128] inb).emb (ix2 r d) = ix2 r ⟨o + d.val, by omega⟩ :=
    ix2_of _ r ⟨o + d.val, by omega⟩ (show 0 + 1 * r.val = r.val by omega) (show o + 1 * d.val = o + d.val by omega)
  have hx (d : Fin 128) : View.ld x (Rect.unit (s := S256x512) ![0, o] ![256, 128] inb') (ix2 r d) = x (ix2 r ⟨o + d.val, by omega⟩) := congrArg x (he d)
  have hm : (o + e.val) % 128 = e.val := by omega
  have hs : other (o + e.val) = o + (e.val + 128 - 64) % 128 := by unfold other; omega
  rw [head_apply, cos_apply i q hi hq, sin_apply i q hi hq, hx, hx, he]
  show _ = turned ((o + e.val) % 128 < 64) (x (ix2 r ⟨o + e.val, _⟩)) (x (ix2 r ⟨other (o + e.val), _⟩))
    (pos (q * 256 + r.val) * w (ix2 0 ⟨(o + e.val) % 128, _⟩)) * Ideal.ofBits .f32 s
  simp only [hm, hs]
  refine congrArg (fun a : EReal => a * Ideal.ofBits .f32 s) ?_
  unfold turned
  split
  · rw [mul_neg, sub_eq_add_neg]
  · exact add_comm _ _

include hi hq in
/-- The block of queries. -/
theorem out3_eq (z : Vec Ideal S256x512 .f32) : out0_3 i x z w = outBlk q x w 0x3F800000#32 := by
  funext y
  unfold_out out0_3
  rw [View.ld_unit_lit _ w (by decide)]
  refine View.canon_apply_of_pieces _ _ (View.PiecesOf.mem ?_) _ (cover0_3 _ _ _ _ y)
  exact ⟨store_eq i q hi hq x w _ 384 ⟨3, rfl⟩ inb_S256x512_S256x128_0_384 _, store_eq i q hi hq x w _ 256 ⟨2, rfl⟩ inb_S256x512_S256x128_0_256 _,
    store_eq i q hi hq x w _ 128 ⟨1, rfl⟩ inb_S256x512_S256x128_0_128 _, store_eq i q hi hq x w _ 0 ⟨0, rfl⟩ inb_S256x512_S256x128_0_0 _, trivial⟩

include hi hq in
/-- The block of keys. -/
theorem out4_eq (z : Vec Ideal S256x512 .f32) : out0_4 i z x w = outBlk q x w 0x3DB504F3#32 := by
  funext y
  unfold_out out0_4
  rw [View.ld_unit_lit _ w (by decide)]
  refine View.canon_apply_of_pieces _ _ (View.PiecesOf.mem ?_) _ (cover0_4 _ _ _ _ y)
  exact ⟨store_eq i q hi hq x w _ 384 ⟨3, rfl⟩ inb_S256x512_S256x128_0_384 _, store_eq i q hi hq x w _ 256 ⟨2, rfl⟩ inb_S256x512_S256x128_0_256 _,
    store_eq i q hi hq x w _ 128 ⟨1, rfl⟩ inb_S256x512_S256x128_0_128 _, store_eq i q hi hq x w _ 0 ⟨0, rfl⟩ inb_S256x512_S256x128_0_0 _, trivial⟩

end Body

variable (m : (ℓ : Loc nD τ sig) → Buf (Elt Ideal) ℓ) (ρ : Dev nD → PrngReg)

/-- The projection as launched. -/
abbrev argU (c : Dev nD) : Arr 8448 3072 := m ((c : Thread nD τ).loc main_arg0)

/-- The block index of every window at point `t`, and the point's coordinate. -/
theorem index_eq : ∀ t : Fin cfg0.N,
    (win0_0.index t 0 = t.val ∧ win0_0.index t 1 = 0) ∧ (win0_1.index t 0 = t.val ∧ win0_1.index t 1 = 1) ∧ (win0_2.index t 0 = 0 ∧ win0_2.index t 1 = 0)
    ∧ (win0_3.index t 0 = t.val ∧ win0_3.index t 1 = 0) ∧ (win0_4.index t 0 = t.val ∧ win0_4.index t 1 = 0) ∧ (grid0.coords t 0).val = t.val :=
  (by decide +kernel : ∀ t : Fin grid0.N, _)

/-- The queries' block at point `t`. -/
theorem blkQ (c : Dev nD) (t : Fin cfg0.N) (r : Fin 256) (C : Fin 512) (R : Fin 8448) (hR : R.val = t.val * 256 + r.val) :
    (iblk m c 0 t : Vec Ideal S256x512 .f32) (ix2 r C) = argU m c (ix2 R ⟨0 + C.val, by omega⟩) := by
  unfold iblk
  rw [View.read_apply]
  exact (congrFun (V_main_arg0 m c) _).trans (congrArg (argU m c) (ix2_of _ R ⟨0 + C.val, by omega⟩ (place (index_eq t).1.1 hR) (place (index_eq t).1.2 (by show 0 + C.val = 0 * 512 + C.val; omega))))

/-- The keys' block at point `t`. -/
theorem blkK (c : Dev nD) (t : Fin cfg0.N) (r : Fin 256) (C : Fin 512) (R : Fin 8448) (hR : R.val = t.val * 256 + r.val) :
    (iblk m c 1 t : Vec Ideal S256x512 .f32) (ix2 r C) = argU m c (ix2 R ⟨512 + C.val, by omega⟩) := by
  unfold iblk
  rw [View.read_apply]
  exact (congrFun (V_main_arg0 m c) _).trans (congrArg (argU m c) (ix2_of _ R ⟨512 + C.val, by omega⟩ (place (index_eq t).2.1.1 hR) (place (index_eq t).2.1.2 (by show 512 + C.val = 1 * 512 + C.val; omega))))

/-- The frequencies as the region finds them: a row with each plane's twice. -/
theorem row_eq (c : Dev nD) : (V m c main_v7 : Arr 1 128) = shapeCast S1x128 (concatenate S128 0 [⟨S64, freqs bcast_S_S64⟩, ⟨S64, freqs bcast_S_S64⟩] concatenates_S64_S64_S128_d0 : FVec Ideal S128 .f32) shapeCasts_S128_S1x128 := by
  show StableHlo.after hostOps0 _ _ = _
  after_results
  rfl

/-- That row, entry by entry. -/
theorem row_apply (f : Freqs) (e : Fin 128) :
    (shapeCast S1x128 (concatenate S128 0 [⟨S64, f⟩, ⟨S64, f⟩] concatenates_S64_S64_S128_d0 : FVec Ideal S128 .f32) shapeCasts_S128_S1x128 : Arr 1 128) (ix2 0 e) = f (ix1 ⟨e.val % 64, by omega⟩) := by
  pointwise
  split <;> exact congrArg (fun k => f (ix1 k)) (Fin.ext (show _ = e.val % 64 by dsimp only; omega))

/-- The frequencies' block at every point. -/
theorem blkF (c : Dev nD) (t : Fin cfg0.N) (e : Fin 128) : (iblk m c 2 t : Vec Ideal S1x128 .f32) (ix2 0 e) = freqs bcast_S_S64 (ix1 ⟨e.val % 64, by omega⟩) := by
  unfold iblk
  rw [View.read_apply]
  refine (congrFun (row_eq m c) _).trans (Eq.trans (congrArg _ (ix2_of _ 0 e (place_zero (index_eq t).2.2.1.1 _) (place_zero (index_eq t).2.2.1.2 _))) (row_apply _ e))

/-- A block's result at point `t` is the turned entry at that point's rows. -/
theorem block_eq (c : Dev nD) (t : Fin cfg0.N) (x : Vec Ideal S256x512 .f32) (s : BitVec 32) (o : ℕ) (ho : o + 512 ≤ 3072) (r : Fin 256) (C : Fin 512) (R : Fin 8448)
    (hR : R.val = t.val * 256 + r.val) (hx : ∀ D : Fin 512, x (ix2 r D) = argU m c (ix2 R ⟨o + D.val, by omega⟩)) :
    outBlk t.val x (iblk m c 2 t) s (ix2 r C) = outAt (freqs bcast_S_S64) o ho s (argU m c) R C := by
  show turned (C.val % 128 < 64) (x (ix2 r C)) (x (ix2 r ⟨other C.val, other_lt C⟩)) (pos (t.val * 256 + r.val) * (iblk m c 2 t : Vec Ideal S1x128 .f32) (ix2 0 ⟨C.val % 128, _⟩)) * _ = _
  rw [hx, hx, ← hR, blkF m c t]
  unfold outAt
  simp only [Nat.mod_mod_of_dvd C.val (show 64 ∣ 128 by decide)]

/-- The queries point `t` writes back. -/
theorem flushed3_eq (c : Dev nD) (t : Fin cfg0.N) : (dats m 0 c).flushed 3 t = ((cfg0.win 3).blk t).view.read (Elt Ideal) (queries (argU m c)) := by
  have hN : t.val < 33 := lt_of_lt_of_eq t.isLt (show cfg0.N = 33 from N_0)
  rw [Value.flushed3]
  funext y
  rw [View.read_apply]
  obtain ⟨r, C, rfl⟩ : ∃ (r : Fin 256) (C : Fin 512), y = ix2 r C := ⟨y 0, y 1, ValueIdx.eq_ix2 y⟩
  refine (congrFun (out3_eq (grid0.coords t) t.val (index_eq t).2.2.2.2.2 hN _ _ _) (ix2 r C)).trans
    ((block_eq m c t _ 0x3F800000#32 0 (by decide) r C ⟨t.val * 256 + r.val, by omega⟩ rfl fun D => blkQ m c t r D _ rfl).trans ?_)
  exact congrArg (queries (argU m c)) (ix2_of _ ⟨t.val * 256 + r.val, by omega⟩ C (place (index_eq t).2.2.2.1.1 rfl) (place_zero (index_eq t).2.2.2.1.2 _)).symm

/-- The point whose block holds an entry. -/
theorem point_of (i : S8448x512.Idx) : ∃ t : Fin cfg0.N, t.val = (i 0).val / 256 := by
  have h0 : (i 0).val < 8448 := (i 0).isLt
  have hN : cfg0.N = 33 := N_0
  exact ⟨⟨_, by rw [hN]; omega⟩, rfl⟩

/-- The queries when the run ends. -/
theorem final3 (c : Dev nD) : (dats m 0 c).arrAt 3 cfg0.N = queries (argU m c) :=
  (dats m 0 c).arrAt_eq_of_cover 3 _ (fun t _ => flushed3_eq m c t) fun i => by
    have h1 : (i 1).val < 512 := (i 1).isLt
    obtain ⟨t, ht⟩ := point_of i
    refine ⟨t, flush0_3 _, ?_⟩
    show i ∈ ((View.whole main_v8_0).slice (win0_3.rect t)).set
    rw [View.set_slice_whole, Rect.mem_set_unit]
    intro a
    match a with
    | ⟨0, _⟩ => exact in_block (k := win0_3.index t 0) (n := 256) (i := (i 0).val) (by omega) ((index_eq t).2.2.2.1.1.trans (by omega))
    | ⟨1, _⟩ => exact in_block (k := win0_3.index t 1) (n := 512) (i := (i 1).val) (by omega) ((index_eq t).2.2.2.1.2.trans (by omega))

/-- The keys point `t` writes back. -/
theorem flushed4_eq (c : Dev nD) (t : Fin cfg0.N) : (dats m 0 c).flushed 4 t = ((cfg0.win 4).blk t).view.read (Elt Ideal) (keys (argU m c)) := by
  have hN : t.val < 33 := lt_of_lt_of_eq t.isLt (show cfg0.N = 33 from N_0)
  rw [Value.flushed4]
  funext y
  rw [View.read_apply]
  obtain ⟨r, C, rfl⟩ : ∃ (r : Fin 256) (C : Fin 512), y = ix2 r C := ⟨y 0, y 1, ValueIdx.eq_ix2 y⟩
  refine (congrFun (out4_eq (grid0.coords t) t.val (index_eq t).2.2.2.2.2 hN _ _ _) (ix2 r C)).trans
    ((block_eq m c t _ 0x3DB504F3#32 512 (by decide) r C ⟨t.val * 256 + r.val, by omega⟩ rfl fun D => blkK m c t r D _ rfl).trans ?_)
  exact congrArg (keys (argU m c)) (ix2_of _ ⟨t.val * 256 + r.val, by omega⟩ C (place (index_eq t).2.2.2.2.1.1 rfl) (place_zero (index_eq t).2.2.2.2.1.2 _)).symm

/-- The keys when the run ends. -/
theorem final4 (c : Dev nD) : (dats m 0 c).arrAt 4 cfg0.N = keys (argU m c) :=
  (dats m 0 c).arrAt_eq_of_cover 4 _ (fun t _ => flushed4_eq m c t) fun i => by
    have h1 : (i 1).val < 512 := (i 1).isLt
    obtain ⟨t, ht⟩ := point_of i
    refine ⟨t, flush0_4 _, ?_⟩
    show i ∈ ((View.whole main_v8_1).slice (win0_4.rect t)).set
    rw [View.set_slice_whole, Rect.mem_set_unit]
    intro a
    match a with
    | ⟨0, _⟩ => exact in_block (k := win0_4.index t 0) (n := 256) (i := (i 0).val) (by omega) ((index_eq t).2.2.2.2.1.1.trans (by omega))
    | ⟨1, _⟩ => exact in_block (k := win0_4.index t 1) (n := 512) (i := (i 1).val) (by omega) ((index_eq t).2.2.2.2.1.2.trans (by omega))

/-- Every run of the kernel ends with the turned queries and keys in the results' buffers and its argument unchanged. -/
theorem run : θ_run defs (onTc (τ := τ) (main (F := Ideal))) ⟨m, fun _ => 0, ρ⟩ fun r => ∀ c : Dev nD,
      r.2.mem ((c : Thread nD τ).loc main_v8_0) = queries (argU m c)
      ∧ r.2.mem ((c : Thread nD τ).loc main_v8_1) = keys (argU m c)
      ∧ r.2.mem ((c : Thread nD τ).loc main_arg0) = m ((c : Thread nD τ).loc main_arg0) :=
  (θ_run defs _ _).mono (fun _ h c => ⟨(h c).1.trans (final3 m c), (h c).2.1.trans (final4 m c), (h c).2.2⟩) (Value.run_blocks m ρ)

end Cert.Kernel11Ideal.Point

namespace Cert.Reference11Ideal.Ref

open Cert.Reference11Ideal Cert.Reference11Ideal.Gen Cert.Reference11Ideal.Value Cert.Rope

/-- The reference's order of the positions: the first 256 come last. -/
def order (p : FVec Ideal S8448 .f32) : FVec Ideal S8448 .f32 :=
  concatenate S8448 0 [⟨S8192, (extractStridedSlice S8192 ![256] p slices_S8448_S8192_256)⟩,
    ⟨S256, (extractStridedSlice S256 ![0] p slices_S8448_S256_0)⟩] concatenates_S8192_S256_S8448_d0

/-- The reference's angles. -/
def angles (p : FVec Ideal S8448 .f32) (f : Freqs) : FVec Ideal S8448x64 .f32 :=
  mulf (broadcastInDim S8448x64 ![0, 1] bcast_S8448x1_S8448x64_0_1 (broadcastInDim S8448x1 ![0] bcast_S8448_S8448x1_0 p))
    (broadcastInDim S8448x64 ![0, 1] bcast_S1x64_S8448x64_0_1 (broadcastInDim S1x64 ![1] bcast_S64_S1x64_1 f))

/-- Its angles, entry by entry. -/
theorem angles_apply (p : FVec Ideal S8448 .f32) (f : Freqs) (R : Fin 8448) (j : Fin 64) : angles p f (ix2 R j) = p (ix1 R) * f (ix1 j) := by
  unfold angles
  pointwise

/-- Two arrays of latent and context rows joined. -/
theorem joined_apply (p : S8192.Idx → EReal) (q : S256.Idx → EReal) (hc) (R : Fin 8448) :
    (concatenate S8448 0 [⟨S8192, p⟩, ⟨S256, q⟩] hc : S8448.Idx → EReal) (ix1 R) = if h : R.val < 8192 then p (ix1 ⟨R.val, h⟩) else q (ix1 ⟨R.val - 8192, by omega⟩) := by
  have hb : ∀ (j : Fin 1) (P : Prop), j ≠ 0 → P := fun j _ hj => absurd (Subsingleton.elim j 0) hj
  by_cases h : R.val < 8192
  · rw [dif_pos h]
    exact concatenate_apply_piece 0 _ hc _ 0 (by decide : 0 < 2) S8192 p rfl rfl 0 rfl (ix1 ⟨R.val, h⟩) (fun j => hb j _) (Nat.zero_add _)
  · have hR : 8192 + (R.val - 8192) = R.val := by omega
    rw [dif_neg h]
    exact concatenate_apply_piece 0 _ hc _ 1 (by decide : 1 < 2) S256 q rfl rfl 8192 rfl (ix1 ⟨R.val - 8192, by omega⟩) (fun j => hb j _) hR

/-- A row's position in the reference. -/
theorem order_pos (R : Fin 8448) : order (sitofp .f32 (iotaInDim S8448 32 0)) (ix1 R) = pos R.val := by
  refine (joined_apply _ _ _ R).trans ?_
  unfold pos
  by_cases h : R.val < 8192
  · rw [dif_pos h, if_pos h]
    exact congrArg (fun k : ℕ => FloatOps.sitofp (F := Ideal) .f32 (BitVec.ofNat 32 k)) (by omega : 256 + R.val = R.val + 256)
  · rw [dif_neg h, if_neg h]
    exact congrArg (fun k : ℕ => FloatOps.sitofp (F := Ideal) .f32 (BitVec.ofNat 32 k)) (by omega : 0 + (R.val - 8192) = R.val - 8192)

/-- Rows as heads. -/
def heads (o : ℕ) (u : Arr 8448 3072) (hs : S8448x3072.Slices ![0, o] S8448x512) : FVec Ideal S1x8448x4x128 .f32 :=
  shapeCast S1x8448x4x128 (extractStridedSlice S8448x512 ![0, o] u hs) shapeCasts_S8448x512_S1x8448x4x128

/-- A value per row and plane, the same in every head. -/
def spread (v : FVec Ideal S8448x64 .f32) : FVec Ideal S1x8448x4x64 .f32 :=
  broadcastInDim S1x8448x4x64 ![0, 1, 2, 3] bcast_S1x8448x1x64_S1x8448x4x64_0_1_2_3 (broadcastInDim S1x8448x1x64 ![1, 3] bcast_S8448x64_S1x8448x1x64_1_3 v)

/-- The reference's rotation. -/
def turn (x : FVec Ideal S1x8448x4x128 .f32) (g : FVec Ideal S8448x64 .f32) : FVec Ideal S1x8448x4x128 .f32 :=
  concatenate S1x8448x4x128 3
    [⟨S1x8448x4x64, subf (mulf (extractStridedSlice S1x8448x4x64 ![0, 0, 0, 0] x slices_S1x8448x4x128_S1x8448x4x64_0_0_0_0) (spread (Host.cos g)))
        (mulf (extractStridedSlice S1x8448x4x64 ![0, 0, 0, 64] x slices_S1x8448x4x128_S1x8448x4x64_0_0_0_64) (spread (Host.sin g)))⟩,
     ⟨S1x8448x4x64, addf (mulf (extractStridedSlice S1x8448x4x64 ![0, 0, 0, 0] x slices_S1x8448x4x128_S1x8448x4x64_0_0_0_0) (spread (Host.sin g)))
        (mulf (extractStridedSlice S1x8448x4x64 ![0, 0, 0, 64] x slices_S1x8448x4x128_S1x8448x4x64_0_0_0_64) (spread (Host.cos g)))⟩]
    concatenates_S1x8448x4x64_S1x8448x4x64_S1x8448x4x128_d3

/-- The reference's rotation, entry by entry. -/
theorem turn_apply (x : FVec Ideal S1x8448x4x128 .f32) (g : FVec Ideal S8448x64 .f32) (R : Fin 8448) (h : Fin 4) (e : Fin 128) :
    turn x g (ix4 0 R h e) = turned (e.val < 64) (x (ix4 0 R h e)) (x (ix4 0 R h ⟨(e.val + 64) % 128, by omega⟩)) (g (ix2 R ⟨e.val % 64, by omega⟩)) := by
  unfold turn spread
  pointwise
  unfold turned
  split
  · simp only [Nat.mod_eq_of_lt (show e.val < 64 by assumption), Nat.mod_eq_of_lt (show e.val + 64 < 128 by omega), Nat.add_comm 64]
  · have h1 : e.val % 64 = e.val - 64 := by omega
    have h2 : (e.val + 64) % 128 = e.val - 64 := by omega
    have h3 : 64 + (e.val - 64) = e.val := by omega
    simp only [h1, h2, h3]

/-- The heads' entries are the rows' columns. -/
theorem heads_apply (o : ℕ) (ho : o + 512 ≤ 3072) (u : Arr 8448 3072) (hs) (R : Fin 8448) (h : Fin 4) (e : Fin 128) :
    heads o u hs (ix4 0 R h e) = u (ix2 R ⟨o + (h.val * 128 + e.val), by omega⟩) := by
  unfold heads
  pointwise

/-- Heads as rows. -/
theorem rows_apply (x : FVec Ideal S1x8448x4x128 .f32) (R : Fin 8448) (C : Fin 512) :
    (shapeCast S8448x512 x shapeCasts_S1x8448x4x128_S8448x512 : Arr 8448 512) (ix2 R C) = x (ix4 0 R ⟨C.val / 128, by omega⟩ ⟨C.val % 128, by omega⟩) := by
  pointwise

/-- The reference's rotation of the columns that start at `o`. -/
theorem turn_heads (o : ℕ) (ho : o + 512 ≤ 3072) (s : BitVec 32) (u : Arr 8448 3072) (hs) (f : Freqs) (R : Fin 8448) (C : Fin 512) :
    turn (heads o u hs) (angles (order (sitofp .f32 (iotaInDim S8448 32 0))) f) (ix4 0 R ⟨C.val / 128, by omega⟩ ⟨C.val % 128, by omega⟩)
      * Ideal.ofBits .f32 s = outAt f o ho s u R C := by
  rw [turn_apply, heads_apply o ho, heads_apply o ho, angles_apply, order_pos]
  unfold outAt other
  simp only [Nat.mod_mod_of_dvd C.val (show 64 ∣ 128 by decide), Nat.div_add_mod']

variable (m : (ℓ : Loc nD τ sig) → Buf (Elt Ideal) ℓ)

/-- The projection as launched. -/
abbrev argU (c : Dev nD) : Arr 8448 3072 := m ((c : Thread nD τ).loc main_arg0)

/-- The reference's queries. -/
theorem queries_eq (c : Dev nD) : (res_main_v66 m c : Arr 8448 512) = queries (argU m c) := by
  funext y
  obtain ⟨R, C, rfl⟩ : ∃ R C, y = ix2 R C := ⟨y 0, y 1, ValueIdx.eq_ix2 y⟩
  have e : (res_main_v66 m c : Arr 8448 512) = shapeCast S8448x512 (turn (heads 0 (argU m c) slices_S8448x3072_S8448x512_0_0)
      (angles (order (sitofp .f32 (iotaInDim S8448 32 0))) (freqs bcast_S_S64))) shapeCasts_S1x8448x4x128_S8448x512 := rfl
  rw [e, rows_apply]
  have h1 := turn_heads 0 (by decide) 0x3F800000#32 (argU m c) slices_S8448x3072_S8448x512_0_0 (freqs bcast_S_S64) R C
  rw [Ideal.ofBits_one_f32, mul_one] at h1
  exact h1

/-- The reference's keys. -/
theorem keys_eq (c : Dev nD) : (res_main_v67 m c : Arr 8448 512) = keys (argU m c) := by
  funext y
  obtain ⟨R, C, rfl⟩ : ∃ R C, y = ix2 R C := ⟨y 0, y 1, ValueIdx.eq_ix2 y⟩
  have e : (res_main_v67 m c : Arr 8448 512) = shapeCast S8448x512 (mulf (turn (heads 512 (argU m c) slices_S8448x3072_S8448x512_0_512)
      (angles (order (sitofp .f32 (iotaInDim S8448 32 0))) (freqs bcast_S_S64)))
      (broadcastInDim S1x8448x4x128 ![] bcast_S_S1x8448x4x128 (constant S_ .f32 0x3DB504F3#32))) shapeCasts_S1x8448x4x128_S8448x512 := rfl
  rw [e, rows_apply]
  exact turn_heads 512 (by decide) 0x3DB504F3#32 _ _ _ R C

variable (ρ : Dev nD → PrngReg)

/-- Every run of the reference ends with the turned queries and keys in the results' buffers, its argument unchanged and no semaphore raised. -/
theorem run : θ_run (defs (F := Ideal)) (onTc (τ := τ) (main (F := Ideal))) ⟨m, fun _ => 0, ρ⟩ fun r => (∀ c : Dev nD,
      r.2.mem ((c.tc : Thread nD τ).loc main_v66) = queries (m ((c.tc : Thread nD τ).loc main_arg0))
      ∧ r.2.mem ((c.tc : Thread nD τ).loc main_v67) = keys (m ((c.tc : Thread nD τ).loc main_arg0))
      ∧ r.2.mem ((c.tc : Thread nD τ).loc main_arg0) = m ((c.tc : Thread nD τ).loc main_arg0))
      ∧ r.2.sem = fun _ => 0 :=
  (θ_run defs _ _).mono (fun _ h => ⟨fun c => ⟨(h c).1.trans (queries_eq m c), (h c).2.1.trans (keys_eq m c), (h c).2.2⟩, sem_eq_zero_of_no_sems rfl _⟩) (Value.run m ρ)

end Cert.Reference11Ideal.Ref

end
-- ==== Proof.Conv.lean ====
/- The short convolution over the rows: each column's entry is a weighted sum of its own row, the row before and the row after, with nothing
   before the first and after the last row of the latent rows and of the context rows. -/
module

public import proofs.«01_k».proof.Proof.Norm
public import proofs.«01_k».proof.Proof.Blocks
public import Idealize.ShloMosaic.Lib.Pipeline.Value
public import Idealize.ShloMosaic.Lib.ValueLayout
public import Idealize.ShloMosaic.Lib.KernelVsHost
public import Idealize.ShloMosaic.Lib.Pointwise
public import Idealize.ShloMosaic.Lib.WordCmp
public import Idealize.ShloMosaic.Lib.IdealHost

@[expose] public section

set_option maxRecDepth 16384

noncomputable section

open Idealize.ShloMosaic Idealize.ShloMosaic.TcCoe
open Idealize.ShloMosaic.ValueIdx (shapeCast_1a_a_apply)
open Cert.Norm Cert.Blocks

namespace Cert.Conv

/-- A column over all rows. -/
abbrev Col : Type := Fin 8448 → EReal

/-- The entry of the row before, none before the first latent and the first context row. -/
def before (x : Col) (R : Fin 8448) : EReal := if R.val = 0 ∨ R.val = 8192 then 0 else x ⟨R.val - 1, by omega⟩

/-- The entry of the row after, none after the last latent and the last context row. -/
def after (x : Col) (R : Fin 8448) : EReal := if h : R.val = 8191 ∨ R.val = 8447 then 0 else x ⟨R.val + 1, by omega⟩

/-- The weighted sum at a row. -/
def taps (x : Col) (w0 w1 w2 b : EReal) (R : Fin 8448) : EReal := w0 * before x R + w1 * x R + w2 * after x R + b

section Block

variable (v : FVec Ideal ⟨2, ![8448, 128]⟩ .f32) (R : Fin 8448) (e : Fin 128)

/-- The words that mark a row and another. -/
def marks (a b : BitVec 32) (hi : (⟨2, ![8448, 128]⟩ : Shape).Iotas .tc 32 [0]) : IVec ⟨2, ![8448, 128]⟩ 1 :=
  ori (cmpi .eq (iota .tc ⟨2, ![8448, 128]⟩ 32 [0] hi) (broadcast ⟨2, ![8448, 128]⟩ a)) (cmpi .eq (iota .tc ⟨2, ![8448, 128]⟩ 32 [0] hi) (broadcast ⟨2, ![8448, 128]⟩ b))

/-- The block moved by `s` rows, with zeros in the marked ones. -/
def moved (a b s : BitVec 32) (hi : (⟨2, ![8448, 128]⟩ : Shape).Iotas .tc 32 [0]) (hr : (⟨2, ![8448, 128]⟩ : Shape).Rotates 0 none) : FVec Ideal ⟨2, ![8448, 128]⟩ .f32 :=
  select (marks a b hi) (broadcast ⟨2, ![8448, 128]⟩ (Scalar.ofBits (F := Ideal) .f32 0x00000000#32)) (dynamicRotate 0 s none v hr)

/-- The block moved by `s` rows, entry by entry. -/
theorem moved_apply (a b s : BitVec 32) (hi) (hr) : moved v a b s hi hr (ix2 R e)
    = Scalar.select (IntOp.ori (IntOp.cmpi .eq (BitVec.ofNat 32 R.val) a) (IntOp.cmpi .eq (BitVec.ofNat 32 R.val) b)) 0
      (v (ix2 ⟨(R.val + 8448 - s.toNat % 8448) % 8448, Nat.mod_lt _ (by decide)⟩ e)) := by
  refine (congrArg (Scalar.select (marks a b hi (ix2 R e)) (Scalar.ofBits (F := Ideal) .f32 0x00000000#32)) (dynamicRotate_apply 0 s v hr (ix2 R e) (ix2 ⟨(R.val + 8448 - s.toNat % 8448) % 8448, Nat.mod_lt _ (by decide)⟩ e) fun k => ?_)).trans ?_
  · match k with
    | 0 => rfl
    | 1 => rfl
  · unfold marks
    pointwise

/-- Choosing by two marks. -/
theorem mark_apply (a b : ℕ) (ha : a < 8448) (hb : b < 8448) (x y : EReal) :
    Scalar.select (IntOp.ori (IntOp.cmpi .eq (BitVec.ofNat 32 R.val) (BitVec.ofNat 32 a)) (IntOp.cmpi .eq (BitVec.ofNat 32 R.val) (BitVec.ofNat 32 b))) x y
      = if R.val = a ∨ R.val = b then x else y := by
  rw [WordCmp.cmpi_eq_ofNat (by omega) (by omega), WordCmp.cmpi_eq_ofNat (by omega) (by omega), WordCmp.ori_ofBool, WordCmp.select_ofBool]
  simp only [Bool.or_eq_true, decide_eq_true_eq]

/-- The block moved by one row holds the rows before. -/
theorem before_apply (hi) (hr) : moved v 0#32 8192#32 1#32 hi hr (ix2 R e) = before (fun r => v (ix2 r e)) R := by
  refine (moved_apply v R e _ _ _ hi hr).trans ?_
  refine (mark_apply R 0 8192 (by omega) (by omega) _ _).trans ?_
  unfold before
  split
  · rfl
  · refine congrArg (fun r => v (ix2 r e)) (Fin.ext ?_)
    show (R.val + 8448 - 1 % 8448) % 8448 = R.val - 1
    omega

/-- The block moved by all rows but one holds the rows after. -/
theorem after_apply (hi) (hr) : moved v 8447#32 8191#32 8447#32 hi hr (ix2 R e) = after (fun r => v (ix2 r e)) R := by
  refine (moved_apply v R e _ _ _ hi hr).trans ?_
  refine (mark_apply R 8447 8191 (by omega) (by omega) _ _).trans ?_
  unfold after
  by_cases h : R.val = 8191 ∨ R.val = 8447
  · rw [if_pos h.symm, dif_pos h]
  · rw [if_neg (fun q => h q.symm), dif_neg h]
    refine congrArg (fun r => v (ix2 r e)) (Fin.ext ?_)
    show (R.val + 8448 - 8447 % 8448) % 8448 = R.val + 1
    omega

/-- A row of weights spread over all rows reads the row. -/
theorem spread_apply (w : Vec Ideal ⟨2, ![1, 128]⟩ .f32) (hb : (⟨2, ![1, 128]⟩ : Shape).Broadcasts ⟨2, ![8448, 128]⟩) :
    broadcastTo ⟨2, ![8448, 128]⟩ w hb (ix2 R e) = w (ix2 0 e) := by
  pointwise

/-- The operations on a block of columns. -/
def block (w0 w1 w2 b : Vec Ideal ⟨2, ![1, 128]⟩ .f32) (hi : (⟨2, ![8448, 128]⟩ : Shape).Iotas .tc 32 [0])
    (hr : (⟨2, ![8448, 128]⟩ : Shape).Rotates 0 none) (hb : (⟨2, ![1, 128]⟩ : Shape).Broadcasts ⟨2, ![8448, 128]⟩) (hc : (⟨2, ![1, 128]⟩ : Shape).ShapeCasts ⟨2, ![1, 128]⟩) :
    FVec Ideal ⟨2, ![8448, 128]⟩ .f32 :=
  addf (addf (addf (mulf (broadcastTo ⟨2, ![8448, 128]⟩ w0 hb) (moved v 0#32 8192#32 1#32 hi hr)) (mulf (broadcastTo ⟨2, ![8448, 128]⟩ w1 hb) v))
    (mulf (broadcastTo ⟨2, ![8448, 128]⟩ w2 hb) (moved v 8447#32 8191#32 8447#32 hi hr))) (broadcastTo ⟨2, ![8448, 128]⟩ (shapeCast ⟨2, ![1, 128]⟩ b hc) hb)

/-- The operations on a block of columns, entry by entry. -/
theorem block_apply (w0 w1 w2 b : Vec Ideal ⟨2, ![1, 128]⟩ .f32) (hi) (hr) (hb) (hc) :
    block v w0 w1 w2 b hi hr hb hc (ix2 R e) = taps (fun r => v (ix2 r e)) (w0 (ix2 0 e)) (w1 (ix2 0 e)) (w2 (ix2 0 e)) (b (ix2 0 e)) R := by
  unfold taps
  rw [← before_apply v R e hi hr, ← after_apply v R e hi hr, ← spread_apply R e w0 hb, ← spread_apply R e w1 hb, ← spread_apply R e w2 hb, ← spread_apply R e b hb,
    ← shapeCast_self b hc]
  unfold block
  rw [shapeCast_self]
  rfl

/-- A row of a block of weights, loaded. -/
theorem load_row (w : Vec Ideal ⟨2, ![3, 128]⟩ .f32) (j : ℕ) (hj : j < 3) (inb) (e : Fin 128) :
    View.ld w (Rect.unit (s := ⟨2, ![3, 128]⟩) ![j, 0] ![1, 128] inb) (ix2 0 e) = w (ix2 ⟨j, hj⟩ e) :=
  congrArg w (ix2_of _ ⟨j, hj⟩ e (show j + 1 * 0 = j by omega) (show 0 + 1 * e.val = e.val by omega))

end Block

section Ref

variable {L N M : ℕ}

/-- One row of the weights. -/
def weights (j : ℕ) (w : FVec Ideal ⟨2, ![3, N]⟩ .f32) (hs : (⟨2, ![3, N]⟩ : Shape).Slices ![j, 0] ⟨2, ![1, N]⟩) (hc : (⟨2, ![1, N]⟩ : Shape).ShapeCasts ⟨1, ![N]⟩) : FVec Ideal ⟨1, ![N]⟩ .f32 :=
  shapeCast ⟨1, ![N]⟩ (extractStridedSlice ⟨2, ![1, N]⟩ ![j, 0] w hs) hc

/-- One row of the weights, entry by entry. -/
theorem weights_apply (j : ℕ) (hj : j < 3) (w : FVec Ideal ⟨2, ![3, N]⟩ .f32) (hs) (hc) (C : Fin N) : weights j w hs hc (ix1 C) = w (ix2 ⟨j, hj⟩ C) := by
  refine (shapeCast_1a_a_apply _ hc C).trans ?_
  exact congrArg w (ix2_of _ _ _ (Nat.add_zero j) (Nat.zero_add C.val))

/-- A vector over all rows. -/
def over (v : FVec Ideal ⟨1, ![N]⟩ .f32) (h1 : (⟨1, ![N]⟩ : Shape).BroadcastsInDim ⟨3, ![1, 1, N]⟩ ![2]) (h2 : (⟨3, ![1, 1, N]⟩ : Shape).BroadcastsInDim ⟨3, ![1, L, N]⟩ ![0, 1, 2]) : FVec Ideal ⟨3, ![1, L, N]⟩ .f32 :=
  broadcastInDim ⟨3, ![1, L, N]⟩ ![0, 1, 2] h2 (broadcastInDim ⟨3, ![1, 1, N]⟩ ![2] h1 v)

/-- A vector over all rows, entry by entry. -/
theorem over_apply (hN : N ≠ 1) (v : FVec Ideal ⟨1, ![N]⟩ .f32) (h1) (h2) (r : Fin L) (C : Fin N) : over v h1 h2 (ix3 0 r C) = v (ix1 C) := by
  unfold over
  pointwise
  refine congrArg v (funext fun a => Fin.ext ?_)
  match a with
  | 0 => exact (congrArg Fin.val (dif_neg hN)).trans (congrArg Fin.val (dif_neg hN))

/-- The rows with a row of zeros at both ends. -/
def padded (x : FVec Ideal ⟨3, ![1, L, N]⟩ .f32) (hp : (⟨3, ![1, L, N]⟩ : Shape).Pads ![0, 1, 0] ![0, 1, 0] ![0, 0, 0] ⟨3, ![1, M, N]⟩) (h0 : 0 < (⟨0, ![]⟩ : Shape).numel) : FVec Ideal ⟨3, ![1, M, N]⟩ .f32 :=
  pad ⟨3, ![1, M, N]⟩ ![0, 1, 0] ![0, 1, 0] ![0, 0, 0] x (sitofp (F := Ideal) .f32 (constantI ⟨0, ![]⟩ 32 0#32)) hp h0

/-- As many rows from row `j` of these, entry by entry. -/
theorem padded_apply (x : FVec Ideal ⟨3, ![1, L, N]⟩ .f32) (hp) (h0) (j : ℕ) (hs : (⟨3, ![1, M, N]⟩ : Shape).Slices ![0, j, 0] ⟨3, ![1, L, N]⟩) (r : Fin L) (C : Fin N) :
    (extractStridedSlice ⟨3, ![1, L, N]⟩ ![0, j, 0] (padded (M := M) x hp h0) hs : FVec Ideal ⟨3, ![1, L, N]⟩ .f32) (ix3 0 r C)
      = if h : 1 ≤ j + r.val ∧ j + r.val - 1 < L then x (ix3 0 ⟨j + r.val - 1, h.2⟩ C) else 0 := by
  have hM : j + L ≤ M := hs.2 1
  have hj : j + r.val < M := by omega
  refine (extractStridedSlice_apply _ _ hs (ix3 0 r C) (ix3 0 ⟨j + r.val, hj⟩ C) fun a => ?_).trans ?_
  · match a with
    | 0 => rfl
    | 1 => rfl
    | 2 => exact (Nat.zero_add C.val).symm
  · by_cases h : 1 ≤ j + r.val ∧ j + r.val - 1 < L
    · rw [dif_pos h]
      refine pad_apply_of_inside _ _ _ x _ hp h0 _ (ix3 0 ⟨j + r.val - 1, h.2⟩ C) fun a => ?_
      match a with
      | 0 => rfl
      | 1 => show j + r.val = 1 + (j + r.val - 1) * (0 + 1); omega
      | 2 => show C.val = 0 + C.val * (0 + 1); omega
    · rw [dif_neg h]
      refine (pad_apply_of_not_inside _ _ _ x _ hp h0 (ix3 0 ⟨j + r.val, hj⟩ C) 1 fun q => h ⟨q.1, ?_⟩).trans sitofp_zero
      exact lt_of_eq_of_lt (Nat.div_one _).symm q.2.2

/-- The reference's convolution of some rows. -/
def conv (x : FVec Ideal ⟨3, ![1, L, N]⟩ .f32) (w : FVec Ideal ⟨2, ![3, N]⟩ .f32) (b : FVec Ideal ⟨1, ![N]⟩ .f32)
    (hp : (⟨3, ![1, L, N]⟩ : Shape).Pads ![0, 1, 0] ![0, 1, 0] ![0, 0, 0] ⟨3, ![1, M, N]⟩) (h0 : 0 < (⟨0, ![]⟩ : Shape).numel) (hs0 : (⟨3, ![1, M, N]⟩ : Shape).Slices ![0, 0, 0] ⟨3, ![1, L, N]⟩)
    (hs1 : (⟨3, ![1, M, N]⟩ : Shape).Slices ![0, 1, 0] ⟨3, ![1, L, N]⟩) (hs2 : (⟨3, ![1, M, N]⟩ : Shape).Slices ![0, 2, 0] ⟨3, ![1, L, N]⟩)
    (hw0 : (⟨2, ![3, N]⟩ : Shape).Slices ![0, 0] ⟨2, ![1, N]⟩) (hw1 : (⟨2, ![3, N]⟩ : Shape).Slices ![1, 0] ⟨2, ![1, N]⟩) (hw2 : (⟨2, ![3, N]⟩ : Shape).Slices ![2, 0] ⟨2, ![1, N]⟩)
    (hc : (⟨2, ![1, N]⟩ : Shape).ShapeCasts ⟨1, ![N]⟩) (h1 : (⟨1, ![N]⟩ : Shape).BroadcastsInDim ⟨3, ![1, 1, N]⟩ ![2])
    (h2 : (⟨3, ![1, 1, N]⟩ : Shape).BroadcastsInDim ⟨3, ![1, L, N]⟩ ![0, 1, 2]) : FVec Ideal ⟨3, ![1, L, N]⟩ .f32 :=
  addf (addf (addf (mulf (extractStridedSlice ⟨3, ![1, L, N]⟩ ![0, 0, 0] (padded (M := M) x hp h0) hs0) (over (weights 0 w hw0 hc) h1 h2))
    (mulf (extractStridedSlice ⟨3, ![1, L, N]⟩ ![0, 1, 0] (padded (M := M) x hp h0) hs1) (over (weights 1 w hw1 hc) h1 h2)))
    (mulf (extractStridedSlice ⟨3, ![1, L, N]⟩ ![0, 2, 0] (padded (M := M) x hp h0) hs2) (over (weights 2 w hw2 hc) h1 h2))) (over b h1 h2)

/-- The latent rows, or the context rows, convolved by the reference are the weighted sums at these rows: `o` is the first of them. -/
theorem conv_apply (hN : N ≠ 1) (o : ℕ) (ho : o = 0 ∧ L = 8192 ∨ o = 8192 ∧ L = 256) (X : Col) (x : FVec Ideal ⟨3, ![1, L, N]⟩ .f32) (w : FVec Ideal ⟨2, ![3, N]⟩ .f32)
    (b : FVec Ideal ⟨1, ![N]⟩ .f32) (hp) (h0) (hs0) (hs1) (hs2) (hw0) (hw1) (hw2) (hc) (h1) (h2) (C : Fin N) (hx : ∀ r : Fin L, x (ix3 0 r C) = X ⟨o + r.val, by omega⟩) (r : Fin L) :
    conv (M := M) x w b hp h0 hs0 hs1 hs2 hw0 hw1 hw2 hc h1 h2 (ix3 0 r C)
      = taps X (w (ix2 0 C)) (w (ix2 1 C)) (w (ix2 2 C)) (b (ix1 C)) ⟨o + r.val, by omega⟩ := by
  have e0 := padded_apply (M := M) x hp h0 0 hs0 r C
  have e1 := padded_apply (M := M) x hp h0 1 hs1 r C
  have e2 := padded_apply (M := M) x hp h0 2 hs2 r C
  have f0 := (over_apply (L := L) hN _ h1 h2 r C).trans (weights_apply 0 (by decide) w hw0 hc C)
  have f1 := (over_apply (L := L) hN _ h1 h2 r C).trans (weights_apply 1 (by decide) w hw1 hc C)
  have f2 := (over_apply (L := L) hN _ h1 h2 r C).trans (weights_apply 2 (by decide) w hw2 hc C)
  have fb := over_apply (L := L) hN b h1 h2 r C
  have hr := r.isLt
  refine (congrArg₂ (fun p q : EReal => p + q) (congrArg₂ (fun p q : EReal => p + q) (congrArg₂ (fun p q : EReal => p + q) (congrArg₂ (fun p q : EReal => p * q) e0 f0)
    (congrArg₂ (fun p q : EReal => p * q) e1 f1)) (congrArg₂ (fun p q : EReal => p * q) e2 f2)) fb).trans ?_
  unfold taps
  refine congrArg (fun p : EReal => p + b (ix1 C)) (congrArg₂ (fun p q : EReal => p + q) (congrArg₂ (fun p q : EReal => p + q) ?_ ?_) ?_)
  · refine (mul_comm _ _).trans (congrArg (fun p : EReal => w (ix2 0 C) * p) ?_)
    unfold before
    by_cases h : r.val = 0
    · rw [dif_neg (by omega), if_pos (by show o + r.val = 0 ∨ o + r.val = 8192; omega)]
    · rw [dif_pos (by omega), if_neg (by show ¬(o + r.val = 0 ∨ o + r.val = 8192); omega), hx]
      exact congrArg X (Fin.ext (by show o + (0 + r.val - 1) = o + r.val - 1; omega))
  · refine (mul_comm _ _).trans (congrArg (fun p : EReal => w (ix2 1 C) * p) ?_)
    rw [dif_pos (by omega), hx]
    exact congrArg X (Fin.ext (by show o + (1 + r.val - 1) = o + r.val; omega))
  · refine (mul_comm _ _).trans (congrArg (fun p : EReal => w (ix2 2 C) * p) ?_)
    unfold after
    by_cases h : r.val + 1 = L
    · rw [dif_neg (by omega), dif_pos (by show o + r.val = 8191 ∨ o + r.val = 8447; omega)]
    · rw [dif_pos (by omega), dif_neg (by show ¬(o + r.val = 8191 ∨ o + r.val = 8447); omega), hx]
      exact congrArg X (Fin.ext (by show o + (2 + r.val - 1) = o + r.val + 1; omega))

/-- Some rows of an array, as the reference takes them. -/
def rows (o : ℕ) (U : FVec Ideal ⟨2, ![8448, N]⟩ .f32) (hb : (⟨2, ![8448, N]⟩ : Shape).BroadcastsInDim ⟨3, ![1, 8448, N]⟩ ![1, 2])
    (hs : (⟨3, ![1, 8448, N]⟩ : Shape).Slices ![0, o, 0] ⟨3, ![1, L, N]⟩) : FVec Ideal ⟨3, ![1, L, N]⟩ .f32 :=
  extractStridedSlice ⟨3, ![1, L, N]⟩ ![0, o, 0] (broadcastInDim ⟨3, ![1, 8448, N]⟩ ![1, 2] hb U) hs

/-- Some rows of an array, entry by entry. -/
theorem rows_apply (hN : N ≠ 1) (o : ℕ) (ho : o + L ≤ 8448) (U : FVec Ideal ⟨2, ![8448, N]⟩ .f32) (hb) (hs) (r : Fin L) (C : Fin N) :
    rows o U hb hs (ix3 0 r C) = U (ix2 ⟨o + r.val, by omega⟩ C) := by
  unfold rows
  pointwise
  refine congrArg U (ix2_of _ _ _ ?_ ?_)
  · rfl
  · exact (congrArg Fin.val (dif_neg hN)).trans (Nat.zero_add C.val)

/-- The reference's `silu` of an array. -/
def hostSilu (x : FVec Ideal ⟨3, ![1, L, N]⟩ .f32) (h : (⟨0, ![]⟩ : Shape).BroadcastsInDim ⟨3, ![1, L, N]⟩ ![]) : FVec Ideal ⟨3, ![1, L, N]⟩ .f32 :=
  mulf x (Host.divf (broadcastInDim ⟨3, ![1, L, N]⟩ ![] h (constant ⟨0, ![]⟩ .f32 0x3F800000#32))
    (addf (broadcastInDim ⟨3, ![1, L, N]⟩ ![] h (constant ⟨0, ![]⟩ .f32 0x3F800000#32)) (Host.exp (Host.negf x))))

/-- The reference's `silu`, entry by entry. -/
theorem hostSilu_apply (x : FVec Ideal ⟨3, ![1, L, N]⟩ .f32) (h) (r : Fin L) (C : Fin N) : hostSilu x h (ix3 0 r C) = silu (x (ix3 0 r C)) := by
  unfold hostSilu silu Ideal.logistic
  pointwise

end Ref

end Cert.Conv

end
-- ==== Proof.SsdConv.lean ====
/- The gated scan's short convolution with its activation: of the projection's columns from the 1025th on, the latent rows and the context
   rows convolved apart. Each grid point takes 128 columns of all rows; the reference convolves the two sets of rows and joins them. -/
module

public import proofs.«01_k».proof.Defs
public import proofs.«01_k».proof.Proof.Conv
public import proofs.«01_k».proof.Proof.Gen.Kernel12Ideal.Value
public import proofs.«01_k».proof.Proof.Gen.Reference12Ideal.Run
public import Idealize.ShloMosaic.Lib.Pipeline.ValueKit.Tiles
public import Idealize.ShloMosaic.Lib.Pipeline.ValueKit.Basic
public import Idealize.ShloMosaic.Lib.Pipeline.ReadBack
public import Idealize.ShloMosaic.Lib.Pointwise
public import Idealize.ShloMosaic.Lib.WordCmp
public import Idealize.ShloMosaic.Lib.IdealHost
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.ValueIdx (shapeCast_a_1a_apply shapeCast_1ab_ab_apply)
open Cert.Norm Cert.Blocks

namespace Cert.SsdConv

open Cert.Conv

/-- The result's entry at row `R` and column `C`. -/
def outAt (u : Arr 8448 3072) (w : Arr 3 2048) (b : (⟨1, ![2048]⟩ : Shape).Idx → EReal) (R : Fin 8448) (C : Fin 2048) : EReal :=
  silu (taps (fun r => u (ix2 r ⟨1024 + C.val, by omega⟩)) (w (ix2 0 C)) (w (ix2 1 C)) (w (ix2 2 C)) (b (ix1 C)) R)

/-- The result. -/
def out (u : Arr 8448 3072) (w : Arr 3 2048) (b : (⟨1, ![2048]⟩ : Shape).Idx → EReal) : Arr 8448 2048 := fun i => outAt u w b (i 0) (i 1)

end Cert.SsdConv

namespace Cert.Kernel12Ideal.Point

open Cert.Kernel12Ideal Cert.Kernel12Ideal.Gen Cert.Conv Cert.SsdConv

/-- A block's result, entry by entry. -/
theorem out3_apply (x : Vec Ideal S8448x128 .f32) (w : Vec Ideal S3x128 .f32) (b : Vec Ideal S1x128 .f32) (R : Fin 8448) (e : Fin 128) :
    out0_3 x w b (ix2 R e) = silu (taps (fun r => x (ix2 r e)) (w (ix2 0 e)) (w (ix2 1 e)) (w (ix2 2 e)) (b (ix2 0 e)) R) := by
  unfold out0_3
  rw [View.canon_cons_unit_lit _ _ _ (by decide), View.ld_unit_lit _ x (by decide), View.ld_unit_lit _ b (by decide)]
  exact (congrArg silu (block_apply x R e _ _ _ b iota_S8448x128_d0_w32 rotates_S8448x128_d0 broadcasts_S1x128_S8448x128 shapeCasts_S1x128_S1x128)).trans (by rw [load_row w 0 (by decide), load_row w 1 (by decide), load_row w 2 (by decide)]; rfl)

variable (m : (ℓ : Loc nD τ sig) → Buf (Elt Ideal) ℓ) (ρ : Dev nD → PrngReg)

/-- The projection as launched. -/
abbrev argU (c : Dev nD) : Arr 8448 3072 := m ((c : Thread nD τ).loc main_arg0)
/-- The weights as launched. -/
abbrev argW (c : Dev nD) : Arr 3 2048 := m ((c : Thread nD τ).loc main_arg1)
/-- The biases as launched. -/
abbrev argB (c : Dev nD) : (⟨1, ![2048]⟩ : Shape).Idx → EReal := m ((c : Thread nD τ).loc main_arg2)

/-- The block index of every window at point `t`. -/
theorem index_eq : ∀ t : Fin cfg0.N,
    (win0_0.index t 0 = 0 ∧ win0_0.index t 1 = 8 + t.val) ∧ (win0_1.index t 0 = 0 ∧ win0_1.index t 1 = t.val) ∧ (win0_2.index t 0 = 0 ∧ win0_2.index t 1 = t.val)
    ∧ (win0_3.index t 0 = 0 ∧ win0_3.index t 1 = t.val) :=
  (by decide +kernel : ∀ t : Fin grid0.N, _)

/-- The projection's block at point `t`. -/
theorem blkU (c : Dev nD) (t : Fin cfg0.N) (r : Fin 8448) (e : Fin 128) (C : Fin 2048) (hC : C.val = t.val * 128 + e.val) :
    (iblk m c 0 t : Vec Ideal S8448x128 .f32) (ix2 r e) = argU m c (ix2 r ⟨1024 + C.val, by omega⟩) := by
  unfold iblk
  rw [View.read_apply]
  exact (congrFun (V_main_arg0 m c) _).trans (congrArg (argU m c) (ix2_of _ r ⟨1024 + C.val, by omega⟩ (place_zero (index_eq t).1.1 _)
    (place (index_eq t).1.2 (show 1024 + C.val = (8 + t.val) * 128 + e.val by omega))))

/-- The weights' block at point `t`. -/
theorem blkW (c : Dev nD) (t : Fin cfg0.N) (j : Fin 3) (e : Fin 128) (C : Fin 2048) (hC : C.val = t.val * 128 + e.val) :
    (iblk m c 1 t : Vec Ideal S3x128 .f32) (ix2 j e) = argW m c (ix2 j C) := by
  unfold iblk
  rw [View.read_apply]
  exact (congrFun (V_main_arg1 m c) _).trans (congrArg (argW m c) (ix2_of _ j C (place_zero (index_eq t).2.1.1 _) (place (index_eq t).2.1.2 hC)))

/-- The biases as the region finds them: one row. -/
theorem bias_eq (c : Dev nD) : (V m c main_v0 : Arr 1 2048) = shapeCast S1x2048 (argB m c) shapeCasts_S2048_S1x2048 := by
  show StableHlo.after hostOps0 _ _ = _
  after_results
  rfl

/-- The biases' block at point `t`. -/
theorem blkB (c : Dev nD) (t : Fin cfg0.N) (e : Fin 128) (C : Fin 2048) (hC : C.val = t.val * 128 + e.val) :
    (iblk m c 2 t : Vec Ideal S1x128 .f32) (ix2 0 e) = argB m c (ix1 C) := by
  unfold iblk
  rw [View.read_apply]
  refine (congrFun (bias_eq m c) _).trans (Eq.trans (congrArg _ (ix2_of _ 0 C (place_zero (index_eq t).2.2.1.1 _) (place (index_eq t).2.2.1.2 hC))) ?_)
  exact shapeCast_a_1a_apply (argB m c) _ 0 C

/-- What point `t` writes back. -/
theorem flushed3_eq (c : Dev nD) (t : Fin cfg0.N) : (dats m 0 c).flushed 3 t = ((cfg0.win 3).blk t).view.read (Elt Ideal) (out (argU m c) (argW m c) (argB m c)) := by
  have hN : t.val < 16 := lt_of_lt_of_eq t.isLt (show cfg0.N = 16 from N_0)
  rw [Value.flushed3]
  funext y
  rw [View.read_apply]
  obtain ⟨R, e, rfl⟩ : ∃ (R : Fin 8448) (e : Fin 128), y = ix2 R e := ⟨y 0, y 1, ValueIdx.eq_ix2 y⟩
  obtain ⟨C, hC⟩ : ∃ C : Fin 2048, C.val = t.val * 128 + e.val := ⟨⟨t.val * 128 + e.val, by omega⟩, rfl⟩
  refine (out3_apply _ _ _ R e).trans ?_
  rw [show (fun r : Fin 8448 => (iblk m c 0 t : Vec Ideal S8448x128 .f32) (ix2 r e)) = fun r => argU m c (ix2 r ⟨1024 + C.val, by omega⟩) from funext fun r => blkU m c t r e C hC,
    blkW m c t 0 e C hC, blkW m c t 1 e C hC, blkW m c t 2 e C hC, blkB m c t e C hC]
  exact congrArg (out (argU m c) (argW m c) (argB m c)) (ix2_of _ R C (place_zero (index_eq t).2.2.2.1 _) (place (index_eq t).2.2.2.2 hC)).symm

/-- The result when the run ends. -/
theorem final (c : Dev nD) : (dats m 0 c).arrAt 3 cfg0.N = out (argU m c) (argW m c) (argB m c) :=
  (dats m 0 c).arrAt_eq_of_cover 3 _ (fun t _ => flushed3_eq m c t) fun i => by
    have h0 : (i 0).val < 8448 := (i 0).isLt
    have h1 : (i 1).val < 2048 := (i 1).isLt
    have hN : cfg0.N = 16 := N_0
    obtain ⟨t, ht⟩ : ∃ t : Fin cfg0.N, t.val = (i 1).val / 128 := ⟨⟨_, by rw [hN]; omega⟩, rfl⟩
    refine ⟨t, flush0_3 _, ?_⟩
    show i ∈ ((View.whole main_v1).slice (win0_3.rect t)).set
    rw [View.set_slice_whole, Rect.mem_set_unit]
    intro a
    match a with
    | ⟨0, _⟩ => exact in_block (k := win0_3.index t 0) (n := 8448) (i := (i 0).val) (by omega) ((index_eq t).2.2.2.1.trans (by omega))
    | ⟨1, _⟩ => exact in_block (k := win0_3.index t 1) (n := 128) (i := (i 1).val) (by omega) ((index_eq t).2.2.2.2.trans (by omega))

/-- Every run of the kernel ends with the result in its buffer and its arguments unchanged. -/
theorem run : θ_run defs (onTc (τ := τ) (main (F := Ideal))) ⟨m, fun _ => 0, ρ⟩ fun r => ∀ c : Dev nD,
      r.2.mem ((c : Thread nD τ).loc main_v1) = out (argU m c) (argW m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.Kernel12Ideal.Point

namespace Cert.Reference12Ideal.Ref

open Cert.Reference12Ideal Cert.Reference12Ideal.Gen Cert.Reference12Ideal.Value Cert.Conv Cert.SsdConv

variable (u : Arr 8448 3072) (w : Arr 3 2048) (b : (⟨1, ![2048]⟩ : Shape).Idx → EReal)

/-- The reference's columns. -/
def cols : FVec Ideal S8448x2048 .f32 := extractStridedSlice S8448x2048 ![0, 1024] u slices_S8448x3072_S8448x2048_0_1024

/-- They are the projection's from the 1025th on. -/
theorem cols_apply (R : Fin 8448) (C : Fin 2048) : cols u (ix2 R C) = u (ix2 R ⟨1024 + C.val, by omega⟩) := by
  unfold cols
  pointwise

/-- The reference's latent rows. -/
def latent : FVec Ideal S8192x2048 .f32 :=
  shapeCast S8192x2048 (hostSilu (conv (L := 8192) (M := 8194) (rows 0 (cols u) bcast_S8448x2048_S1x8448x2048_1_2 slices_S1x8448x2048_S1x8192x2048_0_0_0) w b pads_S1x8192x2048_S1x8194x2048_000_110_000 h_S_
    slices_S1x8194x2048_S1x8192x2048_0_0_0 slices_S1x8194x2048_S1x8192x2048_0_1_0 slices_S1x8194x2048_S1x8192x2048_0_2_0 slices_S3x2048_S1x2048_0_0 slices_S3x2048_S1x2048_1_0 slices_S3x2048_S1x2048_2_0
    shapeCasts_S1x2048_S2048 bcast_S2048_S1x1x2048_2 bcast_S1x1x2048_S1x8192x2048_0_1_2) bcast_S_S1x8192x2048) shapeCasts_S1x8192x2048_S8192x2048

/-- The reference's context rows. -/
def context : FVec Ideal S256x2048 .f32 :=
  shapeCast S256x2048 (hostSilu (conv (L := 256) (M := 258) (rows 8192 (cols u) bcast_S8448x2048_S1x8448x2048_1_2 slices_S1x8448x2048_S1x256x2048_0_8192_0) w b pads_S1x256x2048_S1x258x2048_000_110_000 h_S_
    slices_S1x258x2048_S1x256x2048_0_0_0 slices_S1x258x2048_S1x256x2048_0_1_0 slices_S1x258x2048_S1x256x2048_0_2_0 slices_S3x2048_S1x2048_0_0 slices_S3x2048_S1x2048_1_0 slices_S3x2048_S1x2048_2_0
    shapeCasts_S1x2048_S2048 bcast_S2048_S1x1x2048_2 bcast_S1x1x2048_S1x256x2048_0_1_2) bcast_S_S1x256x2048) shapeCasts_S1x256x2048_S256x2048

/-- The latent rows, entry by entry. -/
theorem latent_apply (r : Fin 8192) (R : Fin 8448) (hR : 0 + r.val = R.val) (C : Fin 2048) : latent u w b (ix2 r C) = outAt u w b R C := by
  have hl : 0 + r.val < 8448 := by clear hR; omega
  obtain rfl : R = ⟨0 + r.val, hl⟩ := Fin.ext hR.symm
  refine (shapeCast_1ab_ab_apply _ _ r C).trans ((hostSilu_apply _ _ r C).trans (congrArg silu ?_))
  exact conv_apply (by decide) 0 (Or.inl ⟨rfl, rfl⟩) (fun r => u (ix2 r ⟨1024 + C.val, by omega⟩)) _ w b _ _ _ _ _ _ _ _ _ _ _ C
    (fun r => (rows_apply (by decide) 0 (by decide) _ _ _ r C).trans (cols_apply u _ C)) r

/-- The context rows, entry by entry. -/
theorem context_apply (r : Fin 256) (R : Fin 8448) (hR : R.val = 8192 + r.val) (C : Fin 2048) : context u w b (ix2 r C) = outAt u w b R C := by
  obtain rfl : R = ⟨8192 + r.val, Nat.add_lt_add_left r.isLt 8192⟩ := Fin.ext hR
  refine (shapeCast_1ab_ab_apply _ _ r C).trans ((hostSilu_apply _ _ r C).trans (congrArg silu ?_))
  exact conv_apply (by decide) 8192 (Or.inr ⟨rfl, rfl⟩) (fun r => u (ix2 r ⟨1024 + C.val, by omega⟩)) _ w b _ _ _ _ _ _ _ _ _ _ _ C
    (fun r => (rows_apply (by decide) 8192 (by decide) _ _ _ r C).trans (cols_apply u _ C)) r

/-- The reference's result is the rows convolved. -/
theorem result_eq (hc) : (concatenate S8448x2048 0 [⟨S8192x2048, latent u w b⟩, ⟨S256x2048, context u w b⟩] hc : S8448x2048.Idx → EReal) = out u w b := by
  funext y
  obtain ⟨R, C, rfl⟩ : ∃ R C, y = ix2 R C := ⟨y 0, y 1, ValueIdx.eq_ix2 y⟩
  show _ = outAt u w b R C
  by_cases h : R.val < 8192
  · rw [← latent_apply u w b ⟨R.val, h⟩ R (Nat.zero_add _) C]
    refine concatenate_apply_piece 0 _ hc _ 0 (by decide : 0 < 2) S8192x2048 _ rfl rfl 0 rfl (ix2 ⟨R.val, h⟩ C) (fun k hk => ?_) (Nat.zero_add _)
    match k with
    | 0 => exact absurd rfl hk
    | 1 => rfl
  · have hR : R.val = 8192 + (R.val - 8192) := by omega
    rw [← context_apply u w b ⟨R.val - 8192, by omega⟩ R hR C]
    refine concatenate_apply_piece 0 _ hc _ 1 (by decide : 1 < 2) S256x2048 _ rfl rfl 8192 rfl (ix2 ⟨R.val - 8192, by omega⟩ C) (fun k hk => ?_) hR.symm
    match k with
    | 0 => exact absurd rfl hk
    | 1 => rfl

variable (m : (ℓ : Loc nD τ sig) → Buf (Elt Ideal) ℓ) (ρ : Dev nD → PrngReg)

/-- Every run of the reference ends with the result in its buffer, its arguments unchanged and no semaphore raised. -/
theorem run : θ_run (defs (F := Ideal)) (onTc (τ := τ) (main (F := Ideal))) ⟨m, fun _ => 0, ρ⟩ fun r => (∀ c : Dev nD,
      r.2.mem ((c.tc : Thread nD τ).loc main_v56) = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun _ h => ⟨fun c => ⟨(h c).1.trans (result_eq _ _ _ concatenates_S8192x2048_S256x2048_S8448x2048_d0), (h c).2⟩, sem_eq_zero_of_no_sems rfl _⟩) (Value.run m ρ)

end Cert.Reference12Ideal.Ref

end
-- ==== Proof.HyConv.lean ====
/- The Hyena branch's short convolution: all columns of its projection, the latent rows and the context rows convolved apart and kept as
   two results. Each grid point takes 128 columns of all rows and stores the two sets of rows; the reference convolves each set. -/
module

public import proofs.«01_k».proof.Defs
public import proofs.«01_k».proof.Proof.Conv
public import proofs.«01_k».proof.Proof.Gen.Kernel13Ideal.Value
public import proofs.«01_k».proof.Proof.Gen.Reference13Ideal.Run
public import Idealize.ShloMosaic.Lib.Pipeline.ValueKit.Tiles
public import Idealize.ShloMosaic.Lib.Pipeline.ValueKit.Basic
public import Idealize.ShloMosaic.Lib.Pipeline.ReadBack
public import Idealize.ShloMosaic.Lib.Pointwise
public import Idealize.ShloMosaic.Lib.IdealHost
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.ValueIdx (shapeCast_a_1a_apply shapeCast_1ab_ab_apply)
open Cert.Norm Cert.Blocks

namespace Cert.HyConv

open Cert.Conv

/-- The biases. -/
abbrev Bias : Type := (⟨1, ![3072]⟩ : Shape).Idx → EReal

/-- A result's entry: row `R` of all rows, column `C`. -/
def outAt (u : Arr 8448 3072) (w : Arr 3 3072) (b : Bias) (R : Fin 8448) (C : Fin 3072) : EReal :=
  taps (fun r => u (ix2 r C)) (w (ix2 0 C)) (w (ix2 1 C)) (w (ix2 2 C)) (b (ix1 C)) R

/-- `n` rows of the results, from row `o`. -/
def part (o n : ℕ) (h : o + n ≤ 8448) (u : Arr 8448 3072) (w : Arr 3 3072) (b : Bias) : Arr n 3072 :=
  fun i => outAt u w b ⟨o + (i 0).val, Nat.lt_of_lt_of_le (Nat.add_lt_add_left (i 0).isLt o) h⟩ (i 1)

/-- The latent rows. -/
def latent (u : Arr 8448 3072) (w : Arr 3 3072) (b : Bias) : Arr 8192 3072 := part 0 8192 (by decide) u w b

/-- The context rows. -/
def context (u : Arr 8448 3072) (w : Arr 3 3072) (b : Bias) : Arr 256 3072 := part 8192 256 (by decide) u w b

end Cert.HyConv

namespace Cert.Kernel13Ideal.Point

open Cert.Kernel13Ideal Cert.Kernel13Ideal.Gen Cert.Conv Cert.HyConv

section Body

variable (x : Vec Ideal S8448x128 .f32) (w : Vec Ideal S3x128 .f32) (b : Vec Ideal S1x128 .f32)

/-- A column of a block, convolved. -/
def colAt (e : Fin 128) (R : Fin 8448) : EReal := taps (fun r => x (ix2 r e)) (w (ix2 0 e)) (w (ix2 1 e)) (w (ix2 2 e)) (b (ix2 0 e)) R

/-- The body's convolution, entry by entry. -/
theorem body_apply (R : Fin 8448) (e : Fin 128) : k0_pay1 x (View.ld w r0_1) (View.ld w r0_2) (View.ld w r0_3) b (ix2 R e) = colAt x w b e R := by
  refine (block_apply x R e _ _ _ b iota_S8448x128_d0_w32 rotates_S8448x128_d0 broadcasts_S1x128_S8448x128 shapeCasts_S1x128_S1x128).trans ?_
  rw [load_row w 0 (by decide), load_row w 1 (by decide), load_row w 2 (by decide)]
  rfl

/-- The block of latent rows. -/
theorem out3_apply (r : Fin 8192) (e : Fin 128) : out0_3 x w b (ix2 r e) = colAt x w b e ⟨0 + r.val, by omega⟩ := by
  unfold out0_3
  rw [View.canon_cons_unit_lit _ _ _ (by decide), View.ld_unit_lit _ x (by decide), View.ld_unit_lit _ b (by decide)]
  refine (extractStridedSlice_apply _ _ slices_S8448x128_o0_0_S8192x128 (ix2 r e) (ix2 ⟨0 + r.val, by omega⟩ e) fun a => ?_).trans (body_apply x w b _ e)
  match a with
  | 0 => rfl
  | 1 => exact (Nat.zero_add e.val).symm

/-- The block of context rows. -/
theorem out4_apply (r : Fin 256) (e : Fin 128) : out0_4 x w b (ix2 r e) = colAt x w b e ⟨8192 + r.val, by omega⟩ := by
  unfold out0_4
  rw [View.canon_cons_unit_lit _ _ _ (by decide), View.ld_unit_lit _ x (by decide), View.ld_unit_lit _ b (by decide)]
  refine (extractStridedSlice_apply _ _ slices_S8448x128_o8192_0_S256x128 (ix2 r e) (ix2 ⟨8192 + r.val, by omega⟩ e) fun a => ?_).trans (body_apply x w b _ e)
  match a with
  | 0 => rfl
  | 1 => exact (Nat.zero_add e.val).symm

end Body

variable (m : (ℓ : Loc nD τ sig) → Buf (Elt Ideal) ℓ) (ρ : Dev nD → PrngReg)

/-- The projection as launched. -/
abbrev argU (c : Dev nD) : Arr 8448 3072 := m ((c : Thread nD τ).loc main_arg0)
/-- The weights as launched. -/
abbrev argW (c : Dev nD) : Arr 3 3072 := m ((c : Thread nD τ).loc main_arg1)
/-- The biases as launched. -/
abbrev argB (c : Dev nD) : Bias := m ((c : Thread nD τ).loc main_arg2)

/-- The block index of every window at point `t`. -/
theorem index_eq : ∀ t : Fin cfg0.N,
    (win0_0.index t 0 = 0 ∧ win0_0.index t 1 = t.val) ∧ (win0_1.index t 0 = 0 ∧ win0_1.index t 1 = t.val) ∧ (win0_2.index t 0 = 0 ∧ win0_2.index t 1 = t.val)
    ∧ (win0_3.index t 0 = 0 ∧ win0_3.index t 1 = t.val) ∧ (win0_4.index t 0 = 0 ∧ win0_4.index t 1 = t.val) :=
  (by decide +kernel : ∀ t : Fin grid0.N, _)

/-- The biases as the region finds them: one row. -/
theorem bias_eq (c : Dev nD) : (V m c main_v0 : Arr 1 3072) = shapeCast S1x3072 (argB m c) shapeCasts_S3072_S1x3072 := by
  show StableHlo.after hostOps0 _ _ = _
  after_results
  rfl

/-- A column of the blocks at point `t`, convolved, is that point's column. -/
theorem col_eq (c : Dev nD) (t : Fin cfg0.N) (e : Fin 128) (C : Fin 3072) (hC : C.val = t.val * 128 + e.val) (R : Fin 8448) :
    colAt (iblk m c 0 t) (iblk m c 1 t) (iblk m c 2 t) e R = outAt (argU m c) (argW m c) (argB m c) R C := by
  have hu (r : Fin 8448) : (iblk m c 0 t : Vec Ideal S8448x128 .f32) (ix2 r e) = argU m c (ix2 r C) := by
    unfold iblk
    rw [View.read_apply]
    exact (congrFun (V_main_arg0 m c) _).trans (congrArg (argU m c) (ix2_of _ r C (place_zero (index_eq t).1.1 _) (place (index_eq t).1.2 hC)))
  have hw (j : Fin 3) : (iblk m c 1 t : Vec Ideal S3x128 .f32) (ix2 j e) = argW m c (ix2 j C) := by
    unfold iblk
    rw [View.read_apply]
    exact (congrFun (V_main_arg1 m c) _).trans (congrArg (argW m c) (ix2_of _ j C (place_zero (index_eq t).2.1.1 _) (place (index_eq t).2.1.2 hC)))
  have hb : (iblk m c 2 t : Vec Ideal S1x128 .f32) (ix2 0 e) = argB m c (ix1 C) := by
    unfold iblk
    rw [View.read_apply]
    refine (congrFun (bias_eq m c) _).trans (Eq.trans (congrArg _ (ix2_of _ 0 C (place_zero (index_eq t).2.2.1.1 _) (place (index_eq t).2.2.1.2 hC))) ?_)
    exact shapeCast_a_1a_apply (argB m c) _ 0 C
  unfold colAt outAt
  rw [hw, hw, hw, hb, funext hu]

/-- The latent rows point `t` writes back. -/
theorem flushed3_eq (c : Dev nD) (t : Fin cfg0.N) : (dats m 0 c).flushed 3 t = ((cfg0.win 3).blk t).view.read (Elt Ideal) (latent (argU m c) (argW m c) (argB m c)) := by
  have hN : t.val < 24 := lt_of_lt_of_eq t.isLt (show cfg0.N = 24 from N_0)
  rw [Value.flushed3]
  funext y
  rw [View.read_apply]
  obtain ⟨r, e, rfl⟩ : ∃ (r : Fin 8192) (e : Fin 128), y = ix2 r e := ⟨y 0, y 1, ValueIdx.eq_ix2 y⟩
  refine (out3_apply _ _ _ r e).trans ((col_eq m c t e ⟨t.val * 128 + e.val, by omega⟩ rfl _).trans ?_)
  exact congrArg (latent (argU m c) (argW m c) (argB m c)) (ix2_of _ r ⟨t.val * 128 + e.val, by omega⟩ (place_zero (index_eq t).2.2.2.1.1 _) (place (index_eq t).2.2.2.1.2 rfl)).symm

/-- The context rows point `t` writes back. -/
theorem flushed4_eq (c : Dev nD) (t : Fin cfg0.N) : (dats m 0 c).flushed 4 t = ((cfg0.win 4).blk t).view.read (Elt Ideal) (context (argU m c) (argW m c) (argB m c)) := by
  have hN : t.val < 24 := lt_of_lt_of_eq t.isLt (show cfg0.N = 24 from N_0)
  rw [Value.flushed4]
  funext y
  rw [View.read_apply]
  obtain ⟨r, e, rfl⟩ : ∃ (r : Fin 256) (e : Fin 128), y = ix2 r e := ⟨y 0, y 1, ValueIdx.eq_ix2 y⟩
  refine (out4_apply _ _ _ r e).trans ((col_eq m c t e ⟨t.val * 128 + e.val, by omega⟩ rfl _).trans ?_)
  exact congrArg (context (argU m c) (argW m c) (argB m c)) (ix2_of _ r ⟨t.val * 128 + e.val, by omega⟩ (place_zero (index_eq t).2.2.2.2.1 _) (place (index_eq t).2.2.2.2.2 rfl)).symm

/-- The point whose blocks hold a column. -/
theorem point_of (C : Fin 3072) : ∃ t : Fin cfg0.N, t.val = C.val / 128 := by
  have hN : cfg0.N = 24 := N_0
  exact ⟨⟨_, by rw [hN]; omega⟩, rfl⟩

/-- The latent rows when the run ends. -/
theorem final3 (c : Dev nD) : (dats m 0 c).arrAt 3 cfg0.N = latent (argU m c) (argW m c) (argB m c) :=
  (dats m 0 c).arrAt_eq_of_cover 3 _ (fun t _ => flushed3_eq m c t) fun i => by
    have h0 : (i 0).val < 8192 := (i 0).isLt
    obtain ⟨t, ht⟩ := point_of (i 1)
    refine ⟨t, flush0_3 _, ?_⟩
    show i ∈ ((View.whole main_v1_0).slice (win0_3.rect t)).set
    rw [View.set_slice_whole, Rect.mem_set_unit]
    intro a
    match a with
    | ⟨0, _⟩ => exact in_block (k := win0_3.index t 0) (n := 8192) (i := (i 0).val) (by omega) ((index_eq t).2.2.2.1.1.trans (by omega))
    | ⟨1, _⟩ => exact in_block (k := win0_3.index t 1) (n := 128) (i := (i 1).val) (by omega) ((index_eq t).2.2.2.1.2.trans ht)

/-- The context rows when the run ends. -/
theorem final4 (c : Dev nD) : (dats m 0 c).arrAt 4 cfg0.N = context (argU m c) (argW m c) (argB m c) :=
  (dats m 0 c).arrAt_eq_of_cover 4 _ (fun t _ => flushed4_eq m c t) fun i => by
    have h0 : (i 0).val < 256 := (i 0).isLt
    obtain ⟨t, ht⟩ := point_of (i 1)
    refine ⟨t, flush0_4 _, ?_⟩
    show i ∈ ((View.whole main_v1_1).slice (win0_4.rect t)).set
    rw [View.set_slice_whole, Rect.mem_set_unit]
    intro a
    match a with
    | ⟨0, _⟩ => exact in_block (k := win0_4.index t 0) (n := 256) (i := (i 0).val) (by omega) ((index_eq t).2.2.2.2.1.trans (by omega))
    | ⟨1, _⟩ => exact in_block (k := win0_4.index t 1) (n := 128) (i := (i 1).val) (by omega) ((index_eq t).2.2.2.2.2.trans ht)

/-- Every run of the kernel ends with the two results in their buffers and its arguments unchanged. -/
theorem run : θ_run defs (onTc (τ := τ) (main (F := Ideal))) ⟨m, fun _ => 0, ρ⟩ fun r => ∀ c : Dev nD,
      r.2.mem ((c : Thread nD τ).loc main_v1_0) = latent (argU m c) (argW m c) (argB m c)
      ∧ r.2.mem ((c : Thread nD τ).loc main_v1_1) = context (argU m c) (argW m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final3 m c), (h c).2.1.trans (final4 m c), (h c).2.2⟩) (Value.run_blocks m ρ)

end Cert.Kernel13Ideal.Point

namespace Cert.Reference13Ideal.Ref

open Cert.Reference13Ideal Cert.Reference13Ideal.Gen Cert.Reference13Ideal.Value Cert.Conv Cert.HyConv

variable (u : Arr 8448 3072) (w : Arr 3 3072) (b : Bias)

/-- Some rows of the reference, convolved, are these rows of the results. -/
theorem part_eq {L M : ℕ} (o : ℕ) (ho : o = 0 ∧ L = 8192 ∨ o = 8192 ∧ L = 256) (hl : o + L ≤ 8448) (hb)
    (hr : (⟨3, ![1, 8448, 3072]⟩ : Shape).Slices ![0, o, 0] ⟨3, ![1, L, 3072]⟩) (hp) (h0) (hs0) (hs1) (hs2) (hw0) (hw1) (hw2) (hc) (h1) (h2)
    (hx : (⟨3, ![1, L, 3072]⟩ : Shape).ShapeCasts ⟨2, ![L, 3072]⟩) :
    shapeCast ⟨2, ![L, 3072]⟩ (conv (L := L) (M := M) (rows (L := L) o u hb hr) w b hp h0 hs0 hs1 hs2 hw0 hw1 hw2 hc h1 h2) hx = part o L hl u w b := by
  funext y
  obtain ⟨r, C, rfl⟩ : ∃ (r : Fin L) (C : Fin 3072), y = ix2 r C := ⟨y 0, y 1, ValueIdx.eq_ix2 y⟩
  refine (shapeCast_1ab_ab_apply _ hx r C).trans ?_
  exact conv_apply (by decide) o ho (fun r => u (ix2 r C)) _ w b _ _ _ _ _ _ _ _ _ _ _ C (fun r => rows_apply (by decide) o hl u hb hr r C) r

variable (m : (ℓ : Loc nD τ sig) → Buf (Elt Ideal) ℓ) (ρ : Dev nD → PrngReg)

/-- Every run of the reference ends with the two results in their buffers, its arguments unchanged and no semaphore raised. -/
theorem run : θ_run (defs (F := Ideal)) (onTc (τ := τ) (main (F := Ideal))) ⟨m, fun _ => 0, ρ⟩ fun r => (∀ c : Dev nD,
      r.2.mem ((c.tc : Thread nD τ).loc main_v51) = latent (m ((c.tc : Thread nD τ).loc main_arg0)) (m ((c.tc : Thread nD τ).loc main_arg1)) (m ((c.tc : Thread nD τ).loc main_arg2))
      ∧ r.2.mem ((c.tc : Thread nD τ).loc main_v52) = context (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun _ h => ⟨fun c =>
      ⟨(h c).1.trans (part_eq _ _ _ 0 (Or.inl ⟨rfl, rfl⟩) (by decide) bcast_S8448x3072_S1x8448x3072_1_2 slices_S1x8448x3072_S1x8192x3072_0_0_0 pads_S1x8192x3072_S1x8194x3072_000_110_000 h_S_
          slices_S1x8194x3072_S1x8192x3072_0_0_0 slices_S1x8194x3072_S1x8192x3072_0_1_0 slices_S1x8194x3072_S1x8192x3072_0_2_0 slices_S3x3072_S1x3072_0_0 slices_S3x3072_S1x3072_1_0 slices_S3x3072_S1x3072_2_0
          shapeCasts_S1x3072_S3072 bcast_S3072_S1x1x3072_2 bcast_S1x1x3072_S1x8192x3072_0_1_2 shapeCasts_S1x8192x3072_S8192x3072),
        (h c).2.1.trans (part_eq _ _ _ 8192 (Or.inr ⟨rfl, rfl⟩) (by decide) bcast_S8448x3072_S1x8448x3072_1_2 slices_S1x8448x3072_S1x256x3072_0_8192_0 pads_S1x256x3072_S1x258x3072_000_110_000 h_S_
          slices_S1x258x3072_S1x256x3072_0_0_0 slices_S1x258x3072_S1x256x3072_0_1_0 slices_S1x258x3072_S1x256x3072_0_2_0 slices_S3x3072_S1x3072_0_0 slices_S3x3072_S1x3072_1_0 slices_S3x3072_S1x3072_2_0
          shapeCasts_S1x3072_S3072 bcast_S3072_S1x1x3072_2 bcast_S1x1x3072_S1x256x3072_0_1_2 shapeCasts_S1x256x3072_S256x3072), (h c).2.2⟩, sem_eq_zero_of_no_sems rfl _⟩) (Value.run m ρ)

end Cert.Reference13Ideal.Ref

end
-- ==== Proof.TileBody.lean ====
/- The expert kernel's body at one grid point: it reads the tile's count of rows from the second table and, by it, stores either the tile's
   product or zeros, in both cases over the whole of the output's block. -/
module

public import proofs.«01_k».proof.Proof.Gen.Kernel5Ideal
public import proofs.«01_k».proof.Proof.Gen.Kernel5Ideal.Skeleton
public import proofs.«01_k».proof.Proof.Gen.Kernel5Ideal.Launch
public import Idealize.ShloMosaic.Lib.Pipeline.Quiescent
public import Idealize.ShloMosaic.Lib.Pipeline.Kit
public import Idealize.ShloMosaic.Lib.Pipeline.TableIdle
public import Idealize.ShloMosaic.Lib.Pipeline.FrameBody
public import Idealize.ShloMosaic.Lib.Pipeline.ValueKit.Basic
public import Idealize.ShloMosaic.Lib.Writes
public import Idealize.ShloMosaic.Lib.Ring
public import Idealize.ShloMosaic.Lib.Exec
public import Idealize.ShloMosaic.Lib.Tactic
public import Idealize.ShloMosaic.Lib.Claim

@[expose] public section

set_option maxRecDepth 16384

noncomputable section

namespace Cert.Kernel5Ideal.Tiles

open Cert.Kernel5Ideal Cert.Kernel5Ideal.Gen
open Idealize.ShloMosaic Idealize.ShloMosaic.TcCoe Idealize.ShloMosaic.Tactic
open Idealize.SL Idealize.SL.RA Idealize.SL.BI Idealize.SL.BI.BIBase Idealize.SL.BI.Laws Idealize.SL.ProofMode Idealize.SL.Sem
open scoped Idealize.SL.BI
open Idealize.ShloMosaic.Rounds

variable {F : FTy → Type} [FloatOps F]

local notation "𝕄" => MT nD τ sig Unit (Elt F) ℕ (UR sig nD τ) ℕ

/-- The table of the tiles' experts. -/
abbrev tabE : Memref sig .tc .smem S98 .i32 := Memref.whole main_arg1
/-- The table of the tiles' counts of rows. -/
abbrev tabV : Memref sig .tc .smem S98 .i32 := Memref.whole main_arg2

/-- The entry of a table that belongs to a grid point. -/
def entry (i : grid0.Coords) : S98.Idx := fun a => match a with
  | ⟨0, _⟩ => ⟨(i 0).val, (i 0).isLt⟩

/-- A rectangle of one entry that starts at a grid point's place holds that point's entry. -/
theorem first_eq (i : grid0.Coords) (off : Fin 1 → ℕ) (h : off = ![(i 0).val]) (inb : ∀ a, off a + S1.size a ≤ S98.size a) :
    (Rect.unit (s := S98) off S1.size inb).toLoadRect.idx (Shape.Idx.first (numel1_S1.symm ▸ Nat.one_pos)) = entry i := by
  subst h
  funext a
  fin_cases a
  exact Fin.ext rfl

/-- The word of a one-entry load from the table of counts is the grid point's entry. -/
theorem word_eq (T : S98.Idx → BitVec 32) (i : grid0.Coords) (off : Fin 1 → ℕ) (h : off = ![(i 0).val]) (inb : ∀ a, off a + S1.size a ≤ S98.size a) :
    View.readAt (Elt F) tabV.view (Rect.unit (s := S98) off S1.size inb).toLoadRect T (Shape.Idx.first (numel1_S1.symm ▸ Nat.one_pos)) = T (entry i) :=
  congrArg T (first_eq i off h inb)

/-- A load of a whole staging buffer reads what it holds. -/
theorem load_whole {s : Shape} {e : EltTy} (a : Memref sig .tc .vmem s e) (off : Fin s.rank → ℕ) (h : ∀ a, off a + s.size a ≤ s.size a) (h0 : ∀ a, off a = 0)
    (x : Vec F s e) : View.readAt (Elt F) a.view (Rect.unit (s := s) off s.size h).toLoadRect (a.view.rep x) = x := by
  rw [View.readAt_eq_ld, View.read_rep]
  exact View.ld_unit_lit _ _ h0

/-- A store over the whole of the output's block leaves what is stored. -/
theorem canon_whole (X : Vec F S256x4096 .f32) :
    View.canon (Val := Elt F) [⟨Rect.unit ![0, 0] S256x4096.size inb_S256x4096_S256x4096_0_0, X⟩] = X :=
  View.canon_cons_unit_lit _ _ _ (by decide)

/-- What the body stores for a tile with `v` rows. -/
def tileOut (v : BitVec 32) (x : Vec F S256x4096 .bf16) (w1 w3 : Vec F S1x4096x512 .bf16) (w2 : Vec F S1x512x4096 .bf16) : Vec F S256x4096 .f32 :=
  if k0_cond1 v = 1#1 then k0_pay1 x w1 w3 w2 else k0_pay2

set_option backward.proofsInPublic true in
set_option maxHeartbeats 4000000 in
/-- The body at a grid point whose count is positive or zero: exactly one of its two branches runs, and the output's block is `tileOut`. -/
theorem body_out (c : Dev nD) (i : grid0.Coords) (a3 : Memref sig .tc .vmem S256x4096 .bf16) (h3 : a3.IsWhole) (a4 : Memref sig .tc .vmem S1x4096x512 .bf16) (h4 : a4.IsWhole)
    (a5 : Memref sig .tc .vmem S1x4096x512 .bf16) (h5 : a5.IsWhole) (a6 : Memref sig .tc .vmem S1x512x4096 .bf16) (h6 : a6.IsWhole)
    (a7 : Memref sig .tc .vmem S256x4096 .f32) (h7 : a7.IsWhole) (T0 T1 : S98.Idx → BitVec 32)
    (x : Vec F S256x4096 .bf16) (w1 w3 : Vec F S1x4096x512 .bf16) (w2 : Vec F S1x512x4096 .bf16)
    (hv : (k0_cond1 (T1 (entry i)) = 1#1 ∧ ¬ k0_cond2 (T1 (entry i)) = 1#1) ∨ (¬ k0_cond1 (T1 (entry i)) = 1#1 ∧ k0_cond2 (T1 (entry i)) = 1#1))
    (K : PUnit → sProp 𝕄) :
    iprop((a3.view.loc (c : Thread nD τ) ↦[a3.view.set]{fullShare} a3.view.rep x) ∗ (a4.view.loc (c : Thread nD τ) ↦[a4.view.set]{fullShare} a4.view.rep w1)
          ∗ (a5.view.loc (c : Thread nD τ) ↦[a5.view.set]{fullShare} a5.view.rep w3) ∗ (a6.view.loc (c : Thread nD τ) ↦[a6.view.set]{fullShare} a6.view.rep w2)
          ∗ (tabE.view.loc (c : Thread nD τ) ↦{fullShare.right} T0) ∗ (tabV.view.loc (c : Thread nD τ) ↦{fullShare.right} T1)
          ∗ (∃ d, owns (c : Thread nD τ) a7 fullShare d)
          ∗ (iprop((a3.view.loc (c : Thread nD τ) ↦[a3.view.set]{fullShare} a3.view.rep x) ∗ (a4.view.loc (c : Thread nD τ) ↦[a4.view.set]{fullShare} a4.view.rep w1)
              ∗ (a5.view.loc (c : Thread nD τ) ↦[a5.view.set]{fullShare} a5.view.rep w3) ∗ (a6.view.loc (c : Thread nD τ) ↦[a6.view.set]{fullShare} a6.view.rep w2)
              ∗ (tabE.view.loc (c : Thread nD τ) ↦{fullShare.right} T0) ∗ (tabV.view.loc (c : Thread nD τ) ↦{fullShare.right} T1)
              ∗ owns (c : Thread nD τ) a7 fullShare (tileOut (T1 (entry i)) x w1 w3 w2)) -∗ K ⟨⟩))
        ⊢ wp frame (wpE (defs₀ (F := F)) Variants.none c none) Set.univ
            (cc0_moe_experts i tabE (Memref.isWhole_whole _) tabV (Memref.isWhole_whole _) a3 h3 a4 h4 a5 h5 a6 h6 a7 h7) K := by
  have e1 := word_eq (F := F) T1 i (k0_off1 i) (k0_off1_eq i) (k0_off1_inb i)
  have e2 := word_eq (F := F) T1 i (k0_off2 i) (k0_off2_eq i) (k0_off2_inb i)
  have hw := congrArg k0_cond1 e1
  have hw2 := congrArg k0_cond2 e2
  unfold owns tileOut
  rw [cc0_moe_experts_eq_skeleton]; unfold cc0_moe_experts_skel
  rcases hv with ⟨g1, g2⟩ | ⟨g1, g2⟩
  all_goals
    first
    | rw [if_pos g1]
    | rw [if_neg g1]
    rw [← hw] at g1
    rw [← hw2] at g2
    iintro ⟨H0, H1, H2, H3, HT0, HT1, ⟨%d4, %f4, -, HO⟩, Hk⟩
    have hT0 : tabE.IsWhole := Memref.isWhole_whole _
    have hT1 : tabV.IsWhole := Memref.isWhole_whole _
    sl_exec! (disch := first | exact g1 | exact g2)
    sl_step
    iapply Hk
    isplitl [H0]; · iexact H0
    isplitl [H1]; · iexact H1
    isplitl [H2]; · iexact H2
    isplitl [H3]; · iexact H3
    isplitl [HT0]; · iexact HT0
    isplitl [HT1]; · iexact HT1
    iexists _
    isplitr
    swap
    · iexact HO
    · ipureintro
      rw [View.read_writes_eq_canon _ _ _ (fun y => View.cover_of_tiledL _ S256x4096.size (by sl_kernel_rfl) y)]
      refine (canon_whole _).trans ?_
      first
      | rw [load_whole a3 ![0, 0] _ (by decide) x, load_whole a4 ![0, 0, 0] _ (by decide) w1, load_whole a5 ![0, 0, 0] _ (by decide) w3,
          load_whole a6 ![0, 0, 0] _ (by decide) w2]
      | rfl

end Cert.Kernel5Ideal.Tiles

end
-- ==== Proof.TileRun.lean ====
/- The expert kernel's run from any tables in range: every weakly fair execution ends with each array at what the launch computes, the
   tables and the inputs unchanged, and the output's block of a tile at what the body stores for it. -/
module

public import proofs.«01_k».proof.Proof.TileBody
public import Idealize.ShloMosaic.Lib.Affine
public import Idealize.ShloMosaic.Adequacy
public import Idealize.ShloMosaic.Init

@[expose] public section

set_option maxRecDepth 16384

noncomputable section

namespace Cert.Kernel5Ideal.Tiles

open Cert.Kernel5Ideal Cert.Kernel5Ideal.Gen
open Idealize.ShloMosaic Idealize.ShloMosaic.TcCoe Idealize.ShloMosaic.Tactic
open Idealize.SL Idealize.SL.RA Idealize.SL.BI Idealize.SL.BI.BIBase Idealize.SL.BI.Laws Idealize.SL.ProofMode Idealize.SL.Sem
open scoped Idealize.SL.BI
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The launch's ghost state inside the proof's. -/
abbrev EP : Emb (UR sig nD τ) 𝕄 := emb₁

/-- The two tables as a memory holds them. -/
def tables (m : (ℓ : Loc nD τ sig) → Buf (Elt F) ℓ) : pre0.Contents (Elt F) := fun
  | 0 => m (((0 : Dev nD) : Thread nD τ).loc main_arg1)
  | 1 => m (((0 : Dev nD) : Thread nD τ).loc main_arg2)
  | ⟨_ + 2, h⟩ => absurd h (Nat.not_lt.2 (Nat.le_add_left _ _))

/-- Tables in range: every tile names an expert that exists, and its count of rows is positive or zero as the body tests it. -/
def InRange (m : (ℓ : Loc nD τ sig) → Buf (Elt F) ℓ) : Prop :=
  ∀ i : grid0.Coords, (tables m 0 (entry i)).toNat < 32
    ∧ ((k0_cond1 (tables m 1 (entry i)) = 1#1 ∧ ¬ k0_cond2 (tables m 1 (entry i)) = 1#1)
      ∨ (¬ k0_cond1 (tables m 1 (entry i)) = 1#1 ∧ k0_cond2 (tables m 1 (entry i)) = 1#1))

/-- The tile's expert as the index maps read it. -/
theorem map_word (pf : pre0.Contents (Elt F)) (i : grid0.Coords) :
    cc0_transform_1 k0_off1_inb numel1_S1 pf i = ![(pf 0 (entry i)).toNat, 0, 0]
    ∧ cc0_transform_2 k0_off1_inb numel1_S1 pf i = ![(pf 0 (entry i)).toNat, 0, 0]
    ∧ cc0_transform_3 k0_off1_inb numel1_S1 pf i = ![(pf 0 (entry i)).toNat, 0, 0] := by
  have h := congrArg (fun x : S98.Idx => (pf 0 x).toNat) (first_eq i (k0_off1 i) (k0_off1_eq i) (k0_off1_inb i))
  exact ⟨congrArg (fun n : ℕ => ![n, 0, 0]) h, congrArg (fun n : ℕ => ![n, 0, 0]) h, congrArg (fun n : ℕ => ![n, 0, 0]) h⟩

/-- A weight's block lies inside its array when the tile's expert exists. -/
theorem block_in {n : ℕ} (hn : n < 32) {a b : ℕ} : ∀ d, ((![n, 0, 0] : Fin 3 → ℕ) d + 1) * (![1, a, b] : Fin 3 → ℕ) d ≤ (![32, a, b] : Fin 3 → ℕ) d := by
  intro d
  fin_cases d
  · show (n + 1) * 1 ≤ 32
    omega
  · show (0 + 1) * a ≤ a
    omega
  · show (0 + 1) * b ≤ b
    omega

/-- Tables whose tiles name experts that exist are tables the launch accepts. -/
theorem tables_ok (pf : pre0.Contents (Elt F)) (h : ∀ i : grid0.Coords, (pf 0 (entry i)).toNat < 32) : ok0 pf := by
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  · rw [(map_word pf i).1]; exact block_in (h i) a
  · rw [(map_word pf i).2.1]; exact block_in (h i) a
  · rw [(map_word pf i).2.2]; exact block_in (h i) a

/-- The table's entry at the place the body names. -/
theorem atD_eq (pf : pre0.Contents (Elt F)) (i : grid0.Coords) : pf.atD 1 (k0_off1 i) = pf 1 (entry i) ∧ pf.atD 1 (k0_off2 i) = pf 1 (entry i) := by
  constructor
  · unfold Pipeline.Prefetch.Contents.atD
    rw [dif_pos (fun a => by fin_cases a; exact k0_off1_inb i 0)]
    exact congrArg (pf 1) (first_eq i (k0_off1 i) (k0_off1_eq i) (k0_off1_inb i))
  · unfold Pipeline.Prefetch.Contents.atD
    rw [dif_pos (fun a => by fin_cases a; exact k0_off2_inb i 0)]
    exact congrArg (pf 1) (first_eq i (k0_off2 i) (k0_off2_eq i) (k0_off2_inb i))

variable (m : (ℓ : Loc nD τ sig) → Buf (Elt F) ℓ) (ρ : Dev nD → PrngReg) (hm : InRange m)

/-- The tables the launch runs at. -/
abbrev adm : (pcfg0 (F := F)).Adm := ⟨tables m, tables_ok _ fun i => (hm i).1⟩
/-- The pipeline at these tables. -/
abbrev cfgA : Pipeline.Cfg sig Λ₀ := cfg0 (adm m hm)
/-- The one pipeline of the launch. -/
abbrev pcs : Fin 1 → Pipeline.Cfg sig Λ₀ := Pipeline.pin pcfgs fun _ => adm m hm
/-- A point's coordinate. -/
abbrev crd (t : Fin (cfgA m hm).N) : grid0.Coords := (cfgA m hm).grid.coords t

/-- The block of an array that belongs to a point. -/
def iblk (c : Dev nD) (w : Fin (cfgA m hm).W) (t : Fin (cfgA m hm).N) :
    ((cfgA m hm).win w).block.Idx → Elt F ((cfgA m hm).win w).elt :=
  (((cfgA m hm).win w).blk t).view.read (Elt F) ((s₀ m ρ).mem (((cfgA m hm).win w).arr.view.loc (c : Thread nD τ)))

/-- What the body stores at a point. -/
def oblk (c : Dev nD) (t : Fin (cfgA m hm).N) : Vec F S256x4096 .f32 :=
  tileOut (tables m 1 (entry (crd m hm t))) (iblk m ρ hm c (0 : Fin 5) t) (iblk m ρ hm c (1 : Fin 5) t) (iblk m ρ hm c (2 : Fin 5) t) (iblk m ρ hm c (3 : Fin 5) t)

/-- Between points only the tables are held. -/
def Phi (c : Dev nD) : sProp 𝕄 :=
  iprop((tabE.view.loc (c : Thread nD τ) ↦{fullShare.right} tables m 0) ∗ (tabV.view.loc (c : Thread nD τ) ↦{fullShare.right} tables m 1))

/-- The launch's data: the inputs' buffers hold their blocks, the output's what the body stores. -/
def dats (_ : Fin 1) (c : Dev nD) : Dat τ (Elt F) Unit ℕ (UR sig nD τ) ℕ (cfgA m hm) c where
  A w := (s₀ m ρ).mem (((cfgA m hm).win w).arr.view.loc (c : Thread nD τ))
  after w t := match w with
    | ⟨0, _⟩ => iblk m ρ hm c (0 : Fin 5) t
    | ⟨1, _⟩ => iblk m ρ hm c (1 : Fin 5) t
    | ⟨2, _⟩ => iblk m ρ hm c (2 : Fin 5) t
    | ⟨3, _⟩ => iblk m ρ hm c (3 : Fin 5) t
    | ⟨4, _⟩ => oblk m ρ hm c t
  Φ _ := Phi m c
  q _ := fullShare
  owed _ := 0

/-- An input's buffer holds its block at every point. -/
theorem before_in (c : Dev nD) (t : Fin (cfgA m hm).N) :
    (∀ d, (dats m ρ hm 0 c).before (0 : Fin 5) t d = iblk m ρ hm c (0 : Fin 5) t) ∧ (∀ d, (dats m ρ hm 0 c).before (1 : Fin 5) t d = iblk m ρ hm c (1 : Fin 5) t)
    ∧ (∀ d, (dats m ρ hm 0 c).before (2 : Fin 5) t d = iblk m ρ hm c (2 : Fin 5) t) ∧ (∀ d, (dats m ρ hm 0 c).before (3 : Fin 5) t d = iblk m ρ hm c (3 : Fin 5) t) := by
  refine ⟨fun d => ?_, fun d => ?_, fun d => ?_, fun d => ?_⟩
  all_goals
    refine ((dats m ρ hm 0 c).before_in_eq_fetched _ rfl (fun _ => rfl) (fun _ _ _ => rfl) (fun t => ?_) t d).trans ?_
    · show iblk m ρ hm c _ t = _
      unfold Dat.blockOf iblk
      rfl
    · unfold Dat.fetched Dat.blockOf iblk
      rfl

set_option maxHeartbeats 4000000 in
/-- The body keeps its promise at every point. -/
theorem body_obligation (c : Dev nD) : BodyObligation (dats m ρ hm 0 c) (defs₀ (F := F)) Variants.none () Set.univ := fun t => by
  rw [bigSep_W0, bigSep_W0]
  have i4 : (cfgA m hm).idle (4 : Fin 5) (crd m hm t) = false := by
    show (!(k0_cond1 ((tables m).atD 1 (k0_off1 (crd m hm t))) == 1#1) && !(k0_cond2 ((tables m).atD 1 (k0_off2 (crd m hm t))) == 1#1)) = false
    rw [(atD_eq (tables m) _).1, (atD_eq (tables m) _).2]
    rcases (hm (crd m hm t)).2 with ⟨h, -⟩ | ⟨-, h⟩ <;> rw [h] <;> simp
  obtain ⟨b0, b1, b2, b3⟩ := before_in m ρ hm c t
  rewrite [i4]
  simp only [b0, b1, b2, b3]
  rewrite [show (dats m ρ hm 0 c).owesAt () t.succ = (dats m ρ hm 0 c).owesAt () t.castSucc from rfl]
  show iprop(Phi m c ∗ _) ⊢ wp frame _ _ _ fun _ => iprop(Phi m c ∗ _)
  unfold Phi
  iintro ⟨⟨HT0, HT1⟩, Ho, ⟨%d0, H0⟩, ⟨%d1, H1⟩, ⟨%d2, H2⟩, ⟨%d3, H3⟩, ⟨%d4, H4⟩⟩
  iapply (body_out c (crd m hm t) _ (hstage0_0 (((cfgA m hm).slots t 0).cast nbuf0_0)) _ (hstage0_1 (((cfgA m hm).slots t 1).cast nbuf0_1))
    _ (hstage0_2 (((cfgA m hm).slots t 2).cast nbuf0_2)) _ (hstage0_3 (((cfgA m hm).slots t 3).cast nbuf0_3)) _ (hstage0_4 (((cfgA m hm).slots t 4).cast nbuf0_4))
    (tables m 0) (tables m 1) (iblk m ρ hm c (0 : Fin 5) t) (iblk m ρ hm c (1 : Fin 5) t) (iblk m ρ hm c (2 : Fin 5) t) (iblk m ρ hm c (3 : Fin 5) t)
    (hm (crd m hm t)).2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists _; iexact H4
  iintro ⟨H0, H1, H2, H3, HT0, HT1, H4⟩
  isplitl [HT0 HT1]
  · isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  iexact H4

/-- The launch's ghost state. -/
def u₀ : UR sig nD τ :=
  initOf (Pipeline.cells (pcs m hm) ((launch0 (F := F)).cellOf_inj fun _ => adm m hm))
    (Pipeline.launchToks (pcs m hm) ((launch0 (F := F)).cellOf_inj fun _ => adm m hm))

/-- Every array is held whole. -/
theorem share_eq (c : Dev nD) (w : Fin (cfgA m hm).W) : (dats m ρ hm 0 c).share w = fullShare := by unfold Dat.share; split <;> rfl

/-- The tables as the launch hands them over. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide, bigSep_insert (by decide), bigSep_singleton]
  rfl

/-- A core's tables are those the launch runs at. -/
theorem table_eq (c : Dev nD) (j : Fin 2) : m ((c : Thread nD τ).loc (pre0.ref j)) = tables m j := by
  obtain rfl : c = 0 := Subsingleton.elim _ _
  fin_cases j <;> rfl

/-- What the run ends with. -/
def Ends : PUnit × MemSt nD τ sig (Elt F) → Prop := fun r =>
  ∀ c : Dev nD, (∀ w : Fin (cfgA m hm).W, r.2.mem (((cfgA m hm).win w).arr.view.loc (c : Thread nD τ)) = (dats m ρ hm 0 c).arrAt w (cfgA m hm).N)
    ∧ ∀ j, r.2.mem ((c : Thread nD τ).loc (pre0.ref j)) = tables m j

set_option backward.isDefEq.respectTransparency.types false in
set_option maxHeartbeats 4000000 in
/-- Every weakly fair execution ends, with every array and table at what the launch computes and every counter at zero. -/
theorem run_main : θ_run (defs (F := F)) (onTc (τ := τ) (main (F := F))) (s₀ m ρ) (fun r => Ends m ρ hm r ∧ r.2.sem = fun _ => 0) :=
  Pipeline.θ_run_region_noSem_pf_quiescent pcfgs (fun _ => adm m hm) (dats m ρ hm) () ((launch0 (F := F)).cellOf_inj fun _ => adm m hm) (0 : Fin 1)
    (launch0 (F := F)).win.to₀ (launch0 (F := F)).pre EP defs₀ Variants.none m ρ main
    (hbody := fun c => (body_obligation m ρ hm c).loose) (hne := (launch0 (F := F)).block_pos)
    (harr := (launch0 (F := F)).arr_whole) (hstage := (launch0 (F := F)).stage_whole) (howed := fun _ _ => rfl)
    (u₀ := u₀ m hm) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m hm) (dats m ρ hm) 0 (launch0 (F := F)).win.arr_inj c (launch0 (F := F)).arr_whole
      (share_eq m ρ hm c) _ _ fun _ => rfl)
    (hpf := fun c j => table_eq m c j)
    (X := fun _ => iprop(emp)) (Y := fun _ => iprop(emp)) (Z := fun _ => iprop(emp))
    (hX := fun c => by rw [unscopedRestP0_eq]; iintro -; isplitr <;> iempintro)
    (hin := fun c => by
      rw [prefHeld_eq, scopedRest0_eq, show (dats m ρ hm 0 c).Φ 0 = Phi m c from rfl]
      unfold Phi
      iintro ⟨-, ⟨HT0, HT1⟩, -⟩
      isplitl [HT0]
      · iexact HT0
      iexact HT1)
    (hout := fun c => by
      rw [scopedRest0_eq, show (dats m ρ hm 0 c).Φ (Fin.last (cfgA m hm).N) = Phi m c from rfl]
      unfold Phi
      iintro ⟨-, -⟩
      isplitr; · iempintro
      iempintro)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- What the run leaves in the output's array, with every argument unchanged and every counter at zero. -/
theorem run_out : θ_run (defs (F := F)) (onTc (τ := τ) (main (F := F))) ⟨m, fun _ => 0, ρ⟩ (fun r => (∀ c : Dev nD,
      r.2.mem ((c.tc : Thread nD τ).loc main_v0) = (dats m ρ hm 0 c).arrAt (4 : Fin 5) (cfgA m hm).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨(h.1 c).1 (4 : Fin 5), ((h.1 c).1 (0 : Fin 5)).trans ((dats m ρ hm 0 c).arrAt_in (0 : Fin 5) rfl _), ((h.1 c).2 0).trans (table_eq m c 0).symm,
      ((h.1 c).2 1).trans (table_eq m c 1).symm, ((h.1 c).1 (1 : Fin 5)).trans ((dats m ρ hm 0 c).arrAt_in (1 : Fin 5) rfl _),
      ((h.1 c).1 (2 : Fin 5)).trans ((dats m ρ hm 0 c).arrAt_in (2 : Fin 5) rfl _), ((h.1 c).1 (3 : Fin 5)).trans ((dats m ρ hm 0 c).arrAt_in (3 : Fin 5) rfl _)⟩, h.2⟩)
    (run_main m ρ hm)

end Cert.Kernel5Ideal.Tiles

end
-- ==== Proof.TilePre.lean ====
/- What the range of the tiles' tables gives: every tile names an expert that exists, and its count of rows is positive or zero, so the expert
   kernel runs to its end. -/
module

public import proofs.«01_k».proof.Proof.TileRun
public import proofs.«01_k».proof.Defs
public import Idealize.ShloMosaic.Lib.WordCmp

@[expose] public section

set_option maxRecDepth 16384

noncomputable section

open Idealize.ShloMosaic Idealize.ShloMosaic.TcCoe Idealize.SL.Sem

namespace Cert.Kernel5Ideal.Tiles

open Cert.Kernel5Ideal Cert.Kernel5Ideal.Gen

/-- The body tests whether the count is positive. -/
theorem cond1_eq (v : BitVec 32) : k0_cond1 v = IntOp.cmpi .sgt v 0#32 := by
  have h (b : BitVec 1) : Scalar.cmpi .ne (Scalar.extui b : BitVec 32) 0#32 = b := by revert b; decide
  exact h _

/-- The body tests whether the count is zero. -/
theorem cond2_eq (v : BitVec 32) : k0_cond2 v = IntOp.cmpi .eq v 0#32 := by
  have h (b : BitVec 1) : Scalar.cmpi .ne (Scalar.extui b : BitVec 32) 0#32 = b := by revert b; decide
  exact h _

/-- A conjunction of bits holds when both do. -/
theorem andi_one (a b : BitVec 1) : IntOp.andi a b = 1#1 ↔ a = 1#1 ∧ b = 1#1 := by revert a b; decide

/-- The range, table entry by table entry. -/
theorem in_range [Cert.Pre_tiles_in_range.Facts] {F : FTy → Type} [FloatOps F] {x : FVec F S25088x4096 .bf16} {te tv : IVec S98 32} {w1 w3 : FVec F S32x4096x512 .bf16}
    {w2 : FVec F S32x512x4096 .bf16} (h : Cert.Pre_tiles_in_range.fn x te tv w1 w3 w2 = fun _ => 1#1) (y : S98.Idx) : (te y).toNat < 32 ∧ 0 ≤ (tv y).toInt := by
  have pre := congrFun h y
  simp only [Cert.Pre_tiles_in_range.fn, constantI, broadcastInDim, cmpi, andi, andi_one] at pre
  obtain ⟨⟨e0, e1⟩, v0⟩ := pre
  rw [WordCmp.cmpi_sge_eq, WordCmp.ofBool_decide_eq_one_iff] at e0 v0
  rw [WordCmp.cmpi_slt_eq, WordCmp.ofBool_decide_eq_one_iff] at e1
  have z : (0#32 : BitVec 32).toInt = 0 := rfl
  have k : (32#32 : BitVec 32).toInt = 32 := rfl
  rw [z] at e0 v0
  rw [k] at e1
  refine ⟨?_, v0⟩
  have h32 := (te y).isLt
  rw [BitVec.toInt_eq_toNat_cond] at e0 e1
  split at e0 <;> omega

/-- A count that is not negative is positive or zero, as the body tests it. -/
theorem cond_cases (v : BitVec 32) (h : 0 ≤ v.toInt) : (k0_cond1 v = 1#1 ∧ ¬ k0_cond2 v = 1#1) ∨ (¬ k0_cond1 v = 1#1 ∧ k0_cond2 v = 1#1) := by
  have z : (0#32 : BitVec 32).toInt = 0 := rfl
  rw [cond1_eq, cond2_eq, WordCmp.cmpi_sgt_eq, WordCmp.cmpi_eq_eq, WordCmp.ofBool_decide_eq_one_iff, WordCmp.ofBool_decide_eq_one_iff, ← BitVec.toInt_inj, z]
  omega

/-- Tables in the range are what the run asks for. -/
theorem inRange_of_pre [Cert.Pre_tiles_in_range.Facts] {F : FTy → Type} [FloatOps F] (m : (ℓ : Loc nD τ sig) → Buf (Elt F) ℓ)
    (h : Cert.Pre_tiles_in_range.fn (F := F) (m (((0 : Dev nD).tc : Thread nD τ).loc main_arg0)) (m (((0 : Dev nD).tc : Thread nD τ).loc main_arg1))
      (m (((0 : Dev nD).tc : Thread nD τ).loc main_arg2)) (m (((0 : Dev nD).tc : Thread nD τ).loc main_arg3)) (m (((0 : Dev nD).tc : Thread nD τ).loc main_arg4))
      (m (((0 : Dev nD).tc : Thread nD τ).loc main_arg5)) = fun _ => 1#1) : InRange m :=
  fun i => ⟨(in_range h (entry i)).1, cond_cases _ (in_range h (entry i)).2⟩

/-- Every run with tables in the range ends with the arguments unchanged and every counter at zero, over either numbers. -/
def Frame (F : FTy → Type) [FloatOps F] [Cert.Pre_tiles_in_range.Facts] : Prop :=
  ∀ (m : (ℓ : Loc nD τ sig) → Buf (Elt F) ℓ) (ρ : Dev nD → PrngReg),
    (∀ c : Dev nD, Cert.Pre_tiles_in_range.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) →
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)

/-- They do. -/
theorem frame (F : FTy → Type) [FloatOps F] [Cert.Pre_tiles_in_range.Facts] : Frame F :=
  fun m ρ h => (θ_run defs _ _).mono (fun _ r => ⟨fun c => (r.1 c).2, r.2⟩) (run_out m ρ (inRange_of_pre m (h 0)))

end Cert.Kernel5Ideal.Tiles

end
-- ==== Proof.Experts.lean ====
/- The experts' mathematics over the extended reals: the rows come in tiles of 256, a tile names one expert, and a tile that holds no
   rows gives zeros. -/
module

public import Idealize.ShloMosaic.Lib.Pointwise
public import Idealize.ShloMosaic.Lib.WordCmp
public import Idealize.ShloMosaic.PureOps.Ideal

@[expose] public section

noncomputable section

open Idealize.ShloMosaic

namespace Cert.Experts

/-- Row `r` times column `f` of expert `e`'s matrix. -/
def upAt (x : (⟨2, ![25088, 4096]⟩ : Shape).Idx → EReal) (w : (⟨3, ![32, 4096, 512]⟩ : Shape).Idx → EReal) (r : Fin 25088) (e : Fin 32) (f : Fin 512) : EReal :=
  ∑ d : Fin 4096, x (ix2 r d) * w (ix3 e d f)

/-- The gated activation of row `r` under expert `e` at inner column `f`. -/
def actAt (x : (⟨2, ![25088, 4096]⟩ : Shape).Idx → EReal) (w1 w3 : (⟨3, ![32, 4096, 512]⟩ : Shape).Idx → EReal) (r : Fin 25088) (e : Fin 32) (f : Fin 512) : EReal :=
  upAt x w1 r e f * Ideal.logistic (upAt x w1 r e f) * upAt x w3 r e f

/-- Row `r` under expert `e` at column `c`. -/
def rowAt (x : (⟨2, ![25088, 4096]⟩ : Shape).Idx → EReal) (w1 w3 : (⟨3, ![32, 4096, 512]⟩ : Shape).Idx → EReal)
    (w2 : (⟨3, ![32, 512, 4096]⟩ : Shape).Idx → EReal) (r : Fin 25088) (e : Fin 32) (c : Fin 4096) : EReal :=
  ∑ f : Fin 512, actAt x w1 w3 r e f * w2 (ix3 e f c)

/-- The tile of a row. -/
def tileOf (r : Fin 25088) : Fin 98 := ⟨r.val / 256, by omega⟩

/-- The expert a word names. -/
def expertOf (v : BitVec 32) : Fin 32 := ⟨v.toNat % 32, Nat.mod_lt _ (by decide)⟩

/-- The layer's rows: each under its tile's expert, or zero where the tile holds no rows. -/
def moeAt (x : (⟨2, ![25088, 4096]⟩ : Shape).Idx → EReal) (te tv : (⟨1, ![98]⟩ : Shape).Idx → BitVec 32) (w1 w3 : (⟨3, ![32, 4096, 512]⟩ : Shape).Idx → EReal)
    (w2 : (⟨3, ![32, 512, 4096]⟩ : Shape).Idx → EReal) (r : Fin 25088) (c : Fin 4096) : EReal :=
  if IntOp.cmpi .sgt (tv (ix1 (tileOf r))) 0#32 = 1#1 then rowAt x w1 w3 w2 r (expertOf (te (ix1 (tileOf r)))) c else 0

/-- The layer's rows as an array. -/
def moe (x : (⟨2, ![25088, 4096]⟩ : Shape).Idx → EReal) (te tv : (⟨1, ![98]⟩ : Shape).Idx → BitVec 32) (w1 w3 : (⟨3, ![32, 4096, 512]⟩ : Shape).Idx → EReal)
    (w2 : (⟨3, ![32, 512, 4096]⟩ : Shape).Idx → EReal) : (⟨2, ![25088, 4096]⟩ : Shape).Idx → EReal :=
  fun y => moeAt x te tv w1 w3 w2 (y 0) (y 1)

/-- A word below 32 names the expert of its number. -/
theorem expertOf_val (v : BitVec 32) (h : v.toNat < 32) : (expertOf v).val = v.toNat := Nat.mod_eq_of_lt h

/-- A truth value as a number. -/
theorem bit_cast (b : BitVec 1) : (FloatOps.uitofp (F := Ideal) .f32 b : EReal) = if b = 1#1 then 1 else 0 := by
  have h : b = 0#1 ∨ b = 1#1 := by revert b; decide
  show ((b.toNat : ℝ) : EReal) = _
  rcases h with rfl | rfl
  · simp
  · simp

/-- The mask of a row picks its tile's expert out of the sum over all experts. -/
theorem sum_masked (a : Fin 32 → Fin 512 → EReal) (w : Fin 32 → Fin 512 → EReal) (v : BitVec 32) (hv : v.toNat < 32) (b : BitVec 1) :
    ∑ e : Fin 32, ∑ f : Fin 512, a e f * (FloatOps.uitofp (F := Ideal) .f32 (IntOp.cmpi .eq v (BitVec.ofNat 32 e.val)) * FloatOps.uitofp (F := Ideal) .f32 b : EReal) * w e f
      = if b = 1#1 then ∑ f : Fin 512, a (expertOf v) f * w (expertOf v) f else 0 := by
  have pick (e : Fin 32) : (FloatOps.uitofp (F := Ideal) .f32 (IntOp.cmpi .eq v (BitVec.ofNat 32 e.val)) : EReal) = if e = expertOf v then 1 else 0 := by
    have hiff : IntOp.cmpi .eq v (BitVec.ofNat 32 e.val) = 1#1 ↔ e = expertOf v := by
      have hn : (BitVec.ofNat 32 e.val).toNat = e.val := by
        rw [BitVec.toNat_ofNat]
        exact Nat.mod_eq_of_lt (Nat.lt_of_lt_of_le e.isLt (by decide))
      rw [WordCmp.cmpi_eq_eq, WordCmp.ofBool_decide_eq_one_iff]
      constructor
      · intro h
        apply Fin.ext
        rw [expertOf_val v hv, h, hn]
      · intro h
        apply BitVec.eq_of_toNat_eq
        rw [hn, h, expertOf_val v hv]
    rw [bit_cast]
    exact if_congr hiff rfl rfl
  rw [Finset.sum_eq_single (expertOf v)]
  · rw [pick, if_pos rfl, bit_cast, one_mul]
    by_cases hb : b = 1#1
    · simp only [if_pos hb, mul_one]
    · simp only [if_neg hb, mul_zero, zero_mul, Finset.sum_const_zero]
  · intro e _ he
    rw [pick, if_neg he]
    simp only [zero_mul, mul_zero, Finset.sum_const_zero]
  · intro h
    exact absurd (Finset.mem_univ _) h

end Cert.Experts

end
-- ==== Proof.TileValue.lean ====
/- What the expert kernel's run leaves over the extended reals: the tiles' blocks tile the result, and each is the tile's rows under the
   tile's expert, or zeros. -/
module

public import proofs.«01_k».proof.Proof.TilePre
public import proofs.«01_k».proof.Proof.Experts
public import proofs.«01_k».proof.Proof.Blocks

@[expose] public section

set_option maxRecDepth 16384

noncomputable section

open Idealize.ShloMosaic Idealize.ShloMosaic.TcCoe Idealize.SL.Sem
open Cert.Experts Cert.Blocks

namespace Cert.Kernel5Ideal.Tiles

open Cert.Kernel5Ideal Cert.Kernel5Ideal.Gen

/-- A tile's product, entry by entry. -/
theorem pay_apply (x : Vec Ideal S256x4096 .bf16) (w1 w3 : Vec Ideal S1x4096x512 .bf16) (w2 : Vec Ideal S1x512x4096 .bf16) (r : Fin 256) (c : Fin 4096) :
    k0_pay1 x w1 w3 w2 (ix2 r c) = (∑ f : Fin 512, ((∑ d : Fin 4096, x (ix2 r d) * w1 (ix3 0 d f)) * Ideal.logistic (∑ d : Fin 4096, x (ix2 r d) * w1 (ix3 0 d f))
      * ∑ d : Fin 4096, x (ix2 r d) * w3 (ix3 0 d f)) * w2 (ix3 0 f c) : EReal) := by
  pointwise [k0_pay1]

/-- The zeros of a tile without rows. -/
theorem zero_apply (r : Fin 256) (c : Fin 4096) : k0_pay2 (F := Ideal) (ix2 r c) = (0 : EReal) := by
  pointwise [k0_pay2]

variable (m : (ℓ : Loc nD τ sig) → Buf (Elt Ideal) ℓ) (ρ : Dev nD → PrngReg) (hm : InRange m)

/-- The rows as launched. -/
abbrev argX : S25088x4096.Idx → EReal := m (((0 : Dev nD) : Thread nD τ).loc main_arg0)
/-- The gate's weights as launched. -/
abbrev arg1 : S32x4096x512.Idx → EReal := m (((0 : Dev nD) : Thread nD τ).loc main_arg3)
/-- The linear branch's weights as launched. -/
abbrev arg3 : S32x4096x512.Idx → EReal := m (((0 : Dev nD) : Thread nD τ).loc main_arg4)
/-- The weights back as launched. -/
abbrev arg2 : S32x512x4096.Idx → EReal := m (((0 : Dev nD) : Thread nD τ).loc main_arg5)

/-- The layer's rows of the arrays as launched. -/
abbrev moeM : S25088x4096.Idx → EReal := moe (argX m) (tables m 0) (tables m 1) (arg1 m) (arg3 m) (arg2 m)

/-- A point's coordinate is its number. -/
theorem coords_eq : ∀ t : Fin grid0.N, (grid0.coords t 0).val = t.val := by decide +kernel

/-- The rows' block index at a point, and the result's. -/
theorem rows_index : ∀ t : Fin grid0.N, (cc0_transform_0 (grid0.coords t) 0 = t.val ∧ cc0_transform_0 (grid0.coords t) 1 = 0)
    ∧ (cc0_transform_4 (grid0.coords t) 0 = t.val ∧ cc0_transform_4 (grid0.coords t) 1 = 0) := by decide +kernel

/-- Every point writes its block back. -/
theorem flush_all : ∀ t : Fin grid0.N, Pipeline.Window.flushOf grid0 true cc0_transform_4 t = true := by decide +kernel

/-- The table's entry of a point. -/
theorem entry_eq (t : Fin (cfgA m hm).N) (k : Fin 98) (hk : k.val = t.val) : entry (crd m hm t) = ix1 k := by
  funext a
  match a with
  | 0 => exact Fin.ext ((coords_eq t).trans hk.symm)

/-- The rows' block as a point reads it. -/
abbrev blk0 (t : Fin (cfgA m hm).N) : S256x4096.Idx → EReal := iblk m ρ hm 0 (0 : Fin 5) t
/-- The gate's weights as a point reads them. -/
abbrev blk1 (t : Fin (cfgA m hm).N) : S1x4096x512.Idx → EReal := iblk m ρ hm 0 (1 : Fin 5) t
/-- The linear branch's weights as a point reads them. -/
abbrev blk2 (t : Fin (cfgA m hm).N) : S1x4096x512.Idx → EReal := iblk m ρ hm 0 (2 : Fin 5) t
/-- The weights back as a point reads them. -/
abbrev blk3 (t : Fin (cfgA m hm).N) : S1x512x4096.Idx → EReal := iblk m ρ hm 0 (3 : Fin 5) t

/-- The rows' block at a point. -/
theorem blkX (t : Fin (cfgA m hm).N) (r : Fin 256) (d : Fin 4096) (R : Fin 25088) (hR : R.val = t.val * 256 + r.val) :
    blk0 m ρ hm t (ix2 r d) = argX m (ix2 R d) := by
  have hd : d.val = 0 * 4096 + d.val := by omega
  unfold blk0 iblk
  rw [View.read_apply]
  exact congrArg (argX m) (ix2_of _ R d (place (rows_index t).1.1 hR) (place (rows_index t).1.2 hd))

/-- The weights' blocks at a point: the expert's that the tile names. -/
theorem blkW (t : Fin (cfgA m hm).N) (d : Fin 4096) (f : Fin 512) (E : Fin 32) (hE : E.val = (tables m 0 (entry (crd m hm t))).toNat) :
    blk1 m ρ hm t (ix3 0 d f) = arg1 m (ix3 E d f)
    ∧ blk2 m ρ hm t (ix3 0 d f) = arg3 m (ix3 E d f)
    ∧ blk3 m ρ hm t (ix3 0 f d) = arg2 m (ix3 E f d) := by
  have hd : d.val = 0 * 4096 + d.val := by omega
  have hf : f.val = 0 * 512 + f.val := by omega
  have hE' : E.val = (tables m 0 (entry (crd m hm t))).toNat * 1 + (0 : Fin 1).val := by rw [hE]; exact (Nat.mul_one _).symm
  obtain ⟨i1, i2, i3⟩ := map_word (tables m) (crd m hm t)
  unfold blk1 blk2 blk3 iblk
  rw [View.read_apply, View.read_apply, View.read_apply]
  exact ⟨congrArg (arg1 m) (ix3_of _ E d f (place (congrFun i1 0) hE') (place (congrFun i1 1) hd) (place (congrFun i1 2) hf)),
    congrArg (arg3 m) (ix3_of _ E d f (place (congrFun i2 0) hE') (place (congrFun i2 1) hd) (place (congrFun i2 2) hf)),
    congrArg (arg2 m) (ix3_of _ E f d (place (congrFun i3 0) hE') (place (congrFun i3 1) hf) (place (congrFun i3 2) hd))⟩

/-- What the body stores at a point is the layer's rows there. -/
theorem block_eq (t : Fin (cfgA m hm).N) (r : Fin 256) (c : Fin 4096) (R : Fin 25088) (hR : R.val = t.val * 256 + r.val) :
    oblk m ρ hm 0 t (ix2 r c) = moeM m (ix2 R c) := by
  have hT : (tileOf R).val = t.val := by
    show R.val / 256 = t.val
    omega
  have he := entry_eq m hm t (tileOf R) hT
  show _ = moeAt (argX m) (tables m 0) (tables m 1) (arg1 m) (arg3 m) (arg2 m) R c
  have hv : k0_cond1 (tables m 1 (entry (crd m hm t))) = IntOp.cmpi .sgt ((tables m 1 : S98.Idx → BitVec 32) (ix1 (tileOf R))) 0#32 :=
    (cond1_eq _).trans (congrArg (fun i : S98.Idx => IntOp.cmpi .sgt ((tables m 1 : S98.Idx → BitVec 32) i) 0#32) he)
  by_cases hb : IntOp.cmpi .sgt ((tables m 1 : S98.Idx → BitVec 32) (ix1 (tileOf R))) 0#32 = 1#1
  · have hE : (expertOf (tables m 0 (ix1 (tileOf R)))).val = (tables m 0 (entry (crd m hm t))).toNat := by
      have h := congrArg (fun i : S98.Idx => (expertOf ((tables m 0 : S98.Idx → BitVec 32) i)).val) he
      exact h.symm.trans (expertOf_val _ (hm _).1)
    refine (congrFun (if_pos (hv.trans hb)) (ix2 r c)).trans (Eq.trans ?_ (if_pos hb).symm)
    refine (pay_apply _ _ _ _ r c).trans ?_
    unfold rowAt actAt upAt
    refine Finset.sum_congr rfl fun f _ => congrArg₂ (fun a b : EReal => a * b) ?_ (blkW m ρ hm t c f _ hE).2.2
    have e1 : (∑ d : Fin 4096, blk0 m ρ hm t (ix2 r d) * blk1 m ρ hm t (ix3 0 d f) : EReal)
        = ∑ d : Fin 4096, argX m (ix2 R d) * arg1 m (ix3 (expertOf (tables m 0 (ix1 (tileOf R)))) d f) :=
      Finset.sum_congr rfl fun d _ => congrArg₂ (fun a b : EReal => a * b) (blkX m ρ hm t r d R hR) (blkW m ρ hm t d f _ hE).1
    have e3 : (∑ d : Fin 4096, blk0 m ρ hm t (ix2 r d) * blk2 m ρ hm t (ix3 0 d f) : EReal)
        = ∑ d : Fin 4096, argX m (ix2 R d) * arg3 m (ix3 (expertOf (tables m 0 (ix1 (tileOf R)))) d f) :=
      Finset.sum_congr rfl fun d _ => congrArg₂ (fun a b : EReal => a * b) (blkX m ρ hm t r d R hR) (blkW m ρ hm t d f _ hE).2.1
    exact congrArg₂ (fun a b : EReal => a * b) (congrArg₂ (fun a b : EReal => a * b) e1 (congrArg Ideal.logistic e1)) e3
  · exact (congrFun (if_neg fun h => hb (hv.symm.trans h)) (ix2 r c)).trans ((zero_apply r c).trans (if_neg hb).symm)

/-- What a point writes back is its block of the layer's rows. -/
theorem flushed_eq (t : Fin (cfgA m hm).N) :
    (dats m ρ hm 0 0).flushed (4 : Fin 5) t = (((cfgA m hm).win (4 : Fin 5)).blk t).view.read (Elt Ideal) (moeM m) := by
  have hN : t.val < 98 := lt_of_lt_of_eq t.isLt (show (cfgA m hm).N = 98 from N_0)
  show ((cfgA m hm).win (4 : Fin 5)).cut (crd m hm t) (oblk m ρ hm 0 t) = _
  funext y
  rw [View.read_apply]
  have h0 : (y 0).val < 256 := (y 0).isLt
  have h1 : (y 1).val < 4096 := (y 1).isLt
  have hy : (y 1).val = 0 * 4096 + (y 1).val := by omega
  have hix : (y : S256x4096.Idx) = ix2 ⟨(y 0).val, h0⟩ ⟨(y 1).val, h1⟩ := ix2_of _ _ _ rfl rfl
  refine (congrArg (oblk m ρ hm 0 t) hix).trans ((block_eq m ρ hm t ⟨(y 0).val, h0⟩ ⟨(y 1).val, h1⟩ ⟨t.val * 256 + (y 0).val, by omega⟩ rfl).trans ?_)
  exact congrArg (moeM m) (ix2_of _ ⟨t.val * 256 + (y 0).val, by omega⟩ ⟨(y 1).val, h1⟩ (place (rows_index t).2.1 rfl) (place (rows_index t).2.2 hy)).symm

/-- The result array when the run ends is the layer's rows. -/
theorem final : (dats m ρ hm 0 0).arrAt (4 : Fin 5) (cfgA m hm).N = moeM m :=
  (dats m ρ hm 0 0).arrAt_eq_of_cover (4 : Fin 5) _ (fun t _ => flushed_eq m ρ hm t) fun i => by
    have h0 : (i 0).val < 25088 := (i 0).isLt
    have h1 : (i 1).val < 4096 := (i 1).isLt
    have hN : (cfgA m hm).N = 98 := N_0
    obtain ⟨t, ht⟩ : ∃ t : Fin (cfgA m hm).N, t.val = (i 0).val / 256 := ⟨⟨_, by rw [hN]; omega⟩, rfl⟩
    refine ⟨t, flush_all _, ?_⟩
    show i ∈ ((View.whole main_v0).slice (((cfgA m hm).win (4 : Fin 5)).rect t)).set
    rw [View.set_slice_whole, Rect.mem_set_unit]
    intro a
    match a with
    | ⟨0, _⟩ => exact in_block (k := cc0_transform_4 (grid0.coords t) 0) (n := 256) (i := (i 0).val) (by omega) ((rows_index t).2.1.trans ht)
    | ⟨1, _⟩ => exact in_block (k := cc0_transform_4 (grid0.coords t) 1) (n := 4096) (i := (i 1).val) (by omega) ((rows_index t).2.2.trans (by omega))

include hm in
/-- Every run of the kernel ends with each row under its tile's expert in the result's buffer and its arguments unchanged. -/
theorem run : θ_run (defs (F := Ideal)) (onTc (τ := τ) (main (F := Ideal))) ⟨m, fun _ => 0, ρ⟩ fun r => ∀ c : Dev nD,
      r.2.mem ((c.tc : Thread nD τ).loc main_v0) = moeM m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => by
    obtain rfl : c = 0 := Subsingleton.elim _ _
    exact ⟨(h.1 0).1.trans (final m ρ hm), (h.1 0).2⟩) (run_out m ρ hm)

end Cert.Kernel5Ideal.Tiles

end
-- ==== Proof.ExpertsRef.lean ====
/- The reference's experts: all experts on all rows, masked by each row's one-hot expert and its tile's count, is each row under its own
   expert. -/
module

public import proofs.«01_k».proof.Proof.Experts
public import proofs.«01_k».proof.Proof.Gen.Reference5Ideal.Run
public import Idealize.ShloMosaic.Lib.IdealHost
public import Idealize.ShloMosaic.Lib.ValueIdx
public import Idealize.ShloMosaic.Lib.Claim
public import Idealize.ShloMosaic.Lib.Quiescent

@[expose] public section

set_option maxRecDepth 16384

noncomputable section

open Idealize.ShloMosaic Idealize.ShloMosaic.TcCoe Idealize.SL.Sem
open Cert.Experts

namespace Cert.Reference5Ideal.Ref

open Cert.Reference5Ideal Cert.Reference5Ideal.Gen

/-- All experts' products of all rows. -/
abbrev up (x : S25088x4096.Idx → EReal) (w : S32x4096x512.Idx → EReal) : S25088x32x512.Idx → EReal :=
  Host.dotGeneral (F := Ideal) (φ₁ := .f32) (φ₂ := .f32) dot_S25088x4096_S32x4096x512_S25088x32x512_1_1_0_02_n_n none
    (extf (F := Ideal) (φ := .bf16) .f32 x bitsLt_bf16_f32) (extf (F := Ideal) (φ := .bf16) .f32 w bitsLt_bf16_f32)

/-- One of these products, entry by entry. -/
theorem up_apply (x : S25088x4096.Idx → EReal) (w : S32x4096x512.Idx → EReal) (r : Fin 25088) (e : Fin 32) (f : Fin 512) : up x w (ix3 r e f) = upAt x w r e f := by
  unfold upAt
  pointwise

/-- The rows' masks. -/
abbrev mask (te tv : S98.Idx → BitVec 32) : S25088x32.Idx → EReal :=
  mulf (F := Ideal) (φ := .f32) (uitofp .f32 (cmpi .eq (broadcastInDim S25088x32 ![0, 1] bcast_S25088x1_S25088x32_0_1 (broadcastInDim S25088x1 ![0] bcast_S25088_S25088x1_0
      (shapeCast _ (broadcastInDim S98x256 ![0, 1] bcast_S98x1_S98x256_0_1 (broadcastInDim S98x1 ![0] bcast_S98_S98x1_0 te)) shapeCasts_S98x256_S25088)))
      (broadcastInDim S25088x32 ![0, 1] bcast_S1x32_S25088x32_0_1 (iotaInDim S1x32 32 1))))
    (broadcastInDim S25088x32 ![0, 1] bcast_S25088x1_S25088x32_0_1 (uitofp .f32 (broadcastInDim S25088x1 ![0] bcast_S25088_S25088x1_0
      (shapeCast _ (broadcastInDim S98x256 ![0, 1] bcast_S98x1_S98x256_0_1 (broadcastInDim S98x1 ![0] bcast_S98_S98x1_0
        (cmpi .sgt tv (broadcastInDim S98 ![] bcast_S_S98 (constantI S_ 32 0#32))))) shapeCasts_S98x256_S25088))))

/-- A row's mask, expert by expert. -/
theorem mask_apply (te tv : S98.Idx → BitVec 32) (r : Fin 25088) (e : Fin 32) :
    mask te tv (ix2 r e) = (FloatOps.uitofp (F := Ideal) .f32 (IntOp.cmpi .eq (te (ix1 (tileOf r))) (BitVec.ofNat 32 e.val))
      * FloatOps.uitofp (F := Ideal) .f32 (IntOp.cmpi .sgt (tv (ix1 (tileOf r))) 0#32) : EReal) := by
  unfold tileOf
  pointwise

/-- The reference's result from its products and its masks. -/
abbrev down (a b : S25088x32x512.Idx → EReal) (k : S25088x32.Idx → EReal) (w2 : S32x512x4096.Idx → EReal) : S25088x4096.Idx → EReal :=
  Host.dotGeneral (F := Ideal) (φ₁ := .f32) (φ₂ := .f32) dot_S25088x32x512_S32x512x4096_S25088x4096_12_01_0_2_n_n none
    (mulf (F := Ideal) (φ := .f32) (mulf (F := Ideal) (φ := .f32) (mulf (F := Ideal) (φ := .f32) a (Host.divf (F := Ideal) (φ := .f32) (broadcastInDim S25088x32x512 ![] bcast_S_S25088x32x512 (constant S_ .f32 0x3F800000#32))
        (addf (F := Ideal) (φ := .f32) (broadcastInDim S25088x32x512 ![] bcast_S_S25088x32x512 (constant S_ .f32 0x3F800000#32)) (Host.exp (F := Ideal) (φ := .f32) (Host.negf (F := Ideal) (φ := .f32) a))))) b)
      (broadcastInDim S25088x32x512 ![0, 1, 2] bcast_S25088x32x1_S25088x32x512_0_1_2 (broadcastInDim S25088x32x1 ![0, 1] bcast_S25088x32_S25088x32x1_0_1 k)))
    (extf (F := Ideal) (φ := .bf16) .f32 w2 bitsLt_bf16_f32)

/-- That result, entry by entry. -/
theorem down_apply (a b : S25088x32x512.Idx → EReal) (k : S25088x32.Idx → EReal) (w2 : S32x512x4096.Idx → EReal) (r : Fin 25088) (c : Fin 4096) :
    down a b k w2 (ix2 r c) = ∑ e : Fin 32, ∑ f : Fin 512, (a (ix3 r e f) * Ideal.logistic (a (ix3 r e f)) * b (ix3 r e f)) * k (ix2 r e) * w2 (ix3 e f c) := by
  unfold Ideal.logistic
  pointwise

/-- The reference's result is each row under its tile's expert. -/
theorem moe_eq (x : S25088x4096.Idx → EReal) (te tv : S98.Idx → BitVec 32) (hte : ∀ t : Fin 98, (te (ix1 t)).toNat < 32) (w1 w3 : S32x4096x512.Idx → EReal)
    (w2 : S32x512x4096.Idx → EReal) : down (up x w1) (up x w3) (mask te tv) w2 = moe x te tv w1 w3 w2 := by
  funext y
  obtain ⟨r, c, rfl⟩ : ∃ r c, y = ix2 r c := ⟨y 0, y 1, ValueIdx.eq_ix2 y⟩
  show _ = moeAt x te tv w1 w3 w2 r c
  rw [down_apply]
  simp only [up_apply, mask_apply]
  exact sum_masked (fun e f => actAt x w1 w3 r e f) (fun e f => w2 (ix3 e f c)) _ (hte (tileOf r)) _

variable (m : (ℓ : Loc nD τ sig) → Buf (Elt Ideal) ℓ) (ρ : Dev nD → PrngReg)

/-- Every run of the reference ends with its arguments unchanged and no semaphore raised, -/
theorem frame : θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 :=
  (θ_run defs _ _).mono (fun _ h => ⟨fun c => (h c).2, sem_eq_zero_of_no_sems rfl _⟩) (Value.run m ρ)

/-- and, if its tiles name experts that exist, with each row under its tile's expert in the result's buffer. -/
theorem run (hte : ∀ (c : Dev nD) (t : Fin 98), ((m ((c.tc : Thread nD τ).loc main_arg1) : S98.Idx → BitVec 32) (ix1 t)).toNat < 32) :
    θ_run (defs (F := Ideal)) (onTc (τ := τ) (main (F := Ideal))) ⟨m, fun _ => 0, ρ⟩ fun r => ∀ c : Dev nD,
      r.2.mem ((c.tc : Thread nD τ).loc main_v24) = moe (m ((c.tc : Thread nD τ).loc main_arg0) : S25088x4096.Idx → EReal) (m ((c.tc : Thread nD τ).loc main_arg1) : S98.Idx → BitVec 32)
          (m ((c.tc : Thread nD τ).loc main_arg2) : S98.Idx → BitVec 32) (m ((c.tc : Thread nD τ).loc main_arg3) : S32x4096x512.Idx → EReal)
          (m ((c.tc : Thread nD τ).loc main_arg4) : S32x4096x512.Idx → EReal) (m ((c.tc : Thread nD τ).loc main_arg5) : S32x512x4096.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (moe_eq _ _ _ (hte c) _ _ _), (h c).2⟩) (Value.run m ρ)

end Cert.Reference5Ideal.Ref

end
-- ==== Proof.lean ====
/- The claims about the forward retention scan, the three input projections, the state-space mixer's time steps, two short convolutions, the
   retention's rotation, three mixers' last steps, the output projection and the experts: each program ends with its arguments unchanged and
   its counters at zero (the experts' for tiles in the range), each kernel over the extended reals is the kernel (the scan's with the mask's
   constant read as minus infinity), and it computes what its reference computes. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Reference5Ideal
public import proofs.«01_k».proof.Proof.Gen.Reference5Ideal.Run
public import proofs.«01_k».proof.Proof.Gen.Pre_tiles_in_range
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Lanes
public import proofs.«01_k».proof.Proof.RefRun
public import proofs.«01_k».proof.Proof.In2
public import proofs.«01_k».proof.Proof.In3
public import proofs.«01_k».proof.Proof.In6
public import proofs.«01_k».proof.Proof.Out
public import proofs.«01_k».proof.Proof.Post
public import proofs.«01_k».proof.Proof.SsdPost
public import proofs.«01_k».proof.Proof.HgPost
public import proofs.«01_k».proof.Proof.Dt
public import proofs.«01_k».proof.Proof.Rope
public import proofs.«01_k».proof.Proof.SsdConv
public import proofs.«01_k».proof.Proof.HyConv
public import proofs.«01_k».proof.Proof.TileValue
public import proofs.«01_k».proof.Proof.ExpertsRef
public import Idealize.ShloMosaic.Adequacy
public import Idealize.ShloMosaic.Init

@[expose] public section

noncomputable section

namespace Cert.Proof

open Idealize.ShloMosaic Idealize.SL.Sem

/-- The reference's arguments, given that they are the kernel's, make the same scan. -/
theorem scans_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2)) :
    Scan.scanned Scan.gamma (ReferenceIdeal.Ref.aQ (ReferenceIdeal.Ref.start m' c)) (ReferenceIdeal.Ref.aK (ReferenceIdeal.Ref.start m' c)) (ReferenceIdeal.Ref.vals (ReferenceIdeal.Ref.start m' c)) =
      Scan.scanned Scan.gamma (KernelIdeal.Point.argQ m c) (KernelIdeal.Point.argK m c) (KernelIdeal.Point.argV m c) := by
  have e0 : ReferenceIdeal.Ref.aQ (ReferenceIdeal.Ref.start m' c) = KernelIdeal.Point.argQ m c := h0
  have e1 : ReferenceIdeal.Ref.aK (ReferenceIdeal.Ref.start m' c) = KernelIdeal.Point.argK m c := h1
  have e2 : ReferenceIdeal.Ref.vals (ReferenceIdeal.Ref.start m' c) = KernelIdeal.Point.argV m c := funext fun y => congrFun h2 _
  rw [e0, e1, e2]

/-- The kernel and the reference, from equal arguments, end with the same array. -/
theorem algebraic : Cert.algebraic_KernelIdeal_ReferenceIdeal (hKernelIdeal := Cert.KernelIdeal.Gen.facts) (hReferenceIdeal := Cert.ReferenceIdeal.Gen.facts) :=
  fun m g m' g' _ h => ⟨_, Cert.KernelIdeal.Point.run m g, (θ_run _ _ _).mono
    (fun _ hr c => ⟨(hr.1 c).1.trans (scans_eq m m' c (h c).1 (h c).2.1 (h c).2.2), (hr.1 c).2⟩) (Cert.ReferenceIdeal.Ref.run m' g')⟩

/-- The projection and its reference, from equal arguments, end with the same array. -/
theorem algebraic2 : Cert.algebraic_Kernel2Ideal_Reference2Ideal (hKernel2Ideal := Cert.Kernel2Ideal.Gen.facts) (hReference2Ideal := Cert.Reference2Ideal.Gen.facts) :=
  fun m g m' g' _ h => ⟨_, Cert.Kernel2Ideal.Point.run m g, (θ_run _ _ _).mono
    (fun _ hr c => ⟨(hr.1 c).1.trans (congrArg₂ Product.mul (h c).1 (h c).2), (hr.1 c).2⟩) (Cert.Reference2Ideal.Ref.run m' g')⟩

/-- The projection and its reference, from equal arguments, end with the same array. -/
theorem algebraic3 : Cert.algebraic_Kernel3Ideal_Reference3Ideal (hKernel3Ideal := Cert.Kernel3Ideal.Gen.facts) (hReference3Ideal := Cert.Reference3Ideal.Gen.facts) :=
  fun m g m' g' _ h => ⟨_, Cert.Kernel3Ideal.Point.run m g, (θ_run _ _ _).mono
    (fun _ hr c => ⟨(hr.1 c).1.trans (congrArg₂ Product.mul (h c).1 (h c).2), (hr.1 c).2⟩) (Cert.Reference3Ideal.Ref.run m' g')⟩

/-- The projection and its reference, from equal arguments, end with the same array. -/
theorem algebraic6 : Cert.algebraic_Kernel6Ideal_Reference6Ideal (hKernel6Ideal := Cert.Kernel6Ideal.Gen.facts) (hReference6Ideal := Cert.Reference6Ideal.Gen.facts) :=
  fun m g m' g' _ h => ⟨_, Cert.Kernel6Ideal.Point.run m g, (θ_run _ _ _).mono
    (fun _ hr c => ⟨(hr.1 c).1.trans (congrArg₂ Product.mul (h c).1 (h c).2), (hr.1 c).2⟩) (Cert.Reference6Ideal.Ref.run m' g')⟩

/-- The output projection's arguments, given that the reference's are the kernel's, make the same output. -/
theorem outs_eq {p0 p1 p2 p3 q0 q1 q2 q3 : (⟨2, ![8448, 1024]⟩ : Shape).Idx → EReal} {w v : (⟨3, ![2, 4096, 4096]⟩ : Shape).Idx → EReal}
    {x y : (⟨2, ![8448, 4096]⟩ : Shape).Idx → EReal} {g f : (⟨2, ![2, 4096]⟩ : Shape).Idx → EReal}
    (h : p0 = q0 ∧ p1 = q1 ∧ p2 = q2 ∧ p3 = q3 ∧ w = v ∧ x = y ∧ g = f) : Out.out p0 p1 p2 p3 w x g = Out.out q0 q1 q2 q3 v y f := by
  obtain ⟨rfl, rfl, rfl, rfl, rfl, rfl, rfl⟩ := h
  rfl

/-- The output projection and its reference, from equal arguments, end with the same array. -/
theorem algebraic4 : Cert.algebraic_Kernel4Ideal_Reference4Ideal (hKernel4Ideal := Cert.Kernel4Ideal.Gen.facts) (hReference4Ideal := Cert.Reference4Ideal.Gen.facts) :=
  fun m g m' g' _ h => ⟨_, Cert.Kernel4Ideal.Point.run m g, (θ_run _ _ _).mono
    (fun _ hr c => ⟨(hr.1 c).1.trans (outs_eq (h c)), (hr.1 c).2⟩) (Cert.Reference4Ideal.Ref.run m' g')⟩

/-- The experts' kernel, tiles in the range, ends with its arguments unchanged: over the machine's numbers it is the same program. -/
theorem frame5 : Cert.quiescent_Kernel5 (hKernel5 := Cert.Kernel5.Gen.facts) (hPre_tiles_in_range := Cert.Pre_tiles_in_range.Gen.facts) := by
  have e : Cert.quiescent_Kernel5 (hKernel5 := Cert.Kernel5.Gen.facts) (hPre_tiles_in_range := Cert.Pre_tiles_in_range.Gen.facts) = Cert.Kernel5Ideal.Tiles.Frame Bits := by
    sl_kernel_rfl
  exact e.mpr (Cert.Kernel5Ideal.Tiles.frame Bits)

/-- The experts' arguments, given that the reference's are the kernel's, make the same rows. -/
theorem moes_eq {x y : (⟨2, ![25088, 4096]⟩ : Shape).Idx → EReal} {te tv se sv : (⟨1, ![98]⟩ : Shape).Idx → BitVec 32}
    {w1 w3 v1 v3 : (⟨3, ![32, 4096, 512]⟩ : Shape).Idx → EReal} {w2 v2 : (⟨3, ![32, 512, 4096]⟩ : Shape).Idx → EReal}
    (h : x = y ∧ te = se ∧ tv = sv ∧ w1 = v1 ∧ w3 = v3 ∧ w2 = v2) : Experts.moe x te tv w1 w3 w2 = Experts.moe y se sv v1 v3 v2 := by
  obtain ⟨rfl, rfl, rfl, rfl, rfl, rfl⟩ := h
  rfl

/-- The experts' kernel and its reference, from equal arguments with the tiles in the range, end with the same array. -/
theorem algebraic5 : Cert.algebraic_Kernel5Ideal_Reference5Ideal (hKernel5Ideal := Cert.Kernel5Ideal.Gen.facts) (hReference5Ideal := Cert.Reference5Ideal.Gen.facts)
    (hPre_tiles_in_range := Cert.Pre_tiles_in_range.Gen.facts) :=
  fun m g m' g' hp h => ⟨fun _ => Cert.Kernel5Ideal.Tiles.moeM m, Cert.Kernel5Ideal.Tiles.run m g (Cert.Kernel5Ideal.Tiles.inRange_of_pre m (hp 0)),
    (θ_run _ _ _).mono (fun _ hr c => ⟨(hr c).1.trans (by
        obtain rfl : c = 0 := Subsingleton.elim _ _
        exact moes_eq (h 0)), (hr c).2⟩)
      (Cert.Reference5Ideal.Ref.run m' g' fun c t => by
        have e := congrFun (h c).2.1 (ix1 t)
        exact lt_of_eq_of_lt (congrArg BitVec.toNat e) (Cert.Kernel5Ideal.Tiles.in_range (hp c) (ix1 t)).1)⟩

/-- A function of four arguments, given that the reference's are the kernel's, has the same value. -/
theorem four_eq {A B C D E : Type} (f : A → B → C → D → E) {a a' : A} {b b' : B} {c c' : C} {d d' : D} (h : a = a' ∧ b = b' ∧ c = c' ∧ d = d') : f a b c d = f a' b' c' d' := by
  obtain ⟨rfl, rfl, rfl, rfl⟩ := h
  rfl

/-- The retention's last step and its reference, from equal arguments, end with the same array. -/
theorem algebraic7 : Cert.algebraic_Kernel7Ideal_Reference7Ideal (hKernel7Ideal := Cert.Kernel7Ideal.Gen.facts) (hReference7Ideal := Cert.Reference7Ideal.Gen.facts) :=
  fun m g m' g' _ h => ⟨_, Cert.Kernel7Ideal.Point.run m g, (θ_run _ _ _).mono
    (fun _ hr c => ⟨(hr.1 c).1.trans (four_eq Post.out (h c)), (hr.1 c).2⟩) (Cert.Reference7Ideal.Ref.run m' g')⟩

/-- The state-space mixer's arguments, given that the reference's are the kernel's, make the same result. -/
theorem ssd_eq {a b a' b' : Norm.Arr 8448 1024} {v v' : Norm.Arr 8448 2048} {d d' : (⟨1, ![16]⟩ : Shape).Idx → EReal} {u u' : Norm.Arr 8448 3072}
    {g g' : (⟨1, ![1024]⟩ : Shape).Idx → EReal} (h : a = a' ∧ b = b' ∧ v = v' ∧ d = d' ∧ u = u' ∧ g = g') : SsdPost.out a b v d u g = SsdPost.out a' b' v' d' u' g' := by
  obtain ⟨rfl, rfl, rfl, rfl, rfl, rfl⟩ := h
  rfl

/-- The state-space mixer's last step and its reference, from equal arguments, end with the same array. -/
theorem algebraic8 : Cert.algebraic_Kernel8Ideal_Reference8Ideal (hKernel8Ideal := Cert.Kernel8Ideal.Gen.facts) (hReference8Ideal := Cert.Reference8Ideal.Gen.facts) :=
  fun m g m' g' _ h => ⟨_, Cert.Kernel8Ideal.Point.run m g, (θ_run _ _ _).mono
    (fun _ hr c => ⟨(hr.1 c).1.trans (ssd_eq (h c)), (hr.1 c).2⟩) (Cert.Reference8Ideal.Ref.run m' g')⟩

/-- The recurrence's last step and its reference, from equal arguments, end with the same array. -/
theorem algebraic9 : Cert.algebraic_Kernel9Ideal_Reference9Ideal (hKernel9Ideal := Cert.Kernel9Ideal.Gen.facts) (hReference9Ideal := Cert.Reference9Ideal.Gen.facts) :=
  fun m g m' g' _ h => ⟨_, Cert.Kernel9Ideal.Point.run m g, (θ_run _ _ _).mono
    (fun _ hr c => ⟨(hr.1 c).1.trans (four_eq HgPost.out (h c)), (hr.1 c).2⟩) (Cert.Reference9Ideal.Ref.run m' g')⟩

/-- The time steps and their reference, from equal arguments, end with the same arrays. -/
theorem algebraic10 : Cert.algebraic_Kernel10Ideal_Reference10Ideal (hKernel10Ideal := Cert.Kernel10Ideal.Gen.facts) (hReference10Ideal := Cert.Reference10Ideal.Gen.facts) :=
  fun m g m' g' _ h => ⟨_, _, Cert.Kernel10Ideal.Point.run m g, (θ_run _ _ _).mono
    (fun _ hr c => ⟨(hr.1 c).1.trans (congrArg₂ Dt.dt (h c).1 (h c).2.1), (hr.1 c).2.1.trans (congr (congrArg₂ Dt.la (h c).1 (h c).2.1) (h c).2.2), (hr.1 c).2.2⟩)
    (Cert.Reference10Ideal.Ref.run m' g')⟩

/-- The rotation and its reference, from equal arguments, end with the same arrays. -/
theorem algebraic11 : Cert.algebraic_Kernel11Ideal_Reference11Ideal (hKernel11Ideal := Cert.Kernel11Ideal.Gen.facts) (hReference11Ideal := Cert.Reference11Ideal.Gen.facts) :=
  fun m g m' g' _ h => ⟨_, _, Cert.Kernel11Ideal.Point.run m g, (θ_run _ _ _).mono
    (fun _ hr c => ⟨(hr.1 c).1.trans (congrArg Rope.queries (h c)), (hr.1 c).2.1.trans (congrArg Rope.keys (h c)), (hr.1 c).2.2⟩)
    (Cert.Reference11Ideal.Ref.run m' g')⟩

/-- The state-space mixer's short convolution and its reference, from equal arguments, end with the same array. -/
theorem algebraic12 : Cert.algebraic_Kernel12Ideal_Reference12Ideal (hKernel12Ideal := Cert.Kernel12Ideal.Gen.facts) (hReference12Ideal := Cert.Reference12Ideal.Gen.facts) :=
  fun m g m' g' _ h => ⟨_, Cert.Kernel12Ideal.Point.run m g, (θ_run _ _ _).mono
    (fun _ hr c => ⟨(hr.1 c).1.trans (congr (congrArg₂ SsdConv.out (h c).1 (h c).2.1) (h c).2.2), (hr.1 c).2⟩) (Cert.Reference12Ideal.Ref.run m' g')⟩

/-- The Hyena mixer's short convolution and its reference, from equal arguments, end with the same arrays. -/
theorem algebraic13 : Cert.algebraic_Kernel13Ideal_Reference13Ideal (hKernel13Ideal := Cert.Kernel13Ideal.Gen.facts) (hReference13Ideal := Cert.Reference13Ideal.Gen.facts) :=
  fun m g m' g' _ h => ⟨_, _, Cert.Kernel13Ideal.Point.run m g, (θ_run _ _ _).mono
    (fun _ hr c => ⟨(hr.1 c).1.trans (congr (congrArg₂ HyConv.latent (h c).1 (h c).2.1) (h c).2.2),
      (hr.1 c).2.1.trans (congr (congrArg₂ HyConv.context (h c).1 (h c).2.1) (h c).2.2), (hr.1 c).2.2⟩) (Cert.Reference13Ideal.Ref.run m' g')⟩

/-- All the claims. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts, Cert.Kernel6Ideal.Gen.facts, Cert.Reference6Ideal.Gen.facts,
    Cert.Kernel7.Gen.facts, Cert.Kernel7Ideal.Gen.facts, Cert.Reference7Ideal.Gen.facts, Cert.Kernel8.Gen.facts, Cert.Kernel8Ideal.Gen.facts, Cert.Reference8Ideal.Gen.facts,
    Cert.Kernel9.Gen.facts, Cert.Kernel9Ideal.Gen.facts, Cert.Reference9Ideal.Gen.facts, Cert.Kernel10.Gen.facts, Cert.Kernel10Ideal.Gen.facts, Cert.Reference10Ideal.Gen.facts,
    Cert.Kernel11.Gen.facts, Cert.Kernel11Ideal.Gen.facts, Cert.Reference11Ideal.Gen.facts, Cert.Kernel12.Gen.facts, Cert.Kernel12Ideal.Gen.facts, Cert.Reference12Ideal.Gen.facts,
    Cert.Kernel13.Gen.facts, Cert.Kernel13Ideal.Gen.facts, Cert.Reference13Ideal.Gen.facts, Cert.Pre_tiles_in_range.Gen.facts, by
  exact ⟨fun m ρ _ => Cert.Kernel.Gen.frame m ρ, fun m ρ _ => Cert.KernelIdeal.Gen.frame m ρ,
    fun m ρ _ => (θ_run _ _ _).mono (fun _ h => ⟨fun c => (h.1 c).2, h.2⟩) (Cert.ReferenceIdeal.Ref.run m ρ),
    fun m ρ _ => Cert.Kernel2.Gen.frame m ρ, fun m ρ _ => Cert.Kernel2Ideal.Gen.frame m ρ,
    fun m ρ _ => (θ_run _ _ _).mono (fun _ h => ⟨fun c => (h.1 c).2, h.2⟩) (Cert.Reference2Ideal.Ref.run m ρ),
    fun m ρ _ => Cert.Kernel3.Gen.frame m ρ, fun m ρ _ => Cert.Kernel3Ideal.Gen.frame m ρ,
    fun m ρ _ => (θ_run _ _ _).mono (fun _ h => ⟨fun c => (h.1 c).2, h.2⟩) (Cert.Reference3Ideal.Ref.run m ρ),
    fun m ρ _ => Cert.Kernel4.Gen.frame m ρ, fun m ρ _ => Cert.Kernel4Ideal.Gen.frame m ρ,
    fun m ρ _ => (θ_run _ _ _).mono (fun _ h => ⟨fun c => (h.1 c).2, h.2⟩) (Cert.Reference4Ideal.Ref.run m ρ),
    frame5, Cert.Kernel5Ideal.Tiles.frame Ideal, fun m ρ _ => Cert.Reference5Ideal.Ref.frame m ρ, fun m ρ _ => Cert.Reference5Ideal.Ref.frame m ρ,
    fun m ρ _ => Cert.Kernel6.Gen.frame m ρ, fun m ρ _ => Cert.Kernel6Ideal.Gen.frame m ρ,
    fun m ρ _ => (θ_run _ _ _).mono (fun _ h => ⟨fun c => (h.1 c).2, h.2⟩) (Cert.Reference6Ideal.Ref.run m ρ),
    fun m ρ _ => Cert.Kernel7.Gen.frame m ρ, fun m ρ _ => Cert.Kernel7Ideal.Gen.frame m ρ,
    fun m ρ _ => (θ_run _ _ _).mono (fun _ h => ⟨fun c => (h.1 c).2, h.2⟩) (Cert.Reference7Ideal.Ref.run m ρ),
    fun m ρ _ => Cert.Kernel8.Gen.frame m ρ, fun m ρ _ => Cert.Kernel8Ideal.Gen.frame m ρ,
    fun m ρ _ => (θ_run _ _ _).mono (fun _ h => ⟨fun c => (h.1 c).2, h.2⟩) (Cert.Reference8Ideal.Ref.run m ρ),
    fun m ρ _ => Cert.Kernel9.Gen.frame m ρ, fun m ρ _ => Cert.Kernel9Ideal.Gen.frame m ρ,
    fun m ρ _ => (θ_run _ _ _).mono (fun _ h => ⟨fun c => (h.1 c).2, h.2⟩) (Cert.Reference9Ideal.Ref.run m ρ),
    fun m ρ _ => Cert.Kernel10.Gen.frame m ρ, fun m ρ _ => Cert.Kernel10Ideal.Gen.frame m ρ,
    fun m ρ _ => (θ_run _ _ _).mono (fun _ h => ⟨fun c => (h.1 c).2.2, h.2⟩) (Cert.Reference10Ideal.Ref.run m ρ),
    fun m ρ _ => Cert.Kernel11.Gen.frame m ρ, fun m ρ _ => Cert.Kernel11Ideal.Gen.frame m ρ,
    fun m ρ _ => (θ_run _ _ _).mono (fun _ h => ⟨fun c => (h.1 c).2.2, h.2⟩) (Cert.Reference11Ideal.Ref.run m ρ),
    fun m ρ _ => Cert.Kernel12.Gen.frame m ρ, fun m ρ _ => Cert.Kernel12Ideal.Gen.frame m ρ,
    fun m ρ _ => (θ_run _ _ _).mono (fun _ h => ⟨fun c => (h.1 c).2, h.2⟩) (Cert.Reference12Ideal.Ref.run m ρ),
    fun m ρ _ => Cert.Kernel13.Gen.frame m ρ, fun m ρ _ => Cert.Kernel13Ideal.Gen.frame m ρ,
    fun m ρ _ => (θ_run _ _ _).mono (fun _ h => ⟨fun c => (h.1 c).2.2, h.2⟩) (Cert.Reference13Ideal.Ref.run m ρ),
    IdealRules.named_const.statement _ _ _ _ _ rfl, algebraic, trivial, algebraic2, trivial, algebraic3, trivial, algebraic4, trivial, algebraic5, trivial, algebraic6, trivial, algebraic7, trivial, algebraic8,
    trivial, algebraic9, trivial, algebraic10, trivial, algebraic11, trivial, algebraic12, trivial, algebraic13⟩⟩

end Cert.Proof

end
